-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x4096 : Shape := ⟨2, ![2048, 4096]⟩
abbrev S4096x2048 : Shape := ⟨2, ![4096, 2048]⟩
abbrev S_ : Shape := ⟨0, ![]⟩
abbrev S4 : Shape := ⟨1, ![4]⟩
abbrev S256x2048 : Shape := ⟨2, ![256, 2048]⟩
abbrev S1 : Shape := ⟨1, ![1]⟩
abbrev S2048x512 : Shape := ⟨2, ![2048, 512]⟩
abbrev S512x2048 : Shape := ⟨2, ![512, 2048]⟩
abbrev S2x3x256x2048 : Shape := ⟨4, ![2, 3, 256, 2048]⟩
abbrev S2x15 : Shape := ⟨2, ![2, 15]⟩
abbrev S512x512 : Shape := ⟨2, ![512, 512]⟩
abbrev S1x1 : Shape := ⟨2, ![1, 1]⟩
abbrev S1x1x256x2048 : Shape := ⟨4, ![1, 1, 256, 2048]⟩
abbrev S256x512 : Shape := ⟨2, ![256, 512]⟩

abbrev nBuf : Space → Nat
  | .hbm => 60
  | .vmem => 10
  | .smem => 2
  | _ => 0

abbrev bufTy : (tb : Table) → Fin (tcTables nBuf tb) → BufTy
  | .hbm, ⟨0, _⟩ => ⟨S2048x2048, .f32⟩
  | .hbm, ⟨1, _⟩ => ⟨S2048x4096, .f32⟩
  | .hbm, ⟨2, _⟩ => ⟨S4096x2048, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S4, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S4, .i32⟩
  | .hbm, ⟨19, _⟩ => ⟨S4, .i32⟩
  | .hbm, ⟨20, _⟩ => ⟨S_, .i32⟩
  | .hbm, ⟨21, _⟩ => ⟨S4, .i32⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i1⟩
  | .hbm, ⟨26, _⟩ => ⟨S_, .i32⟩
  | .hbm, ⟨27, _⟩ => ⟨S_, .i1⟩
  | .hbm, ⟨28, _⟩ => ⟨S4, .i1⟩
  | .hbm, ⟨29, _⟩ => ⟨S4, .i1⟩
  | .hbm, ⟨30, _⟩ => ⟨S4, .i1⟩
  | .hbm, ⟨31, _⟩ => ⟨S4, .i32⟩
  | .hbm, ⟨32, _⟩ => ⟨S4, .i32⟩
  | .hbm, ⟨33, _⟩ => ⟨S4, .i32⟩
  | .hbm, ⟨34, _⟩ => ⟨S4, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S4, .i32⟩
  | .hbm, ⟨42, _⟩ => ⟨S4, .i32⟩
  | .hbm, ⟨43, _⟩ => ⟨S_, .i32⟩
  | .hbm, ⟨44, _⟩ => ⟨S4, .i32⟩
  | .hbm, ⟨45, _⟩ => ⟨S4, .i1⟩
  | .hbm, ⟨46, _⟩ => ⟨S_, .i32⟩
  | .hbm, ⟨47, _⟩ => ⟨S4, .i32⟩
  | .hbm, ⟨48, _⟩ => ⟨S4, .i1⟩
  | .hbm, ⟨49, _⟩ => ⟨S_, .i32⟩
  | .hbm, ⟨50, _⟩ => ⟨S_, .i1⟩
  | .hbm, ⟨51, _⟩ => ⟨S4, .i1⟩
  | .hbm, ⟨52, _⟩ => ⟨S4, .i1⟩
  | .hbm, ⟨53, _⟩ => ⟨S4, .i1⟩
  | .hbm, ⟨54, _⟩ => ⟨S4, .i32⟩
  | .hbm, ⟨55, _⟩ => ⟨S4, .i32⟩
  | .hbm, ⟨56, _⟩ => ⟨S4, .i32⟩
  | .hbm, ⟨57, _⟩ => ⟨S_, .i32⟩
  | .hbm, ⟨58, _⟩ => ⟨S4, .i32⟩
  | .hbm, ⟨59, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S2048x512, .f32⟩
  | .local _ .vmem, ⟨5, _⟩ => ⟨S2048x512, .f32⟩
  | .local _ .vmem, ⟨6, _⟩ => ⟨S512x2048, .f32⟩
  | .local _ .vmem, ⟨7, _⟩ => ⟨S512x2048, .f32⟩
  | .local _ .vmem, ⟨8, _⟩ => ⟨S2048x2048, .f32⟩
  | .local _ .vmem, ⟨9, _⟩ => ⟨S2x3x256x2048, .f32⟩
  | .local _ .smem, ⟨0, _⟩ => ⟨S4, .i32⟩
  | .local _ .smem, ⟨1, _⟩ => ⟨S4, .i32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v9 : Ref sig .tc := ⟨.hbm, 33, rfl⟩
abbrev main_v10 : Ref sig .tc := ⟨.hbm, 34, rfl⟩
abbrev main_c_2 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v11 : Ref sig .tc := ⟨.hbm, 56, rfl⟩
abbrev main_c_3 : Ref sig .tc := ⟨.hbm, 57, rfl⟩
abbrev main_v12 : Ref sig .tc := ⟨.hbm, 58, rfl⟩
abbrev main_v14 : Ref sig .tc := ⟨.hbm, 59, rfl⟩
abbrev main_v8 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev barrier0 : Sem sig := 0

abbrev nD : Nat := 4
abbrev τ : Topo := Topo.v7x

variable {F : FTy → Type} [FloatOps F]

abbrev grid0 : Pipeline.Grid := ⟨2, ![4, 8], ![false, false]⟩

abbrev pre0 : Pipeline.Prefetch sig := ⟨2, ![main_v8.idx, main_v13.idx], fun | 0 => main_v8.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_cond1 (i : grid0.Coords) : BitVec 1 :=
  let arg1 : BitVec 32 := BitVec.ofNat 32 (i 1).val
  let c0_i32 : BitVec 32 := 0#32
  let v30 : BitVec 1 := Scalar.cmpi .eq arg1 c0_i32
  let v31 : BitVec 32 := Scalar.extui v30
  let c0_i32_15 : BitVec 32 := 0#32
  let v32 : BitVec 1 := Scalar.cmpi .ne v31 c0_i32_15
  v32

def k0_off3 (v10 : BitVec 32) : Fin 2 → Nat :=
  let c256_i32 : BitVec 32 := 256#32
  let v11 : BitVec 32 := Scalar.muli v10 c256_i32
  let v41 : Index := Scalar.indexCast v11
  let c0_20 : Index := 0#32
  ![v41.toNat, 0]

def k0_off4 (v13 : BitVec 32) : Fin 2 → Nat :=
  let c256_i32_5 : BitVec 32 := 256#32
  let v14 : BitVec 32 := Scalar.muli v13 c256_i32_5
  let v43 : Index := Scalar.indexCast v14
  let c0_21 : Index := 0#32
  ![v43.toNat, 0]

def k0_cond2 (i : grid0.Coords) : BitVec 1 :=
  let arg1 : BitVec 32 := BitVec.ofNat 32 (i 1).val
  let c0_i32_16 : BitVec 32 := 0#32
  let v33 : BitVec 1 := Scalar.cmpi .sgt arg1 c0_i32_16
  let c7_i32 : BitVec 32 := 7#32
  let v34 : BitVec 1 := Scalar.cmpi .slt arg1 c7_i32
  let v35 : BitVec 1 := Scalar.andi v33 v34
  let v36 : BitVec 32 := Scalar.extui v35
  let c0_i32_17 : BitVec 32 := 0#32
  let v37 : BitVec 1 := Scalar.cmpi .ne v36 c0_i32_17
  v37

def k0_off5 (v10 : BitVec 32) : Fin 2 → Nat :=
  let c256_i32 : BitVec 32 := 256#32
  let v11 : BitVec 32 := Scalar.muli v10 c256_i32
  let v41 : Index := Scalar.indexCast v11
  let c0_20 : Index := 0#32
  ![v41.toNat, 0]

def k0_chk1 (i : grid0.Coords) (v10 : BitVec 32) : Prop :=
  (∀ (k0_h1 : k0_cond1 i = 1#1), ∀ a, (k0_off3 v10) a + S256x2048.size a ≤ S2048x2048.size a) ∧
  (∀ (k0_h2 : k0_cond2 i = 1#1), ∀ a, (k0_off5 v10) a + S256x2048.size a ≤ S2048x2048.size a)
theorem k0_off3_inb : ∀ (i : grid0.Coords) (v10 : BitVec 32) (k0_hw1 : k0_chk1 i v10), ∀ (k0_h1 : k0_cond1 i = 1#1), ∀ a, (k0_off3 v10) a + S256x2048.size a ≤ S2048x2048.size a := fun i v10 k0_hw1 k0_h1 => k0_hw1.1 k0_h1
theorem k0_off5_inb : ∀ (i : grid0.Coords) (v10 : BitVec 32) (k0_hw1 : k0_chk1 i v10), ∀ (k0_h2 : k0_cond2 i = 1#1), ∀ a, (k0_off5 v10) a + S256x2048.size a ≤ S2048x2048.size a := fun i v10 k0_hw1 k0_h2 => k0_hw1.2 k0_h2

def k0_off6 (v13 : BitVec 32) : Fin 2 → Nat :=
  let c256_i32_5 : BitVec 32 := 256#32
  let v14 : BitVec 32 := Scalar.muli v13 c256_i32_5
  let v47 : Index := Scalar.indexCast v14
  let c0_22 : Index := 0#32
  ![v47.toNat, 0]

def k0_chk2 (i : grid0.Coords) (v13 : BitVec 32) : Prop :=
  (∀ (k0_h1 : k0_cond1 i = 1#1), ∀ a, (k0_off4 v13) a + S256x2048.size a ≤ S2048x2048.size a) ∧
  (∀ (k0_h2 : k0_cond2 i = 1#1), ∀ a, (k0_off6 v13) a + S256x2048.size a ≤ S2048x2048.size a)
theorem k0_off4_inb : ∀ (i : grid0.Coords) (v13 : BitVec 32) (k0_hw2 : k0_chk2 i v13), ∀ (k0_h1 : k0_cond1 i = 1#1), ∀ a, (k0_off4 v13) a + S256x2048.size a ≤ S2048x2048.size a := fun i v13 k0_hw2 k0_h1 => k0_hw2.1 k0_h1
theorem k0_off6_inb : ∀ (i : grid0.Coords) (v13 : BitVec 32) (k0_hw2 : k0_chk2 i v13), ∀ (k0_h2 : k0_cond2 i = 1#1), ∀ a, (k0_off6 v13) a + S256x2048.size a ≤ S2048x2048.size a := fun i v13 k0_hw2 k0_h2 => k0_hw2.2 k0_h2

def k0_cond3 (i : grid0.Coords) : BitVec 1 :=
  let arg1 : BitVec 32 := BitVec.ofNat 32 (i 1).val
  let c7_i32_18 : BitVec 32 := 7#32
  let v38 : BitVec 1 := Scalar.cmpi .eq arg1 c7_i32_18
  let v39 : BitVec 32 := Scalar.extui v38
  let c0_i32_19 : BitVec 32 := 0#32
  let v40 : BitVec 1 := Scalar.cmpi .ne v39 c0_i32_19
  v40

def k0_cond4 (i : grid0.Coords) : BitVec 1 :=
  let arg0 : BitVec 32 := BitVec.ofNat 32 (i 0).val
  let c0_i32_20 : BitVec 32 := 0#32
  let v41 : BitVec 1 := Scalar.cmpi .eq arg0 c0_i32_20
  let v42 : BitVec 32 := Scalar.extui v41
  let c0_i32_21 : BitVec 32 := 0#32
  let v43 : BitVec 1 := Scalar.cmpi .ne v42 c0_i32_21
  v43

def k0_dev1 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_31 : BitVec 32 := 1#32
  let v58 : BitVec 32 := Scalar.muli v5 c1_i32_31
  let v59 : BitVec 32 := Scalar.addi c0_i32_32 v58
  v59.toNat
def k0_dev2 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_34 : BitVec 32 := 1#32
  let v60 : BitVec 32 := Scalar.muli v8 c1_i32_34
  let v61 : BitVec 32 := Scalar.addi c0_i32_35 v60
  v61.toNat
def k0_off7 (v53 : BitVec 32) : Fin 2 → Nat :=
  let c256_i32_27 : BitVec 32 := 256#32
  let v54 : BitVec 32 := Scalar.muli v53 c256_i32_27
  let v62 : Index := Scalar.indexCast v54
  let c0_37 : Index := 0#32
  ![v62.toNat, 0]

def k0_off8 (v55 : BitVec 32) : Fin 2 → Nat :=
  let c256_i32_29 : BitVec 32 := 256#32
  let v56 : BitVec 32 := Scalar.muli v55 c256_i32_29
  let v68 : Index := Scalar.indexCast v56
  let c0_39 : Index := 0#32
  ![v68.toNat, 0]

def k0_off9 (v53 : BitVec 32) : Fin 2 → Nat :=
  let c256_i32_27 : BitVec 32 := 256#32
  let v54 : BitVec 32 := Scalar.muli v53 c256_i32_27
  let c0_i32_51 : BitVec 32 := 0#32
  ![v54.toNat, 0]

def k0_chk3 (i : grid0.Coords) (v53 : BitVec 32) : Prop :=
  (∀ (k0_h3 : k0_cond3 i = 1#1), ∀ (k0_h4 : k0_cond4 i = 1#1), ∀ a, (k0_off7 v53) a + S256x2048.size a ≤ S2048x2048.size a) ∧
  (∀ (k0_h3 : k0_cond3 i = 1#1), ∀ (k0_h4 : k0_cond4 i = 1#1), ∀ a, (k0_off9 v53) a + S256x2048.size a ≤ S2048x2048.size a)
theorem k0_off7_inb : ∀ (i : grid0.Coords) (v53 : BitVec 32) (k0_hw3 : k0_chk3 i v53), ∀ (k0_h3 : k0_cond3 i = 1#1), ∀ (k0_h4 : k0_cond4 i = 1#1), ∀ a, (k0_off7 v53) a + S256x2048.size a ≤ S2048x2048.size a := fun i v53 k0_hw3 k0_h3 k0_h4 => k0_hw3.1 k0_h3 k0_h4
theorem k0_off9_inb : ∀ (i : grid0.Coords) (v53 : BitVec 32) (k0_hw3 : k0_chk3 i v53), ∀ (k0_h3 : k0_cond3 i = 1#1), ∀ (k0_h4 : k0_cond4 i = 1#1), ∀ a, (k0_off9 v53) a + S256x2048.size a ≤ S2048x2048.size a := fun i v53 k0_hw3 k0_h3 k0_h4 => k0_hw3.2 k0_h3 k0_h4

def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_47 : BitVec 32 := 1#32
  let v74 : BitVec 32 := Scalar.muli v8 c1_i32_47
  let v75 : BitVec 32 := Scalar.addi c0_i32_48 v74
  v75.toNat
def k0_off10 (v55 : BitVec 32) : Fin 2 → Nat :=
  let c256_i32_29 : BitVec 32 := 256#32
  let v56 : BitVec 32 := Scalar.muli v55 c256_i32_29
  let c0_i32_62 : BitVec 32 := 0#32
  ![v56.toNat, 0]

def k0_chk4 (i : grid0.Coords) (v55 : BitVec 32) : Prop :=
  (∀ (k0_h3 : k0_cond3 i = 1#1), ∀ (k0_h4 : k0_cond4 i = 1#1), ∀ a, (k0_off8 v55) a + S256x2048.size a ≤ S2048x2048.size a) ∧
  (∀ (k0_h3 : k0_cond3 i = 1#1), ∀ (k0_h4 : k0_cond4 i = 1#1), ∀ a, (k0_off10 v55) a + S256x2048.size a ≤ S2048x2048.size a)
theorem k0_off8_inb : ∀ (i : grid0.Coords) (v55 : BitVec 32) (k0_hw4 : k0_chk4 i v55), ∀ (k0_h3 : k0_cond3 i = 1#1), ∀ (k0_h4 : k0_cond4 i = 1#1), ∀ a, (k0_off8 v55) a + S256x2048.size a ≤ S2048x2048.size a := fun i v55 k0_hw4 k0_h3 k0_h4 => k0_hw4.1 k0_h3 k0_h4
theorem k0_off10_inb : ∀ (i : grid0.Coords) (v55 : BitVec 32) (k0_hw4 : k0_chk4 i v55), ∀ (k0_h3 : k0_cond3 i = 1#1), ∀ (k0_h4 : k0_cond4 i = 1#1), ∀ a, (k0_off10 v55) a + S256x2048.size a ≤ S2048x2048.size a := fun i v55 k0_hw4 k0_h3 k0_h4 => k0_hw4.2 k0_h3 k0_h4

def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_58 : BitVec 32 := 1#32
  let v83 : BitVec 32 := Scalar.muli v5 c1_i32_58
  let v84 : BitVec 32 := Scalar.addi c0_i32_59 v83
  v84.toNat
def k0_cond5 (i : grid0.Coords) : BitVec 1 :=
  let arg0 : BitVec 32 := BitVec.ofNat 32 (i 0).val
  let c1_i32_22 : BitVec 32 := 1#32
  let v44 : BitVec 1 := Scalar.cmpi .eq arg0 c1_i32_22
  let v45 : BitVec 32 := Scalar.extui v44
  let c0_i32_23 : BitVec 32 := 0#32
  let v46 : BitVec 1 := Scalar.cmpi .ne v45 c0_i32_23
  v46

def k0_off11 (v57 : BitVec 32) : Fin 2 → Nat :=
  let c256_i32_30 : BitVec 32 := 256#32
  let v58 : BitVec 32 := Scalar.muli v57 c256_i32_30
  let c0_i32_52 : BitVec 32 := 0#32
  ![v58.toNat, 0]

def k0_chk5 (i : grid0.Coords) (v57 : BitVec 32) : Prop :=
  (∀ (k0_h3 : k0_cond3 i = 1#1), ∀ (k0_h5 : k0_cond5 i = 1#1), ∀ a, (k0_off11 v57) a + S256x2048.size a ≤ S2048x2048.size a)
theorem k0_off11_inb : ∀ (i : grid0.Coords) (v57 : BitVec 32) (k0_hw5 : k0_chk5 i v57), ∀ (k0_h3 : k0_cond3 i = 1#1), ∀ (k0_h5 : k0_cond5 i = 1#1), ∀ a, (k0_off11 v57) a + S256x2048.size a ≤ S2048x2048.size a := fun i v57 k0_hw5 k0_h3 k0_h5 => k0_hw5 k0_h3 k0_h5

def k0_off12 (v53 : BitVec 32) : Fin 2 → Nat :=
  let c256_i32_26 : BitVec 32 := 256#32
  let v54 : BitVec 32 := Scalar.muli v53 c256_i32_26
  let v72 : Index := Scalar.indexCast v54
  let c0_55 : Index := 0#32
  ![v72.toNat, 0]

def k0_off13 (v81 : BitVec 32) : Fin 2 → Nat :=
  let c256_i32_62 : BitVec 32 := 256#32
  let v82 : BitVec 32 := Scalar.muli v81 c256_i32_62
  let c0_i32_84 : BitVec 32 := 0#32
  ![v82.toNat, 0]

def k0_chk7 (i : grid0.Coords) (v81 : BitVec 32) : Prop :=
  (∀ (k0_h3 : k0_cond3 i = 1#1), ∀ (k0_h5 : k0_cond5 i = 1#1), ∀ a, (k0_off13 v81) a + S256x2048.size a ≤ S2048x2048.size a)
theorem k0_off13_inb : ∀ (i : grid0.Coords) (v81 : BitVec 32) (k0_hw7 : k0_chk7 i v81), ∀ (k0_h3 : k0_cond3 i = 1#1), ∀ (k0_h5 : k0_cond5 i = 1#1), ∀ a, (k0_off13 v81) a + S256x2048.size a ≤ S2048x2048.size a := fun i v81 k0_hw7 k0_h3 k0_h5 => k0_hw7 k0_h3 k0_h5

def k0_off14 (v55 : BitVec 32) : Fin 2 → Nat :=
  let c256_i32_28 : BitVec 32 := 256#32
  let v56 : BitVec 32 := Scalar.muli v55 c256_i32_28
  let v96 : Index := Scalar.indexCast v56
  let c0_87 : Index := 0#32
  ![v96.toNat, 0]

def k0_off15 (v53 : BitVec 32) : Fin 2 → Nat :=
  let c256_i32_26 : BitVec 32 := 256#32
  let v54 : BitVec 32 := Scalar.muli v53 c256_i32_26
  let c0_i32_103 : BitVec 32 := 0#32
  ![v54.toNat, 0]

def k0_chk6 (i : grid0.Coords) (v53 : BitVec 32) : Prop :=
  (∀ (k0_h3 : k0_cond3 i = 1#1), ∀ (k0_h5 : k0_cond5 i = 1#1), ∀ a, (k0_off12 v53) a + S256x2048.size a ≤ S2048x2048.size a) ∧
  (∀ (k0_h3 : k0_cond3 i = 1#1), ∀ (k0_h5 : k0_cond5 i = 1#1), ∀ a, (k0_off15 v53) a + S256x2048.size a ≤ S2048x2048.size a)
theorem k0_off12_inb : ∀ (i : grid0.Coords) (v53 : BitVec 32) (k0_hw6 : k0_chk6 i v53), ∀ (k0_h3 : k0_cond3 i = 1#1), ∀ (k0_h5 : k0_cond5 i = 1#1), ∀ a, (k0_off12 v53) a + S256x2048.size a ≤ S2048x2048.size a := fun i v53 k0_hw6 k0_h3 k0_h5 => k0_hw6.1 k0_h3 k0_h5
theorem k0_off15_inb : ∀ (i : grid0.Coords) (v53 : BitVec 32) (k0_hw6 : k0_chk6 i v53), ∀ (k0_h3 : k0_cond3 i = 1#1), ∀ (k0_h5 : k0_cond5 i = 1#1), ∀ a, (k0_off15 v53) a + S256x2048.size a ≤ S2048x2048.size a := fun i v53 k0_hw6 k0_h3 k0_h5 => k0_hw6.2 k0_h3 k0_h5

def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_99 : BitVec 32 := 1#32
  let v105 : BitVec 32 := Scalar.muli v8 c1_i32_99
  let v106 : BitVec 32 := Scalar.addi c0_i32_100 v105
  v106.toNat
def k0_off16 (v55 : BitVec 32) : Fin 2 → Nat :=
  let c256_i32_28 : BitVec 32 := 256#32
  let v56 : BitVec 32 := Scalar.muli v55 c256_i32_28
  let c0_i32_114 : BitVec 32 := 0#32
  ![v56.toNat, 0]

def k0_chk8 (i : grid0.Coords) (v55 : BitVec 32) : Prop :=
  (∀ (k0_h3 : k0_cond3 i = 1#1), ∀ (k0_h5 : k0_cond5 i = 1#1), ∀ a, (k0_off14 v55) a + S256x2048.size a ≤ S2048x2048.size a) ∧
  (∀ (k0_h3 : k0_cond3 i = 1#1), ∀ (k0_h5 : k0_cond5 i = 1#1), ∀ a, (k0_off16 v55) a + S256x2048.size a ≤ S2048x2048.size a)
theorem k0_off14_inb : ∀ (i : grid0.Coords) (v55 : BitVec 32) (k0_hw8 : k0_chk8 i v55), ∀ (k0_h3 : k0_cond3 i = 1#1), ∀ (k0_h5 : k0_cond5 i = 1#1), ∀ a, (k0_off14 v55) a + S256x2048.size a ≤ S2048x2048.size a := fun i v55 k0_hw8 k0_h3 k0_h5 => k0_hw8.1 k0_h3 k0_h5
theorem k0_off16_inb : ∀ (i : grid0.Coords) (v55 : BitVec 32) (k0_hw8 : k0_chk8 i v55), ∀ (k0_h3 : k0_cond3 i = 1#1), ∀ (k0_h5 : k0_cond5 i = 1#1), ∀ a, (k0_off16 v55) a + S256x2048.size a ≤ S2048x2048.size a := fun i v55 k0_hw8 k0_h3 k0_h5 => k0_hw8.2 k0_h3 k0_h5

def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_110 : BitVec 32 := 1#32
  let v114 : BitVec 32 := Scalar.muli v5 c1_i32_110
  let v115 : BitVec 32 := Scalar.addi c0_i32_111 v114
  v115.toNat
def k0_cond6 (i : grid0.Coords) : BitVec 1 :=
  let arg0 : BitVec 32 := BitVec.ofNat 32 (i 0).val
  let c2_i32 : BitVec 32 := 2#32
  let v47 : BitVec 1 := Scalar.cmpi .eq arg0 c2_i32
  let v48 : BitVec 32 := Scalar.extui v47
  let c0_i32_24 : BitVec 32 := 0#32
  let v49 : BitVec 1 := Scalar.cmpi .ne v48 c0_i32_24
  v49

def k0_off17 (v57 : BitVec 32) : Fin 2 → Nat :=
  let c256_i32_29 : BitVec 32 := 256#32
  let v58 : BitVec 32 := Scalar.muli v57 c256_i32_29
  let c0_i32_51 : BitVec 32 := 0#32
  ![v58.toNat, 0]

def k0_chk9 (i : grid0.Coords) (v57 : BitVec 32) : Prop :=
  (∀ (k0_h3 : k0_cond3 i = 1#1), ∀ (k0_h6 : k0_cond6 i = 1#1), ∀ a, (k0_off17 v57) a + S256x2048.size a ≤ S2048x2048.size a)
theorem k0_off17_inb : ∀ (i : grid0.Coords) (v57 : BitVec 32) (k0_hw9 : k0_chk9 i v57), ∀ (k0_h3 : k0_cond3 i = 1#1), ∀ (k0_h6 : k0_cond6 i = 1#1), ∀ a, (k0_off17 v57) a + S256x2048.size a ≤ S2048x2048.size a := fun i v57 k0_hw9 k0_h3 k0_h6 => k0_hw9 k0_h3 k0_h6

def k0_off18 (v53 : BitVec 32) : Fin 2 → Nat :=
  let c256_i32_26 : BitVec 32 := 256#32
  let v54 : BitVec 32 := Scalar.muli v53 c256_i32_26
  let v72 : Index := Scalar.indexCast v54
  let c0_54 : Index := 0#32
  ![v72.toNat, 0]

def k0_off19 (v81 : BitVec 32) : Fin 2 → Nat :=
  let c256_i32_61 : BitVec 32 := 256#32
  let v82 : BitVec 32 := Scalar.muli v81 c256_i32_61
  let c0_i32_83 : BitVec 32 := 0#32
  ![v82.toNat, 0]

def k0_chk11 (i : grid0.Coords) (v81 : BitVec 32) : Prop :=
  (∀ (k0_h3 : k0_cond3 i = 1#1), ∀ (k0_h6 : k0_cond6 i = 1#1), ∀ a, (k0_off19 v81) a + S256x2048.size a ≤ S2048x2048.size a)
theorem k0_off19_inb : ∀ (i : grid0.Coords) (v81 : BitVec 32) (k0_hw11 : k0_chk11 i v81), ∀ (k0_h3 : k0_cond3 i = 1#1), ∀ (k0_h6 : k0_cond6 i = 1#1), ∀ a, (k0_off19 v81) a + S256x2048.size a ≤ S2048x2048.size a := fun i v81 k0_hw11 k0_h3 k0_h6 => k0_hw11 k0_h3 k0_h6

def k0_off20 (v55 : BitVec 32) : Fin 2 → Nat :=
  let c256_i32_28 : BitVec 32 := 256#32
  let v56 : BitVec 32 := Scalar.muli v55 c256_i32_28
  let v96 : Index := Scalar.indexCast v56
  let c0_86 : Index := 0#32
  ![v96.toNat, 0]

def k0_off21 (v53 : BitVec 32) : Fin 2 → Nat :=
  let c256_i32_26 : BitVec 32 := 256#32
  let v54 : BitVec 32 := Scalar.muli v53 c256_i32_26
  let c0_i32_102 : BitVec 32 := 0#32
  ![v54.toNat, 0]

def k0_chk10 (i : grid0.Coords) (v53 : BitVec 32) : Prop :=
  (∀ (k0_h3 : k0_cond3 i = 1#1), ∀ (k0_h6 : k0_cond6 i = 1#1), ∀ a, (k0_off18 v53) a + S256x2048.size a ≤ S2048x2048.size a) ∧
  (∀ (k0_h3 : k0_cond3 i = 1#1), ∀ (k0_h6 : k0_cond6 i = 1#1), ∀ a, (k0_off21 v53) a + S256x2048.size a ≤ S2048x2048.size a)
theorem k0_off18_inb : ∀ (i : grid0.Coords) (v53 : BitVec 32) (k0_hw10 : k0_chk10 i v53), ∀ (k0_h3 : k0_cond3 i = 1#1), ∀ (k0_h6 : k0_cond6 i = 1#1), ∀ a, (k0_off18 v53) a + S256x2048.size a ≤ S2048x2048.size a := fun i v53 k0_hw10 k0_h3 k0_h6 => k0_hw10.1 k0_h3 k0_h6
theorem k0_off21_inb : ∀ (i : grid0.Coords) (v53 : BitVec 32) (k0_hw10 : k0_chk10 i v53), ∀ (k0_h3 : k0_cond3 i = 1#1), ∀ (k0_h6 : k0_cond6 i = 1#1), ∀ a, (k0_off21 v53) a + S256x2048.size a ≤ S2048x2048.size a := fun i v53 k0_hw10 k0_h3 k0_h6 => k0_hw10.2 k0_h3 k0_h6

def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_98 : BitVec 32 := 1#32
  let v105 : BitVec 32 := Scalar.muli v8 c1_i32_98
  let v106 : BitVec 32 := Scalar.addi c0_i32_99 v105
  v106.toNat
def k0_off22 (v55 : BitVec 32) : Fin 2 → Nat :=
  let c256_i32_28 : BitVec 32 := 256#32
  let v56 : BitVec 32 := Scalar.muli v55 c256_i32_28
  let c0_i32_113 : BitVec 32 := 0#32
  ![v56.toNat, 0]

def k0_chk12 (i : grid0.Coords) (v55 : BitVec 32) : Prop :=
  (∀ (k0_h3 : k0_cond3 i = 1#1), ∀ (k0_h6 : k0_cond6 i = 1#1), ∀ a, (k0_off20 v55) a + S256x2048.size a ≤ S2048x2048.size a) ∧
  (∀ (k0_h3 : k0_cond3 i = 1#1), ∀ (k0_h6 : k0_cond6 i = 1#1), ∀ a, (k0_off22 v55) a + S256x2048.size a ≤ S2048x2048.size a)
theorem k0_off20_inb : ∀ (i : grid0.Coords) (v55 : BitVec 32) (k0_hw12 : k0_chk12 i v55), ∀ (k0_h3 : k0_cond3 i = 1#1), ∀ (k0_h6 : k0_cond6 i = 1#1), ∀ a, (k0_off20 v55) a + S256x2048.size a ≤ S2048x2048.size a := fun i v55 k0_hw12 k0_h3 k0_h6 => k0_hw12.1 k0_h3 k0_h6
theorem k0_off22_inb : ∀ (i : grid0.Coords) (v55 : BitVec 32) (k0_hw12 : k0_chk12 i v55), ∀ (k0_h3 : k0_cond3 i = 1#1), ∀ (k0_h6 : k0_cond6 i = 1#1), ∀ a, (k0_off22 v55) a + S256x2048.size a ≤ S2048x2048.size a := fun i v55 k0_hw12 k0_h3 k0_h6 => k0_hw12.2 k0_h3 k0_h6

def k0_dev8 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_109 : BitVec 32 := 1#32
  let v114 : BitVec 32 := Scalar.muli v5 c1_i32_109
  let v115 : BitVec 32 := Scalar.addi c0_i32_110 v114
  v115.toNat
def k0_cond7 (i : grid0.Coords) : BitVec 1 :=
  let arg0 : BitVec 32 := BitVec.ofNat 32 (i 0).val
  let c3_i32 : BitVec 32 := 3#32
  let v50 : BitVec 1 := Scalar.cmpi .eq arg0 c3_i32
  let v51 : BitVec 32 := Scalar.extui v50
  let c0_i32_25 : BitVec 32 := 0#32
  let v52 : BitVec 1 := Scalar.cmpi .ne v51 c0_i32_25
  v52

def k0_off23 (v57 : BitVec 32) : Fin 2 → Nat :=
  let c256_i32_29 : BitVec 32 := 256#32
  let v58 : BitVec 32 := Scalar.muli v57 c256_i32_29
  let c0_i32_51 : BitVec 32 := 0#32
  ![v58.toNat, 0]

def k0_chk13 (i : grid0.Coords) (v57 : BitVec 32) : Prop :=
  (∀ (k0_h3 : k0_cond3 i = 1#1), ∀ (k0_h7 : k0_cond7 i = 1#1), ∀ a, (k0_off23 v57) a + S256x2048.size a ≤ S2048x2048.size a)
theorem k0_off23_inb : ∀ (i : grid0.Coords) (v57 : BitVec 32) (k0_hw13 : k0_chk13 i v57), ∀ (k0_h3 : k0_cond3 i = 1#1), ∀ (k0_h7 : k0_cond7 i = 1#1), ∀ a, (k0_off23 v57) a + S256x2048.size a ≤ S2048x2048.size a := fun i v57 k0_hw13 k0_h3 k0_h7 => k0_hw13 k0_h3 k0_h7

def k0_off24 (v53 : BitVec 32) : Fin 2 → Nat :=
  let c256_i32_26 : BitVec 32 := 256#32
  let v54 : BitVec 32 := Scalar.muli v53 c256_i32_26
  let v72 : Index := Scalar.indexCast v54
  let c0_54 : Index := 0#32
  ![v72.toNat, 0]

def k0_chk14 (i : grid0.Coords) (v53 : BitVec 32) : Prop :=
  (∀ (k0_h3 : k0_cond3 i = 1#1), ∀ (k0_h7 : k0_cond7 i = 1#1), ∀ a, (k0_off24 v53) a + S256x2048.size a ≤ S2048x2048.size a)
theorem k0_off24_inb : ∀ (i : grid0.Coords) (v53 : BitVec 32) (k0_hw14 : k0_chk14 i v53), ∀ (k0_h3 : k0_cond3 i = 1#1), ∀ (k0_h7 : k0_cond7 i = 1#1), ∀ a, (k0_off24 v53) a + S256x2048.size a ≤ S2048x2048.size a := fun i v53 k0_hw14 k0_h3 k0_h7 => k0_hw14 k0_h3 k0_h7

def k0_off25 (v81 : BitVec 32) : Fin 2 → Nat :=
  let c256_i32_61 : BitVec 32 := 256#32
  let v82 : BitVec 32 := Scalar.muli v81 c256_i32_61
  let c0_i32_83 : BitVec 32 := 0#32
  ![v82.toNat, 0]

def k0_chk15 (i : grid0.Coords) (v81 : BitVec 32) : Prop :=
  (∀ (k0_h3 : k0_cond3 i = 1#1), ∀ (k0_h7 : k0_cond7 i = 1#1), ∀ a, (k0_off25 v81) a + S256x2048.size a ≤ S2048x2048.size a)
theorem k0_off25_inb : ∀ (i : grid0.Coords) (v81 : BitVec 32) (k0_hw15 : k0_chk15 i v81), ∀ (k0_h3 : k0_cond3 i = 1#1), ∀ (k0_h7 : k0_cond7 i = 1#1), ∀ a, (k0_off25 v81) a + S256x2048.size a ≤ S2048x2048.size a := fun i v81 k0_hw15 k0_h3 k0_h7 => k0_hw15 k0_h3 k0_h7

def k0_off26 (v55 : BitVec 32) : Fin 2 → Nat :=
  let c256_i32_28 : BitVec 32 := 256#32
  let v56 : BitVec 32 := Scalar.muli v55 c256_i32_28
  let v96 : Index := Scalar.indexCast v56
  let c0_86 : Index := 0#32
  ![v96.toNat, 0]

def k0_chk16 (i : grid0.Coords) (v55 : BitVec 32) : Prop :=
  (∀ (k0_h3 : k0_cond3 i = 1#1), ∀ (k0_h7 : k0_cond7 i = 1#1), ∀ a, (k0_off26 v55) a + S256x2048.size a ≤ S2048x2048.size a)
theorem k0_off26_inb : ∀ (i : grid0.Coords) (v55 : BitVec 32) (k0_hw16 : k0_chk16 i v55), ∀ (k0_h3 : k0_cond3 i = 1#1), ∀ (k0_h7 : k0_cond7 i = 1#1), ∀ a, (k0_off26 v55) a + S256x2048.size a ≤ S2048x2048.size a := fun i v55 k0_hw16 k0_h3 k0_h7 => k0_hw16 k0_h3 k0_h7

def k0_off27 (v105 : BitVec 32) : Fin 2 → Nat :=
  let c256_i32_92 : BitVec 32 := 256#32
  let v106 : BitVec 32 := Scalar.muli v105 c256_i32_92
  let c0_i32_99 : BitVec 32 := 0#32
  ![v106.toNat, 0]

def k0_dev9 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_97 : BitVec 32 := 1#32
  let v107 : BitVec 32 := Scalar.muli v8 c1_i32_97
  let v108 : BitVec 32 := Scalar.addi c0_i32_98 v107
  v108.toNat
def k0_off28 (v115 : BitVec 32) : Fin 2 → Nat :=
  let c256_i32_102 : BitVec 32 := 256#32
  let v116 : BitVec 32 := Scalar.muli v115 c256_i32_102
  let c0_i32_109 : BitVec 32 := 0#32
  ![v116.toNat, 0]

def k0_dev10 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_107 : BitVec 32 := 1#32
  let v117 : BitVec 32 := Scalar.muli v5 c1_i32_107
  let v118 : BitVec 32 := Scalar.addi c0_i32_108 v117
  v118.toNat
def k0_off29 (v125 : BitVec 32) : Fin 2 → Nat :=
  let c256_i32_112 : BitVec 32 := 256#32
  let v126 : BitVec 32 := Scalar.muli v125 c256_i32_112
  let c512_i32 : BitVec 32 := 512#32
  ![v126.toNat, 512]

def k0_dev11 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_117 : BitVec 32 := 1#32
  let v127 : BitVec 32 := Scalar.muli v8 c1_i32_117
  let v128 : BitVec 32 := Scalar.addi c0_i32_118 v127
  v128.toNat
def k0_off30 (v135 : BitVec 32) : Fin 2 → Nat :=
  let c256_i32_121 : BitVec 32 := 256#32
  let v136 : BitVec 32 := Scalar.muli v135 c256_i32_121
  let c512_i32_128 : BitVec 32 := 512#32
  ![v136.toNat, 512]

def k0_dev12 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_126 : BitVec 32 := 1#32
  let v137 : BitVec 32 := Scalar.muli v5 c1_i32_126
  let v138 : BitVec 32 := Scalar.addi c0_i32_127 v137
  v138.toNat
def k0_off31 (v145 : BitVec 32) : Fin 2 → Nat :=
  let c256_i32_131 : BitVec 32 := 256#32
  let v146 : BitVec 32 := Scalar.muli v145 c256_i32_131
  let c1024_i32 : BitVec 32 := 1024#32
  ![v146.toNat, 1024]

def k0_dev13 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_135 : BitVec 32 := 1#32
  let v147 : BitVec 32 := Scalar.muli v8 c1_i32_135
  let v148 : BitVec 32 := Scalar.addi c0_i32_136 v147
  v148.toNat
def k0_off32 (v155 : BitVec 32) : Fin 2 → Nat :=
  let c256_i32_139 : BitVec 32 := 256#32
  let v156 : BitVec 32 := Scalar.muli v155 c256_i32_139
  let c1024_i32_146 : BitVec 32 := 1024#32
  ![v156.toNat, 1024]

def k0_dev14 (d0 : Dev nD) : Nat :=
  let c0_i32_145 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_144 : BitVec 32 := 1#32
  let v157 : BitVec 32 := Scalar.muli v5 c1_i32_144
  let v158 : BitVec 32 := Scalar.addi c0_i32_145 v157
  v158.toNat
def k0_off33 (v165 : BitVec 32) : Fin 2 → Nat :=
  let c256_i32_149 : BitVec 32 := 256#32
  let v166 : BitVec 32 := Scalar.muli v165 c256_i32_149
  let c1536_i32 : BitVec 32 := 1536#32
  ![v166.toNat, 1536]

def k0_dev15 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_153 : BitVec 32 := 1#32
  let v167 : BitVec 32 := Scalar.muli v8 c1_i32_153
  let v168 : BitVec 32 := Scalar.addi c0_i32_154 v167
  v168.toNat
def k0_off34 (v175 : BitVec 32) : Fin 2 → Nat :=
  let c256_i32_157 : BitVec 32 := 256#32
  let v176 : BitVec 32 := Scalar.muli v175 c256_i32_157
  let c1536_i32_164 : BitVec 32 := 1536#32
  ![v176.toNat, 1536]

def k0_dev16 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_162 : BitVec 32 := 1#32
  let v177 : BitVec 32 := Scalar.muli v5 c1_i32_162
  let v178 : BitVec 32 := Scalar.addi c0_i32_163 v177
  v178.toNat
def k0_off35 (v185 : BitVec 32) : Fin 2 → Nat :=
  let c256_i32_167 : BitVec 32 := 256#32
  let v186 : BitVec 32 := Scalar.muli v185 c256_i32_167
  let c0_i32_174 : BitVec 32 := 0#32
  ![v186.toNat, 0]

def k0_chk25 (i : grid0.Coords) (v185 : BitVec 32) : Prop :=
  (∀ (k0_h3 : k0_cond3 i = 1#1), ∀ (k0_h7 : k0_cond7 i = 1#1), ∀ a, (k0_off35 v185) a + S256x512.size a ≤ S2048x2048.size a)
theorem k0_off35_inb : ∀ (i : grid0.Coords) (v185 : BitVec 32) (k0_hw25 : k0_chk25 i v185), ∀ (k0_h3 : k0_cond3 i = 1#1), ∀ (k0_h7 : k0_cond7 i = 1#1), ∀ a, (k0_off35 v185) a + S256x512.size a ≤ S2048x2048.size a := fun i v185 k0_hw25 k0_h3 k0_h7 => k0_hw25 k0_h3 k0_h7

def k0_off36 (v193 : BitVec 32) : Fin 2 → Nat :=
  let c256_i32_177 : BitVec 32 := 256#32
  let v194 : BitVec 32 := Scalar.muli v193 c256_i32_177
  let c0_i32_184 : BitVec 32 := 0#32
  ![v194.toNat, 0]

def k0_chk26 (i : grid0.Coords) (v193 : BitVec 32) : Prop :=
  (∀ (k0_h3 : k0_cond3 i = 1#1), ∀ (k0_h7 : k0_cond7 i = 1#1), ∀ a, (k0_off36 v193) a + S256x512.size a ≤ S2048x2048.size a)
theorem k0_off36_inb : ∀ (i : grid0.Coords) (v193 : BitVec 32) (k0_hw26 : k0_chk26 i v193), ∀ (k0_h3 : k0_cond3 i = 1#1), ∀ (k0_h7 : k0_cond7 i = 1#1), ∀ a, (k0_off36 v193) a + S256x512.size a ≤ S2048x2048.size a := fun i v193 k0_hw26 k0_h3 k0_h7 => k0_hw26 k0_h3 k0_h7

def k0_off37 (v201 : BitVec 32) : Fin 2 → Nat :=
  let c256_i32_187 : BitVec 32 := 256#32
  let v202 : BitVec 32 := Scalar.muli v201 c256_i32_187
  let c0_i32_194 : BitVec 32 := 0#32
  ![v202.toNat, 0]

def k0_dev17 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_192 : BitVec 32 := 1#32
  let v203 : BitVec 32 := Scalar.muli v8 c1_i32_192
  let v204 : BitVec 32 := Scalar.addi c0_i32_193 v203
  v204.toNat
def k0_off38 (v211 : BitVec 32) : Fin 2 → Nat :=
  let c256_i32_197 : BitVec 32 := 256#32
  let v212 : BitVec 32 := Scalar.muli v211 c256_i32_197
  let c0_i32_204 : BitVec 32 := 0#32
  ![v212.toNat, 0]

def k0_dev18 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_202 : BitVec 32 := 1#32
  let v213 : BitVec 32 := Scalar.muli v5 c1_i32_202
  let v214 : BitVec 32 := Scalar.addi c0_i32_203 v213
  v214.toNat
def k0_off39 (v221 : BitVec 32) : Fin 2 → Nat :=
  let c256_i32_207 : BitVec 32 := 256#32
  let v222 : BitVec 32 := Scalar.muli v221 c256_i32_207
  let c512_i32_214 : BitVec 32 := 512#32
  ![v222.toNat, 512]

def k0_chk29 (i : grid0.Coords) (v221 : BitVec 32) : Prop :=
  (∀ (k0_h3 : k0_cond3 i = 1#1), ∀ (k0_h7 : k0_cond7 i = 1#1), ∀ a, (k0_off39 v221) a + S256x512.size a ≤ S2048x2048.size a)
theorem k0_off39_inb : ∀ (i : grid0.Coords) (v221 : BitVec 32) (k0_hw29 : k0_chk29 i v221), ∀ (k0_h3 : k0_cond3 i = 1#1), ∀ (k0_h7 : k0_cond7 i = 1#1), ∀ a, (k0_off39 v221) a + S256x512.size a ≤ S2048x2048.size a := fun i v221 k0_hw29 k0_h3 k0_h7 => k0_hw29 k0_h3 k0_h7

def k0_off40 (v229 : BitVec 32) : Fin 2 → Nat :=
  let c256_i32_217 : BitVec 32 := 256#32
  let v230 : BitVec 32 := Scalar.muli v229 c256_i32_217
  let c512_i32_224 : BitVec 32 := 512#32
  ![v230.toNat, 512]

def k0_chk30 (i : grid0.Coords) (v229 : BitVec 32) : Prop :=
  (∀ (k0_h3 : k0_cond3 i = 1#1), ∀ (k0_h7 : k0_cond7 i = 1#1), ∀ a, (k0_off40 v229) a + S256x512.size a ≤ S2048x2048.size a)
theorem k0_off40_inb : ∀ (i : grid0.Coords) (v229 : BitVec 32) (k0_hw30 : k0_chk30 i v229), ∀ (k0_h3 : k0_cond3 i = 1#1), ∀ (k0_h7 : k0_cond7 i = 1#1), ∀ a, (k0_off40 v229) a + S256x512.size a ≤ S2048x2048.size a := fun i v229 k0_hw30 k0_h3 k0_h7 => k0_hw30 k0_h3 k0_h7

def k0_off41 (v237 : BitVec 32) : Fin 2 → Nat :=
  let c256_i32_227 : BitVec 32 := 256#32
  let v238 : BitVec 32 := Scalar.muli v237 c256_i32_227
  let c512_i32_234 : BitVec 32 := 512#32
  ![v238.toNat, 512]

def k0_dev19 (d0 : Dev nD) : Nat :=
  let c0_i32_233 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_232 : BitVec 32 := 1#32
  let v239 : BitVec 32 := Scalar.muli v8 c1_i32_232
  let v240 : BitVec 32 := Scalar.addi c0_i32_233 v239
  v240.toNat
def k0_off42 (v247 : BitVec 32) : Fin 2 → Nat :=
  let c256_i32_237 : BitVec 32 := 256#32
  let v248 : BitVec 32 := Scalar.muli v247 c256_i32_237
  let c512_i32_244 : BitVec 32 := 512#32
  ![v248.toNat, 512]

def k0_dev20 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_242 : BitVec 32 := 1#32
  let v249 : BitVec 32 := Scalar.muli v5 c1_i32_242
  let v250 : BitVec 32 := Scalar.addi c0_i32_243 v249
  v250.toNat
def k0_off43 (v257 : BitVec 32) : Fin 2 → Nat :=
  let c256_i32_247 : BitVec 32 := 256#32
  let v258 : BitVec 32 := Scalar.muli v257 c256_i32_247
  let c1024_i32_254 : BitVec 32 := 1024#32
  ![v258.toNat, 1024]

def k0_chk33 (i : grid0.Coords) (v257 : BitVec 32) : Prop :=
  (∀ (k0_h3 : k0_cond3 i = 1#1), ∀ (k0_h7 : k0_cond7 i = 1#1), ∀ a, (k0_off43 v257) a + S256x512.size a ≤ S2048x2048.size a)
theorem k0_off43_inb : ∀ (i : grid0.Coords) (v257 : BitVec 32) (k0_hw33 : k0_chk33 i v257), ∀ (k0_h3 : k0_cond3 i = 1#1), ∀ (k0_h7 : k0_cond7 i = 1#1), ∀ a, (k0_off43 v257) a + S256x512.size a ≤ S2048x2048.size a := fun i v257 k0_hw33 k0_h3 k0_h7 => k0_hw33 k0_h3 k0_h7

def k0_off44 (v265 : BitVec 32) : Fin 2 → Nat :=
  let c256_i32_257 : BitVec 32 := 256#32
  let v266 : BitVec 32 := Scalar.muli v265 c256_i32_257
  let c1024_i32_264 : BitVec 32 := 1024#32
  ![v266.toNat, 1024]

def k0_chk34 (i : grid0.Coords) (v265 : BitVec 32) : Prop :=
  (∀ (k0_h3 : k0_cond3 i = 1#1), ∀ (k0_h7 : k0_cond7 i = 1#1), ∀ a, (k0_off44 v265) a + S256x512.size a ≤ S2048x2048.size a)
theorem k0_off44_inb : ∀ (i : grid0.Coords) (v265 : BitVec 32) (k0_hw34 : k0_chk34 i v265), ∀ (k0_h3 : k0_cond3 i = 1#1), ∀ (k0_h7 : k0_cond7 i = 1#1), ∀ a, (k0_off44 v265) a + S256x512.size a ≤ S2048x2048.size a := fun i v265 k0_hw34 k0_h3 k0_h7 => k0_hw34 k0_h3 k0_h7

def k0_off45 (v273 : BitVec 32) : Fin 2 → Nat :=
  let c256_i32_267 : BitVec 32 := 256#32
  let v274 : BitVec 32 := Scalar.muli v273 c256_i32_267
  let c1024_i32_273 : BitVec 32 := 1024#32
  ![v274.toNat, 1024]

def k0_dev21 (d0 : Dev nD) : Nat :=
  let c0_i32_272 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_271 : BitVec 32 := 1#32
  let v275 : BitVec 32 := Scalar.muli v8 c1_i32_271
  let v276 : BitVec 32 := Scalar.addi c0_i32_272 v275
  v276.toNat
def k0_off46 (v283 : BitVec 32) : Fin 2 → Nat :=
  let c256_i32_276 : BitVec 32 := 256#32
  let v284 : BitVec 32 := Scalar.muli v283 c256_i32_276
  let c1024_i32_283 : BitVec 32 := 1024#32
  ![v284.toNat, 1024]

def k0_dev22 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_281 : BitVec 32 := 1#32
  let v285 : BitVec 32 := Scalar.muli v5 c1_i32_281
  let v286 : BitVec 32 := Scalar.addi c0_i32_282 v285
  v286.toNat
def k0_off47 (v293 : BitVec 32) : Fin 2 → Nat :=
  let c256_i32_286 : BitVec 32 := 256#32
  let v294 : BitVec 32 := Scalar.muli v293 c256_i32_286
  let c1536_i32_293 : BitVec 32 := 1536#32
  ![v294.toNat, 1536]

def k0_chk37 (i : grid0.Coords) (v293 : BitVec 32) : Prop :=
  (∀ (k0_h3 : k0_cond3 i = 1#1), ∀ (k0_h7 : k0_cond7 i = 1#1), ∀ a, (k0_off47 v293) a + S256x512.size a ≤ S2048x2048.size a)
theorem k0_off47_inb : ∀ (i : grid0.Coords) (v293 : BitVec 32) (k0_hw37 : k0_chk37 i v293), ∀ (k0_h3 : k0_cond3 i = 1#1), ∀ (k0_h7 : k0_cond7 i = 1#1), ∀ a, (k0_off47 v293) a + S256x512.size a ≤ S2048x2048.size a := fun i v293 k0_hw37 k0_h3 k0_h7 => k0_hw37 k0_h3 k0_h7

def k0_off48 (v301 : BitVec 32) : Fin 2 → Nat :=
  let c256_i32_296 : BitVec 32 := 256#32
  let v302 : BitVec 32 := Scalar.muli v301 c256_i32_296
  let c1536_i32_303 : BitVec 32 := 1536#32
  ![v302.toNat, 1536]

def k0_chk38 (i : grid0.Coords) (v301 : BitVec 32) : Prop :=
  (∀ (k0_h3 : k0_cond3 i = 1#1), ∀ (k0_h7 : k0_cond7 i = 1#1), ∀ a, (k0_off48 v301) a + S256x512.size a ≤ S2048x2048.size a)
theorem k0_off48_inb : ∀ (i : grid0.Coords) (v301 : BitVec 32) (k0_hw38 : k0_chk38 i v301), ∀ (k0_h3 : k0_cond3 i = 1#1), ∀ (k0_h7 : k0_cond7 i = 1#1), ∀ a, (k0_off48 v301) a + S256x512.size a ≤ S2048x2048.size a := fun i v301 k0_hw38 k0_h3 k0_h7 => k0_hw38 k0_h3 k0_h7

def k0_off49 (v309 : BitVec 32) : Fin 2 → Nat :=
  let c256_i32_306 : BitVec 32 := 256#32
  let v310 : BitVec 32 := Scalar.muli v309 c256_i32_306
  let c1536_i32_312 : BitVec 32 := 1536#32
  ![v310.toNat, 1536]

def k0_dev23 (d0 : Dev nD) : Nat :=
  let c0_i32_311 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_310 : BitVec 32 := 1#32
  let v311 : BitVec 32 := Scalar.muli v8 c1_i32_310
  let v312 : BitVec 32 := Scalar.addi c0_i32_311 v311
  v312.toNat
def k0_off50 (v319 : BitVec 32) : Fin 2 → Nat :=
  let c256_i32_315 : BitVec 32 := 256#32
  let v320 : BitVec 32 := Scalar.muli v319 c256_i32_315
  let c1536_i32_322 : BitVec 32 := 1536#32
  ![v320.toNat, 1536]

def k0_dev24 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_320 : BitVec 32 := 1#32
  let v321 : BitVec 32 := Scalar.muli v5 c1_i32_320
  let v322 : BitVec 32 := Scalar.addi c0_i32_321 v321
  v322.toNat
def k0_off51 (v329 : BitVec 32) : Fin 2 → Nat :=
  let c256_i32_325 : BitVec 32 := 256#32
  let v330 : BitVec 32 := Scalar.muli v329 c256_i32_325
  let c0_i32_332 : BitVec 32 := 0#32
  ![v330.toNat, 0]

def k0_chk41 (i : grid0.Coords) (v329 : BitVec 32) : Prop :=
  (∀ (k0_h3 : k0_cond3 i = 1#1), ∀ (k0_h7 : k0_cond7 i = 1#1), ∀ a, (k0_off51 v329) a + S256x512.size a ≤ S2048x2048.size a)
theorem k0_off51_inb : ∀ (i : grid0.Coords) (v329 : BitVec 32) (k0_hw41 : k0_chk41 i v329), ∀ (k0_h3 : k0_cond3 i = 1#1), ∀ (k0_h7 : k0_cond7 i = 1#1), ∀ a, (k0_off51 v329) a + S256x512.size a ≤ S2048x2048.size a := fun i v329 k0_hw41 k0_h3 k0_h7 => k0_hw41 k0_h3 k0_h7

def k0_off52 (v337 : BitVec 32) : Fin 2 → Nat :=
  let c256_i32_335 : BitVec 32 := 256#32
  let v338 : BitVec 32 := Scalar.muli v337 c256_i32_335
  let c0_i32_342 : BitVec 32 := 0#32
  ![v338.toNat, 0]

def k0_chk42 (i : grid0.Coords) (v337 : BitVec 32) : Prop :=
  (∀ (k0_h3 : k0_cond3 i = 1#1), ∀ (k0_h7 : k0_cond7 i = 1#1), ∀ a, (k0_off52 v337) a + S256x512.size a ≤ S2048x2048.size a)
theorem k0_off52_inb : ∀ (i : grid0.Coords) (v337 : BitVec 32) (k0_hw42 : k0_chk42 i v337), ∀ (k0_h3 : k0_cond3 i = 1#1), ∀ (k0_h7 : k0_cond7 i = 1#1), ∀ a, (k0_off52 v337) a + S256x512.size a ≤ S2048x2048.size a := fun i v337 k0_hw42 k0_h3 k0_h7 => k0_hw42 k0_h3 k0_h7

def k0_off53 (v345 : BitVec 32) : Fin 2 → Nat :=
  let c256_i32_345 : BitVec 32 := 256#32
  let v346 : BitVec 32 := Scalar.muli v345 c256_i32_345
  let c0_i32_351 : BitVec 32 := 0#32
  ![v346.toNat, 0]

def k0_dev25 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_349 : BitVec 32 := 1#32
  let v347 : BitVec 32 := Scalar.muli v8 c1_i32_349
  let v348 : BitVec 32 := Scalar.addi c0_i32_350 v347
  v348.toNat
def k0_off54 (v355 : BitVec 32) : Fin 2 → Nat :=
  let c256_i32_354 : BitVec 32 := 256#32
  let v356 : BitVec 32 := Scalar.muli v355 c256_i32_354
  let c0_i32_361 : BitVec 32 := 0#32
  ![v356.toNat, 0]

def k0_dev26 (d0 : Dev nD) : Nat :=
  let c0_i32_360 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_359 : BitVec 32 := 1#32
  let v357 : BitVec 32 := Scalar.muli v5 c1_i32_359
  let v358 : BitVec 32 := Scalar.addi c0_i32_360 v357
  v358.toNat
def k0_off55 (v365 : BitVec 32) : Fin 2 → Nat :=
  let c256_i32_364 : BitVec 32 := 256#32
  let v366 : BitVec 32 := Scalar.muli v365 c256_i32_364
  let c512_i32_371 : BitVec 32 := 512#32
  ![v366.toNat, 512]

def k0_chk45 (i : grid0.Coords) (v365 : BitVec 32) : Prop :=
  (∀ (k0_h3 : k0_cond3 i = 1#1), ∀ (k0_h7 : k0_cond7 i = 1#1), ∀ a, (k0_off55 v365) a + S256x512.size a ≤ S2048x2048.size a)
theorem k0_off55_inb : ∀ (i : grid0.Coords) (v365 : BitVec 32) (k0_hw45 : k0_chk45 i v365), ∀ (k0_h3 : k0_cond3 i = 1#1), ∀ (k0_h7 : k0_cond7 i = 1#1), ∀ a, (k0_off55 v365) a + S256x512.size a ≤ S2048x2048.size a := fun i v365 k0_hw45 k0_h3 k0_h7 => k0_hw45 k0_h3 k0_h7

def k0_off56 (v373 : BitVec 32) : Fin 2 → Nat :=
  let c256_i32_374 : BitVec 32 := 256#32
  let v374 : BitVec 32 := Scalar.muli v373 c256_i32_374
  let c512_i32_381 : BitVec 32 := 512#32
  ![v374.toNat, 512]

def k0_chk46 (i : grid0.Coords) (v373 : BitVec 32) : Prop :=
  (∀ (k0_h3 : k0_cond3 i = 1#1), ∀ (k0_h7 : k0_cond7 i = 1#1), ∀ a, (k0_off56 v373) a + S256x512.size a ≤ S2048x2048.size a)
theorem k0_off56_inb : ∀ (i : grid0.Coords) (v373 : BitVec 32) (k0_hw46 : k0_chk46 i v373), ∀ (k0_h3 : k0_cond3 i = 1#1), ∀ (k0_h7 : k0_cond7 i = 1#1), ∀ a, (k0_off56 v373) a + S256x512.size a ≤ S2048x2048.size a := fun i v373 k0_hw46 k0_h3 k0_h7 => k0_hw46 k0_h3 k0_h7

def k0_off57 (v381 : BitVec 32) : Fin 2 → Nat :=
  let c256_i32_384 : BitVec 32 := 256#32
  let v382 : BitVec 32 := Scalar.muli v381 c256_i32_384
  let c512_i32_390 : BitVec 32 := 512#32
  ![v382.toNat, 512]

def k0_dev27 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_388 : BitVec 32 := 1#32
  let v383 : BitVec 32 := Scalar.muli v8 c1_i32_388
  let v384 : BitVec 32 := Scalar.addi c0_i32_389 v383
  v384.toNat
def k0_off58 (v391 : BitVec 32) : Fin 2 → Nat :=
  let c256_i32_393 : BitVec 32 := 256#32
  let v392 : BitVec 32 := Scalar.muli v391 c256_i32_393
  let c512_i32_400 : BitVec 32 := 512#32
  ![v392.toNat, 512]

def k0_dev28 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_398 : BitVec 32 := 1#32
  let v393 : BitVec 32 := Scalar.muli v5 c1_i32_398
  let v394 : BitVec 32 := Scalar.addi c0_i32_399 v393
  v394.toNat
def k0_off59 (v401 : BitVec 32) : Fin 2 → Nat :=
  let c256_i32_403 : BitVec 32 := 256#32
  let v402 : BitVec 32 := Scalar.muli v401 c256_i32_403
  let c1024_i32_410 : BitVec 32 := 1024#32
  ![v402.toNat, 1024]

def k0_chk49 (i : grid0.Coords) (v401 : BitVec 32) : Prop :=
  (∀ (k0_h3 : k0_cond3 i = 1#1), ∀ (k0_h7 : k0_cond7 i = 1#1), ∀ a, (k0_off59 v401) a + S256x512.size a ≤ S2048x2048.size a)
theorem k0_off59_inb : ∀ (i : grid0.Coords) (v401 : BitVec 32) (k0_hw49 : k0_chk49 i v401), ∀ (k0_h3 : k0_cond3 i = 1#1), ∀ (k0_h7 : k0_cond7 i = 1#1), ∀ a, (k0_off59 v401) a + S256x512.size a ≤ S2048x2048.size a := fun i v401 k0_hw49 k0_h3 k0_h7 => k0_hw49 k0_h3 k0_h7

def k0_off60 (v409 : BitVec 32) : Fin 2 → Nat :=
  let c256_i32_413 : BitVec 32 := 256#32
  let v410 : BitVec 32 := Scalar.muli v409 c256_i32_413
  let c1024_i32_420 : BitVec 32 := 1024#32
  ![v410.toNat, 1024]

def k0_chk50 (i : grid0.Coords) (v409 : BitVec 32) : Prop :=
  (∀ (k0_h3 : k0_cond3 i = 1#1), ∀ (k0_h7 : k0_cond7 i = 1#1), ∀ a, (k0_off60 v409) a + S256x512.size a ≤ S2048x2048.size a)
theorem k0_off60_inb : ∀ (i : grid0.Coords) (v409 : BitVec 32) (k0_hw50 : k0_chk50 i v409), ∀ (k0_h3 : k0_cond3 i = 1#1), ∀ (k0_h7 : k0_cond7 i = 1#1), ∀ a, (k0_off60 v409) a + S256x512.size a ≤ S2048x2048.size a := fun i v409 k0_hw50 k0_h3 k0_h7 => k0_hw50 k0_h3 k0_h7

def k0_off61 (v417 : BitVec 32) : Fin 2 → Nat :=
  let c256_i32_423 : BitVec 32 := 256#32
  let v418 : BitVec 32 := Scalar.muli v417 c256_i32_423
  let c1024_i32_429 : BitVec 32 := 1024#32
  ![v418.toNat, 1024]

def k0_dev29 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_427 : BitVec 32 := 1#32
  let v419 : BitVec 32 := Scalar.muli v8 c1_i32_427
  let v420 : BitVec 32 := Scalar.addi c0_i32_428 v419
  v420.toNat
def k0_off62 (v427 : BitVec 32) : Fin 2 → Nat :=
  let c256_i32_432 : BitVec 32 := 256#32
  let v428 : BitVec 32 := Scalar.muli v427 c256_i32_432
  let c1024_i32_439 : BitVec 32 := 1024#32
  ![v428.toNat, 1024]

def k0_dev30 (d0 : Dev nD) : Nat :=
  let c0_i32_438 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_437 : BitVec 32 := 1#32
  let v429 : BitVec 32 := Scalar.muli v5 c1_i32_437
  let v430 : BitVec 32 := Scalar.addi c0_i32_438 v429
  v430.toNat
def k0_off63 (v437 : BitVec 32) : Fin 2 → Nat :=
  let c256_i32_442 : BitVec 32 := 256#32
  let v438 : BitVec 32 := Scalar.muli v437 c256_i32_442
  let c1536_i32_449 : BitVec 32 := 1536#32
  ![v438.toNat, 1536]

def k0_chk53 (i : grid0.Coords) (v437 : BitVec 32) : Prop :=
  (∀ (k0_h3 : k0_cond3 i = 1#1), ∀ (k0_h7 : k0_cond7 i = 1#1), ∀ a, (k0_off63 v437) a + S256x512.size a ≤ S2048x2048.size a)
theorem k0_off63_inb : ∀ (i : grid0.Coords) (v437 : BitVec 32) (k0_hw53 : k0_chk53 i v437), ∀ (k0_h3 : k0_cond3 i = 1#1), ∀ (k0_h7 : k0_cond7 i = 1#1), ∀ a, (k0_off63 v437) a + S256x512.size a ≤ S2048x2048.size a := fun i v437 k0_hw53 k0_h3 k0_h7 => k0_hw53 k0_h3 k0_h7

def k0_off64 (v445 : BitVec 32) : Fin 2 → Nat :=
  let c256_i32_452 : BitVec 32 := 256#32
  let v446 : BitVec 32 := Scalar.muli v445 c256_i32_452
  let c1536_i32_459 : BitVec 32 := 1536#32
  ![v446.toNat, 1536]

def k0_chk54 (i : grid0.Coords) (v445 : BitVec 32) : Prop :=
  (∀ (k0_h3 : k0_cond3 i = 1#1), ∀ (k0_h7 : k0_cond7 i = 1#1), ∀ a, (k0_off64 v445) a + S256x512.size a ≤ S2048x2048.size a)
theorem k0_off64_inb : ∀ (i : grid0.Coords) (v445 : BitVec 32) (k0_hw54 : k0_chk54 i v445), ∀ (k0_h3 : k0_cond3 i = 1#1), ∀ (k0_h7 : k0_cond7 i = 1#1), ∀ a, (k0_off64 v445) a + S256x512.size a ≤ S2048x2048.size a := fun i v445 k0_hw54 k0_h3 k0_h7 => k0_hw54 k0_h3 k0_h7

def k0_off65 (v453 : BitVec 32) : Fin 2 → Nat :=
  let c256_i32_462 : BitVec 32 := 256#32
  let v454 : BitVec 32 := Scalar.muli v453 c256_i32_462
  let c1536_i32_468 : BitVec 32 := 1536#32
  ![v454.toNat, 1536]

def k0_dev31 (d0 : Dev nD) : Nat :=
  let c0_i32_467 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v6 : BitVec 32 := Scalar.addi v2 c1_i32_2
  let c8_i32_3 : BitVec 32 := 8#32
  let v7 : BitVec 32 := Scalar.addi v6 c8_i32_3
  let c4_i32_4 : BitVec 32 := 4#32
  let v8 : BitVec 32 := Scalar.remsi v7 c4_i32_4
  let c1_i32_466 : BitVec 32 := 1#32
  let v455 : BitVec 32 := Scalar.muli v8 c1_i32_466
  let v456 : BitVec 32 := Scalar.addi c0_i32_467 v455
  v456.toNat
def k0_off66 (v463 : BitVec 32) : Fin 2 → Nat :=
  let c256_i32_471 : BitVec 32 := 256#32
  let v464 : BitVec 32 := Scalar.muli v463 c256_i32_471
  let c1536_i32_478 : BitVec 32 := 1536#32
  ![v464.toNat, 1536]

def k0_dev32 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c8_i32 : BitVec 32 := 8#32
  let v4 : BitVec 32 := Scalar.addi v3 c8_i32
  let c4_i32_1 : BitVec 32 := 4#32
  let v5 : BitVec 32 := Scalar.remsi v4 c4_i32_1
  let c1_i32_476 : BitVec 32 := 1#32
  let v465 : BitVec 32 := Scalar.muli v5 c1_i32_476
  let v466 : BitVec 32 := Scalar.addi c0_i32_477 v465
  v466.toNat
def k0_off67 (v473 : BitVec 32) : Fin 2 → Nat :=
  let c256_i32_481 : BitVec 32 := 256#32
  let v474 : BitVec 32 := Scalar.muli v473 c256_i32_481
  let c0_i32_488 : BitVec 32 := 0#32
  ![v474.toNat, 0]

def k0_chk57 (i : grid0.Coords) (v473 : BitVec 32) : Prop :=
  (∀ (k0_h3 : k0_cond3 i = 1#1), ∀ (k0_h7 : k0_cond7 i = 1#1), ∀ a, (k0_off67 v473) a + S256x512.size a ≤ S2048x2048.size a)
theorem k0_off67_inb : ∀ (i : grid0.Coords) (v473 : BitVec 32) (k0_hw57 : k0_chk57 i v473), ∀ (k0_h3 : k0_cond3 i = 1#1), ∀ (k0_h7 : k0_cond7 i = 1#1), ∀ a, (k0_off67 v473) a + S256x512.size a ≤ S2048x2048.size a := fun i v473 k0_hw57 k0_h3 k0_h7 => k0_hw57 k0_h3 k0_h7

def k0_off68 (v481 : BitVec 32) : Fin 2 → Nat :=
  let c256_i32_491 : BitVec 32 := 256#32
  let v482 : BitVec 32 := Scalar.muli v481 c256_i32_491
  let c0_i32_498 : BitVec 32 := 0#32
  ![v482.toNat, 0]

def k0_chk58 (i : grid0.Coords) (v481 : BitVec 32) : Prop :=
  (∀ (k0_h3 : k0_cond3 i = 1#1), ∀ (k0_h7 : k0_cond7 i = 1#1), ∀ a, (k0_off68 v481) a + S256x512.size a ≤ S2048x2048.size a)
theorem k0_off68_inb : ∀ (i : grid0.Coords) (v481 : BitVec 32) (k0_hw58 : k0_chk58 i v481), ∀ (k0_h3 : k0_cond3 i = 1#1), ∀ (k0_h7 : k0_cond7 i = 1#1), ∀ a, (k0_off68 v481) a + S256x512.size a ≤ S2048x2048.size a := fun i v481 k0_hw58 k0_h3 k0_h7 => k0_hw58 k0_h3 k0_h7

def k0_off69 (v489 : BitVec 32) : Fin 2 → Nat :=
  let c256_i32_501 : BitVec 32 := 256#32
  let v490 : BitVec 32 := Scalar.muli v489 c256_i32_501
  let c512_i32_508 : BitVec 32 := 512#32
  ![v490.toNat, 512]

def k0_chk59 (i : grid0.Coords) (v489 : BitVec 32) : Prop :=
  (∀ (k0_h3 : k0_cond3 i = 1#1), ∀ (k0_h7 : k0_cond7 i = 1#1), ∀ a, (k0_off69 v489) a + S256x512.size a ≤ S2048x2048.size a)
theorem k0_off69_inb : ∀ (i : grid0.Coords) (v489 : BitVec 32) (k0_hw59 : k0_chk59 i v489), ∀ (k0_h3 : k0_cond3 i = 1#1), ∀ (k0_h7 : k0_cond7 i = 1#1), ∀ a, (k0_off69 v489) a + S256x512.size a ≤ S2048x2048.size a := fun i v489 k0_hw59 k0_h3 k0_h7 => k0_hw59 k0_h3 k0_h7

def k0_off70 (v497 : BitVec 32) : Fin 2 → Nat :=
  let c256_i32_511 : BitVec 32 := 256#32
  let v498 : BitVec 32 := Scalar.muli v497 c256_i32_511
  let c512_i32_518 : BitVec 32 := 512#32
  ![v498.toNat, 512]

def k0_chk60 (i : grid0.Coords) (v497 : BitVec 32) : Prop :=
  (∀ (k0_h3 : k0_cond3 i = 1#1), ∀ (k0_h7 : k0_cond7 i = 1#1), ∀ a, (k0_off70 v497) a + S256x512.size a ≤ S2048x2048.size a)
theorem k0_off70_inb : ∀ (i : grid0.Coords) (v497 : BitVec 32) (k0_hw60 : k0_chk60 i v497), ∀ (k0_h3 : k0_cond3 i = 1#1), ∀ (k0_h7 : k0_cond7 i = 1#1), ∀ a, (k0_off70 v497) a + S256x512.size a ≤ S2048x2048.size a := fun i v497 k0_hw60 k0_h3 k0_h7 => k0_hw60 k0_h3 k0_h7

def k0_off71 (v505 : BitVec 32) : Fin 2 → Nat :=
  let c256_i32_521 : BitVec 32 := 256#32
  let v506 : BitVec 32 := Scalar.muli v505 c256_i32_521
  let c1024_i32_528 : BitVec 32 := 1024#32
  ![v506.toNat, 1024]

def k0_chk61 (i : grid0.Coords) (v505 : BitVec 32) : Prop :=
  (∀ (k0_h3 : k0_cond3 i = 1#1), ∀ (k0_h7 : k0_cond7 i = 1#1), ∀ a, (k0_off71 v505) a + S256x512.size a ≤ S2048x2048.size a)
theorem k0_off71_inb : ∀ (i : grid0.Coords) (v505 : BitVec 32) (k0_hw61 : k0_chk61 i v505), ∀ (k0_h3 : k0_cond3 i = 1#1), ∀ (k0_h7 : k0_cond7 i = 1#1), ∀ a, (k0_off71 v505) a + S256x512.size a ≤ S2048x2048.size a := fun i v505 k0_hw61 k0_h3 k0_h7 => k0_hw61 k0_h3 k0_h7

def k0_off72 (v513 : BitVec 32) : Fin 2 → Nat :=
  let c256_i32_531 : BitVec 32 := 256#32
  let v514 : BitVec 32 := Scalar.muli v513 c256_i32_531
  let c1024_i32_538 : BitVec 32 := 1024#32
  ![v514.toNat, 1024]

def k0_chk62 (i : grid0.Coords) (v513 : BitVec 32) : Prop :=
  (∀ (k0_h3 : k0_cond3 i = 1#1), ∀ (k0_h7 : k0_cond7 i = 1#1), ∀ a, (k0_off72 v513) a + S256x512.size a ≤ S2048x2048.size a)
theorem k0_off72_inb : ∀ (i : grid0.Coords) (v513 : BitVec 32) (k0_hw62 : k0_chk62 i v513), ∀ (k0_h3 : k0_cond3 i = 1#1), ∀ (k0_h7 : k0_cond7 i = 1#1), ∀ a, (k0_off72 v513) a + S256x512.size a ≤ S2048x2048.size a := fun i v513 k0_hw62 k0_h3 k0_h7 => k0_hw62 k0_h3 k0_h7

def k0_off73 (v521 : BitVec 32) : Fin 2 → Nat :=
  let c256_i32_541 : BitVec 32 := 256#32
  let v522 : BitVec 32 := Scalar.muli v521 c256_i32_541
  let c1536_i32_548 : BitVec 32 := 1536#32
  ![v522.toNat, 1536]

def k0_chk63 (i : grid0.Coords) (v521 : BitVec 32) : Prop :=
  (∀ (k0_h3 : k0_cond3 i = 1#1), ∀ (k0_h7 : k0_cond7 i = 1#1), ∀ a, (k0_off73 v521) a + S256x512.size a ≤ S2048x2048.size a)
theorem k0_off73_inb : ∀ (i : grid0.Coords) (v521 : BitVec 32) (k0_hw63 : k0_chk63 i v521), ∀ (k0_h3 : k0_cond3 i = 1#1), ∀ (k0_h7 : k0_cond7 i = 1#1), ∀ a, (k0_off73 v521) a + S256x512.size a ≤ S2048x2048.size a := fun i v521 k0_hw63 k0_h3 k0_h7 => k0_hw63 k0_h3 k0_h7

def k0_off74 (v529 : BitVec 32) : Fin 2 → Nat :=
  let c256_i32_551 : BitVec 32 := 256#32
  let v530 : BitVec 32 := Scalar.muli v529 c256_i32_551
  let c1536_i32_558 : BitVec 32 := 1536#32
  ![v530.toNat, 1536]

def k0_chk64 (i : grid0.Coords) (v529 : BitVec 32) : Prop :=
  (∀ (k0_h3 : k0_cond3 i = 1#1), ∀ (k0_h7 : k0_cond7 i = 1#1), ∀ a, (k0_off74 v529) a + S256x512.size a ≤ S2048x2048.size a)
theorem k0_off74_inb : ∀ (i : grid0.Coords) (v529 : BitVec 32) (k0_hw64 : k0_chk64 i v529), ∀ (k0_h3 : k0_cond3 i = 1#1), ∀ (k0_h7 : k0_cond7 i = 1#1), ∀ a, (k0_off74 v529) a + S256x512.size a ≤ S2048x2048.size a := fun i v529 k0_hw64 k0_h3 k0_h7 => k0_hw64 k0_h3 k0_h7

def k0_off75 (v105 : BitVec 32) : Fin 2 → Nat :=
  let c256_i32_92 : BitVec 32 := 256#32
  let v106 : BitVec 32 := Scalar.muli v105 c256_i32_92
  let c0_i32_565 : BitVec 32 := 0#32
  ![v106.toNat, 0]

def k0_chk17 (i : grid0.Coords) (v105 : BitVec 32) : Prop :=
  (∀ (k0_h3 : k0_cond3 i = 1#1), ∀ (k0_h7 : k0_cond7 i = 1#1), ∀ a, (k0_off27 v105) a + S256x512.size a ≤ S2048x2048.size a) ∧
  (∀ (k0_h3 : k0_cond3 i = 1#1), ∀ (k0_h7 : k0_cond7 i = 1#1), ∀ a, (k0_off75 v105) a + S256x512.size a ≤ S2048x2048.size a)
theorem k0_off27_inb : ∀ (i : grid0.Coords) (v105 : BitVec 32) (k0_hw17 : k0_chk17 i v105), ∀ (k0_h3 : k0_cond3 i = 1#1), ∀ (k0_h7 : k0_cond7 i = 1#1), ∀ a, (k0_off27 v105) a + S256x512.size a ≤ S2048x2048.size a := fun i v105 k0_hw17 k0_h3 k0_h7 => k0_hw17.1 k0_h3 k0_h7
theorem k0_off75_inb : ∀ (i : grid0.Coords) (v105 : BitVec 32) (k0_hw17 : k0_chk17 i v105), ∀ (k0_h3 : k0_cond3 i = 1#1), ∀ (k0_h7 : k0_cond7 i = 1#1), ∀ a, (k0_off75 v105) a + S256x512.size a ≤ S2048x2048.size a := fun i v105 k0_hw17 k0_h3 k0_h7 => k0_hw17.2 k0_h3 k0_h7

def k0_off76 (v115 : BitVec 32) : Fin 2 → Nat :=
  let c256_i32_102 : BitVec 32 := 256#32
  let v116 : BitVec 32 := Scalar.muli v115 c256_i32_102
  let c0_i32_572 : BitVec 32 := 0#32
  ![v116.toNat, 0]

def k0_chk18 (i : grid0.Coords) (v115 : BitVec 32) : Prop :=
  (∀ (k0_h3 : k0_cond3 i = 1#1), ∀ (k0_h7 : k0_cond7 i = 1#1), ∀ a, (k0_off28 v115) a + S256x512.size a ≤ S2048x2048.size a) ∧
  (∀ (k0_h3 : k0_cond3 i = 1#1), ∀ (k0_h7 : k0_cond7 i = 1#1), ∀ a, (k0_off76 v115) a + S256x512.size a ≤ S2048x2048.size a)
theorem k0_off28_inb : ∀ (i : grid0.Coords) (v115 : BitVec 32) (k0_hw18 : k0_chk18 i v115), ∀ (k0_h3 : k0_cond3 i = 1#1), ∀ (k0_h7 : k0_cond7 i = 1#1), ∀ a, (k0_off28 v115) a + S256x512.size a ≤ S2048x2048.size a := fun i v115 k0_hw18 k0_h3 k0_h7 => k0_hw18.1 k0_h3 k0_h7
theorem k0_off76_inb : ∀ (i : grid0.Coords) (v115 : BitVec 32) (k0_hw18 : k0_chk18 i v115), ∀ (k0_h3 : k0_cond3 i = 1#1), ∀ (k0_h7 : k0_cond7 i = 1#1), ∀ a, (k0_off76 v115) a + S256x512.size a ≤ S2048x2048.size a := fun i v115 k0_hw18 k0_h3 k0_h7 => k0_hw18.2 k0_h3 k0_h7

def k0_off77 (v125 : BitVec 32) : Fin 2 → Nat :=
  let c256_i32_112 : BitVec 32 := 256#32
  let v126 : BitVec 32 := Scalar.muli v125 c256_i32_112
  let c512_i32_579 : BitVec 32 := 512#32
  ![v126.toNat, 512]

def k0_chk19 (i : grid0.Coords) (v125 : BitVec 32) : Prop :=
  (∀ (k0_h3 : k0_cond3 i = 1#1), ∀ (k0_h7 : k0_cond7 i = 1#1), ∀ a, (k0_off29 v125) a + S256x512.size a ≤ S2048x2048.size a) ∧
  (∀ (k0_h3 : k0_cond3 i = 1#1), ∀ (k0_h7 : k0_cond7 i = 1#1), ∀ a, (k0_off77 v125) a + S256x512.size a ≤ S2048x2048.size a)
theorem k0_off29_inb : ∀ (i : grid0.Coords) (v125 : BitVec 32) (k0_hw19 : k0_chk19 i v125), ∀ (k0_h3 : k0_cond3 i = 1#1), ∀ (k0_h7 : k0_cond7 i = 1#1), ∀ a, (k0_off29 v125) a + S256x512.size a ≤ S2048x2048.size a := fun i v125 k0_hw19 k0_h3 k0_h7 => k0_hw19.1 k0_h3 k0_h7
theorem k0_off77_inb : ∀ (i : grid0.Coords) (v125 : BitVec 32) (k0_hw19 : k0_chk19 i v125), ∀ (k0_h3 : k0_cond3 i = 1#1), ∀ (k0_h7 : k0_cond7 i = 1#1), ∀ a, (k0_off77 v125) a + S256x512.size a ≤ S2048x2048.size a := fun i v125 k0_hw19 k0_h3 k0_h7 => k0_hw19.2 k0_h3 k0_h7

def k0_off78 (v135 : BitVec 32) : Fin 2 → Nat :=
  let c256_i32_121 : BitVec 32 := 256#32
  let v136 : BitVec 32 := Scalar.muli v135 c256_i32_121
  let c512_i32_586 : BitVec 32 := 512#32
  ![v136.toNat, 512]

def k0_chk20 (i : grid0.Coords) (v135 : BitVec 32) : Prop :=
  (∀ (k0_h3 : k0_cond3 i = 1#1), ∀ (k0_h7 : k0_cond7 i = 1#1), ∀ a, (k0_off30 v135) a + S256x512.size a ≤ S2048x2048.size a) ∧
  (∀ (k0_h3 : k0_cond3 i = 1#1), ∀ (k0_h7 : k0_cond7 i = 1#1), ∀ a, (k0_off78 v135) a + S256x512.size a ≤ S2048x2048.size a)
theorem k0_off30_inb : ∀ (i : grid0.Coords) (v135 : BitVec 32) (k0_hw20 : k0_chk20 i v135), ∀ (k0_h3 : k0_cond3 i = 1#1), ∀ (k0_h7 : k0_cond7 i = 1#1), ∀ a, (k0_off30 v135) a + S256x512.size a ≤ S2048x2048.size a := fun i v135 k0_hw20 k0_h3 k0_h7 => k0_hw20.1 k0_h3 k0_h7
theorem k0_off78_inb : ∀ (i : grid0.Coords) (v135 : BitVec 32) (k0_hw20 : k0_chk20 i v135), ∀ (k0_h3 : k0_cond3 i = 1#1), ∀ (k0_h7 : k0_cond7 i = 1#1), ∀ a, (k0_off78 v135) a + S256x512.size a ≤ S2048x2048.size a := fun i v135 k0_hw20 k0_h3 k0_h7 => k0_hw20.2 k0_h3 k0_h7

def k0_off79 (v145 : BitVec 32) : Fin 2 → Nat :=
  let c256_i32_131 : BitVec 32 := 256#32
  let v146 : BitVec 32 := Scalar.muli v145 c256_i32_131
  let c1024_i32_593 : BitVec 32 := 1024#32
  ![v146.toNat, 1024]

def k0_chk21 (i : grid0.Coords) (v145 : BitVec 32) : Prop :=
  (∀ (k0_h3 : k0_cond3 i = 1#1), ∀ (k0_h7 : k0_cond7 i = 1#1), ∀ a, (k0_off31 v145) a + S256x512.size a ≤ S2048x2048.size a) ∧
  (∀ (k0_h3 : k0_cond3 i = 1#1), ∀ (k0_h7 : k0_cond7 i = 1#1), ∀ a, (k0_off79 v145) a + S256x512.size a ≤ S2048x2048.size a)
theorem k0_off31_inb : ∀ (i : grid0.Coords) (v145 : BitVec 32) (k0_hw21 : k0_chk21 i v145), ∀ (k0_h3 : k0_cond3 i = 1#1), ∀ (k0_h7 : k0_cond7 i = 1#1), ∀ a, (k0_off31 v145) a + S256x512.size a ≤ S2048x2048.size a := fun i v145 k0_hw21 k0_h3 k0_h7 => k0_hw21.1 k0_h3 k0_h7
theorem k0_off79_inb : ∀ (i : grid0.Coords) (v145 : BitVec 32) (k0_hw21 : k0_chk21 i v145), ∀ (k0_h3 : k0_cond3 i = 1#1), ∀ (k0_h7 : k0_cond7 i = 1#1), ∀ a, (k0_off79 v145) a + S256x512.size a ≤ S2048x2048.size a := fun i v145 k0_hw21 k0_h3 k0_h7 => k0_hw21.2 k0_h3 k0_h7

def k0_off80 (v155 : BitVec 32) : Fin 2 → Nat :=
  let c256_i32_139 : BitVec 32 := 256#32
  let v156 : BitVec 32 := Scalar.muli v155 c256_i32_139
  let c1024_i32_600 : BitVec 32 := 1024#32
  ![v156.toNat, 1024]

def k0_chk22 (i : grid0.Coords) (v155 : BitVec 32) : Prop :=
  (∀ (k0_h3 : k0_cond3 i = 1#1), ∀ (k0_h7 : k0_cond7 i = 1#1), ∀ a, (k0_off32 v155) a + S256x512.size a ≤ S2048x2048.size a) ∧
  (∀ (k0_h3 : k0_cond3 i = 1#1), ∀ (k0_h7 : k0_cond7 i = 1#1), ∀ a, (k0_off80 v155) a + S256x512.size a ≤ S2048x2048.size a)
theorem k0_off32_inb : ∀ (i : grid0.Coords) (v155 : BitVec 32) (k0_hw22 : k0_chk22 i v155), ∀ (k0_h3 : k0_cond3 i = 1#1), ∀ (k0_h7 : k0_cond7 i = 1#1), ∀ a, (k0_off32 v155) a + S256x512.size a ≤ S2048x2048.size a := fun i v155 k0_hw22 k0_h3 k0_h7 => k0_hw22.1 k0_h3 k0_h7
theorem k0_off80_inb : ∀ (i : grid0.Coords) (v155 : BitVec 32) (k0_hw22 : k0_chk22 i v155), ∀ (k0_h3 : k0_cond3 i = 1#1), ∀ (k0_h7 : k0_cond7 i = 1#1), ∀ a, (k0_off80 v155) a + S256x512.size a ≤ S2048x2048.size a := fun i v155 k0_hw22 k0_h3 k0_h7 => k0_hw22.2 k0_h3 k0_h7

def k0_off81 (v165 : BitVec 32) : Fin 2 → Nat :=
  let c256_i32_149 : BitVec 32 := 256#32
  let v166 : BitVec 32 := Scalar.muli v165 c256_i32_149
  let c1536_i32_607 : BitVec 32 := 1536#32
  ![v166.toNat, 1536]

def k0_chk23 (i : grid0.Coords) (v165 : BitVec 32) : Prop :=
  (∀ (k0_h3 : k0_cond3 i = 1#1), ∀ (k0_h7 : k0_cond7 i = 1#1), ∀ a, (k0_off33 v165) a + S256x512.size a ≤ S2048x2048.size a) ∧
  (∀ (k0_h3 : k0_cond3 i = 1#1), ∀ (k0_h7 : k0_cond7 i = 1#1), ∀ a, (k0_off81 v165) a + S256x512.size a ≤ S2048x2048.size a)
theorem k0_off33_inb : ∀ (i : grid0.Coords) (v165 : BitVec 32) (k0_hw23 : k0_chk23 i v165), ∀ (k0_h3 : k0_cond3 i = 1#1), ∀ (k0_h7 : k0_cond7 i = 1#1), ∀ a, (k0_off33 v165) a + S256x512.size a ≤ S2048x2048.size a := fun i v165 k0_hw23 k0_h3 k0_h7 => k0_hw23.1 k0_h3 k0_h7
theorem k0_off81_inb : ∀ (i : grid0.Coords) (v165 : BitVec 32) (k0_hw23 : k0_chk23 i v165), ∀ (k0_h3 : k0_cond3 i = 1#1), ∀ (k0_h7 : k0_cond7 i = 1#1), ∀ a, (k0_off81 v165) a + S256x512.size a ≤ S2048x2048.size a := fun i v165 k0_hw23 k0_h3 k0_h7 => k0_hw23.2 k0_h3 k0_h7

def k0_off82 (v175 : BitVec 32) : Fin 2 → Nat :=
  let c256_i32_157 : BitVec 32 := 256#32
  let v176 : BitVec 32 := Scalar.muli v175 c256_i32_157
  let c1536_i32_614 : BitVec 32 := 1536#32
  ![v176.toNat, 1536]

def k0_chk24 (i : grid0.Coords) (v175 : BitVec 32) : Prop :=
  (∀ (k0_h3 : k0_cond3 i = 1#1), ∀ (k0_h7 : k0_cond7 i = 1#1), ∀ a, (k0_off34 v175) a + S256x512.size a ≤ S2048x2048.size a) ∧
  (∀ (k0_h3 : k0_cond3 i = 1#1), ∀ (k0_h7 : k0_cond7 i = 1#1), ∀ a, (k0_off82 v175) a + S256x512.size a ≤ S2048x2048.size a)
theorem k0_off34_inb : ∀ (i : grid0.Coords) (v175 : BitVec 32) (k0_hw24 : k0_chk24 i v175), ∀ (k0_h3 : k0_cond3 i = 1#1), ∀ (k0_h7 : k0_cond7 i = 1#1), ∀ a, (k0_off34 v175) a + S256x512.size a ≤ S2048x2048.size a := fun i v175 k0_hw24 k0_h3 k0_h7 => k0_hw24.1 k0_h3 k0_h7
theorem k0_off82_inb : ∀ (i : grid0.Coords) (v175 : BitVec 32) (k0_hw24 : k0_chk24 i v175), ∀ (k0_h3 : k0_cond3 i = 1#1), ∀ (k0_h7 : k0_cond7 i = 1#1), ∀ a, (k0_off82 v175) a + S256x512.size a ≤ S2048x2048.size a := fun i v175 k0_hw24 k0_h3 k0_h7 => k0_hw24.2 k0_h3 k0_h7

def k0_off83 (v201 : BitVec 32) : Fin 2 → Nat :=
  let c256_i32_187 : BitVec 32 := 256#32
  let v202 : BitVec 32 := Scalar.muli v201 c256_i32_187
  let c0_i32_621 : BitVec 32 := 0#32
  ![v202.toNat, 0]

def k0_chk27 (i : grid0.Coords) (v201 : BitVec 32) : Prop :=
  (∀ (k0_h3 : k0_cond3 i = 1#1), ∀ (k0_h7 : k0_cond7 i = 1#1), ∀ a, (k0_off37 v201) a + S256x512.size a ≤ S2048x2048.size a) ∧
  (∀ (k0_h3 : k0_cond3 i = 1#1), ∀ (k0_h7 : k0_cond7 i = 1#1), ∀ a, (k0_off83 v201) a + S256x512.size a ≤ S2048x2048.size a)
theorem k0_off37_inb : ∀ (i : grid0.Coords) (v201 : BitVec 32) (k0_hw27 : k0_chk27 i v201), ∀ (k0_h3 : k0_cond3 i = 1#1), ∀ (k0_h7 : k0_cond7 i = 1#1), ∀ a, (k0_off37 v201) a + S256x512.size a ≤ S2048x2048.size a := fun i v201 k0_hw27 k0_h3 k0_h7 => k0_hw27.1 k0_h3 k0_h7
theorem k0_off83_inb : ∀ (i : grid0.Coords) (v201 : BitVec 32) (k0_hw27 : k0_chk27 i v201), ∀ (k0_h3 : k0_cond3 i = 1#1), ∀ (k0_h7 : k0_cond7 i = 1#1), ∀ a, (k0_off83 v201) a + S256x512.size a ≤ S2048x2048.size a := fun i v201 k0_hw27 k0_h3 k0_h7 => k0_hw27.2 k0_h3 k0_h7

def k0_off84 (v211 : BitVec 32) : Fin 2 → Nat :=
  let c256_i32_197 : BitVec 32 := 256#32
  let v212 : BitVec 32 := Scalar.muli v211 c256_i32_197
  let c0_i32_628 : BitVec 32 := 0#32
  ![v212.toNat, 0]

def k0_chk28 (i : grid0.Coords) (v211 : BitVec 32) : Prop :=
  (∀ (k0_h3 : k0_cond3 i = 1#1), ∀ (k0_h7 : k0_cond7 i = 1#1), ∀ a, (k0_off38 v211) a + S256x512.size a ≤ S2048x2048.size a) ∧
  (∀ (k0_h3 : k0_cond3 i = 1#1), ∀ (k0_h7 : k0_cond7 i = 1#1), ∀ a, (k0_off84 v211) a + S256x512.size a ≤ S2048x2048.size a)
theorem k0_off38_inb : ∀ (i : grid0.Coords) (v211 : BitVec 32) (k0_hw28 : k0_chk28 i v211), ∀ (k0_h3 : k0_cond3 i = 1#1), ∀ (k0_h7 : k0_cond7 i = 1#1), ∀ a, (k0_off38 v211) a + S256x512.size a ≤ S2048x2048.size a := fun i v211 k0_hw28 k0_h3 k0_h7 => k0_hw28.1 k0_h3 k0_h7
theorem k0_off84_inb : ∀ (i : grid0.Coords) (v211 : BitVec 32) (k0_hw28 : k0_chk28 i v211), ∀ (k0_h3 : k0_cond3 i = 1#1), ∀ (k0_h7 : k0_cond7 i = 1#1), ∀ a, (k0_off84 v211) a + S256x512.size a ≤ S2048x2048.size a := fun i v211 k0_hw28 k0_h3 k0_h7 => k0_hw28.2 k0_h3 k0_h7

def k0_off85 (v237 : BitVec 32) : Fin 2 → Nat :=
  let c256_i32_227 : BitVec 32 := 256#32
  let v238 : BitVec 32 := Scalar.muli v237 c256_i32_227
  let c512_i32_635 : BitVec 32 := 512#32
  ![v238.toNat, 512]

def k0_chk31 (i : grid0.Coords) (v237 : BitVec 32) : Prop :=
  (∀ (k0_h3 : k0_cond3 i = 1#1), ∀ (k0_h7 : k0_cond7 i = 1#1), ∀ a, (k0_off41 v237) a + S256x512.size a ≤ S2048x2048.size a) ∧
  (∀ (k0_h3 : k0_cond3 i = 1#1), ∀ (k0_h7 : k0_cond7 i = 1#1), ∀ a, (k0_off85 v237) a + S256x512.size a ≤ S2048x2048.size a)
theorem k0_off41_inb : ∀ (i : grid0.Coords) (v237 : BitVec 32) (k0_hw31 : k0_chk31 i v237), ∀ (k0_h3 : k0_cond3 i = 1#1), ∀ (k0_h7 : k0_cond7 i = 1#1), ∀ a, (k0_off41 v237) a + S256x512.size a ≤ S2048x2048.size a := fun i v237 k0_hw31 k0_h3 k0_h7 => k0_hw31.1 k0_h3 k0_h7
theorem k0_off85_inb : ∀ (i : grid0.Coords) (v237 : BitVec 32) (k0_hw31 : k0_chk31 i v237), ∀ (k0_h3 : k0_cond3 i = 1#1), ∀ (k0_h7 : k0_cond7 i = 1#1), ∀ a, (k0_off85 v237) a + S256x512.size a ≤ S2048x2048.size a := fun i v237 k0_hw31 k0_h3 k0_h7 => k0_hw31.2 k0_h3 k0_h7

def k0_off86 (v247 : BitVec 32) : Fin 2 → Nat :=
  let c256_i32_237 : BitVec 32 := 256#32
  let v248 : BitVec 32 := Scalar.muli v247 c256_i32_237
  let c512_i32_642 : BitVec 32 := 512#32
  ![v248.toNat, 512]

def k0_chk32 (i : grid0.Coords) (v247 : BitVec 32) : Prop :=
  (∀ (k0_h3 : k0_cond3 i = 1#1), ∀ (k0_h7 : k0_cond7 i = 1#1), ∀ a, (k0_off42 v247) a + S256x512.size a ≤ S2048x2048.size a) ∧
  (∀ (k0_h3 : k0_cond3 i = 1#1), ∀ (k0_h7 : k0_cond7 i = 1#1), ∀ a, (k0_off86 v247) a + S256x512.size a ≤ S2048x2048.size a)
theorem k0_off42_inb : ∀ (i : grid0.Coords) (v247 : BitVec 32) (k0_hw32 : k0_chk32 i v247), ∀ (k0_h3 : k0_cond3 i = 1#1), ∀ (k0_h7 : k0_cond7 i = 1#1), ∀ a, (k0_off42 v247) a + S256x512.size a ≤ S2048x2048.size a := fun i v247 k0_hw32 k0_h3 k0_h7 => k0_hw32.1 k0_h3 k0_h7
theorem k0_off86_inb : ∀ (i : grid0.Coords) (v247 : BitVec 32) (k0_hw32 : k0_chk32 i v247), ∀ (k0_h3 : k0_cond3 i = 1#1), ∀ (k0_h7 : k0_cond7 i = 1#1), ∀ a, (k0_off86 v247) a + S256x512.size a ≤ S2048x2048.size a := fun i v247 k0_hw32 k0_h3 k0_h7 => k0_hw32.2 k0_h3 k0_h7

def k0_off87 (v273 : BitVec 32) : Fin 2 → Nat :=
  let c256_i32_267 : BitVec 32 := 256#32
  let v274 : BitVec 32 := Scalar.muli v273 c256_i32_267
  let c1024_i32_649 : BitVec 32 := 1024#32
  ![v274.toNat, 1024]

def k0_chk35 (i : grid0.Coords) (v273 : BitVec 32) : Prop :=
  (∀ (k0_h3 : k0_cond3 i = 1#1), ∀ (k0_h7 : k0_cond7 i = 1#1), ∀ a, (k0_off45 v273) a + S256x512.size a ≤ S2048x2048.size a) ∧
  (∀ (k0_h3 : k0_cond3 i = 1#1), ∀ (k0_h7 : k0_cond7 i = 1#1), ∀ a, (k0_off87 v273) a + S256x512.size a ≤ S2048x2048.size a)
theorem k0_off45_inb : ∀ (i : grid0.Coords) (v273 : BitVec 32) (k0_hw35 : k0_chk35 i v273), ∀ (k0_h3 : k0_cond3 i = 1#1), ∀ (k0_h7 : k0_cond7 i = 1#1), ∀ a, (k0_off45 v273) a + S256x512.size a ≤ S2048x2048.size a := fun i v273 k0_hw35 k0_h3 k0_h7 => k0_hw35.1 k0_h3 k0_h7
theorem k0_off87_inb : ∀ (i : grid0.Coords) (v273 : BitVec 32) (k0_hw35 : k0_chk35 i v273), ∀ (k0_h3 : k0_cond3 i = 1#1), ∀ (k0_h7 : k0_cond7 i = 1#1), ∀ a, (k0_off87 v273) a + S256x512.size a ≤ S2048x2048.size a := fun i v273 k0_hw35 k0_h3 k0_h7 => k0_hw35.2 k0_h3 k0_h7

def k0_off88 (v283 : BitVec 32) : Fin 2 → Nat :=
  let c256_i32_276 : BitVec 32 := 256#32
  let v284 : BitVec 32 := Scalar.muli v283 c256_i32_276
  let c1024_i32_656 : BitVec 32 := 1024#32
  ![v284.toNat, 1024]

def k0_chk36 (i : grid0.Coords) (v283 : BitVec 32) : Prop :=
  (∀ (k0_h3 : k0_cond3 i = 1#1), ∀ (k0_h7 : k0_cond7 i = 1#1), ∀ a, (k0_off46 v283) a + S256x512.size a ≤ S2048x2048.size a) ∧
  (∀ (k0_h3 : k0_cond3 i = 1#1), ∀ (k0_h7 : k0_cond7 i = 1#1), ∀ a, (k0_off88 v283) a + S256x512.size a ≤ S2048x2048.size a)
theorem k0_off46_inb : ∀ (i : grid0.Coords) (v283 : BitVec 32) (k0_hw36 : k0_chk36 i v283), ∀ (k0_h3 : k0_cond3 i = 1#1), ∀ (k0_h7 : k0_cond7 i = 1#1), ∀ a, (k0_off46 v283) a + S256x512.size a ≤ S2048x2048.size a := fun i v283 k0_hw36 k0_h3 k0_h7 => k0_hw36.1 k0_h3 k0_h7
theorem k0_off88_inb : ∀ (i : grid0.Coords) (v283 : BitVec 32) (k0_hw36 : k0_chk36 i v283), ∀ (k0_h3 : k0_cond3 i = 1#1), ∀ (k0_h7 : k0_cond7 i = 1#1), ∀ a, (k0_off88 v283) a + S256x512.size a ≤ S2048x2048.size a := fun i v283 k0_hw36 k0_h3 k0_h7 => k0_hw36.2 k0_h3 k0_h7

def k0_off89 (v309 : BitVec 32) : Fin 2 → Nat :=
  let c256_i32_306 : BitVec 32 := 256#32
  let v310 : BitVec 32 := Scalar.muli v309 c256_i32_306
  let c1536_i32_663 : BitVec 32 := 1536#32
  ![v310.toNat, 1536]

def k0_chk39 (i : grid0.Coords) (v309 : BitVec 32) : Prop :=
  (∀ (k0_h3 : k0_cond3 i = 1#1), ∀ (k0_h7 : k0_cond7 i = 1#1), ∀ a, (k0_off49 v309) a + S256x512.size a ≤ S2048x2048.size a) ∧
  (∀ (k0_h3 : k0_cond3 i = 1#1), ∀ (k0_h7 : k0_cond7 i = 1#1), ∀ a, (k0_off89 v309) a + S256x512.size a ≤ S2048x2048.size a)
theorem k0_off49_inb : ∀ (i : grid0.Coords) (v309 : BitVec 32) (k0_hw39 : k0_chk39 i v309), ∀ (k0_h3 : k0_cond3 i = 1#1), ∀ (k0_h7 : k0_cond7 i = 1#1), ∀ a, (k0_off49 v309) a + S256x512.size a ≤ S2048x2048.size a := fun i v309 k0_hw39 k0_h3 k0_h7 => k0_hw39.1 k0_h3 k0_h7
theorem k0_off89_inb : ∀ (i : grid0.Coords) (v309 : BitVec 32) (k0_hw39 : k0_chk39 i v309), ∀ (k0_h3 : k0_cond3 i = 1#1), ∀ (k0_h7 : k0_cond7 i = 1#1), ∀ a, (k0_off89 v309) a + S256x512.size a ≤ S2048x2048.size a := fun i v309 k0_hw39 k0_h3 k0_h7 => k0_hw39.2 k0_h3 k0_h7

def k0_off90 (v319 : BitVec 32) : Fin 2 → Nat :=
  let c256_i32_315 : BitVec 32 := 256#32
  let v320 : BitVec 32 := Scalar.muli v319 c256_i32_315
  let c1536_i32_670 : BitVec 32 := 1536#32
  ![v320.toNat, 1536]

def k0_chk40 (i : grid0.Coords) (v319 : BitVec 32) : Prop :=
  (∀ (k0_h3 : k0_cond3 i = 1#1), ∀ (k0_h7 : k0_cond7 i = 1#1), ∀ a, (k0_off50 v319) a + S256x512.size a ≤ S2048x2048.size a) ∧
  (∀ (k0_h3 : k0_cond3 i = 1#1), ∀ (k0_h7 : k0_cond7 i = 1#1), ∀ a, (k0_off90 v319) a + S256x512.size a ≤ S2048x2048.size a)
theorem k0_off50_inb : ∀ (i : grid0.Coords) (v319 : BitVec 32) (k0_hw40 : k0_chk40 i v319), ∀ (k0_h3 : k0_cond3 i = 1#1), ∀ (k0_h7 : k0_cond7 i = 1#1), ∀ a, (k0_off50 v319) a + S256x512.size a ≤ S2048x2048.size a := fun i v319 k0_hw40 k0_h3 k0_h7 => k0_hw40.1 k0_h3 k0_h7
theorem k0_off90_inb : ∀ (i : grid0.Coords) (v319 : BitVec 32) (k0_hw40 : k0_chk40 i v319), ∀ (k0_h3 : k0_cond3 i = 1#1), ∀ (k0_h7 : k0_cond7 i = 1#1), ∀ a, (k0_off90 v319) a + S256x512.size a ≤ S2048x2048.size a := fun i v319 k0_hw40 k0_h3 k0_h7 => k0_hw40.2 k0_h3 k0_h7

def k0_off91 (v345 : BitVec 32) : Fin 2 → Nat :=
  let c256_i32_345 : BitVec 32 := 256#32
  let v346 : BitVec 32 := Scalar.muli v345 c256_i32_345
  let c0_i32_677 : BitVec 32 := 0#32
  ![v346.toNat, 0]

def k0_chk43 (i : grid0.Coords) (v345 : BitVec 32) : Prop :=
  (∀ (k0_h3 : k0_cond3 i = 1#1), ∀ (k0_h7 : k0_cond7 i = 1#1), ∀ a, (k0_off53 v345) a + S256x512.size a ≤ S2048x2048.size a) ∧
  (∀ (k0_h3 : k0_cond3 i = 1#1), ∀ (k0_h7 : k0_cond7 i = 1#1), ∀ a, (k0_off91 v345) a + S256x512.size a ≤ S2048x2048.size a)
theorem k0_off53_inb : ∀ (i : grid0.Coords) (v345 : BitVec 32) (k0_hw43 : k0_chk43 i v345), ∀ (k0_h3 : k0_cond3 i = 1#1), ∀ (k0_h7 : k0_cond7 i = 1#1), ∀ a, (k0_off53 v345) a + S256x512.size a ≤ S2048x2048.size a := fun i v345 k0_hw43 k0_h3 k0_h7 => k0_hw43.1 k0_h3 k0_h7
theorem k0_off91_inb : ∀ (i : grid0.Coords) (v345 : BitVec 32) (k0_hw43 : k0_chk43 i v345), ∀ (k0_h3 : k0_cond3 i = 1#1), ∀ (k0_h7 : k0_cond7 i = 1#1), ∀ a, (k0_off91 v345) a + S256x512.size a ≤ S2048x2048.size a := fun i v345 k0_hw43 k0_h3 k0_h7 => k0_hw43.2 k0_h3 k0_h7

def k0_off92 (v355 : BitVec 32) : Fin 2 → Nat :=
  let c256_i32_354 : BitVec 32 := 256#32
  let v356 : BitVec 32 := Scalar.muli v355 c256_i32_354
  let c0_i32_684 : BitVec 32 := 0#32
  ![v356.toNat, 0]

def k0_chk44 (i : grid0.Coords) (v355 : BitVec 32) : Prop :=
  (∀ (k0_h3 : k0_cond3 i = 1#1), ∀ (k0_h7 : k0_cond7 i = 1#1), ∀ a, (k0_off54 v355) a + S256x512.size a ≤ S2048x2048.size a) ∧
  (∀ (k0_h3 : k0_cond3 i = 1#1), ∀ (k0_h7 : k0_cond7 i = 1#1), ∀ a, (k0_off92 v355) a + S256x512.size a ≤ S2048x2048.size a)
theorem k0_off54_inb : ∀ (i : grid0.Coords) (v355 : BitVec 32) (k0_hw44 : k0_chk44 i v355), ∀ (k0_h3 : k0_cond3 i = 1#1), ∀ (k0_h7 : k0_cond7 i = 1#1), ∀ a, (k0_off54 v355) a + S256x512.size a ≤ S2048x2048.size a := fun i v355 k0_hw44 k0_h3 k0_h7 => k0_hw44.1 k0_h3 k0_h7
theorem k0_off92_inb : ∀ (i : grid0.Coords) (v355 : BitVec 32) (k0_hw44 : k0_chk44 i v355), ∀ (k0_h3 : k0_cond3 i = 1#1), ∀ (k0_h7 : k0_cond7 i = 1#1), ∀ a, (k0_off92 v355) a + S256x512.size a ≤ S2048x2048.size a := fun i v355 k0_hw44 k0_h3 k0_h7 => k0_hw44.2 k0_h3 k0_h7

def k0_off93 (v381 : BitVec 32) : Fin 2 → Nat :=
  let c256_i32_384 : BitVec 32 := 256#32
  let v382 : BitVec 32 := Scalar.muli v381 c256_i32_384
  let c512_i32_691 : BitVec 32 := 512#32
  ![v382.toNat, 512]

def k0_chk47 (i : grid0.Coords) (v381 : BitVec 32) : Prop :=
  (∀ (k0_h3 : k0_cond3 i = 1#1), ∀ (k0_h7 : k0_cond7 i = 1#1), ∀ a, (k0_off57 v381) a + S256x512.size a ≤ S2048x2048.size a) ∧
  (∀ (k0_h3 : k0_cond3 i = 1#1), ∀ (k0_h7 : k0_cond7 i = 1#1), ∀ a, (k0_off93 v381) a + S256x512.size a ≤ S2048x2048.size a)
theorem k0_off57_inb : ∀ (i : grid0.Coords) (v381 : BitVec 32) (k0_hw47 : k0_chk47 i v381), ∀ (k0_h3 : k0_cond3 i = 1#1), ∀ (k0_h7 : k0_cond7 i = 1#1), ∀ a, (k0_off57 v381) a + S256x512.size a ≤ S2048x2048.size a := fun i v381 k0_hw47 k0_h3 k0_h7 => k0_hw47.1 k0_h3 k0_h7
theorem k0_off93_inb : ∀ (i : grid0.Coords) (v381 : BitVec 32) (k0_hw47 : k0_chk47 i v381), ∀ (k0_h3 : k0_cond3 i = 1#1), ∀ (k0_h7 : k0_cond7 i = 1#1), ∀ a, (k0_off93 v381) a + S256x512.size a ≤ S2048x2048.size a := fun i v381 k0_hw47 k0_h3 k0_h7 => k0_hw47.2 k0_h3 k0_h7

def k0_off94 (v391 : BitVec 32) : Fin 2 → Nat :=
  let c256_i32_393 : BitVec 32 := 256#32
  let v392 : BitVec 32 := Scalar.muli v391 c256_i32_393
  let c512_i32_698 : BitVec 32 := 512#32
  ![v392.toNat, 512]

def k0_chk48 (i : grid0.Coords) (v391 : BitVec 32) : Prop :=
  (∀ (k0_h3 : k0_cond3 i = 1#1), ∀ (k0_h7 : k0_cond7 i = 1#1), ∀ a, (k0_off58 v391) a + S256x512.size a ≤ S2048x2048.size a) ∧
  (∀ (k0_h3 : k0_cond3 i = 1#1), ∀ (k0_h7 : k0_cond7 i = 1#1), ∀ a, (k0_off94 v391) a + S256x512.size a ≤ S2048x2048.size a)
theorem k0_off58_inb : ∀ (i : grid0.Coords) (v391 : BitVec 32) (k0_hw48 : k0_chk48 i v391), ∀ (k0_h3 : k0_cond3 i = 1#1), ∀ (k0_h7 : k0_cond7 i = 1#1), ∀ a, (k0_off58 v391) a + S256x512.size a ≤ S2048x2048.size a := fun i v391 k0_hw48 k0_h3 k0_h7 => k0_hw48.1 k0_h3 k0_h7
theorem k0_off94_inb : ∀ (i : grid0.Coords) (v391 : BitVec 32) (k0_hw48 : k0_chk48 i v391), ∀ (k0_h3 : k0_cond3 i = 1#1), ∀ (k0_h7 : k0_cond7 i = 1#1), ∀ a, (k0_off94 v391) a + S256x512.size a ≤ S2048x2048.size a := fun i v391 k0_hw48 k0_h3 k0_h7 => k0_hw48.2 k0_h3 k0_h7

def k0_off95 (v417 : BitVec 32) : Fin 2 → Nat :=
  let c256_i32_423 : BitVec 32 := 256#32
  let v418 : BitVec 32 := Scalar.muli v417 c256_i32_423
  let c1024_i32_705 : BitVec 32 := 1024#32
  ![v418.toNat, 1024]

def k0_chk51 (i : grid0.Coords) (v417 : BitVec 32) : Prop :=
  (∀ (k0_h3 : k0_cond3 i = 1#1), ∀ (k0_h7 : k0_cond7 i = 1#1), ∀ a, (k0_off61 v417) a + S256x512.size a ≤ S2048x2048.size a) ∧
  (∀ (k0_h3 : k0_cond3 i = 1#1), ∀ (k0_h7 : k0_cond7 i = 1#1), ∀ a, (k0_off95 v417) a + S256x512.size a ≤ S2048x2048.size a)
theorem k0_off61_inb : ∀ (i : grid0.Coords) (v417 : BitVec 32) (k0_hw51 : k0_chk51 i v417), ∀ (k0_h3 : k0_cond3 i = 1#1), ∀ (k0_h7 : k0_cond7 i = 1#1), ∀ a, (k0_off61 v417) a + S256x512.size a ≤ S2048x2048.size a := fun i v417 k0_hw51 k0_h3 k0_h7 => k0_hw51.1 k0_h3 k0_h7
theorem k0_off95_inb : ∀ (i : grid0.Coords) (v417 : BitVec 32) (k0_hw51 : k0_chk51 i v417), ∀ (k0_h3 : k0_cond3 i = 1#1), ∀ (k0_h7 : k0_cond7 i = 1#1), ∀ a, (k0_off95 v417) a + S256x512.size a ≤ S2048x2048.size a := fun i v417 k0_hw51 k0_h3 k0_h7 => k0_hw51.2 k0_h3 k0_h7

def k0_off96 (v427 : BitVec 32) : Fin 2 → Nat :=
  let c256_i32_432 : BitVec 32 := 256#32
  let v428 : BitVec 32 := Scalar.muli v427 c256_i32_432
  let c1024_i32_712 : BitVec 32 := 1024#32
  ![v428.toNat, 1024]

def k0_chk52 (i : grid0.Coords) (v427 : BitVec 32) : Prop :=
  (∀ (k0_h3 : k0_cond3 i = 1#1), ∀ (k0_h7 : k0_cond7 i = 1#1), ∀ a, (k0_off62 v427) a + S256x512.size a ≤ S2048x2048.size a) ∧
  (∀ (k0_h3 : k0_cond3 i = 1#1), ∀ (k0_h7 : k0_cond7 i = 1#1), ∀ a, (k0_off96 v427) a + S256x512.size a ≤ S2048x2048.size a)
theorem k0_off62_inb : ∀ (i : grid0.Coords) (v427 : BitVec 32) (k0_hw52 : k0_chk52 i v427), ∀ (k0_h3 : k0_cond3 i = 1#1), ∀ (k0_h7 : k0_cond7 i = 1#1), ∀ a, (k0_off62 v427) a + S256x512.size a ≤ S2048x2048.size a := fun i v427 k0_hw52 k0_h3 k0_h7 => k0_hw52.1 k0_h3 k0_h7
theorem k0_off96_inb : ∀ (i : grid0.Coords) (v427 : BitVec 32) (k0_hw52 : k0_chk52 i v427), ∀ (k0_h3 : k0_cond3 i = 1#1), ∀ (k0_h7 : k0_cond7 i = 1#1), ∀ a, (k0_off96 v427) a + S256x512.size a ≤ S2048x2048.size a := fun i v427 k0_hw52 k0_h3 k0_h7 => k0_hw52.2 k0_h3 k0_h7

def k0_off97 (v453 : BitVec 32) : Fin 2 → Nat :=
  let c256_i32_462 : BitVec 32 := 256#32
  let v454 : BitVec 32 := Scalar.muli v453 c256_i32_462
  let c1536_i32_719 : BitVec 32 := 1536#32
  ![v454.toNat, 1536]

def k0_chk55 (i : grid0.Coords) (v453 : BitVec 32) : Prop :=
  (∀ (k0_h3 : k0_cond3 i = 1#1), ∀ (k0_h7 : k0_cond7 i = 1#1), ∀ a, (k0_off65 v453) a + S256x512.size a ≤ S2048x2048.size a) ∧
  (∀ (k0_h3 : k0_cond3 i = 1#1), ∀ (k0_h7 : k0_cond7 i = 1#1), ∀ a, (k0_off97 v453) a + S256x512.size a ≤ S2048x2048.size a)
theorem k0_off65_inb : ∀ (i : grid0.Coords) (v453 : BitVec 32) (k0_hw55 : k0_chk55 i v453), ∀ (k0_h3 : k0_cond3 i = 1#1), ∀ (k0_h7 : k0_cond7 i = 1#1), ∀ a, (k0_off65 v453) a + S256x512.size a ≤ S2048x2048.size a := fun i v453 k0_hw55 k0_h3 k0_h7 => k0_hw55.1 k0_h3 k0_h7
theorem k0_off97_inb : ∀ (i : grid0.Coords) (v453 : BitVec 32) (k0_hw55 : k0_chk55 i v453), ∀ (k0_h3 : k0_cond3 i = 1#1), ∀ (k0_h7 : k0_cond7 i = 1#1), ∀ a, (k0_off97 v453) a + S256x512.size a ≤ S2048x2048.size a := fun i v453 k0_hw55 k0_h3 k0_h7 => k0_hw55.2 k0_h3 k0_h7

def k0_off98 (v463 : BitVec 32) : Fin 2 → Nat :=
  let c256_i32_471 : BitVec 32 := 256#32
  let v464 : BitVec 32 := Scalar.muli v463 c256_i32_471
  let c1536_i32_726 : BitVec 32 := 1536#32
  ![v464.toNat, 1536]

def k0_chk56 (i : grid0.Coords) (v463 : BitVec 32) : Prop :=
  (∀ (k0_h3 : k0_cond3 i = 1#1), ∀ (k0_h7 : k0_cond7 i = 1#1), ∀ a, (k0_off66 v463) a + S256x512.size a ≤ S2048x2048.size a) ∧
  (∀ (k0_h3 : k0_cond3 i = 1#1), ∀ (k0_h7 : k0_cond7 i = 1#1), ∀ a, (k0_off98 v463) a + S256x512.size a ≤ S2048x2048.size a)
theorem k0_off66_inb : ∀ (i : grid0.Coords) (v463 : BitVec 32) (k0_hw56 : k0_chk56 i v463), ∀ (k0_h3 : k0_cond3 i = 1#1), ∀ (k0_h7 : k0_cond7 i = 1#1), ∀ a, (k0_off66 v463) a + S256x512.size a ≤ S2048x2048.size a := fun i v463 k0_hw56 k0_h3 k0_h7 => k0_hw56.1 k0_h3 k0_h7
theorem k0_off98_inb : ∀ (i : grid0.Coords) (v463 : BitVec 32) (k0_hw56 : k0_chk56 i v463), ∀ (k0_h3 : k0_cond3 i = 1#1), ∀ (k0_h7 : k0_cond7 i = 1#1), ∀ a, (k0_off98 v463) a + S256x512.size a ≤ S2048x2048.size a := fun i v463 k0_hw56 k0_h3 k0_h7 => k0_hw56.2 k0_h3 k0_h7

def cc0_transform_0 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 1 (Rect.unit (s := S4) ![v0.toNat] S1.size (k0_off1_inb i)) numel1_S1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== ReferenceIdeal.lean ====
abbrev S2048x2048 : Shape := ⟨2, ![2048, 2048]⟩
abbrev S2048x16384 : Shape := ⟨2, ![2048, 16384]⟩
abbrev S16384x2048 : Shape := ⟨2, ![16384, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16384, .f32⟩
  | .hbm, ⟨2, _⟩ => ⟨S16384x2048, .f32⟩
  | .hbm, ⟨3, _⟩ => ⟨S2048x16384, .f32⟩
  | .hbm, ⟨4, _⟩ => ⟨S_, .f32⟩
  | .hbm, ⟨5, _⟩ => ⟨S2048x16384, .f32⟩
  | .hbm, ⟨6, _⟩ => ⟨S2048x16384, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Held.lean ====
/-
  A loop rule for a pipeline whose windows are all double-buffered inputs, in which the program of the last
  iteration goes on with something the pipeline does not know of. The library's rule asks the body to give every
  staging buffer back at every point; a kernel that leaves copies out of its result buffer in flight from one
  point to the next cannot. Here the result buffer is no window: the body holds it, and the write-back at the end
  is the `tail` below.
-/
module

public import Idealize.ShloMosaic.Lib.Pipeline.Sound

@[expose] public section

noncomputable section

namespace Idealize.ShloMosaic.Pipeline.PerCore.RDat

open Idealize.SL
open Idealize.SL.BI (sProp bigSep)
open scoped Idealize.SL.BI
open Idealize.SL.BI.BIBase Idealize.SL.BI.Laws Idealize.SL.Sem Idealize.SL.ProofMode
open Idealize.SL.RA
open TcCoe PCS

set_option Elab.async false

namespace Held

variable {nD : Nat} {τ : Topo} {sig : RefSig} {Val : EltTy → Type} {Λ₀ : Labels} {P : Type} [Fintype P] {A : P → Type}
variable {Ix : Type} [DecidableEq Ix] {Name : Type} [DecidableEq Name] {U : Type} [URA U] {Lvl : Type} [Preorder Lvl]

local notation "𝕄" => MT nD τ sig Ix Val Name U Lvl

variable (cfgs : Dev nD → P → Cfg sig Λ₀)
  (rdats : (p : P) → (c : Dev nD) → RDat τ Val Ix Name U Lvl (cfgs c p) c) (ι : Ix)

open Idealize.ShloMosaic.Rounds

variable (ER : Emb (URounds (GSem nD τ sig) Unit) (MT nD τ sig Ix Val Name U Lvl)) (κ : GSem nD τ sig → Name)
  (hinj : Function.Injective (cellOf (nD := nD) cfgs)) (p : P)
  (defs₀ : Defs nD τ sig Val Λ₀) (𝒱₀ : Variants)
  (𝔻 : Defs nD τ sig Val (Sig Λ₀ P A))
  (h𝔻k : ∀ pr ℓ x, 𝔻 pr (kernel ℓ) x = liftProg (defs₀ pr ℓ x))
  (c : Dev nD)
  (hin : ∀ w, ((cfgs c p).win w).isOut = false) (h2 : ∀ w, ((cfgs c p).win w).nbuf = 2)

/-- One iteration of the loop with `k` after it: issue the fetches of point `t`, collect those of the point
    before, and call the body on that one. -/
def iteration (t : Nat) (k : Prog (TpuEff nD τ sig Val (Sig Λ₀ P A) Proc.tc) PUnit) :
    Prog (TpuEff nD τ sig Val (Sig Λ₀ P A) Proc.tc) PUnit :=
  (cfgs c p).atPoint t 0 (fun u => (cfgs c p).eachWin (fun w => ((cfgs c p).win w).fetch u) (fun w => (cfgs c p).fetchIn w u)) <|
  (cfgs c p).atPoint t 1 (fun u k =>
    (cfgs c p).eachWin (fun w => ((cfgs c p).win w).fetch u) (fun w k => .op ((cfgs c p).waitIn w u) fun _ => k) <|
    .op (.call (kernel (cfgs c p).body) ((cfgs c p).bodyArgs u ((cfgs c p).slots u))) fun _ => k) k

/-- Phase `t` once the fetches of point `t` are issued: their buffers are lent. -/
def stIssued (w : Fin (cfgs c p).W) (t : Nat) (s : Fin ((cfgs c p).win w).nbuf) : SlotSt (Val := Val) cfgs p c w :=
  if h : t < (cfgs c p).N then
    if ((cfgs c p).win w).fetch ⟨t, h⟩ = true ∧ s = (cfgs c p).slots ⟨t, h⟩ w then .lent ⟨t, h⟩
    else slotSt₀ cfgs rdats p c w t s
  else slotSt₀ cfgs rdats p c w t s

/-- The phase after point `u` with the fetch of `u` collected: the buffer of `u` is held at contents satisfying
    `Pc`, the one of the next point is lent if that point fetches, every other is held. -/
def stHeld (w : Fin (cfgs c p).W) (u : Fin (cfgs c p).N) (Pc : (((cfgs c p).win w).block.Idx → Val ((cfgs c p).win w).elt) → Prop)
    (s : Fin ((cfgs c p).win w).nbuf) : SlotSt (Val := Val) cfgs p c w :=
  if s = (cfgs c p).slots u w then .holds ((cfgs c p).nextPt w s (u.val + 1)) Pc
  else if h : u.val + 1 < (cfgs c p).N then
    if ((cfgs c p).win w).fetch ⟨u.val + 1, h⟩ = true ∧ s = (cfgs c p).slots ⟨u.val + 1, h⟩ w then .lent ⟨u.val + 1, h⟩
    else .holds ((cfgs c p).nextPt w s (u.val + 1)) fun _ => True
  else .holds ((cfgs c p).nextPt w s (u.val + 1)) fun _ => True

omit [Fintype P] in
include hin h2 in
/-- An input's owner waits at its buffer's next fetch. -/
theorem pos_eq (w : Fin (cfgs c p).W) (s : Fin ((cfgs c p).win w).nbuf) (t : Nat) :
    (cfgs c p).pos w s t = (cfgs c p).nextPt w s t := by
  unfold Cfg.pos; rw [Window.late_eq _ (h2 w), hin w]; rfl

omit [Fintype P] in
include hin in
theorem xfer_eq (w : Fin (cfgs c p).W) (u : Fin (cfgs c p).N) : (cfgs c p).xfer w u = ((cfgs c p).win w).fetch u := by
  unfold Cfg.xfer; rw [hin w]; rfl

omit [Fintype P] in
include hin h2 in
/-- The next point's buffer is another one exactly when the next point fetches. -/
theorem slots_ne (w : Fin (cfgs c p).W) (u : Fin (cfgs c p).N) (h : u.val + 1 < (cfgs c p).N) :
    (cfgs c p).slots ⟨u.val + 1, h⟩ w ≠ (cfgs c p).slots u w ↔ ((cfgs c p).win w).fetch ⟨u.val + 1, h⟩ = true :=
  slots_succ_in (cfgs c p) w (h2 w) (hin w) u.val h

omit [Fintype P] [Preorder Lvl] in
include hin h2 in
/-- The buffers before phase `u + 1`, in closed form. -/
theorem st₀_succ (w : Fin (cfgs c p).W) (u : Fin (cfgs c p).N) (s : Fin ((cfgs c p).win w).nbuf) :
    slotSt₀ cfgs rdats p c w (u.val + 1) s =
      if s = (cfgs c p).slots u w then
        if ((cfgs c p).win w).fetch u = true then .lent u else .holds ((cfgs c p).nextPt w s (u.val + 1)) ((rdats p c).Finds w u)
      else .holds ((cfgs c p).nextPt w s (u.val + 1)) fun _ => True := by
  rw [slotSt₀_in cfgs rdats p c w (h2 w) (hin w), dif_pos ⟨by omega, by have := u.isLt; omega⟩, pos_eq cfgs p c hin h2]
  simp only [Nat.add_sub_cancel, Fin.eta]
  by_cases hs : s = (cfgs c p).slots u w <;> by_cases hf : ((cfgs c p).win w).fetch u = true <;> simp [hs, hf]

omit [Fintype P] [Preorder Lvl] in
include hin h2 in
/-- A buffer about to be fetched into at point `t` is held, its owner at round `t`. -/
theorem st₀_free (w : Fin (cfgs c p).W) (t : Fin (cfgs c p).N) (hf : ((cfgs c p).win w).fetch t = true) :
    ∃ Pb, slotSt₀ cfgs rdats p c w t.val ((cfgs c p).slots t w) = .holds t.val Pb := by
  have hself : (cfgs c p).nextPt w ((cfgs c p).slots t w) t.val = t.val :=
    (cfgs c p).nextPt_eq_self w _ t.val t.isLt ⟨rfl, by rw [xfer_eq cfgs p c hin]; exact hf⟩
  obtain ⟨t, ht⟩ := t
  cases t with
  | zero =>
    rw [slotSt₀_in cfgs rdats p c w (h2 w) (hin w), dif_neg (by simp), pos_eq cfgs p c hin h2, hself]
    exact ⟨_, rfl⟩
  | succ n =>
    have hne := (slots_ne cfgs p c hin h2 w ⟨n, by omega⟩ ht).mpr hf
    refine ⟨fun _ => True, ?_⟩
    have := st₀_succ cfgs rdats p c hin h2 w ⟨n, by omega⟩ ((cfgs c p).slots ⟨n + 1, ht⟩ w)
    rw [if_neg hne] at this
    exact this.trans (by rw [hself])

include hin h2 hinj in
/-- Issuing the fetches of point `t`. -/
theorem wp_issue (E : Set Name) (t : Nat) (m : Fin ((cfgs c p).N + 1)) (bd : Option (Variants.lift 𝒱₀).V)
    {k : Prog (TpuEff nD τ sig Val (Sig Λ₀ P A) Proc.tc) PUnit} {Q : PUnit → sProp 𝕄} :
    Res cfgs rdats ι ER κ p c (fun w => slotSt₀ cfgs rdats p c w t) (fun w F => F = (rdats p c).A w) (fun w => (cfgs c p).toksAt w t) m
      ⊢ iprop((Res cfgs rdats ι ER κ p c (fun w => stIssued cfgs rdats p c w t) (fun w F => F = (rdats p c).A w) (fun w => (cfgs c p).toksAt w (t + 1)) m
            -∗ wp frame (wpE 𝔻 (Variants.lift 𝒱₀) c bd) E k Q)
          -∗ wp frame (wpE 𝔻 (Variants.lift 𝒱₀) c bd) E
              ((cfgs c p).atPoint t 0 (fun u => (cfgs c p).eachWin (fun w => ((cfgs c p).win w).fetch u) (fun w => (cfgs c p).fetchIn w u)) k) Q) := by
  have htk : ∀ w, (cfgs c p).toksAt w (t + 1) = if h : t < (cfgs c p).N then
      (if ((cfgs c p).win w).fetch ⟨t, h⟩ = true then ((cfgs c p).toksAt w t).erase ⟨t, h⟩ else (cfgs c p).toksAt w t)
      else (cfgs c p).toksAt w t := fun w => by
    rw [(cfgs c p).toksAt_succ_in w (by rw [Window.late_eq _ (h2 w), hin w]) t]; simp only [xfer_eq cfgs p c hin]
  by_cases h : t < (cfgs c p).N
  · rw [(cfgs c p).atPoint_some ⟨Nat.zero_le _, h⟩]
    simp only [Nat.sub_zero]
    refine wp_eachWin (Variants.lift 𝒱₀) E bd
      (R := fun w => winHold cfgs rdats ι ER κ p c w (fun F => F = (rdats p c).A w) (slotSt₀ cfgs rdats p c w t) ((cfgs c p).toksAt w t))
      (R' := fun w => winHold cfgs rdats ι ER κ p c w (fun F => F = (rdats p c).A w) (stIssued cfgs rdats p c w t) ((cfgs c p).toksAt w (t + 1)))
      (S := iprop((rdats p c).owesAt ι m ∗ (rdats p c).Φ m)) ?_ ?_
    · intro w hf k'
      obtain ⟨Pb, hPb⟩ := st₀_free cfgs rdats p c hin h2 w ⟨t, h⟩ hf
      have hx : (cfgs c p).xfer w ⟨t, h⟩ = true := by rw [xfer_eq cfgs p c hin]; exact hf
      have hu : (⟨t, h⟩ : Fin (cfgs c p).N) ∈ (cfgs c p).toksAt w t := by
        unfold Cfg.toksAt; rw [Finset.mem_filter, Window.late_eq _ (h2 w), hin w]; exact ⟨Finset.mem_univ _, hx, le_refl _⟩
      have hst : stIssued cfgs rdats p c w t
          = Function.update (slotSt₀ cfgs rdats p c w t) ((cfgs c p).slots ⟨t, h⟩ w) (.lent ⟨t, h⟩) := by
        funext s
        unfold stIssued; rw [dif_pos h]
        by_cases hs : s = (cfgs c p).slots ⟨t, h⟩ w
        · rw [if_pos ⟨hf, hs⟩, hs, Function.update_self]
        · rw [if_neg (fun hh => hs hh.2), Function.update_of_ne hs]
      rw [hst, htk w, dif_pos h, if_pos hf]
      iintro ⟨HR, HS⟩ Hk
      iapply (wp_fetchIn cfgs rdats ι ER κ hinj p c w (hin w) ⟨t, h⟩ hx (slotSt₀ cfgs rdats p c w t) hPb _ hu E (Variants.lift 𝒱₀) bd (k := k') (Q := Q)) $$ HR
      iintro HR
      iapply Hk
      isplitl [HR]
      · iexact HR
      · iexact HS
    · intro w hf
      have hst : stIssued cfgs rdats p c w t = slotSt₀ cfgs rdats p c w t := by
        funext s; unfold stIssued; rw [dif_pos h, if_neg (fun hh => by rw [hf] at hh; exact Bool.false_ne_true hh.1)]
      rw [hst, htk w, dif_pos h, if_neg (by rw [hf]; exact Bool.false_ne_true)]
  · rw [(cfgs c p).atPoint_none (fun hh => h (by omega))]
    have hst : ∀ w, stIssued cfgs rdats p c w t = slotSt₀ cfgs rdats p c w t := fun w => by
      funext s; unfold stIssued; rw [dif_neg h]
    simp only [hst, htk, dif_neg h]
    iintro H Hk
    iapply Hk; iexact H

omit [Fintype P] [Preorder Lvl] in
include hin h2 in
/-- A window that fetched nothing at `u` still has what it had. -/
theorem issued_idle (w : Fin (cfgs c p).W) (u : Fin (cfgs c p).N) (hf : ((cfgs c p).win w).fetch u = false) :
    stIssued cfgs rdats p c w (u.val + 1) = stHeld cfgs p c w u ((rdats p c).Finds w u) := by
  funext s
  unfold stIssued stHeld
  rw [st₀_succ cfgs rdats p c hin h2 w u s]
  by_cases hs : s = (cfgs c p).slots u w
  · rw [if_pos hs, if_pos hs, if_neg (by rw [hf]; exact Bool.false_ne_true)]
    split
    · next h =>
      rw [if_neg]
      rintro ⟨hf', hs'⟩
      exact (slots_ne cfgs p c hin h2 w u h).mpr hf' (hs'.symm.trans hs)
    · rfl
  · rw [if_neg hs, if_neg hs]

omit [Fintype P] [Preorder Lvl] in
include hin h2 in
/-- A window that fetched at `u` has that buffer lent, -/
theorem issued_lent (w : Fin (cfgs c p).W) (u : Fin (cfgs c p).N) (hf : ((cfgs c p).win w).fetch u = true) :
    stIssued cfgs rdats p c w (u.val + 1) ((cfgs c p).slots u w) = .lent u := by
  unfold stIssued
  rw [st₀_succ cfgs rdats p c hin h2 w u, if_pos rfl, if_pos hf]
  split
  · next h =>
    rw [if_neg]
    rintro ⟨hf', hs'⟩
    exact (slots_ne cfgs p c hin h2 w u h).mpr hf' hs'.symm
  · rfl

omit [Fintype P] [Preorder Lvl] in
include hin h2 in
/-- and, that fetch collected, holds it. -/
theorem issued_collect (w : Fin (cfgs c p).W) (u : Fin (cfgs c p).N)
    (Pc : (((cfgs c p).win w).block.Idx → Val ((cfgs c p).win w).elt) → Prop) :
    Function.update (stIssued cfgs rdats p c w (u.val + 1)) ((cfgs c p).slots u w)
        (.holds ((cfgs c p).nextPt w ((cfgs c p).slots u w) (u.val + 1)) Pc)
      = stHeld cfgs p c w u Pc := by
  funext s
  by_cases hs : s = (cfgs c p).slots u w
  · subst hs; rw [Function.update_self]; unfold stHeld; rw [if_pos rfl]
  · rw [Function.update_of_ne hs]; unfold stIssued stHeld
    rw [st₀_succ cfgs rdats p c hin h2 w u, if_neg hs, if_neg hs]

omit [Fintype P] [Preorder Lvl] in
include hin h2 in
/-- After the body at `u`, what the windows hold is what the next phase starts from. -/
theorem held_end (w : Fin (cfgs c p).W) (u : Fin (cfgs c p).N) (s : Fin ((cfgs c p).win w).nbuf) :
    SlotSt.LE cfgs (stHeld cfgs p c w u ((rdats p c).Leaves w u) s) (slotSt₀ cfgs rdats p c w (u.val + 2) s) := by
  by_cases h : u.val + 1 < (cfgs c p).N
  · have h0 := st₀_succ cfgs rdats p c hin h2 w ⟨u.val + 1, h⟩ s
    rw [show u.val + 2 = (⟨u.val + 1, h⟩ : Fin (cfgs c p).N).val + 1 from rfl, h0]
    unfold stHeld
    have hstay : ¬((cfgs c p).slots ⟨u.val + 1, h⟩ w = s ∧ ((cfgs c p).win w).fetch ⟨u.val + 1, h⟩ = true) →
        (cfgs c p).nextPt w s (u.val + 1) = (cfgs c p).nextPt w s (u.val + 1 + 1) := fun hh =>
      (cfgs c p).nextPt_eq_succ w s (u.val + 1) h (by rw [xfer_eq cfgs p c hin]; exact hh)
    rw [dif_pos h]
    by_cases hf : ((cfgs c p).win w).fetch ⟨u.val + 1, h⟩ = true
    · have hne := (slots_ne cfgs p c hin h2 w u h).mpr hf
      by_cases hs : s = (cfgs c p).slots ⟨u.val + 1, h⟩ w
      · subst hs; rw [if_neg hne, if_pos ⟨hf, rfl⟩, if_pos rfl, if_pos hf]; exact SlotSt.LE.lent _
      · rw [if_neg (c := ((cfgs c p).win w).fetch ⟨u.val + 1, h⟩ = true ∧ s = (cfgs c p).slots ⟨u.val + 1, h⟩ w) (fun hh => hs hh.2),
          if_neg (c := s = (cfgs c p).slots ⟨u.val + 1, h⟩ w) hs, hstay (fun hh => hs hh.1.symm)]
        split <;> exact SlotSt.LE.holds _ fun _ _ => trivial
    · have heq : (cfgs c p).slots ⟨u.val + 1, h⟩ w = (cfgs c p).slots u w := by
        by_contra hne; exact hf ((slots_ne cfgs p c hin h2 w u h).mp hne)
      rw [if_neg (c := ((cfgs c p).win w).fetch ⟨u.val + 1, h⟩ = true ∧ s = (cfgs c p).slots ⟨u.val + 1, h⟩ w) (fun hh => hf hh.1),
        if_neg (c := ((cfgs c p).win w).fetch ⟨u.val + 1, h⟩ = true) hf, hstay (fun hh => hf hh.2), heq]
      by_cases hs : s = (cfgs c p).slots u w
      · rw [if_pos hs, if_pos hs]
        exact SlotSt.LE.holds _ fun X hX => RDat.Leaves.finds_succ _ hX ⟨u.val + 1, h⟩ rfl (by simpa using hf)
      · rw [if_neg hs, if_neg hs]; exact SlotSt.LE.holds _ fun _ _ => trivial
  · rw [slotSt₀_in cfgs rdats p c w (h2 w) (hin w), dif_neg (by omega), pos_eq cfgs p c hin h2]
    have hu := u.isLt
    rw [(cfgs c p).nextPt_ge w s (u.val + 2) (by omega)]
    unfold stHeld
    rw [dif_neg h, (cfgs c p).nextPt_ge w s (u.val + 1) (by omega)]
    split <;> exact SlotSt.LE.holds _ fun _ _ => trivial

omit [Fintype P] [Preorder Lvl] in
/-- Weaker contents for the buffer of the point. -/
theorem held_mono (w : Fin (cfgs c p).W) (u : Fin (cfgs c p).N)
    {Pc Pc' : (((cfgs c p).win w).block.Idx → Val ((cfgs c p).win w).elt) → Prop} (h : ∀ X, Pc X → Pc' X)
    (s : Fin ((cfgs c p).win w).nbuf) : SlotSt.LE cfgs (stHeld cfgs p c w u Pc s) (stHeld cfgs p c w u Pc' s) := by
  unfold stHeld
  split
  · exact SlotSt.LE.holds _ h
  · split
    · split
      · exact SlotSt.LE.lent _
      · exact SlotSt.LE.holds _ fun _ h => h
    · exact SlotSt.LE.holds _ fun _ h => h

include hin h2 hinj in
/-- Collecting the fetches of point `u`. -/
theorem wp_collect [∀ e, Nonempty (Val e)] (E : Set Name) (hE : NamesIn cfgs κ p c E) (u : Fin (cfgs c p).N) (m : Fin ((cfgs c p).N + 1)) (bd : Option (Variants.lift 𝒱₀).V)
    (tk : (w : Fin (cfgs c p).W) → Finset (Fin (cfgs c p).N))
    {k : Prog (TpuEff nD τ sig Val (Sig Λ₀ P A) Proc.tc) PUnit} {Q : PUnit → sProp 𝕄} :
    Res cfgs rdats ι ER κ p c (fun w => stIssued cfgs rdats p c w (u.val + 1)) (fun w F => F = (rdats p c).A w) tk m
      ⊢ iprop((Res cfgs rdats ι ER κ p c (fun w => stHeld cfgs p c w u ((rdats p c).Finds w u)) (fun w F => F = (rdats p c).A w) tk m
            -∗ wp frame (wpE 𝔻 (Variants.lift 𝒱₀) c bd) E k Q)
          -∗ wp frame (wpE 𝔻 (Variants.lift 𝒱₀) c bd) E
              ((cfgs c p).eachWin (fun w => ((cfgs c p).win w).fetch u) (fun w k => .op ((cfgs c p).waitIn w u) fun _ => k) k) Q) := by
  refine wp_eachWin (Variants.lift 𝒱₀) E bd
    (R := fun w => winHold cfgs rdats ι ER κ p c w (fun F => F = (rdats p c).A w) (stIssued cfgs rdats p c w (u.val + 1)) (tk w))
    (R' := fun w => winHold cfgs rdats ι ER κ p c w (fun F => F = (rdats p c).A w) (stHeld cfgs p c w u ((rdats p c).Finds w u)) (tk w))
    (S := iprop((rdats p c).owesAt ι m ∗ (rdats p c).Φ m)) ?_ ?_
  · intro w hf k'
    have hx : (cfgs c p).xfer w u = true := by rw [xfer_eq cfgs p c hin]; exact hf
    iintro ⟨HR, Ho, HΦ⟩ Hk
    iapply (wp_waitIn cfgs rdats ι ER κ hinj p c w (hin w) u hx (stIssued cfgs rdats p c w (u.val + 1))
      (issued_lent cfgs rdats p c hin h2 w u hf) (tk w) E (hE w _) (Variants.lift 𝒱₀) bd m (k := k') (Q := Q)) $$ [HR Ho]
    · isplitl [HR] <;> iassumption
    iintro ⟨HR, Ho⟩
    imod (winHold_skip cfgs rdats ι ER κ hinj p c w ((cfgs c p).slots u w) _ _ (tk w) (Function.update_self ..)
      (by have := u.isLt; omega) E (hE w _)) $$ HR with HR
    rw [Function.update_idem, issued_collect cfgs rdats p c hin h2]
    iapply Hk
    isplitl [HR]
    · iapply (winHold_mono cfgs rdats ι ER κ p c w (held_mono cfgs p c w u fun X hX => ((rdats p c).finds_of_fetch hf X).mpr hX)
        (fun _ h => h) rfl)
      iexact HR
    · isplitl [Ho] <;> iassumption
  · intro w hf
    rw [issued_idle cfgs rdats p c hin h2 w u hf]

omit [Fintype P] [Preorder Lvl] in
include hin h2 in
/-- With the first point's fetches issued, the windows stand at phase 1. -/
theorem issued_zero (hN : 0 < (cfgs c p).N) (w : Fin (cfgs c p).W) :
    stIssued cfgs rdats p c w 0 = slotSt₀ cfgs rdats p c w 1 := by
  funext s
  have hf : ((cfgs c p).win w).fetch ⟨0, hN⟩ = true := (((cfgs c p).win w).fetch_in (hin w) ⟨0, hN⟩).mpr (.inl rfl)
  have h1 := st₀_succ cfgs rdats p c hin h2 w ⟨0, hN⟩ s
  rw [show (⟨0, hN⟩ : Fin (cfgs c p).N).val + 1 = 1 from rfl, if_pos hf] at h1
  rw [h1]
  unfold stIssued
  rw [dif_pos hN]
  by_cases hs : s = (cfgs c p).slots ⟨0, hN⟩ w
  · rw [if_pos ⟨hf, hs⟩, if_pos hs]
  · rw [if_neg (fun hh => hs hh.2), if_neg hs, slotSt₀_in cfgs rdats p c w (h2 w) (hin w), dif_neg (by omega), pos_eq cfgs p c hin h2,
      (cfgs c p).nextPt_eq_succ w s 0 hN (fun hh => hs hh.1.symm)]

omit [Fintype P] [Preorder Lvl] in
/-- Other contents for the buffer of the point. -/
theorem held_update (w : Fin (cfgs c p).W) (u : Fin (cfgs c p).N)
    (Pc Pc' : (((cfgs c p).win w).block.Idx → Val ((cfgs c p).win w).elt) → Prop) :
    Function.update (stHeld cfgs p c w u Pc) ((cfgs c p).slots u w)
        (.holds ((cfgs c p).nextPt w ((cfgs c p).slots u w) (u.val + 1)) Pc') = stHeld cfgs p c w u Pc' := by
  funext s
  by_cases hs : s = (cfgs c p).slots u w
  · subst hs; rw [Function.update_self]; unfold stHeld; rw [if_pos rfl]
  · rw [Function.update_of_ne hs]; unfold stHeld; rw [if_neg hs, if_neg hs]

include hin h2 hinj h𝔻k in
/-- One iteration: from the loop's holdings at phase `t` to those at phase `t + 1`. -/
theorem wp_iteration [∀ e, Nonempty (Val e)] (E : Set Name) (hE : NamesIn cfgs κ p c E)
    (hbody : (rdats p c).BodyObligation defs₀ 𝒱₀ ι E) (hN : 0 < (cfgs c p).N) (t : Nat) (ht : t ≤ (cfgs c p).N)
    (bd : Option (Variants.lift 𝒱₀).V) (hbd : ∀ v ∈ bd, (Variants.lift 𝒱₀).lt (.inl none) v)
    {k : Prog (TpuEff nD τ sig Val (Sig Λ₀ P A) Proc.tc) PUnit} {Q : PUnit → sProp 𝕄} :
    loopInv cfgs rdats ι ER κ p c t
      ⊢ iprop((loopInv cfgs rdats ι ER κ p c (t + 1) -∗ wp frame (wpE 𝔻 (Variants.lift 𝒱₀) c bd) E k Q)
          -∗ wp frame (wpE 𝔻 (Variants.lift 𝒱₀) c bd) E (iteration cfgs p c t k) Q) := by
  have hA : ∀ n w, (rdats p c).ArrAt w n = fun F => F = (rdats p c).A w := fun n w => (rdats p c).ArrAt_in w (hin w) n
  unfold iteration
  iintro H Hk
  ihave H := (loopInv_unfold cfgs rdats ι ER κ p c t) $$ H
  simp only [hA]
  iapply (wp_issue cfgs rdats ι ER κ hinj p 𝒱₀ 𝔻 c hin h2 E t _ bd) $$ H
  iintro H
  cases t with
  | zero =>
    rw [(cfgs c p).atPoint_none (by omega)]
    iapply Hk
    iapply (loopInv_fold cfgs rdats ι ER κ p c 1)
    simp only [hA, issued_zero cfgs rdats p c hin h2 hN]
    iexact H
  | succ n =>
    have hn : n < (cfgs c p).N := by omega
    rw [(cfgs c p).atPoint_some ⟨by omega, by omega⟩]
    simp only [Nat.add_sub_cancel]
    have hm : (⟨min n (cfgs c p).N, by omega⟩ : Fin ((cfgs c p).N + 1)) = (⟨n, hn⟩ : Fin (cfgs c p).N).castSucc :=
      Fin.ext (by show min n _ = n; omega)
    simp only [hm]
    iapply (wp_collect cfgs rdats ι ER κ hinj p 𝒱₀ 𝔻 c hin h2 E hE ⟨n, hn⟩ _ bd) $$ H
    iintro H
    iapply (wp_body cfgs rdats ι ER κ 𝔻 h𝔻k p c E bd hbd hbody ⟨n, hn⟩
      (fun w => stHeld cfgs p c w ⟨n, hn⟩ ((rdats p c).Finds w ⟨n, hn⟩)) (fun w F => F = (rdats p c).A w)
      (fun w => (cfgs c p).toksAt w (n + 1 + 1)) (fun w => (cfgs c p).nextPt w ((cfgs c p).slots ⟨n, hn⟩ w) (n + 1))
      (fun w => (rdats p c).Finds w ⟨n, hn⟩) (fun w => by unfold stHeld; rw [if_pos rfl]) (fun _ _ h => h)) $$ H
    iintro %x H
    iapply Hk
    iapply (loopInv_fold cfgs rdats ι ER κ p c (n + 1 + 1))
    have hm' : (⟨min (n + 1 + 1 - 1) (cfgs c p).N, by omega⟩ : Fin ((cfgs c p).N + 1)) = (⟨n, hn⟩ : Fin (cfgs c p).N).succ :=
      Fin.ext (by show min (n + 1) _ = n + 1; omega)
    simp only [hm', hA]
    have hend : (bigSep Finset.univ fun w => winHold cfgs rdats ι ER κ p c w (fun F => F = (rdats p c).A w)
          (Function.update (stHeld cfgs p c w ⟨n, hn⟩ ((rdats p c).Finds w ⟨n, hn⟩)) ((cfgs c p).slots ⟨n, hn⟩ w)
            (.holds ((cfgs c p).nextPt w ((cfgs c p).slots ⟨n, hn⟩ w) (n + 1)) ((rdats p c).Leaves w ⟨n, hn⟩))) ((cfgs c p).toksAt w (n + 1 + 1)))
        ⊢ bigSep Finset.univ fun w => winHold cfgs rdats ι ER κ p c w (fun F => F = (rdats p c).A w)
          (slotSt₀ cfgs rdats p c w (n + 1 + 1)) ((cfgs c p).toksAt w (n + 1 + 1)) :=
      BI.bigSep_mono fun w _ => winHold_mono cfgs rdats ι ER κ p c w
        (fun s => by rw [held_update]; exact held_end cfgs rdats p c hin h2 w ⟨n, hn⟩ s) (fun _ h => h) rfl
    icases H with ⟨HR, HS⟩
    isplitl [HR]
    · iapply hend $$ HR
    · iexact HS

include hin h2 hinj h𝔻k in
/-- The loop: a table whose pipeline label runs one iteration and calls itself again up to the last point, and
    goes on with `tail` after the last, runs from the windows' holdings at the start to those at the end, with
    `tail` after them. -/
theorem wp_loop [∀ e, Nonempty (Val e)] (E : Set Name) (hE : NamesIn cfgs κ p c E)
    (hbody : (rdats p c).BodyObligation defs₀ 𝒱₀ ι E) (hN : 0 < (cfgs c p).N) (a : A p)
    (tail : Prog (TpuEff nD τ sig Val (Sig Λ₀ P A) Proc.tc) PUnit)
    (hstep : ∀ t, t < (cfgs c p).N → 𝔻 .tc (pipe p) (a, t) = iteration cfgs p c t (.op (.call (pipe p) (a, t + 1)) fun _ => .ret ⟨⟩))
    (hlast : 𝔻 .tc (pipe p) (a, (cfgs c p).N) = iteration cfgs p c (cfgs c p).N tail)
    (j : ℕ) (Q : sProp 𝕄) (n : ℕ) :
    ∀ t, t + n = (cfgs c p).N →
    loopInv cfgs rdats ι ER κ p c t
      ⊢ iprop((loopInv cfgs rdats ι ER κ p c ((cfgs c p).N + 1) -∗ wp frame (wpE 𝔻 (Variants.lift 𝒱₀) c (some (.inr j))) E tail fun _ => Q)
          -∗ wp frame (wpE 𝔻 (Variants.lift 𝒱₀) c (some (.inr (j + n)))) E (𝔻 .tc (pipe p) (a, t)) fun _ => Q) := by
  have hbd : ∀ i : ℕ, ∀ v ∈ (some (.inr i) : Option (Variants.lift 𝒱₀).V), (Variants.lift 𝒱₀).lt (.inl none) v := by
    rintro i v hv; obtain rfl := Option.mem_some_iff.mp hv; exact Sum.Lex.sep _ _
  induction n with
  | zero =>
    intro t ht
    obtain rfl : t = (cfgs c p).N := by omega
    rw [hlast]
    iintro H Hk
    iapply (wp_iteration cfgs rdats ι ER κ hinj p defs₀ 𝒱₀ 𝔻 h𝔻k c hin h2 E hE hbody hN _ (le_refl _) _ (hbd _)) $$ H Hk
  | succ n ih =>
    intro t ht
    rw [hstep t (by omega)]
    have hcall : wp frame (wpE 𝔻 (Variants.lift 𝒱₀) c (some (.inr (j + n)))) E (𝔻 .tc (pipe p) (a, t + 1)) (fun _ => Q)
        ⊢ wp frame (wpE 𝔻 (Variants.lift 𝒱₀) c (some (.inr (j + (n + 1))))) E (.op (.call (pipe p) (a, t + 1)) fun _ => .ret PUnit.unit) (fun _ => Q) := by
      refine BI.Entails.trans ?_ (wp_call (Variants.lift 𝒱₀) (c.tc : Thread nD τ) (some (.inr (j + (n + 1)))) E (ℓ := pipe p) (a := (a, t + 1))
        (k := fun _ => .ret PUnit.unit) (Q := fun _ => Q) (Sum.inr (j + n))
        (fun u hu => by obtain rfl := Option.mem_some_iff.mp hu; exact Sum.Lex.inr (by omega)))
      exact wp_mono _ _ _ fun _ => by rw [wp_ret]; iintro H; imodintro; iexact H
    iintro H Hk
    iapply (wp_iteration cfgs rdats ι ER κ hinj p defs₀ 𝒱₀ 𝔻 h𝔻k c hin h2 E hE hbody hN t (by omega) _ (hbd _)) $$ H
    iintro H
    iapply hcall
    iapply (ih (t + 1) (by omega)) $$ H Hk

end Held

end Idealize.ShloMosaic.Pipeline.PerCore.RDat
-- ==== Proof.Config.lean ====
/-
  The pipeline of the fused kernel with its result window taken out: the four double-buffered input windows, the
  tables at the contents the host computes for each device, and the printed loop seen as the loop of these four
  windows with the write-back of the result after its last iteration.
-/
module

public import proofs.«01_k».proof.Proof.Held
public import proofs.«01_k».proof.Proof.Gen.KernelIdeal.Launch
public import Idealize.ShloMosaic.Lib.Pipeline.Launch

@[expose] public section

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Cfg Window PCfg)

variable {F : FTy → Type} [FloatOps F]

/-! ## The tables -/

/-- The row block (of eight, 256 rows each) device `c` works on in step `s` of ring `r`: ring 0 passes the upper
    four blocks to the right, ring 1 the lower four to the left. -/
def blk (r : Fin 2) (c : Dev nD) (s : Fin 4) : Fin 8 :=
  if r = 0 then ⟨(c.val + 4 - s.val) % 4, by omega⟩ else ⟨4 + (c.val + s.val) % 4, by omega⟩

/-- A block number as a word of the tables. -/
def wd (k : Fin 8) : BitVec 32 := BitVec.ofNat 32 k.val

/-- The two tables of device `c`. -/
def tab (c : Dev nD) : pre0.Contents (Elt F) := fun
  | 0 => fun h : S4.Idx => wd (blk 0 c (h 0))
  | 1 => fun h : S4.Idx => wd (blk 1 c (h 0))
  | ⟨_ + 2, h⟩ => absurd h (Nat.not_lt.2 (Nat.le_add_left _ _))

theorem transform_0 (c : Dev nD) (i : grid0.Coords) :
    cc0_transform_0 (F := F) k0_off1_inb numel1_S1 (tab c) i = ![(blk 0 c (i 0)).val, 0] := by
  have h : ∀ s : Fin 4, ∀ c : Dev nD, (wd (blk 0 c s)).toNat = (blk 0 c s).val := by decide
  have h0 : ((Scalar.indexCast (BitVec.ofNat 32 (i 0).val)).toNat) = (i 0).val := by
    have : ∀ s : Fin 4, (Scalar.indexCast (BitVec.ofNat 32 s.val)).toNat = s.val := by decide
    exact this (i 0)
  unfold cc0_transform_0
  funext a; fin_cases a
  · refine (h _ c).trans ?_
    congr 2
    refine Fin.ext ?_
    show (Scalar.indexCast (BitVec.ofNat 32 (i 0).val)).toNat + 1 * 0 = _
    rw [h0]; rfl
  · rfl

theorem transform_1 (c : Dev nD) (i : grid0.Coords) :
    cc0_transform_1 (F := F) k0_off1_inb numel1_S1 (tab c) i = ![(blk 1 c (i 0)).val, 0] := by
  have h : ∀ s : Fin 4, ∀ c : Dev nD, (wd (blk 1 c s)).toNat = (blk 1 c s).val := by decide
  have h0 : ((Scalar.indexCast (BitVec.ofNat 32 (i 0).val)).toNat) = (i 0).val := by
    have : ∀ s : Fin 4, (Scalar.indexCast (BitVec.ofNat 32 s.val)).toNat = s.val := by decide
    exact this (i 0)
  unfold cc0_transform_1
  funext a; fin_cases a
  · refine (h _ c).trans ?_
    congr 2
    refine Fin.ext ?_
    show (Scalar.indexCast (BitVec.ofNat 32 (i 0).val)).toNat + 1 * 0 = _
    rw [h0]; rfl
  · rfl

/-- Every block the tables name is inside the array. -/
theorem tab_ok (c : Dev nD) : ok0 (F := F) (tab c) := by
  refine ⟨fun i => ⟨?_, .inl rfl⟩, fun i => ⟨?_, .inl rfl⟩⟩
  · rw [transform_0]
    have := (blk 0 c (i 0)).isLt
    intro a; fin_cases a
    · show ((blk 0 c (i 0)).val + 1) * 256 ≤ 2048; omega
    · show (0 + 1) * 2048 ≤ 2048; omega
  · rw [transform_1]
    have := (blk 1 c (i 0)).isLt
    intro a; fin_cases a
    · show ((blk 1 c (i 0)).val + 1) * 256 ≤ 2048; omega
    · show (0 + 1) * 2048 ≤ 2048; omega

/-- The contents of the tables the call of device `c` reads. -/
def adm (c : Dev nD) : (pcfg0 (F := F)).Adm := ⟨tab c, tab_ok c⟩

/-- The pipeline of device `c` as printed. -/
abbrev cfgA (F : FTy → Type) [FloatOps F] (c : Dev nD) : Cfg sig Λ₀ := cfg0 (F := F) (adm c)

/-- The four input windows' current buffers with the one of the result window. -/
def ext5 (s : (w : Fin 4) → Fin (spec0 w.castSucc).nbuf) : (w : Fin 5) → Fin (spec0 w).nbuf := fun
  | 0 => s 0 | 1 => s 1 | 2 => s 2 | 3 => s 3 | 4 => (0 : Fin 1)
  | ⟨_ + 5, h⟩ => absurd h (Nat.not_lt.2 (Nat.le_add_left _ _))

/-- The pipeline of device `c` with the four input windows only. -/
abbrev cfgB (F : FTy → Type) [FloatOps F] (c : Dev nD) (_ : Fin 1) : Cfg sig Λ₀ where
  grid := (cfgA F c).grid
  W := 4
  win := fun w => (cfgA F c).win w.castSucc
  body := (cfgA F c).body
  bodyArgs := fun u s => (u, ext5 s)

theorem cfgB_in (c : Dev nD) (p : Fin 1) (w : Fin 4) : ((cfgB F c p).win w).isOut = false := by
  fin_cases w <;> rfl

theorem cfgB_two (c : Dev nD) (p : Fin 1) (w : Fin 4) : ((cfgB F c p).win w).nbuf = 2 := by
  fin_cases w <;> rfl

theorem cfgB_N (c : Dev nD) (p : Fin 1) : (cfgB F c p).N = 32 := N_0

/-- The four windows' staging semaphores are distinct. -/
theorem sems4 : ∀ (w w' : Fin 4) (s : Fin (spec0 w.castSucc).nbuf) (s' : Fin (spec0 w'.castSucc).nbuf),
    (spec0 w.castSucc).sem s = (spec0 w'.castSucc).sem s' → (⟨w, s⟩ : (w : Fin 4) × Fin (spec0 w.castSucc).nbuf) = ⟨w', s'⟩ := by
  decide

/-- The staging cells of the four windows are distinct. -/
theorem cfgB_inj : Function.Injective (Pipeline.PerCore.cellOf (nD := nD) (τ := τ) (cfgB F)) := by
  rintro ⟨p, c, k⟩ ⟨p', c', k'⟩ h
  obtain rfl : p = p' := Subsingleton.elim p p'
  obtain rfl : c = c' := congrArg (fun g : GSem nD τ sig => g.1.1) h
  have hs : (SemLoc.dma ((spec0 k.1.castSucc).sem k.2) : SemLoc sig) = .dma ((spec0 k'.1.castSucc).sem k'.2) :=
    congrArg (fun g : GSem nD τ sig => g.2) h
  have := sems4 k.1 k'.1 k.2 k'.2 (SemLoc.dma.inj hs)
  have hk : k = k' := this
  rw [hk]

/-! ## The printed loop -/

open Pipeline hiding defs

/-- The effects of the whole program's TensorCore functions. -/
abbrev Eff (F : FTy → Type) [FloatOps F] : Type → Type _ :=
  TpuEff nD τ sig (Elt F) (Pipeline.Sig Λ₀ (Fin 1) fun p => (pcfgs (F := F) p).Adm) Proc.tc

/-- The first window that is an output. -/
theorem fetch4 (c : Dev nD) (u : Fin (cfgA F c).N) : ((cfgA F c).win 4).fetch u = false := rfl

theorem flush_in (c : Dev nD) (u : Fin (cfgA F c).N) (w : Fin 4) : ((cfgA F c).win w.castSucc).flush u = false := by
  fin_cases w <;> rfl

theorem each_fetch (c : Dev nD) (u : Fin (cfgA F c).N) (f : Fin 5 → Prog (Eff F) PUnit → Prog (Eff F) PUnit) (k : Prog (Eff F) PUnit) :
    (cfgA F c).eachWin (fun w => ((cfgA F c).win w).fetch u) f k
      = (cfgB F c 0).eachWin (fun w => ((cfgB F c 0).win w).fetch u) (fun w => f (Fin.castSucc (n := 4) w)) k := by
  show List.foldr _ _ (List.finRange 5) = List.foldr _ _ (List.finRange 4)
  rw [show List.finRange 5 = (List.finRange 4).map Fin.castSucc ++ [4] from by decide, List.foldr_append, List.foldr_map]
  rfl

theorem foldr_none {α β : Type*} (q : α → Bool) (hq : ∀ w, q w = false) (f : α → β → β) (k : β) (l : List α) :
    l.foldr (fun w k => if q w then f w k else k) k = k := by
  induction l with
  | nil => rfl
  | cons w l ih => rw [List.foldr_cons, ih, if_neg (by rw [hq]; exact Bool.false_ne_true)]

theorem each_none (c : Dev nD) (q : Fin 5 → Bool) (hq : ∀ w, q w = false) (f : Fin 5 → Prog (Eff F) PUnit → Prog (Eff F) PUnit) (k : Prog (Eff F) PUnit) :
    (cfgA F c).eachWin q f k = k := foldr_none q hq f k (List.finRange 5)

theorem each_last (c : Dev nD) (q : Fin 5 → Bool) (hq : ∀ w : Fin 4, q w.castSucc = false) (f : Fin 5 → Prog (Eff F) PUnit → Prog (Eff F) PUnit) (k : Prog (Eff F) PUnit) :
    (cfgA F c).eachWin q f k = if q 4 then f 4 k else k := by
  show List.foldr _ _ (List.finRange 5) = _
  rw [show List.finRange 5 = (List.finRange 4).map Fin.castSucc ++ [4] from by decide, List.foldr_append, List.foldr_map]
  exact foldr_none (fun w : Fin 4 => q w.castSucc) hq (fun w => f w.castSucc) _ (List.finRange 4)

theorem single_in (c : Dev nD) (w : Fin 4) : ((cfgA F c).win w.castSucc).single = false := by
  fin_cases w <;> rfl

/-- The result window is written back at the last point only. -/
theorem flush4 (c : Dev nD) (u : Fin (cfgA F c).N) : ((cfgA F c).win 4).flush u = decide (u.val = 31) := by
  have hN : (cfgA F c).N = 32 := N_0
  have hix : ∀ u v, ((cfgA F c).win 4).index u = ((cfgA F c).win 4).index v := fun u v =>
    hreads0_4 (grid0.coords u) (grid0.coords v) fun a ha => by fin_cases a <;> cases ha
  unfold Window.flush
  rw [decide_eq_false (p := ∃ h, _) (fun ⟨_, h⟩ => h (hix _ _)), Bool.or_false, show ((cfgA F c).win 4).isOut = true from rfl, Bool.true_and]
  exact decide_eq_decide.2 ⟨fun h => by have h' := h.trans hN; omega, fun h => (show u.val + 1 = 32 by omega).trans hN.symm⟩

/-- What the program does after the body of the last point: write the result back and wait for it. -/
def tail (c : Dev nD) : Prog (Eff F) PUnit :=
  .op ((cfgA F c).startOut 4 ⟨31, by rw [show (cfgA F c).N = 32 from N_0]; omega⟩) fun _ =>
  .op ((cfgA F c).waitOut 4 ⟨31, by rw [show (cfgA F c).N = 32 from N_0]; omega⟩) fun _ =>
  .op (.call (Pipeline.pipe 0) (adm c, 33)) fun _ => .ret ⟨⟩

theorem slots_ext (c : Dev nD) (u : Fin (cfgA F c).N) : ext5 ((cfgB F c 0).slots u) = (cfgA F c).slots u := by
  funext w; fin_cases w
  · rfl
  · rfl
  · rfl
  · rfl
  · exact Subsingleton.elim (α := Fin 1) _ _

open Pipeline.PerCore.RDat (Held.iteration)

theorem loop_iter₀ (c : Dev nD) (t : Nat) :
    defs (F := F) .tc (Pipeline.pipe 0) (adm c, t) = (cfgA F c).iter 0 (adm c) t := by
  unfold KernelIdeal.defs; exact Pipeline.defs_tc_pipe (pcfgs (F := F)) defs₀ 0 (adm c) t

theorem prologue1 (c : Dev nD) : (cfgA F c).prologue = 1 := by
  unfold Cfg.prologue Cfg.hasInput
  rw [if_pos (decide_eq_true ⟨0, rfl⟩)]

theorem loop_iter (c : Dev nD) (t : Nat) :
    defs (F := F) .tc (Pipeline.pipe 0) (adm c, t)
      = Held.iteration (cfgB F) 0 c t
          ((cfgA F c).atPoint t 1 (fun u k => if u.val = 31 then
              .op ((cfgA F c).startOut 4 u) fun _ => .op ((cfgA F c).waitOut 4 u) fun _ => k else k)
            (if t + 1 < (cfgA F c).tripCount then .op (.call (Pipeline.pipe 0) (adm c, t + 1)) fun _ => .ret ⟨⟩ else .ret ⟨⟩)) := by
  rw [loop_iter₀]
  have hp : (cfgA F c).prologue = 1 := prologue1 c
  have e1 : (fun u => (cfgA F c).eachWin (fun w => ((cfgA F c).win w).single && ((cfgA F c).win w).fetch u) (fun w => (cfgA F c).fetchIn w u))
      = fun (u : Fin (cfgA F c).N) (k : Prog (Eff F) PUnit) => k := by
    funext u k
    refine each_none c _ (fun w => ?_) _ _
    refine Fin.lastCases ?_ (fun w => ?_) w
    · rw [show Fin.last 4 = (4 : Fin 5) from rfl, fetch4, Bool.and_false]
    · rw [single_in, Bool.false_and]
  have e4 : (fun u => (cfgA F c).eachWin (fun w => !((cfgA F c).win w).single && ((cfgA F c).win w).flush u) (fun w k => .op ((cfgA F c).waitOut w u) fun _ => k))
      = fun (u : Fin (cfgA F c).N) (k : Prog (Eff F) PUnit) => k := by
    funext u k
    refine each_none c _ (fun w => ?_) _ _
    refine Fin.lastCases ?_ (fun w => ?_) w
    · exact rfl
    · rw [flush_in, Bool.and_false]
  have e2 : (fun u => (cfgA F c).eachWin (fun w => !((cfgA F c).win w).single && ((cfgA F c).win w).fetch u) (fun w => (cfgA F c).fetchIn w u))
      = fun (u : Fin (cfgA F c).N) (k : Prog (Eff F) PUnit) =>
        (cfgB F c 0).eachWin (fun w => ((cfgB F c 0).win w).fetch u) (fun w => (cfgB F c 0).fetchIn w u) k := by
    funext u k
    have : (fun w : Fin 5 => !((cfgA F c).win w).single && ((cfgA F c).win w).fetch u) = fun w => ((cfgA F c).win w).fetch u := by
      funext w
      refine Fin.lastCases ?_ (fun w => ?_) w
      · exact rfl
      · rw [single_in, Bool.not_false, Bool.true_and]
    rw [this, each_fetch]
    rfl
  have e3 : (fun (u : Fin (cfgA F c).N) (k : Prog (Eff F) PUnit) =>
      (cfgA F c).eachWin (fun w => ((cfgA F c).win w).fetch u) (fun w k => .op ((cfgA F c).waitIn w u) fun _ => k) <|
      .op (.call (Pipeline.kernel (cfgA F c).body) ((cfgA F c).bodyArgs u ((cfgA F c).slots u))) fun _ =>
      (cfgA F c).eachWin (fun w => ((cfgA F c).win w).flush u) (fun w k => .op ((cfgA F c).startOut w u) fun _ => k) <|
      (cfgA F c).eachWin (fun w => ((cfgA F c).win w).single && ((cfgA F c).win w).flush u) (fun w k => .op ((cfgA F c).waitOut w u) fun _ => k) k)
      = fun u k => (cfgB F c 0).eachWin (fun w => ((cfgB F c 0).win w).fetch u) (fun w k => .op ((cfgB F c 0).waitIn w u) fun _ => k) <|
        .op (.call (Pipeline.kernel (cfgB F c 0).body) ((cfgB F c 0).bodyArgs u ((cfgB F c 0).slots u))) fun _ =>
        if u.val = 31 then .op ((cfgA F c).startOut 4 u) fun _ => .op ((cfgA F c).waitOut 4 u) fun _ => k else k := by
    funext u k
    rw [each_fetch, each_last c (fun w => ((cfgA F c).win w).flush u) (fun w => flush_in c u w),
      each_last c (fun w => ((cfgA F c).win w).single && ((cfgA F c).win w).flush u) (fun w => by rw [flush_in, Bool.and_false])]
    have hb : (cfgB F c 0).bodyArgs u ((cfgB F c 0).slots u) = (cfgA F c).bodyArgs u ((cfgA F c).slots u) :=
      congrArg (fun s => (u, s)) (slots_ext c u)
    rw [hb]
    refine congrArg (fun K => (cfgB F c 0).eachWin (fun w => ((cfgB F c 0).win w).fetch u) (fun w k => .op ((cfgB F c 0).waitIn w u) fun _ => k)
      (.op (.call (Pipeline.kernel (cfgB F c 0).body) ((cfgA F c).bodyArgs u ((cfgA F c).slots u))) fun _ => K)) ?_
    by_cases h : u.val = 31
    · have hf : ((cfgA F c).win 4).flush u = true := (flush4 c u).trans (decide_eq_true h)
      have hf' : (((cfgA F c).win 4).single && ((cfgA F c).win 4).flush u) = true := (Bool.true_and _).trans hf
      exact (if_pos hf).trans ((congrArg (fun K => Prog.op ((cfgA F c).startOut 4 u) fun _ => K) (if_pos hf')).trans (if_pos h).symm)
    · have hf : ¬((cfgA F c).win 4).flush u = true := by
        intro h'; exact h (of_decide_eq_true ((flush4 c u).symm.trans h'))
      have hf' : ¬(((cfgA F c).win 4).single && ((cfgA F c).win 4).flush u) = true := fun h' => hf ((Bool.true_and _).symm.trans h')
      exact (if_neg hf).trans ((if_neg hf').trans (if_neg h).symm)
  have id_point : ∀ d k, (cfgA F c).atPoint t d (fun _ (k : Prog (Eff F) PUnit) => k) k = k := fun d k => by
    unfold Cfg.atPoint; cases (cfgA F c).point t d <;> rfl
  calc (cfgA F c).iter 0 (adm c) t
      = (cfgA F c).atPoint t 1 (fun u => (cfgA F c).eachWin (fun w => ((cfgA F c).win w).single && ((cfgA F c).win w).fetch u) (fun w => (cfgA F c).fetchIn w u)) (
        (cfgA F c).atPoint t 0 (fun u => (cfgA F c).eachWin (fun w => !((cfgA F c).win w).single && ((cfgA F c).win w).fetch u) (fun w => (cfgA F c).fetchIn w u)) (
        (cfgA F c).atPoint t (cfgA F c).prologue (fun (u : Fin (cfgA F c).N) (k : Prog (Eff F) PUnit) =>
          (cfgA F c).eachWin (fun w => ((cfgA F c).win w).fetch u) (fun w k => .op ((cfgA F c).waitIn w u) fun _ => k) <|
          .op (.call (Pipeline.kernel (cfgA F c).body) ((cfgA F c).bodyArgs u ((cfgA F c).slots u))) fun _ =>
          (cfgA F c).eachWin (fun w => ((cfgA F c).win w).flush u) (fun w k => .op ((cfgA F c).startOut w u) fun _ => k) <|
          (cfgA F c).eachWin (fun w => ((cfgA F c).win w).single && ((cfgA F c).win w).flush u) (fun w k => .op ((cfgA F c).waitOut w u) fun _ => k) k) (
        (cfgA F c).atPoint t ((cfgA F c).prologue + 1) (fun u => (cfgA F c).eachWin (fun w => !((cfgA F c).win w).single && ((cfgA F c).win w).flush u) (fun w k => .op ((cfgA F c).waitOut w u) fun _ => k)) (
        if t + 1 < (cfgA F c).tripCount then .op (.call (Pipeline.pipe 0) (adm c, t + 1)) fun _ => .ret ⟨⟩ else .ret ⟨⟩)))) := rfl
    _ = _ := by
      rw [e1, e4, e2, e3, id_point, id_point, hp]
      unfold Held.iteration Cfg.atPoint
      rw [show (cfgB F c 0).point = (cfgA F c).point from rfl]
      cases (cfgA F c).point t 0 <;> cases (cfgA F c).point t 1 <;> rfl

theorem trip34 (c : Dev nD) : (cfgA F c).tripCount = 34 := by
  unfold Cfg.tripCount
  rw [prologue1, show (cfgA F c).N = 32 from N_0]
  unfold Cfg.epilogue Cfg.hasOutput
  rw [if_pos (decide_eq_true ⟨4, rfl⟩)]

/-- The point the body of iteration `t + 1` runs at is point `t`. -/
theorem point_succ (c : Dev nD) (t : Nat) : (cfgA F c).point (t + 1) 1 = if h : t < 32 then some ⟨t, h.trans_eq N_0.symm⟩ else none := by
  unfold Cfg.point
  by_cases h : t < 32
  · rw [dif_pos ⟨by omega, by rw [show (cfgA F c).N = 32 from N_0]; omega⟩, dif_pos h]; rfl
  · rw [dif_neg (by rw [show (cfgA F c).N = 32 from N_0]; omega), dif_neg h]

theorem point_zero (c : Dev nD) : (cfgA F c).point 0 1 = none := by
  unfold Cfg.point
  rw [dif_neg (by omega)]

/-- Every iteration but the last body's goes on with the next one. -/
theorem hstep (c : Dev nD) (t : Nat) (ht : t < (cfgB F c 0).N) :
    defs (F := F) .tc (Pipeline.pipe 0) (adm c, t)
      = Held.iteration (cfgB F) 0 c t (.op (.call (Pipeline.pipe 0) (adm c, t + 1)) fun _ => .ret ⟨⟩) := by
  rw [cfgB_N] at ht
  rw [loop_iter, trip34, if_pos (by omega)]
  refine congrArg (Held.iteration (cfgB F) 0 c t) ?_
  unfold Cfg.atPoint
  cases t with
  | zero => rw [point_zero]
  | succ t =>
    rw [point_succ, dif_pos (by omega)]
    exact if_neg (show ¬t = 31 by omega)

/-- The last body's iteration goes on with the write-back of the result. -/
theorem hlast (c : Dev nD) :
    defs (F := F) .tc (Pipeline.pipe 0) (adm c, (cfgB F c 0).N)
      = Held.iteration (cfgB F) 0 c (cfgB F c 0).N (tail c) := by
  rw [cfgB_N, loop_iter, trip34, if_pos (by omega)]
  refine congrArg (Held.iteration (cfgB F) 0 c 32) ?_
  unfold Cfg.atPoint
  rw [point_succ, dif_pos (by omega)]
  exact if_pos rfl

/-- What the loop's last call does: nothing. -/
theorem pipe_end (c : Dev nD) : defs (F := F) .tc (Pipeline.pipe 0) (adm c, 33) = .ret ⟨⟩ := by
  rw [loop_iter, trip34, if_neg (by omega)]
  unfold Held.iteration Cfg.atPoint
  rw [point_succ, dif_neg (by omega)]
  rw [show (cfgB F c 0).point = (cfgA F c).point from rfl, point_succ, dif_neg (by omega)]
  unfold Cfg.point
  rw [dif_neg (by rw [show (cfgA F c).N = 32 from N_0]; omega)]

end Cert.FusedProof

end
-- ==== Proof.Talk.lean ====
/-
  What the four devices owe each other: the two rings, the rows and pieces the transfers move, the semaphores as
  cells of the rounds library, what each cell hands its waiter, and the order of the waits.
-/
module

public import proofs.«01_k».proof.Proof.Config
public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UT : Type := URounds (GSem nD τ sig) Bool
abbrev UU : Type := UR sig nD τ × (UR sig nD τ × UT)

local notation "𝕄" => MT nD τ sig Unit (Elt F) ℕ UU ℕ

abbrev EP : Emb (UR sig nD τ) (MT nD τ sig Unit (Elt F) ℕ UU ℕ) := embL
abbrev EL : Emb (UR sig nD τ) (MT nD τ sig Unit (Elt F) ℕ UU ℕ) := (Emb.inl : Emb (UR sig nD τ) (UR sig nD τ × UT)).trans embR
abbrev ET : Emb UT (MT nD τ sig Unit (Elt F) ℕ UU ℕ) := (Emb.inr : Emb UT (UR sig nD τ × UT)).trans embR

instance EL_landsIn : (EL (F := F)).LandsIn (upEmb : UEmb _ (MT nD τ sig Unit (Elt F) ℕ UU ℕ)) := by
  unfold EL embR; infer_instance
instance ET_landsIn : (ET (F := F)).LandsIn (upEmb : UEmb _ (MT nD τ sig Unit (Elt F) ℕ UU ℕ)) := by
  unfold ET embR; infer_instance

/-! ## The two rings -/

def nxt (c : Dev nD) : Dev nD := ⟨(c.val + 1) % 4, Nat.mod_lt _ (by decide)⟩
def prv (c : Dev nD) : Dev nD := ⟨(c.val + 3) % 4, Nat.mod_lt _ (by decide)⟩

/-- The device that ring `r` sends to (`pr`) and the one it receives from (`sr`). -/
def pr (r : Fin 2) (c : Dev nD) : Dev nD := if r = 0 then nxt c else prv c
def sr (r : Fin 2) (c : Dev nD) : Dev nD := if r = 0 then prv c else nxt c

/-- The other ring. -/
def ot (r : Fin 2) : Fin 2 := 1 - r

theorem pr_sr (r : Fin 2) (c : Dev nD) : pr r (sr r c) = c := by revert r c; decide
theorem sr_pr (r : Fin 2) (c : Dev nD) : sr r (pr r c) = c := by revert r c; decide
theorem pr_ot (r : Fin 2) (c : Dev nD) : pr (ot r) c = sr r c := by revert r c; decide
theorem sr_ot (r : Fin 2) (c : Dev nD) : sr (ot r) c = pr r c := by revert r c; decide
theorem ot_ot (r : Fin 2) : ot (ot r) = r := by revert r; decide

/-- The block a device sends in step `s` its target works on in step `s + 1`. -/
theorem blk_pr (r : Fin 2) (c : Dev nD) (s : Fin 4) : blk r (pr r c) (s + 1) = blk r c s := by revert r c s; decide

/-! ## Rows, pieces, landing slots -/

abbrev outM : Memref sig .tc .vmem S2048x2048 .f32 := Memref.whole cc0_stg4_0
abbrev tmpM : Memref sig .tc .vmem S2x3x256x2048 .f32 := Memref.whole cc0_scratch0

theorem row_inb (k : Fin 8) : ∀ a, (![256 * k.val, 0] : Fin 2 → ℕ) a + S256x2048.size a ≤ S2048x2048.size a := by
  revert k; decide
theorem piece_inb (k : Fin 8) (p : Fin 4) :
    ∀ a, (![256 * k.val, 512 * p.val] : Fin 2 → ℕ) a + S256x512.size a ≤ S2048x2048.size a := by
  revert k p; decide
theorem slot_inb (r : Fin 2) (i : Fin 3) :
    ∀ a, (![r.val, i.val, 0, 0] : Fin 4 → ℕ) a + S1x1x256x2048.size a ≤ S2x3x256x2048.size a := by
  revert r i; decide

/-- Row block `k` of the result (256 rows), and its part `p` of 512 columns. -/
abbrev rowR (k : Fin 8) : Rect S2048x2048 := Rect.unit ![256 * k.val, 0] S256x2048.size (row_inb k)
abbrev rowM (k : Fin 8) : Memref sig .tc .vmem S256x2048 .f32 := outM.slice (rowR k) (fun _ => rfl)
abbrev pieceR (k : Fin 8) (p : Fin 4) : Rect S2048x2048 := Rect.unit ![256 * k.val, 512 * p.val] S256x512.size (piece_inb k p)
abbrev pieceM (k : Fin 8) (p : Fin 4) : Memref sig .tc .vmem S256x512 .f32 := outM.slice (pieceR k p) (fun _ => rfl)
/-- The landing slot of ring `r`'s transfer of step `i`. -/
abbrev slotR (r : Fin 2) (i : Fin 3) : Rect S2x3x256x2048 := Rect.unit ![r.val, i.val, 0, 0] S1x1x256x2048.size (slot_inb r i)
abbrev slotM (r : Fin 2) (i : Fin 3) : Memref sig .tc .vmem S256x2048 .f32 :=
  (tmpM.slice (slotR r i) (fun _ => rfl)).squeeze S256x2048 squeezes_S1x1x256x2048_S256x2048

/-! ## The semaphores -/

abbrev barS : Sems sig S_ := SemArray.scalar (sig.barrier 0 rfl)
def sendS (r : Fin 2) (i : Fin 15) : DmaSem sig := (⟨9 + 15 * r.val + i.val, by omega⟩ : Fin 69)
def recvS (r : Fin 2) (i : Fin 15) : DmaSem sig := (⟨39 + 15 * r.val + i.val, by omega⟩ : Fin 69)
def wbS : DmaSem sig := (⟨8, by omega⟩ : Fin 69)

abbrev barC (c : Dev nD) : GSem nD τ sig := ((c : Thread nD τ), .reg barS.sem)
abbrev sendC (c : Dev nD) (r : Fin 2) (i : Fin 15) : GSem nD τ sig := ((c : Thread nD τ), .dma (sendS r i))
abbrev recvC (c : Dev nD) (r : Fin 2) (i : Fin 15) : GSem nD τ sig := ((c : Thread nD τ), .dma (recvS r i))
abbrev wbC (c : Dev nD) : GSem nD τ sig := ((c : Thread nD τ), .dma wbS)

/-- What a transfer of rows, of a piece, and the write-back of the result credit. -/
abbrev NRow : ℕ := (slotM 0 0).view.dmaCredit
abbrev NPiece : ℕ := (pieceM 0 0).view.dmaCredit
abbrev resM : Memref sig .tc .hbm S2048x2048 .f32 := Memref.whole main_v14
abbrev NRes : ℕ := resM.view.dmaCredit

theorem NRow_pos : 0 < NRow := View.dmaCredit_pos _ (by decide)
theorem NPiece_pos : 0 < NPiece := View.dmaCredit_pos _ (by decide)
theorem NRes_pos : 0 < NRes := View.dmaCredit_pos _ (by decide)

theorem slot_credit (r : Fin 2) (i : Fin 3) : (slotM r i).view.dmaCredit = NRow := rfl
theorem row_credit (k : Fin 8) : (rowM k).view.dmaCredit = NRow := rfl
theorem piece_credit (k : Fin 8) (p : Fin 4) : (pieceM k p).view.dmaCredit = NPiece := rfl

/-- The amount of transfer `i`: the first three move rows, the others pieces. -/
def amt (i : Fin 15) : ℕ := if i.val < 3 then NRow else NPiece
theorem amt_pos (i : Fin 15) : 0 < amt i := by unfold amt; split; exacts [NRow_pos, NPiece_pos]

/-! ## Ownership -/

section Own

/-- A row block, a piece, a slot, a whole run of pieces, at any contents. -/
def anyRow (c : Dev nD) (k : Fin 8) : sProp 𝕄 := iprop(∃ X : S256x2048.Idx → Elt F .f32, owns (c : Thread nD τ) (rowM k) fullShare X)
def anySlot (c : Dev nD) (r : Fin 2) (i : Fin 3) : sProp 𝕄 :=
  iprop(∃ X : S256x2048.Idx → Elt F .f32, owns (c : Thread nD τ) (slotM r i) fullShare X)
def anyPiece (c : Dev nD) (k : Fin 8) (p : Fin 4) : sProp 𝕄 :=
  iprop(∃ X : S256x512.Idx → Elt F .f32, owns (c : Thread nD τ) (pieceM k p) fullShare X)
/-- A piece holding its part of the contents `R0`. -/
def pieceAt (R0 : S2048x2048.Idx → Elt F .f32) (c : Dev nD) (k : Fin 8) (p : Fin 4) : sProp 𝕄 :=
  owns (c : Thread nD τ) (pieceM k p) fullShare (fun j => R0 ((pieceR k p).emb j))

omit [FloatOps F] in
instance anyRow_storable (c : Dev nD) (k : Fin 8) : BI.Storable (upEmb : UEmb _ 𝕄) (anyRow (F := F) c k) := by unfold anyRow; infer_instance
omit [FloatOps F] in
instance anySlot_storable (c : Dev nD) (r : Fin 2) (i : Fin 3) : BI.Storable (upEmb : UEmb _ 𝕄) (anySlot (F := F) c r i) := by unfold anySlot; infer_instance
omit [FloatOps F] in
instance anyPiece_storable (c : Dev nD) (k : Fin 8) (p : Fin 4) : BI.Storable (upEmb : UEmb _ 𝕄) (anyPiece (F := F) c k p) := by unfold anyPiece; infer_instance
omit [FloatOps F] in
instance pieceAt_storable (R0) (c : Dev nD) (k : Fin 8) (p : Fin 4) : BI.Storable (upEmb : UEmb _ 𝕄) (pieceAt (F := F) R0 c k p) := by unfold pieceAt; infer_instance

end Own

/-! ## What the cells hand over -/

section Sched

-- The accumulated block of ring `r`, step `s`, on each device, and the final contents of the result.
variable (Acc : Fin 2 → Fin 4 → Dev nD → S256x2048.Idx → Elt F .f32) (R0 : S2048x2048.Idx → Elt F .f32)

/-- The hop of a piece's transfer, and its part. -/
def hop (i : Fin 15) : Fin 4 := ⟨(i.val - 3) / 4, by omega⟩
def part (i : Fin 15) : Fin 4 := ⟨(i.val + 1) % 4, by omega⟩
def stp (i : Fin 15) : Fin 4 := ⟨i.val % 4, by omega⟩
def slt (i : Fin 15) : Fin 3 := ⟨i.val % 3, by omega⟩

/-- What send `i` of ring `r` gives back: the rows, or the piece, it reads. -/
def sPay (c : Dev nD) (r : Fin 2) (i : Fin 15) : sProp 𝕄 :=
  if i.val < 3 then owns (c : Thread nD τ) (rowM (blk r c (stp i))) fullShare (Acc r (stp i) c)
  else pieceAt R0 c (blk r c (hop i - 1)) (part i)

/-- The places of `q`'s own that `pr r q` will write over ring `1 - r`, handed over with transfer `i`. -/
def gift (q : Dev nD) (r : Fin 2) (i : Fin 15) : sProp 𝕄 :=
  if i.val = 2 then bigSep Finset.univ fun x : Fin 2 × Fin 4 => anyPiece q (blk (ot r) q ⟨x.1.val, by omega⟩) x.2
  else if 3 ≤ i.val ∧ i.val < 7 then anyPiece q (blk (ot r) q 2) (part i)
  else iprop(emp)

/-- What transfer `i` of ring `r` brings to `c`. -/
def rPay (c : Dev nD) (r : Fin 2) (i : Fin 15) : sProp 𝕄 :=
  iprop((if i.val < 3 then owns (c : Thread nD τ) (slotM r (slt i)) fullShare (Acc r (stp i) (sr r c))
    else pieceAt R0 c (blk r c (hop i)) (part i)) ∗ gift (sr r c) r i)

/-- What a device's barrier collects from the neighbour it sends to over ring `r`. -/
def bPay (c : Dev nD) (r : Fin 2) : sProp 𝕄 :=
  iprop((bigSep Finset.univ fun i : Fin 3 => anySlot (pr r c) r i) ∗ bigSep Finset.univ fun i : Fin 15 => reached ET (recvC (pr r c) r i) 0)

def wbPay (c : Dev nD) : sProp 𝕄 :=
  iprop(owns (c : Thread nD τ) resM fullShare R0 ∗ owns (c : Thread nD τ) outM fullShare R0)

omit [FloatOps F] in
instance gift_storable (q r i) : BI.Storable (upEmb : UEmb _ 𝕄) (gift (F := F) q r i) := by
  unfold gift; (repeat' split) <;> infer_instance
omit [FloatOps F] in
instance sPay_storable (c r i) : BI.Storable (upEmb : UEmb _ 𝕄) (sPay (F := F) Acc R0 c r i) := by
  unfold sPay; (repeat' split) <;> infer_instance
omit [FloatOps F] in
instance rPay_storable (c r i) : BI.Storable (upEmb : UEmb _ 𝕄) (rPay (F := F) Acc R0 c r i) := by
  unfold rPay; (repeat' split) <;> infer_instance
omit [FloatOps F] in
instance bPay_storable (c r) : BI.Storable (upEmb : UEmb _ 𝕄) (bPay (F := F) c r) := by
  unfold bPay; infer_instance
omit [FloatOps F] in
instance wbPay_storable (c) : BI.Storable (upEmb : UEmb _ 𝕄) (wbPay (F := F) R0 c) := by
  unfold wbPay; infer_instance

/-- A DMA semaphore's number, read as one of the talk's. -/
def dmaAmt (q : ℕ) : ℕ := if q = 8 then NRes else if (q - 9) % 15 < 3 then NRow else NPiece
theorem dmaAmt_pos (q : ℕ) : 0 < dmaAmt q := by
  unfold dmaAmt; (repeat' split); exacts [NRes_pos, NRow_pos, NPiece_pos]
def dmaPay (c : Dev nD) (q : ℕ) : sProp 𝕄 :=
  if q = 8 then wbPay R0 c
  else if q < 39 then sPay Acc R0 c ⟨(q - 9) / 15 % 2, by omega⟩ ⟨(q - 9) % 15, by omega⟩
  else rPay Acc R0 c ⟨(q - 39) / 15 % 2, by omega⟩ ⟨(q - 39) % 15, by omega⟩

def Rd : Rounds.Schedule (GSem nD τ sig) Bool 𝕄 where
  duties g r := if r = 0 ∧ g.1.2 = .tc then (match g.2 with | .reg _ => Finset.univ | .dma q => if 8 ≤ q.val then {false} else ∅) else ∅
  unitless _ := False
  amount g _ _ := match g.2 with | .reg _ => 1 | .dma q => dmaAmt q.val
  payload g _ d := match g.2 with | .reg _ => bPay g.1.1 (if d then 0 else 1) | .dma q => dmaPay Acc R0 g.1.1 q.val
  amount_pos g _ _ _ := by
    obtain ⟨t, s⟩ := g
    cases s with
    | reg s => exact Nat.one_pos
    | dma q => exact dmaAmt_pos q.val

instance Rd_storable (g : GSem nD τ sig) (r : ℕ) (d : Bool) :
    BI.Storable (upEmb : UEmb _ 𝕄) ((Rd (F := F) Acc R0).payload g r d) := by
  obtain ⟨t, s⟩ := g
  cases s with
  | reg s => dsimp only [Rd]; infer_instance
  | dma q => dsimp only [Rd]; unfold dmaPay; (repeat' split) <;> infer_instance

theorem duties_bar (c : Dev nD) : (Rd (F := F) Acc R0).duties (barC c) 0 = Finset.univ := by dsimp only [Rd]; exact if_pos ⟨rfl, rfl⟩
theorem duties_dma (c : Dev nD) (q : DmaSem sig) (hq : 8 ≤ q.val) :
    (Rd (F := F) Acc R0).duties ((c : Thread nD τ), .dma q) 0 = {false} := by
  dsimp only [Rd]; rw [if_pos ⟨rfl, rfl⟩]; exact if_pos hq
theorem duties_later (g : GSem nD τ sig) : ∀ r, 1 ≤ r → (Rd (F := F) Acc R0).duties g r = ∅ :=
  fun r hr => by dsimp only [Rd]; exact if_neg fun h => by omega
theorem amount_bar (c : Dev nD) (d : Bool) : (Rd (F := F) Acc R0).amount (barC c) 0 d = 1 := rfl
theorem amount_send (c : Dev nD) (r : Fin 2) (i : Fin 15) (d : Bool) : (Rd (F := F) Acc R0).amount (sendC c r i) 0 d = amt i := by
  show dmaAmt (9 + 15 * r.val + i.val) = amt i
  unfold dmaAmt amt
  rw [if_neg (by omega), show (9 + 15 * r.val + i.val - 9) % 15 = i.val by omega]
theorem amount_recv (c : Dev nD) (r : Fin 2) (i : Fin 15) (d : Bool) : (Rd (F := F) Acc R0).amount (recvC c r i) 0 d = amt i := by
  show dmaAmt (39 + 15 * r.val + i.val) = amt i
  unfold dmaAmt amt
  rw [if_neg (by omega), show (39 + 15 * r.val + i.val - 9) % 15 = i.val by omega]
theorem amount_wb (c : Dev nD) (d : Bool) : (Rd (F := F) Acc R0).amount (wbC c) 0 d = NRes := rfl
theorem expect_bar (c : Dev nD) : (Rd (F := F) Acc R0).expect (barC c) 0 = 2 := by
  unfold Schedule.expect Schedule.amountOf
  rw [duties_bar]; rfl
theorem expect_dma (c : Dev nD) (q : DmaSem sig) (hq : 8 ≤ q.val) :
    (Rd (F := F) Acc R0).expect ((c : Thread nD τ), .dma q) 0 = (Rd (F := F) Acc R0).amount ((c : Thread nD τ), .dma q) 0 false := by
  unfold Schedule.expect Schedule.amountOf; rw [duties_dma Acc R0 c q hq, Finset.sum_singleton]
theorem payload_bar (c : Dev nD) (d : Bool) : (Rd (F := F) Acc R0).payload (barC c) 0 d = bPay c (if d then 0 else 1) := rfl
theorem payload_wb (c : Dev nD) (d : Bool) : (Rd (F := F) Acc R0).payload (wbC c) 0 d = wbPay R0 c := by
  show dmaPay Acc R0 c 8 = _
  unfold dmaPay; exact if_pos rfl
theorem payload_send (c : Dev nD) (r : Fin 2) (i : Fin 15) (d : Bool) : (Rd (F := F) Acc R0).payload (sendC c r i) 0 d = sPay Acc R0 c r i := by
  show dmaPay Acc R0 c (9 + 15 * r.val + i.val) = _
  unfold dmaPay
  rw [if_neg (by omega), if_pos (by omega)]
  congr 1
  · exact Fin.ext (show (9 + 15 * r.val + i.val - 9) / 15 % 2 = r.val by omega)
  · exact Fin.ext (show (9 + 15 * r.val + i.val - 9) % 15 = i.val by omega)
theorem payload_recv (c : Dev nD) (r : Fin 2) (i : Fin 15) (d : Bool) : (Rd (F := F) Acc R0).payload (recvC c r i) 0 d = rPay Acc R0 c r i := by
  show dmaPay Acc R0 c (39 + 15 * r.val + i.val) = _
  unfold dmaPay
  rw [if_neg (by omega), if_neg (by omega)]
  congr 1
  · exact Fin.ext (show (39 + 15 * r.val + i.val - 39) / 15 % 2 = r.val by omega)
  · exact Fin.ext (show (39 + 15 * r.val + i.val - 39) % 15 = i.val by omega)
theorem rest_bar (c : Dev nD) : bigSep ((Rd (F := F) Acc R0).duties (barC c) 0 \ ∅) (fun d => (Rd (F := F) Acc R0).payload (barC c) 0 d)
    = iprop(bPay c 1 ∗ bPay c 0) := by
  rw [Finset.sdiff_empty, duties_bar, bigSep_univ_eq_bigSepL [false, true] (by decide) (by decide), bigSepL_cons_cons, bigSepL_singleton,
    payload_bar, payload_bar]
  rfl
theorem rest_dma (c : Dev nD) (q : DmaSem sig) (hq : 8 ≤ q.val) :
    bigSep ((Rd (F := F) Acc R0).duties ((c : Thread nD τ), .dma q) 0 \ ∅) (fun d => (Rd (F := F) Acc R0).payload ((c : Thread nD τ), .dma q) 0 d)
      = (Rd (F := F) Acc R0).payload ((c : Thread nD τ), .dma q) 0 false := by
  rw [Finset.sdiff_empty, duties_dma Acc R0 c q hq, bigSep_singleton]

end Sched

/-! ## What is owed, and the levels -/

/-- The number of transfer `i` of ring `r` in the order the kernel starts and awaits them. -/
abbrev num (x : Fin 15 × Fin 2) : ℕ := 2 * x.1.val + x.2.val
theorem num_inj {x y : Fin 15 × Fin 2} (h : num x = num y) : x = y := by
  obtain ⟨⟨a, ha⟩, ⟨b, hb⟩⟩ := x; obtain ⟨⟨a', ha'⟩, ⟨b', hb'⟩⟩ := y
  simp only [num] at h
  have h1 : a = a' := by omega
  have h2 : b = b' := by omega
  subst h1; subst h2; rfl

/-- With `k` transfers started, device `c` owes the credits of the others. -/
def Ow (c : Dev nD) (k : ℕ) : CellTallies nD τ sig Unit :=
  ∑ x : Fin 15 × Fin 2, if k ≤ num x then tallyAt (recvC (pr x.2 c) x.2 x.1) () (amt x.1) else 0

theorem Ow_step (c : Dev nD) (x : Fin 15 × Fin 2) :
    Ow c (num x) = Ow c (num x + 1) + tallyAt (recvC (pr x.2 c) x.2 x.1) () (amt x.1) := by
  unfold Ow
  rw [← Finset.add_sum_erase _ _ (Finset.mem_univ x), ← Finset.add_sum_erase (a := x) _ (fun y => if num x + 1 ≤ num y then _ else 0) (Finset.mem_univ x),
    if_pos le_rfl, if_neg (by omega), zero_add, add_comm]
  congr 1
  refine Finset.sum_congr rfl fun y hy => ?_
  have hne : num y ≠ num x := fun h => Finset.ne_of_mem_erase hy (num_inj h)
  by_cases h : num x ≤ num y
  · rw [if_pos h, if_pos (by omega)]
  · rw [if_neg h, if_neg (by omega)]

theorem Ow_end (c : Dev nD) (k : ℕ) (hk : 30 ≤ k) : Ow c k = 0 := by
  unfold Ow
  refine Finset.sum_eq_zero fun x _ => if_neg ?_
  have := x.1.isLt; have := x.2.isLt
  simp only [num]; omega

theorem Ow_pos {c : Dev nD} {k : ℕ} {g : GSem nD τ sig} {u : Unit} (h : 0 < Ow c k g u) :
    ∃ x : Fin 15 × Fin 2, k ≤ num x ∧ g = recvC (pr x.2 c) x.2 x.1 := by
  by_contra hn
  push Not at hn
  have h0 : Ow c k g u = 0 := by
    unfold Ow
    rw [Finset.sum_apply, Finsupp.finset_sum_apply]
    refine Finset.sum_eq_zero fun x _ => ?_
    by_cases hx : k ≤ num x
    · rw [if_pos hx, tallyAt_apply, if_neg fun h' => hn x hx h'.1]
    · rw [if_neg hx]; rfl
  omega

/-- Before the barrier a device owes its two neighbours' barriers a unit each besides. -/
def Ob (c : Dev nD) : CellTallies nD τ sig Unit := Ow c 0 + tallyAt (barC (nxt c)) () 1 + tallyAt (barC (prv c)) () 1

theorem Ob_pos {c : Dev nD} {g : GSem nD τ sig} {u : Unit} (h : 0 < Ob c g u) :
    (∃ x : Fin 15 × Fin 2, g = recvC (pr x.2 c) x.2 x.1) ∨ g = barC (nxt c) ∨ g = barC (prv c) := by
  unfold Ob at h
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  obtain ⟨x, _, hx⟩ := Ow_pos (c := c) (k := 0) (g := g) (u := u) (by omega)
  exact hn.1 ⟨x, hx⟩

def L (g : GSem nD τ sig) : Finset Unit := if g.1.2 = .tc then {()} else ∅
def lv (g : GSem nD τ sig) (_ : Unit) : ℕ :=
  match g.2 with | .reg _ => 1 | .dma q => if 39 ≤ q.val then 2 + (q.val - 39) % 15 else 0

theorem L_tc (c : Dev nD) (sm : SemLoc sig) : L ((c : Thread nD τ), sm) = {()} := if_pos rfl
theorem L_of_ne (g : GSem nD τ sig) (h : g.1.2 ≠ .tc) : L g = ∅ := if_neg h
theorem lv_bar (c : Dev nD) (u : Unit) : lv (barC c) u = 1 := rfl
theorem lv_low (c : Dev nD) (q : DmaSem sig) (hq : q.val < 39) (u : Unit) : lv ((c : Thread nD τ), .dma q) u = 0 := by
  show (if 39 ≤ q.val then _ else 0) = 0
  exact if_neg (by omega)
theorem lv_recv (c : Dev nD) (r : Fin 2) (i : Fin 15) (u : Unit) : lv (recvC c r i) u = 2 + i.val := by
  show (if 39 ≤ 39 + 15 * r.val + i.val then 2 + (39 + 15 * r.val + i.val - 39) % 15 else 0) = _
  rw [if_pos (by omega)]; omega

/-- A wait at level `n` is admissible while every credit owed lies above `n`. -/
theorem mayWait_of (c : Dev nD) (sm : SemLoc sig) (n : ℕ) (O : CellTallies nD τ sig Unit) (hn : lv ((c : Thread nD τ), sm) () ≤ n)
    (hO : ∀ g u, 0 < O g u → g.1.2 = .tc ∧ n < lv g u) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton.mpr rfl)
    (fun p hp => by rw [Finset.mem_singleton.mp hp]; exact hn)
    (fun g u hg => (hO g u hg).2)

/-- Waits at level 0 (staging copies, sends, the write-back) are always admissible. -/
theorem mayWait_low (c : Dev nD) (q : DmaSem sig) (hq : q.val < 39) (k : ℕ) : (levAts L lv : sProp 𝕄) ⊢ MayWait (c : Thread nD τ) (.dma q) () (Ow c k) :=
  mayWait_of c _ 0 _ (by rw [lv_low c q hq]) fun g u hg => by
    obtain ⟨x, _, rfl⟩ := Ow_pos hg; exact ⟨rfl, by rw [lv_recv]; omega⟩
theorem mayWait_low_b (c : Dev nD) (q : DmaSem sig) (hq : q.val < 39) : (levAts L lv : sProp 𝕄) ⊢ MayWait (c : Thread nD τ) (.dma q) () (Ob c) :=
  mayWait_of c _ 0 _ (by rw [lv_low c q hq]) fun g u hg => by
    rcases Ob_pos hg with ⟨x, rfl⟩ | rfl | rfl
    · exact ⟨rfl, by rw [lv_recv]; omega⟩
    · exact ⟨rfl, Nat.one_pos⟩
    · exact ⟨rfl, Nat.one_pos⟩
theorem mayWait_bar (c : Dev nD) : (levAts L lv : sProp 𝕄) ⊢ MayWait (c : Thread nD τ) (.reg barS.sem) () (Ow c 0) :=
  mayWait_of c _ 1 _ le_rfl fun g u hg => by
    obtain ⟨x, _, rfl⟩ := Ow_pos hg; exact ⟨rfl, by rw [lv_recv]; omega⟩
theorem mayWait_recv (c : Dev nD) (r : Fin 2) (i : Fin 15) (k : ℕ) (hk : 2 * i.val + 2 ≤ k) :
    (levAts L lv : sProp 𝕄) ⊢ MayWait (c : Thread nD τ) (.dma (recvS r i)) () (Ow c k) :=
  mayWait_of c _ (2 + i.val) _ (by rw [lv_recv]) fun g u hg => by
    obtain ⟨x, hx, rfl⟩ := Ow_pos hg
    refine ⟨rfl, ?_⟩
    rw [lv_recv]; have := x.2.isLt; simp only [num] at hx; omega

end Cert.FusedProof
-- ==== Proof.Steps.lean ====
/-
  The state of a device's thirty transfers, and one rule for each step on it: starting a transfer, awaiting an
  arrival, awaiting a departure. Transfers are numbered in the order the kernel starts them.
-/
module

public import proofs.«01_k».proof.Proof.Talk

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition the body is proved at. -/
abbrev Wc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (Acc : Fin 2 → Fin 4 → Dev nD → S256x2048.Idx → Elt F .f32) (R0 : S2048x2048.Idx → Elt F .f32)
variable (K : GSem nD τ sig → ℕ)

/-- Owning a memref at contents, opened. -/
theorem owns_ex (t : Thread nD τ) {sp : Space} {sh : Shape} {e : EltTy} (m : Memref sig t.2.kind sp sh e) (X : sh.Idx → Elt F e) :
    (owns t m fullShare X : sProp 𝕄) ⊢ iprop(∃ f, ⌜m.view.read (Elt F) f = X⌝ ∗ (m.view.loc t ↦[m.view.set]{fullShare} f)) := .rfl

theorem owns_mk (t : Thread nD τ) {sp : Space} {sh : Shape} {e : EltTy} (m : Memref sig t.2.kind sp sh e) (X : sh.Idx → Elt F e)
    (f : m.view.ty.Contents (Elt F)) (hf : m.view.read (Elt F) f = X) :
    (m.view.loc t ↦[m.view.set]{fullShare} f : sProp 𝕄) ⊢ owns t m fullShare X := by
  subst hf; exact owns_intro t m fullShare f

/-! ## The cells' invariants -/

/-- The cells live from the start (the barriers) and those opened inside the call. -/
def barCells : Finset (GSem nD τ sig) := Finset.univ.image barC
def dmaCells : Finset (GSem nD τ sig) :=
  (Finset.univ.filter fun x : Dev nD × Fin 69 => 8 ≤ x.2.val).image fun x => ((x.1 : Thread nD τ), SemLoc.dma (sig := sig) x.2)

def Inv : sProp 𝕄 := bigSep (barCells ∪ dmaCells) fun g => cellInv ET (Rd Acc R0) (K g) g

instance Inv_persistent : BI.Persistent (Inv (F := F) Acc R0 K) := by unfold Inv; infer_instance

theorem inv_at (g : GSem nD τ sig) (h : g ∈ barCells ∪ dmaCells) : Inv (F := F) Acc R0 K ⊢ cellInv ET (Rd Acc R0) (K g) g := by
  unfold Inv
  have e : (bigSep (barCells ∪ dmaCells) fun g => cellInv ET (Rd Acc R0) (K g) g)
      = iprop(cellInv ET (Rd Acc R0) (K g) g ∗ bigSep ((barCells ∪ dmaCells).erase g) fun g => cellInv ET (Rd Acc R0) (K g) g) := bigSep_erase h
  rw [e]
  iintro ⟨H, -⟩; iexact H

theorem bar_mem (c : Dev nD) : barC c ∈ barCells ∪ dmaCells :=
  Finset.mem_union_left _ (Finset.mem_image_of_mem _ (Finset.mem_univ c))
theorem dma_mem (c : Dev nD) (q : Fin 69) (hq : 8 ≤ q.val) : (((c : Thread nD τ), SemLoc.dma q) : GSem nD τ sig) ∈ barCells ∪ dmaCells :=
  Finset.mem_union_right _ (Finset.mem_image.mpr ⟨(c, q), Finset.mem_filter.mpr ⟨Finset.mem_univ _, hq⟩, rfl⟩)
theorem send_mem (c : Dev nD) (r : Fin 2) (i : Fin 15) : sendC c r i ∈ barCells ∪ dmaCells :=
  dma_mem c (sendS r i) (show 8 ≤ 9 + 15 * r.val + i.val by omega)
theorem recv_mem (c : Dev nD) (r : Fin 2) (i : Fin 15) : recvC c r i ∈ barCells ∪ dmaCells :=
  dma_mem c (recvS r i) (show 8 ≤ 39 + 15 * r.val + i.val by omega)

/-- What a device may use again and again: the cells' invariants, the levels, and that its send cells and its
    targets' receive cells are open. -/
def ctx (c : Dev nD) : sProp 𝕄 :=
  iprop(Inv Acc R0 K ∗ levAts L lv ∗ (bigSep Finset.univ fun x : Fin 15 × Fin 2 => reached ET (sendC c x.2 x.1) 0)
    ∗ bigSep Finset.univ fun x : Fin 15 × Fin 2 => reached ET (recvC (pr x.2 c) x.2 x.1) 0)

instance ctx_persistent (c : Dev nD) : BI.Persistent (ctx (F := F) Acc R0 K c) := by unfold ctx; infer_instance

theorem ctx_inv (c : Dev nD) : ctx (F := F) Acc R0 K c ⊢ Inv Acc R0 K := by unfold ctx; iintro ⟨H, -⟩; iexact H
theorem ctx_cs (c d : Dev nD) (r : Fin 2) (i : Fin 15) : ctx (F := F) Acc R0 K c ⊢ cellInv ET (Rd Acc R0) (K (sendC d r i)) (sendC d r i) :=
  (ctx_inv Acc R0 K c).trans (inv_at Acc R0 K (sendC d r i) (send_mem d r i))
theorem ctx_cr (c d : Dev nD) (r : Fin 2) (i : Fin 15) : ctx (F := F) Acc R0 K c ⊢ cellInv ET (Rd Acc R0) (K (recvC d r i)) (recvC d r i) :=
  (ctx_inv Acc R0 K c).trans (inv_at Acc R0 K (recvC d r i) (recv_mem d r i))
theorem ctx_cb (c d : Dev nD) : ctx (F := F) Acc R0 K c ⊢ cellInv ET (Rd Acc R0) (K (barC d)) (barC d) :=
  (ctx_inv Acc R0 K c).trans (inv_at Acc R0 K (barC d) (bar_mem d))
theorem ctx_lev (c : Dev nD) : ctx (F := F) Acc R0 K c ⊢ levAts L lv := by unfold ctx; iintro ⟨-, H, -⟩; iexact H
theorem ctx_send (c : Dev nD) (x : Fin 15 × Fin 2) : ctx (F := F) Acc R0 K c ⊢ reached ET (sendC c x.2 x.1) 0 := by
  unfold ctx; rw [bigSep_univ_at (fun x : Fin 15 × Fin 2 => reached ET (sendC c x.2 x.1) 0) x]
  iintro ⟨-, -, ⟨H, -⟩, -⟩; iexact H
theorem ctx_recv (c : Dev nD) (x : Fin 15 × Fin 2) : ctx (F := F) Acc R0 K c ⊢ reached ET (recvC (pr x.2 c) x.2 x.1) 0 := by
  unfold ctx; rw [bigSep_univ_at (fun x : Fin 15 × Fin 2 => reached ET (recvC (pr x.2 c) x.2 x.1) 0) x]
  iintro ⟨-, -, -, H, -⟩; iexact H

/-! ## The state of the transfers -/

def sTodo (c : Dev nD) (x : Fin 15 × Fin 2) : sProp 𝕄 :=
  iprop(dutyTok ET (sendC c x.2 x.1) 0 false ∗ dutyTok ET (recvC (pr x.2 c) x.2 x.1) 0 false ∗ atPos ET (sendC c x.2 x.1) 0 ∅ 0)
def sFly (c : Dev nD) (x : Fin 15 × Fin 2) : sProp 𝕄 :=
  iprop(cred (tallyAt (sendC c x.2 x.1) () (amt x.1)) ∗ atPos ET (sendC c x.2 x.1) 0 ∅ 0)
def rTodo (c : Dev nD) (x : Fin 15 × Fin 2) : sProp 𝕄 :=
  iprop(cred (tallyAt (recvC c x.2 x.1) () (amt x.1)) ∗ atPos ET (recvC c x.2 x.1) 0 ∅ 0)

/-- Send `x` with `k` started and the first `q` awaited; arrival `x` with the first `m` awaited. -/
def sSt (c : Dev nD) (k q : ℕ) (x : Fin 15 × Fin 2) : sProp 𝕄 :=
  if num x < q then semVal (sendC c x.2 x.1) 0 else if num x < k then sFly c x else sTodo c x
def rSt (c : Dev nD) (m : ℕ) (x : Fin 15 × Fin 2) : sProp 𝕄 :=
  if num x < m then semVal (recvC c x.2 x.1) 0 else rTodo c x

/-- The transfers' cells without what is owed. -/
def cellsI (c : Dev nD) (k m q : ℕ) : sProp 𝕄 :=
  iprop((bigSep Finset.univ fun x => sSt c k q x) ∗ bigSep Finset.univ fun x => rSt c m x)
def cells (c : Dev nD) (k m q : ℕ) : sProp 𝕄 := iprop((∃ W, owes (c : Thread nD τ) (Ow c k) W) ∗ cellsI c k m q)

theorem sSt_start (c : Dev nD) (q : ℕ) (x : Fin 15 × Fin 2) (hq : q ≤ num x) :
    (bigSep Finset.univ fun y => sSt (F := F) c (num x) q y) ⊢ iprop(sTodo c x ∗ (sFly c x -∗ bigSep Finset.univ fun y => sSt c (num x + 1) q y)) := by
  have h := bigSep_univ_update (Φ := fun y => sSt (F := F) c (num x) q y) (Ψ := fun y => sSt c (num x + 1) q y) x (fun y hy => by
    have hne : num y ≠ num x := fun h => hy (num_inj h)
    unfold sSt
    by_cases h1 : num y < q
    · rw [if_pos h1, if_pos h1]
    · rw [if_neg h1, if_neg h1]
      by_cases h2 : num y < num x
      · rw [if_pos h2, if_pos (by omega)]
      · rw [if_neg h2, if_neg (by omega)])
  have e1 : sSt (F := F) c (num x) q x = sTodo c x := by unfold sSt; rw [if_neg (by omega), if_neg (by omega)]
  have e2 : sSt (F := F) c (num x + 1) q x = sFly c x := by unfold sSt; rw [if_neg (by omega), if_pos (by omega)]
  rw [e1, e2] at h
  exact h

theorem sSt_done (c : Dev nD) (k : ℕ) (x : Fin 15 × Fin 2) (hk : num x < k) :
    (bigSep Finset.univ fun y => sSt (F := F) c k (num x) y)
      ⊢ iprop(sFly c x ∗ (semVal (sendC c x.2 x.1) 0 -∗ bigSep Finset.univ fun y => sSt c k (num x + 1) y)) := by
  have h := bigSep_univ_update (Φ := fun y => sSt (F := F) c k (num x) y) (Ψ := fun y => sSt c k (num x + 1) y) x (fun y hy => by
    have hne : num y ≠ num x := fun h => hy (num_inj h)
    unfold sSt
    by_cases h1 : num y < num x
    · rw [if_pos h1, if_pos (by omega)]
    · rw [if_neg h1, if_neg (by omega)])
  have e1 : sSt (F := F) c k (num x) x = sFly c x := by unfold sSt; rw [if_neg (by omega), if_pos hk]
  have e2 : sSt (F := F) c k (num x + 1) x = semVal (sendC c x.2 x.1) 0 := by unfold sSt; rw [if_pos (by omega)]
  rw [e1, e2] at h
  exact h

theorem rSt_done (c : Dev nD) (x : Fin 15 × Fin 2) :
    (bigSep Finset.univ fun y => rSt (F := F) c (num x) y)
      ⊢ iprop(rTodo c x ∗ (semVal (recvC c x.2 x.1) 0 -∗ bigSep Finset.univ fun y => rSt c (num x + 1) y)) := by
  have h := bigSep_univ_update (Φ := fun y => rSt (F := F) c (num x) y) (Ψ := fun y => rSt c (num x + 1) y) x (fun y hy => by
    have hne : num y ≠ num x := fun h => hy (num_inj h)
    unfold rSt
    by_cases h1 : num y < num x
    · rw [if_pos h1, if_pos (by omega)]
    · rw [if_neg h1, if_neg (by omega)])
  have e1 : rSt (F := F) c (num x) x = rTodo c x := by unfold rSt; rw [if_neg (by omega)]
  have e2 : rSt (F := F) c (num x + 1) x = semVal (recvC c x.2 x.1) 0 := by unfold rSt; rw [if_pos (by omega)]
  rw [e1, e2] at h
  exact h

/-! ## The steps -/

set_option maxHeartbeats 1000000 in
/-- Starting transfer `x`: the rows or the piece leave with it, the place they land in too. -/
theorem step_send (c : Dev nD) (x : Fin 15 × Fin 2) {m q : ℕ} (hq : q ≤ num x) {sh : Shape} {src dst : Memref sig .tc .vmem sh .f32}
    {hsc : dst.view.ref.isScScratch = false} {sS sV : DmaSem sig} (hS : sS = sendS x.2 x.1) (hV : sV = recvS x.2 x.1)
    {d : Dev nD} (hd : d = pr x.2 c) {hsrc : src.view.WordExact} {hdst : dst.view.WordExact}
    {hsem : DmaTarget.Typed (nD := nD) (τ := τ) (.vmem) (.dma sV) (.remote (Dev.tc d) dst (.dma sS) hsc)}
    (hN : dst.view.dmaCredit = amt x.1) (X : sh.Idx → Elt F .f32) (Fr : sProp 𝕄)
    (h1 : owns (c : Thread nD τ) src fullShare X ⊢ sPay Acc R0 c x.2 x.1)
    (h2 : iprop(owns (pr x.2 c : Thread nD τ) dst fullShare X ∗ Fr) ⊢ rPay Acc R0 (pr x.2 c) x.2 x.1)
    {α : Type} {k : PUnit → Prog (TpuEff nD τ sig (Elt F) Λ₀ .tc) α} {Q : α → sProp 𝕄} :
    iprop(ctx Acc R0 K c ∗ cells c (num x) m q ∗ owns (c : Thread nD τ) src fullShare X
        ∗ (∃ Y, owns (pr x.2 c : Thread nD τ) dst fullShare Y) ∗ Fr)
      ⊢ iprop((cells c (num x + 1) m q -∗ Wc c (k ⟨⟩) Q)
          -∗ Wc c (.op (.enqueueDma src (.remote (Dev.tc d) dst (.dma sS) hsc) (.dma sV) hsrc hdst hsem) k) Q) := by
  subst hS; subst hV; subst hd
  unfold cells cellsI
  iintro ⟨#Hctx, ⟨⟨%W, Ho⟩, Hs, Hr⟩, Hsrc, ⟨%Y, Hdst⟩, HF⟩ Hk
  ihave Hsrc' := (owns_ex (c : Thread nD τ) src X) $$ Hsrc
  icases Hsrc' with ⟨%fs, %hfs, Hsrc⟩
  ihave Hdst' := (owns_ex (pr x.2 c : Thread nD τ) dst Y) $$ Hdst
  icases Hdst' with ⟨%fd, -, Hdst⟩
  ihave Hs' := (sSt_start c q x hq) $$ Hs
  unfold sTodo
  icases Hs' with ⟨⟨Ht1, Ht2, Hat⟩, Hs⟩
  iapply (wp_send_pointsTo_with 𝒱₀ ET (Rd Acc R0) (c : Thread nD τ) none (c' := (pr x.2 c : Thread nD τ)) (src := src) (dst := dst) (sS := .dma (sendS x.2 x.1)) (sem := .dma (recvS x.2 x.1)) (q := fullShare) (fs := fs) (fd := fd) (F := Fr)
    (κ₁ := K (sendC c x.2 x.1)) (κ₂ := K (recvC (pr x.2 c) x.2 x.1)) (r₁ := 0) (r₂ := 0) (d₁ := false) (d₂ := false)
    (by rw [duties_dma Acc R0 c _ (show 8 ≤ 9 + 15 * x.2.val + x.1.val by omega)]; exact Finset.mem_singleton_self _)
    (by rw [duties_dma Acc R0 (pr x.2 c) _ (show 8 ≤ 39 + 15 * x.2.val + x.1.val by omega)]; exact Finset.mem_singleton_self _)
    () () (amt x.1) hN (amount_send Acc R0 c x.2 x.1 false) (amount_recv Acc R0 (pr x.2 c) x.2 x.1 false)
    (Ow c (num x + 1)) (Ow_step c x) (W := W) ?_ ?_) $$ [Ho Ht1 Ht2 Hsrc Hdst HF]
  · rw [payload_send]
    exact (owns_mk (c : Thread nD τ) src X fs hfs).trans h1
  · rw [payload_recv]
    exact (sep_mono_left (owns_mk (pr x.2 c : Thread nD τ) dst X _ (by rw [View.read_write_univ]; exact hfs))).trans h2
  · isplitr; · iapply (ctx_cs Acc R0 K c c x.2 x.1); iexact Hctx
    isplitr; · iapply (ctx_cr Acc R0 K c (pr x.2 c) x.2 x.1); iexact Hctx
    isplitl [Hsrc]; · iexact Hsrc
    isplitl [Hdst HF]
    · isplitl [Hdst] <;> iassumption
    isplitl [Ho]; · iexact Ho
    isplitl [Ht1]; · iexact Ht1
    isplitr; · iapply (ctx_send Acc R0 K c x); iexact Hctx
    isplitl [Ht2]; · iexact Ht2
    iapply (ctx_recv Acc R0 K c x); iexact Hctx
  iintro ⟨Hcr, Ho⟩
  iapply Hk
  isplitl [Ho]; · iexists W; iexact Ho
  isplitl [Hs Hcr Hat]
  · iapply Hs; unfold sFly; isplitl [Hcr] <;> iassumption
  iexact Hr

set_option maxHeartbeats 1000000 in
/-- Awaiting arrival `x`: what it brings is the device's. -/
theorem step_recv (c : Dev nD) (x : Fin 15 × Fin 2) {k q : ℕ} (hk : 2 * x.1.val + 2 ≤ k) {sh : Shape} {src dst : Memref sig .tc .vmem sh .f32}
    {sV : DmaSem sig} (hV : sV = recvS x.2 x.1) {hsrc : src.view.WordExact} {hdst : dst.view.WordExact}
    (hN : dst.view.dmaCredit = amt x.1)
    {α : Type} {kk : PUnit → Prog (TpuEff nD τ sig (Elt F) Λ₀ .tc) α} {Q : α → sProp 𝕄} :
    iprop(ctx Acc R0 K c ∗ cells c k (num x) q)
      ⊢ iprop((cells c k (num x + 1) q ∗ rPay Acc R0 c x.2 x.1 -∗ Wc c (kk ⟨⟩) Q)
          -∗ Wc c (.op (.waitDma2 sV src dst hsrc hdst) kk) Q) := by
  subst hV
  unfold cells cellsI
  iintro ⟨#Hctx, ⟨%W, Ho⟩, Hs, Hr⟩ Hk
  ihave Hr' := (rSt_done c x) $$ Hr
  unfold rTodo
  icases Hr' with ⟨⟨Hcr, Hat⟩, Hr⟩
  iapply (wp_wait_rest_token 𝒱₀ ET (Rd Acc R0) (c : Thread nD τ) none (κ := K (recvC c x.2 x.1)) (sm := .dma (recvS x.2 x.1))
    (Es := Set.univ) (wpE_waitDma2_eq 𝒱₀ (c : Thread nD τ) none Set.univ) (Set.mem_univ _)
    (O := Ow c k) (W := W) (R := 0) (m := 0) (T := ∅) ()
    (by rw [expect_dma Acc R0 c _ (show 8 ≤ 39 + 15 * x.2.val + x.1.val by omega), amount_recv, hN]; exact Nat.zero_add _)) $$ [Hcr Hat Ho]
  · isplitr; · iapply (ctx_cr Acc R0 K c c x.2 x.1); iexact Hctx
    isplitl [Hcr]; · rw [hN]; iexact Hcr
    isplitl [Ho]; · iexact Ho
    isplitr
    · iapply (mayWait_recv c x.2 x.1 k hk); iapply (ctx_lev Acc R0 K c); iexact Hctx
    · iexact Hat
  rw [rest_dma Acc R0 c _ (show 8 ≤ 39 + 15 * x.2.val + x.1.val by omega), payload_recv]
  iintro ⟨Ho, Hat, -, Hp⟩
  imod (cell_close ET (Rd Acc R0) (Set.mem_univ (K (recvC c x.2 x.1))) (fun h => h) (R := 1) (fun r hr => duties_later Acc R0 _ r hr)) $$ [Hat] with Hv
  · isplitr; · iapply (ctx_cr Acc R0 K c c x.2 x.1); iexact Hctx
    iexact Hat
  iapply Hk
  isplitr [Hp]
  · isplitl [Ho]; · iexists _; iexact Ho
    isplitl [Hs]; · iexact Hs
    iapply Hr; iexact Hv
  · iexact Hp

set_option maxHeartbeats 1000000 in
/-- Awaiting departure `x`: what it reads is the device's again. -/
theorem step_swait (c : Dev nD) (x : Fin 15 × Fin 2) {k m : ℕ} (hk : num x < k) {sh : Shape} {src dst : Memref sig .tc .vmem sh .f32}
    {sS : DmaSem sig} (hS : sS = sendS x.2 x.1) {hsrc : src.view.WordExact} {hdst : dst.view.WordExact}
    (hN : dst.view.dmaCredit = amt x.1)
    {α : Type} {kk : PUnit → Prog (TpuEff nD τ sig (Elt F) Λ₀ .tc) α} {Q : α → sProp 𝕄} :
    iprop(ctx Acc R0 K c ∗ cells c k m (num x))
      ⊢ iprop((cells c k m (num x + 1) ∗ sPay Acc R0 c x.2 x.1 -∗ Wc c (kk ⟨⟩) Q)
          -∗ Wc c (.op (.waitDma2 sS src dst hsrc hdst) kk) Q) := by
  subst hS
  unfold cells cellsI
  iintro ⟨#Hctx, ⟨%W, Ho⟩, Hs, Hr⟩ Hk
  ihave Hs' := (sSt_done c k x hk) $$ Hs
  unfold sFly
  icases Hs' with ⟨⟨Hcr, Hat⟩, Hs⟩
  iapply (wp_wait_rest_token 𝒱₀ ET (Rd Acc R0) (c : Thread nD τ) none (κ := K (sendC c x.2 x.1)) (sm := .dma (sendS x.2 x.1))
    (Es := Set.univ) (wpE_waitDma2_eq 𝒱₀ (c : Thread nD τ) none Set.univ) (Set.mem_univ _)
    (O := Ow c k) (W := W) (R := 0) (m := 0) (T := ∅) ()
    (by rw [expect_dma Acc R0 c _ (show 8 ≤ 9 + 15 * x.2.val + x.1.val by omega), amount_send, hN]; exact Nat.zero_add _)) $$ [Hcr Hat Ho]
  · isplitr; · iapply (ctx_cs Acc R0 K c c x.2 x.1); iexact Hctx
    isplitl [Hcr]; · rw [hN]; iexact Hcr
    isplitl [Ho]; · iexact Ho
    isplitr
    · iapply (mayWait_low c (sendS x.2 x.1) (show 9 + 15 * x.2.val + x.1.val < 39 by omega) k); iapply (ctx_lev Acc R0 K c); iexact Hctx
    · iexact Hat
  rw [rest_dma Acc R0 c _ (show 8 ≤ 9 + 15 * x.2.val + x.1.val by omega), payload_send]
  iintro ⟨Ho, Hat, -, Hp⟩
  imod (cell_close ET (Rd Acc R0) (Set.mem_univ (K (sendC c x.2 x.1))) (fun h => h) (R := 1) (fun r hr => duties_later Acc R0 _ r hr)) $$ [Hat] with Hv
  · isplitr; · iapply (ctx_cs Acc R0 K c c x.2 x.1); iexact Hctx
    iexact Hat
  iapply Hk
  isplitr [Hp]
  · isplitl [Ho]; · iexists _; iexact Ho
    isplitr [Hr]
    · iapply Hs; iexact Hv
    · iexact Hr
  · iexact Hp

end Cert.FusedProof
-- ==== Proof.Words.lean ====
/-
  The addresses the kernel computes from the tables' words: every row or column offset is that of a row block or a
  piece, every offset is in range, and every target is a ring neighbour.
-/
module

public import proofs.«01_k».proof.Proof.Talk

@[expose] public section

set_option backward.proofsInPublic true

noncomputable section

namespace Cert.FusedProof

open Cert.KernelIdeal Cert.KernelIdeal.Gen

open Idealize.ShloMosaic
open Idealize.ShloMosaic.TcCoe

theorem word_row (k : Fin 8) : (Scalar.muli (wd k) 256#32).toNat = 256 * k.val := by revert k; decide
theorem word_row_index (k : Fin 8) : (Scalar.indexCast (Scalar.muli (wd k) 256#32)).toNat = 256 * k.val := by revert k; decide
theorem offW (k : Fin 8) (C : ℕ) : ![(Scalar.muli (wd k) 256#32).toNat, C] = ![256 * k.val, C] := by rw [word_row]
theorem offI (k : Fin 8) (C : ℕ) : ![(Scalar.indexCast (Scalar.muli (wd k) 256#32)).toNat, C] = ![256 * k.val, C] := by rw [word_row_index]
theorem row_fit (k : Fin 8) {off : Fin 2 → ℕ} (h : off = ![256 * k.val, 0]) : ∀ a, off a + S256x2048.size a ≤ S2048x2048.size a := by
  subst h; exact row_inb k
theorem piece_fit (k : Fin 8) (p : Fin 4) {off : Fin 2 → ℕ} (h : off = ![256 * k.val, 512 * p.val]) :
    ∀ a, off a + S256x512.size a ≤ S2048x2048.size a := by
  subst h; exact piece_inb k p
theorem prv_0 (c : Dev nD) : (c.val + 9) % 4 = (pr 0 c).val := by revert c; decide
theorem prv_1 (c : Dev nD) : (c.val + 7) % 4 = (pr 1 c).val := by revert c; decide

theorem off3 (k : Fin 8) : k0_off3 (wd k) = ![256 * k.val, 0] := offI k 0
theorem off4 (k : Fin 8) : k0_off4 (wd k) = ![256 * k.val, 0] := offI k 0
theorem off5 (k : Fin 8) : k0_off5 (wd k) = ![256 * k.val, 0] := offI k 0
theorem off6 (k : Fin 8) : k0_off6 (wd k) = ![256 * k.val, 0] := offI k 0
theorem off7 (k : Fin 8) : k0_off7 (wd k) = ![256 * k.val, 0] := offI k 0
theorem off8 (k : Fin 8) : k0_off8 (wd k) = ![256 * k.val, 0] := offI k 0
theorem off9 (k : Fin 8) : k0_off9 (wd k) = ![256 * k.val, 0] := offW k 0
theorem off10 (k : Fin 8) : k0_off10 (wd k) = ![256 * k.val, 0] := offW k 0
theorem off11 (k : Fin 8) : k0_off11 (wd k) = ![256 * k.val, 0] := offW k 0
theorem off12 (k : Fin 8) : k0_off12 (wd k) = ![256 * k.val, 0] := offI k 0
theorem off13 (k : Fin 8) : k0_off13 (wd k) = ![256 * k.val, 0] := offW k 0
theorem off14 (k : Fin 8) : k0_off14 (wd k) = ![256 * k.val, 0] := offI k 0
theorem off15 (k : Fin 8) : k0_off15 (wd k) = ![256 * k.val, 0] := offW k 0
theorem off16 (k : Fin 8) : k0_off16 (wd k) = ![256 * k.val, 0] := offW k 0
theorem off17 (k : Fin 8) : k0_off17 (wd k) = ![256 * k.val, 0] := offW k 0
theorem off18 (k : Fin 8) : k0_off18 (wd k) = ![256 * k.val, 0] := offI k 0
theorem off19 (k : Fin 8) : k0_off19 (wd k) = ![256 * k.val, 0] := offW k 0
theorem off20 (k : Fin 8) : k0_off20 (wd k) = ![256 * k.val, 0] := offI k 0
theorem off21 (k : Fin 8) : k0_off21 (wd k) = ![256 * k.val, 0] := offW k 0
theorem off22 (k : Fin 8) : k0_off22 (wd k) = ![256 * k.val, 0] := offW k 0
theorem off23 (k : Fin 8) : k0_off23 (wd k) = ![256 * k.val, 0] := offW k 0
theorem off24 (k : Fin 8) : k0_off24 (wd k) = ![256 * k.val, 0] := offI k 0
theorem off25 (k : Fin 8) : k0_off25 (wd k) = ![256 * k.val, 0] := offW k 0
theorem off26 (k : Fin 8) : k0_off26 (wd k) = ![256 * k.val, 0] := offI k 0
theorem off27 (k : Fin 8) : k0_off27 (wd k) = ![256 * k.val, 0] := offW k 0
theorem off28 (k : Fin 8) : k0_off28 (wd k) = ![256 * k.val, 0] := offW k 0
theorem off29 (k : Fin 8) : k0_off29 (wd k) = ![256 * k.val, 512] := offW k 512
theorem off30 (k : Fin 8) : k0_off30 (wd k) = ![256 * k.val, 512] := offW k 512
theorem off31 (k : Fin 8) : k0_off31 (wd k) = ![256 * k.val, 1024] := offW k 1024
theorem off32 (k : Fin 8) : k0_off32 (wd k) = ![256 * k.val, 1024] := offW k 1024
theorem off33 (k : Fin 8) : k0_off33 (wd k) = ![256 * k.val, 1536] := offW k 1536
theorem off34 (k : Fin 8) : k0_off34 (wd k) = ![256 * k.val, 1536] := offW k 1536
theorem off35 (k : Fin 8) : k0_off35 (wd k) = ![256 * k.val, 0] := offW k 0
theorem off36 (k : Fin 8) : k0_off36 (wd k) = ![256 * k.val, 0] := offW k 0
theorem off37 (k : Fin 8) : k0_off37 (wd k) = ![256 * k.val, 0] := offW k 0
theorem off38 (k : Fin 8) : k0_off38 (wd k) = ![256 * k.val, 0] := offW k 0
theorem off39 (k : Fin 8) : k0_off39 (wd k) = ![256 * k.val, 512] := offW k 512
theorem off40 (k : Fin 8) : k0_off40 (wd k) = ![256 * k.val, 512] := offW k 512
theorem off41 (k : Fin 8) : k0_off41 (wd k) = ![256 * k.val, 512] := offW k 512
theorem off42 (k : Fin 8) : k0_off42 (wd k) = ![256 * k.val, 512] := offW k 512
theorem off43 (k : Fin 8) : k0_off43 (wd k) = ![256 * k.val, 1024] := offW k 1024
theorem off44 (k : Fin 8) : k0_off44 (wd k) = ![256 * k.val, 1024] := offW k 1024
theorem off45 (k : Fin 8) : k0_off45 (wd k) = ![256 * k.val, 1024] := offW k 1024
theorem off46 (k : Fin 8) : k0_off46 (wd k) = ![256 * k.val, 1024] := offW k 1024
theorem off47 (k : Fin 8) : k0_off47 (wd k) = ![256 * k.val, 1536] := offW k 1536
theorem off48 (k : Fin 8) : k0_off48 (wd k) = ![256 * k.val, 1536] := offW k 1536
theorem off49 (k : Fin 8) : k0_off49 (wd k) = ![256 * k.val, 1536] := offW k 1536
theorem off50 (k : Fin 8) : k0_off50 (wd k) = ![256 * k.val, 1536] := offW k 1536
theorem off51 (k : Fin 8) : k0_off51 (wd k) = ![256 * k.val, 0] := offW k 0
theorem off52 (k : Fin 8) : k0_off52 (wd k) = ![256 * k.val, 0] := offW k 0
theorem off53 (k : Fin 8) : k0_off53 (wd k) = ![256 * k.val, 0] := offW k 0
theorem off54 (k : Fin 8) : k0_off54 (wd k) = ![256 * k.val, 0] := offW k 0
theorem off55 (k : Fin 8) : k0_off55 (wd k) = ![256 * k.val, 512] := offW k 512
theorem off56 (k : Fin 8) : k0_off56 (wd k) = ![256 * k.val, 512] := offW k 512
theorem off57 (k : Fin 8) : k0_off57 (wd k) = ![256 * k.val, 512] := offW k 512
theorem off58 (k : Fin 8) : k0_off58 (wd k) = ![256 * k.val, 512] := offW k 512
theorem off59 (k : Fin 8) : k0_off59 (wd k) = ![256 * k.val, 1024] := offW k 1024
theorem off60 (k : Fin 8) : k0_off60 (wd k) = ![256 * k.val, 1024] := offW k 1024
theorem off61 (k : Fin 8) : k0_off61 (wd k) = ![256 * k.val, 1024] := offW k 1024
theorem off62 (k : Fin 8) : k0_off62 (wd k) = ![256 * k.val, 1024] := offW k 1024
theorem off63 (k : Fin 8) : k0_off63 (wd k) = ![256 * k.val, 1536] := offW k 1536
theorem off64 (k : Fin 8) : k0_off64 (wd k) = ![256 * k.val, 1536] := offW k 1536
theorem off65 (k : Fin 8) : k0_off65 (wd k) = ![256 * k.val, 1536] := offW k 1536
theorem off66 (k : Fin 8) : k0_off66 (wd k) = ![256 * k.val, 1536] := offW k 1536
theorem off67 (k : Fin 8) : k0_off67 (wd k) = ![256 * k.val, 0] := offW k 0
theorem off68 (k : Fin 8) : k0_off68 (wd k) = ![256 * k.val, 0] := offW k 0
theorem off69 (k : Fin 8) : k0_off69 (wd k) = ![256 * k.val, 512] := offW k 512
theorem off70 (k : Fin 8) : k0_off70 (wd k) = ![256 * k.val, 512] := offW k 512
theorem off71 (k : Fin 8) : k0_off71 (wd k) = ![256 * k.val, 1024] := offW k 1024
theorem off72 (k : Fin 8) : k0_off72 (wd k) = ![256 * k.val, 1024] := offW k 1024
theorem off73 (k : Fin 8) : k0_off73 (wd k) = ![256 * k.val, 1536] := offW k 1536
theorem off74 (k : Fin 8) : k0_off74 (wd k) = ![256 * k.val, 1536] := offW k 1536
theorem off75 (k : Fin 8) : k0_off75 (wd k) = ![256 * k.val, 0] := offW k 0
theorem off76 (k : Fin 8) : k0_off76 (wd k) = ![256 * k.val, 0] := offW k 0
theorem off77 (k : Fin 8) : k0_off77 (wd k) = ![256 * k.val, 512] := offW k 512
theorem off78 (k : Fin 8) : k0_off78 (wd k) = ![256 * k.val, 512] := offW k 512
theorem off79 (k : Fin 8) : k0_off79 (wd k) = ![256 * k.val, 1024] := offW k 1024
theorem off80 (k : Fin 8) : k0_off80 (wd k) = ![256 * k.val, 1024] := offW k 1024
theorem off81 (k : Fin 8) : k0_off81 (wd k) = ![256 * k.val, 1536] := offW k 1536
theorem off82 (k : Fin 8) : k0_off82 (wd k) = ![256 * k.val, 1536] := offW k 1536
theorem off83 (k : Fin 8) : k0_off83 (wd k) = ![256 * k.val, 0] := offW k 0
theorem off84 (k : Fin 8) : k0_off84 (wd k) = ![256 * k.val, 0] := offW k 0
theorem off85 (k : Fin 8) : k0_off85 (wd k) = ![256 * k.val, 512] := offW k 512
theorem off86 (k : Fin 8) : k0_off86 (wd k) = ![256 * k.val, 512] := offW k 512
theorem off87 (k : Fin 8) : k0_off87 (wd k) = ![256 * k.val, 1024] := offW k 1024
theorem off88 (k : Fin 8) : k0_off88 (wd k) = ![256 * k.val, 1024] := offW k 1024
theorem off89 (k : Fin 8) : k0_off89 (wd k) = ![256 * k.val, 1536] := offW k 1536
theorem off90 (k : Fin 8) : k0_off90 (wd k) = ![256 * k.val, 1536] := offW k 1536
theorem off91 (k : Fin 8) : k0_off91 (wd k) = ![256 * k.val, 0] := offW k 0
theorem off92 (k : Fin 8) : k0_off92 (wd k) = ![256 * k.val, 0] := offW k 0
theorem off93 (k : Fin 8) : k0_off93 (wd k) = ![256 * k.val, 512] := offW k 512
theorem off94 (k : Fin 8) : k0_off94 (wd k) = ![256 * k.val, 512] := offW k 512
theorem off95 (k : Fin 8) : k0_off95 (wd k) = ![256 * k.val, 1024] := offW k 1024
theorem off96 (k : Fin 8) : k0_off96 (wd k) = ![256 * k.val, 1024] := offW k 1024
theorem off97 (k : Fin 8) : k0_off97 (wd k) = ![256 * k.val, 1536] := offW k 1536
theorem off98 (k : Fin 8) : k0_off98 (wd k) = ![256 * k.val, 1536] := offW k 1536
theorem chk1 (i : grid0.Coords) (k : Fin 8) : k0_chk1 i (wd k) :=
  ⟨fun _ => row_fit k (off3 k), fun _ => row_fit k (off5 k)⟩
theorem chk2 (i : grid0.Coords) (k : Fin 8) : k0_chk2 i (wd k) :=
  ⟨fun _ => row_fit k (off4 k), fun _ => row_fit k (off6 k)⟩
theorem chk3 (i : grid0.Coords) (k : Fin 8) : k0_chk3 i (wd k) :=
  ⟨fun _ _ => row_fit k (off7 k), fun _ _ => row_fit k (off9 k)⟩
theorem chk4 (i : grid0.Coords) (k : Fin 8) : k0_chk4 i (wd k) :=
  ⟨fun _ _ => row_fit k (off8 k), fun _ _ => row_fit k (off10 k)⟩
theorem chk5 (i : grid0.Coords) (k : Fin 8) : k0_chk5 i (wd k) :=
  fun _ _ => row_fit k (off11 k)
theorem chk7 (i : grid0.Coords) (k : Fin 8) : k0_chk7 i (wd k) :=
  fun _ _ => row_fit k (off13 k)
theorem chk6 (i : grid0.Coords) (k : Fin 8) : k0_chk6 i (wd k) :=
  ⟨fun _ _ => row_fit k (off12 k), fun _ _ => row_fit k (off15 k)⟩
theorem chk8 (i : grid0.Coords) (k : Fin 8) : k0_chk8 i (wd k) :=
  ⟨fun _ _ => row_fit k (off14 k), fun _ _ => row_fit k (off16 k)⟩
theorem chk9 (i : grid0.Coords) (k : Fin 8) : k0_chk9 i (wd k) :=
  fun _ _ => row_fit k (off17 k)
theorem chk11 (i : grid0.Coords) (k : Fin 8) : k0_chk11 i (wd k) :=
  fun _ _ => row_fit k (off19 k)
theorem chk10 (i : grid0.Coords) (k : Fin 8) : k0_chk10 i (wd k) :=
  ⟨fun _ _ => row_fit k (off18 k), fun _ _ => row_fit k (off21 k)⟩
theorem chk12 (i : grid0.Coords) (k : Fin 8) : k0_chk12 i (wd k) :=
  ⟨fun _ _ => row_fit k (off20 k), fun _ _ => row_fit k (off22 k)⟩
theorem chk13 (i : grid0.Coords) (k : Fin 8) : k0_chk13 i (wd k) :=
  fun _ _ => row_fit k (off23 k)
theorem chk14 (i : grid0.Coords) (k : Fin 8) : k0_chk14 i (wd k) :=
  fun _ _ => row_fit k (off24 k)
theorem chk15 (i : grid0.Coords) (k : Fin 8) : k0_chk15 i (wd k) :=
  fun _ _ => row_fit k (off25 k)
theorem chk16 (i : grid0.Coords) (k : Fin 8) : k0_chk16 i (wd k) :=
  fun _ _ => row_fit k (off26 k)
theorem chk25 (i : grid0.Coords) (k : Fin 8) : k0_chk25 i (wd k) :=
  fun _ _ => piece_fit k 0 (off35 k)
theorem chk26 (i : grid0.Coords) (k : Fin 8) : k0_chk26 i (wd k) :=
  fun _ _ => piece_fit k 0 (off36 k)
theorem chk29 (i : grid0.Coords) (k : Fin 8) : k0_chk29 i (wd k) :=
  fun _ _ => piece_fit k 1 (off39 k)
theorem chk30 (i : grid0.Coords) (k : Fin 8) : k0_chk30 i (wd k) :=
  fun _ _ => piece_fit k 1 (off40 k)
theorem chk33 (i : grid0.Coords) (k : Fin 8) : k0_chk33 i (wd k) :=
  fun _ _ => piece_fit k 2 (off43 k)
theorem chk34 (i : grid0.Coords) (k : Fin 8) : k0_chk34 i (wd k) :=
  fun _ _ => piece_fit k 2 (off44 k)
theorem chk37 (i : grid0.Coords) (k : Fin 8) : k0_chk37 i (wd k) :=
  fun _ _ => piece_fit k 3 (off47 k)
theorem chk38 (i : grid0.Coords) (k : Fin 8) : k0_chk38 i (wd k) :=
  fun _ _ => piece_fit k 3 (off48 k)
theorem chk41 (i : grid0.Coords) (k : Fin 8) : k0_chk41 i (wd k) :=
  fun _ _ => piece_fit k 0 (off51 k)
theorem chk42 (i : grid0.Coords) (k : Fin 8) : k0_chk42 i (wd k) :=
  fun _ _ => piece_fit k 0 (off52 k)
theorem chk45 (i : grid0.Coords) (k : Fin 8) : k0_chk45 i (wd k) :=
  fun _ _ => piece_fit k 1 (off55 k)
theorem chk46 (i : grid0.Coords) (k : Fin 8) : k0_chk46 i (wd k) :=
  fun _ _ => piece_fit k 1 (off56 k)
theorem chk49 (i : grid0.Coords) (k : Fin 8) : k0_chk49 i (wd k) :=
  fun _ _ => piece_fit k 2 (off59 k)
theorem chk50 (i : grid0.Coords) (k : Fin 8) : k0_chk50 i (wd k) :=
  fun _ _ => piece_fit k 2 (off60 k)
theorem chk53 (i : grid0.Coords) (k : Fin 8) : k0_chk53 i (wd k) :=
  fun _ _ => piece_fit k 3 (off63 k)
theorem chk54 (i : grid0.Coords) (k : Fin 8) : k0_chk54 i (wd k) :=
  fun _ _ => piece_fit k 3 (off64 k)
theorem chk57 (i : grid0.Coords) (k : Fin 8) : k0_chk57 i (wd k) :=
  fun _ _ => piece_fit k 0 (off67 k)
theorem chk58 (i : grid0.Coords) (k : Fin 8) : k0_chk58 i (wd k) :=
  fun _ _ => piece_fit k 0 (off68 k)
theorem chk59 (i : grid0.Coords) (k : Fin 8) : k0_chk59 i (wd k) :=
  fun _ _ => piece_fit k 1 (off69 k)
theorem chk60 (i : grid0.Coords) (k : Fin 8) : k0_chk60 i (wd k) :=
  fun _ _ => piece_fit k 1 (off70 k)
theorem chk61 (i : grid0.Coords) (k : Fin 8) : k0_chk61 i (wd k) :=
  fun _ _ => piece_fit k 2 (off71 k)
theorem chk62 (i : grid0.Coords) (k : Fin 8) : k0_chk62 i (wd k) :=
  fun _ _ => piece_fit k 2 (off72 k)
theorem chk63 (i : grid0.Coords) (k : Fin 8) : k0_chk63 i (wd k) :=
  fun _ _ => piece_fit k 3 (off73 k)
theorem chk64 (i : grid0.Coords) (k : Fin 8) : k0_chk64 i (wd k) :=
  fun _ _ => piece_fit k 3 (off74 k)
theorem chk17 (i : grid0.Coords) (k : Fin 8) : k0_chk17 i (wd k) :=
  ⟨fun _ _ => piece_fit k 0 (off27 k), fun _ _ => piece_fit k 0 (off75 k)⟩
theorem chk18 (i : grid0.Coords) (k : Fin 8) : k0_chk18 i (wd k) :=
  ⟨fun _ _ => piece_fit k 0 (off28 k), fun _ _ => piece_fit k 0 (off76 k)⟩
theorem chk19 (i : grid0.Coords) (k : Fin 8) : k0_chk19 i (wd k) :=
  ⟨fun _ _ => piece_fit k 1 (off29 k), fun _ _ => piece_fit k 1 (off77 k)⟩
theorem chk20 (i : grid0.Coords) (k : Fin 8) : k0_chk20 i (wd k) :=
  ⟨fun _ _ => piece_fit k 1 (off30 k), fun _ _ => piece_fit k 1 (off78 k)⟩
theorem chk21 (i : grid0.Coords) (k : Fin 8) : k0_chk21 i (wd k) :=
  ⟨fun _ _ => piece_fit k 2 (off31 k), fun _ _ => piece_fit k 2 (off79 k)⟩
theorem chk22 (i : grid0.Coords) (k : Fin 8) : k0_chk22 i (wd k) :=
  ⟨fun _ _ => piece_fit k 2 (off32 k), fun _ _ => piece_fit k 2 (off80 k)⟩
theorem chk23 (i : grid0.Coords) (k : Fin 8) : k0_chk23 i (wd k) :=
  ⟨fun _ _ => piece_fit k 3 (off33 k), fun _ _ => piece_fit k 3 (off81 k)⟩
theorem chk24 (i : grid0.Coords) (k : Fin 8) : k0_chk24 i (wd k) :=
  ⟨fun _ _ => piece_fit k 3 (off34 k), fun _ _ => piece_fit k 3 (off82 k)⟩
theorem chk27 (i : grid0.Coords) (k : Fin 8) : k0_chk27 i (wd k) :=
  ⟨fun _ _ => piece_fit k 0 (off37 k), fun _ _ => piece_fit k 0 (off83 k)⟩
theorem chk28 (i : grid0.Coords) (k : Fin 8) : k0_chk28 i (wd k) :=
  ⟨fun _ _ => piece_fit k 0 (off38 k), fun _ _ => piece_fit k 0 (off84 k)⟩
theorem chk31 (i : grid0.Coords) (k : Fin 8) : k0_chk31 i (wd k) :=
  ⟨fun _ _ => piece_fit k 1 (off41 k), fun _ _ => piece_fit k 1 (off85 k)⟩
theorem chk32 (i : grid0.Coords) (k : Fin 8) : k0_chk32 i (wd k) :=
  ⟨fun _ _ => piece_fit k 1 (off42 k), fun _ _ => piece_fit k 1 (off86 k)⟩
theorem chk35 (i : grid0.Coords) (k : Fin 8) : k0_chk35 i (wd k) :=
  ⟨fun _ _ => piece_fit k 2 (off45 k), fun _ _ => piece_fit k 2 (off87 k)⟩
theorem chk36 (i : grid0.Coords) (k : Fin 8) : k0_chk36 i (wd k) :=
  ⟨fun _ _ => piece_fit k 2 (off46 k), fun _ _ => piece_fit k 2 (off88 k)⟩
theorem chk39 (i : grid0.Coords) (k : Fin 8) : k0_chk39 i (wd k) :=
  ⟨fun _ _ => piece_fit k 3 (off49 k), fun _ _ => piece_fit k 3 (off89 k)⟩
theorem chk40 (i : grid0.Coords) (k : Fin 8) : k0_chk40 i (wd k) :=
  ⟨fun _ _ => piece_fit k 3 (off50 k), fun _ _ => piece_fit k 3 (off90 k)⟩
theorem chk43 (i : grid0.Coords) (k : Fin 8) : k0_chk43 i (wd k) :=
  ⟨fun _ _ => piece_fit k 0 (off53 k), fun _ _ => piece_fit k 0 (off91 k)⟩
theorem chk44 (i : grid0.Coords) (k : Fin 8) : k0_chk44 i (wd k) :=
  ⟨fun _ _ => piece_fit k 0 (off54 k), fun _ _ => piece_fit k 0 (off92 k)⟩
theorem chk47 (i : grid0.Coords) (k : Fin 8) : k0_chk47 i (wd k) :=
  ⟨fun _ _ => piece_fit k 1 (off57 k), fun _ _ => piece_fit k 1 (off93 k)⟩
theorem chk48 (i : grid0.Coords) (k : Fin 8) : k0_chk48 i (wd k) :=
  ⟨fun _ _ => piece_fit k 1 (off58 k), fun _ _ => piece_fit k 1 (off94 k)⟩
theorem chk51 (i : grid0.Coords) (k : Fin 8) : k0_chk51 i (wd k) :=
  ⟨fun _ _ => piece_fit k 2 (off61 k), fun _ _ => piece_fit k 2 (off95 k)⟩
theorem chk52 (i : grid0.Coords) (k : Fin 8) : k0_chk52 i (wd k) :=
  ⟨fun _ _ => piece_fit k 2 (off62 k), fun _ _ => piece_fit k 2 (off96 k)⟩
theorem chk55 (i : grid0.Coords) (k : Fin 8) : k0_chk55 i (wd k) :=
  ⟨fun _ _ => piece_fit k 3 (off65 k), fun _ _ => piece_fit k 3 (off97 k)⟩
theorem chk56 (i : grid0.Coords) (k : Fin 8) : k0_chk56 i (wd k) :=
  ⟨fun _ _ => piece_fit k 3 (off66 k), fun _ _ => piece_fit k 3 (off98 k)⟩
theorem dev1 (c : Dev nD) {h : k0_dev1 c < nD} : (⟨k0_dev1 c, h⟩ : Dev nD) = pr 1 c := Fin.ext ((k0_dev1_eq c).trans (prv_1 c))
theorem dev2 (c : Dev nD) {h : k0_dev2 c < nD} : (⟨k0_dev2 c, h⟩ : Dev nD) = pr 0 c := Fin.ext ((k0_dev2_eq c).trans (prv_0 c))
theorem dev3 (c : Dev nD) {h : k0_dev3 c < nD} : (⟨k0_dev3 c, h⟩ : Dev nD) = pr 0 c := Fin.ext ((k0_dev3_eq c).trans (prv_0 c))
theorem dev4 (c : Dev nD) {h : k0_dev4 c < nD} : (⟨k0_dev4 c, h⟩ : Dev nD) = pr 1 c := Fin.ext ((k0_dev4_eq c).trans (prv_1 c))
theorem dev5 (c : Dev nD) {h : k0_dev5 c < nD} : (⟨k0_dev5 c, h⟩ : Dev nD) = pr 0 c := Fin.ext ((k0_dev5_eq c).trans (prv_0 c))
theorem dev6 (c : Dev nD) {h : k0_dev6 c < nD} : (⟨k0_dev6 c, h⟩ : Dev nD) = pr 1 c := Fin.ext ((k0_dev6_eq c).trans (prv_1 c))
theorem dev7 (c : Dev nD) {h : k0_dev7 c < nD} : (⟨k0_dev7 c, h⟩ : Dev nD) = pr 0 c := Fin.ext ((k0_dev7_eq c).trans (prv_0 c))
theorem dev8 (c : Dev nD) {h : k0_dev8 c < nD} : (⟨k0_dev8 c, h⟩ : Dev nD) = pr 1 c := Fin.ext ((k0_dev8_eq c).trans (prv_1 c))
theorem dev9 (c : Dev nD) {h : k0_dev9 c < nD} : (⟨k0_dev9 c, h⟩ : Dev nD) = pr 0 c := Fin.ext ((k0_dev9_eq c).trans (prv_0 c))
theorem dev10 (c : Dev nD) {h : k0_dev10 c < nD} : (⟨k0_dev10 c, h⟩ : Dev nD) = pr 1 c := Fin.ext ((k0_dev10_eq c).trans (prv_1 c))
theorem dev11 (c : Dev nD) {h : k0_dev11 c < nD} : (⟨k0_dev11 c, h⟩ : Dev nD) = pr 0 c := Fin.ext ((k0_dev11_eq c).trans (prv_0 c))
theorem dev12 (c : Dev nD) {h : k0_dev12 c < nD} : (⟨k0_dev12 c, h⟩ : Dev nD) = pr 1 c := Fin.ext ((k0_dev12_eq c).trans (prv_1 c))
theorem dev13 (c : Dev nD) {h : k0_dev13 c < nD} : (⟨k0_dev13 c, h⟩ : Dev nD) = pr 0 c := Fin.ext ((k0_dev13_eq c).trans (prv_0 c))
theorem dev14 (c : Dev nD) {h : k0_dev14 c < nD} : (⟨k0_dev14 c, h⟩ : Dev nD) = pr 1 c := Fin.ext ((k0_dev14_eq c).trans (prv_1 c))
theorem dev15 (c : Dev nD) {h : k0_dev15 c < nD} : (⟨k0_dev15 c, h⟩ : Dev nD) = pr 0 c := Fin.ext ((k0_dev15_eq c).trans (prv_0 c))
theorem dev16 (c : Dev nD) {h : k0_dev16 c < nD} : (⟨k0_dev16 c, h⟩ : Dev nD) = pr 1 c := Fin.ext ((k0_dev16_eq c).trans (prv_1 c))
theorem dev17 (c : Dev nD) {h : k0_dev17 c < nD} : (⟨k0_dev17 c, h⟩ : Dev nD) = pr 0 c := Fin.ext ((k0_dev17_eq c).trans (prv_0 c))
theorem dev18 (c : Dev nD) {h : k0_dev18 c < nD} : (⟨k0_dev18 c, h⟩ : Dev nD) = pr 1 c := Fin.ext ((k0_dev18_eq c).trans (prv_1 c))
theorem dev19 (c : Dev nD) {h : k0_dev19 c < nD} : (⟨k0_dev19 c, h⟩ : Dev nD) = pr 0 c := Fin.ext ((k0_dev19_eq c).trans (prv_0 c))
theorem dev20 (c : Dev nD) {h : k0_dev20 c < nD} : (⟨k0_dev20 c, h⟩ : Dev nD) = pr 1 c := Fin.ext ((k0_dev20_eq c).trans (prv_1 c))
theorem dev21 (c : Dev nD) {h : k0_dev21 c < nD} : (⟨k0_dev21 c, h⟩ : Dev nD) = pr 0 c := Fin.ext ((k0_dev21_eq c).trans (prv_0 c))
theorem dev22 (c : Dev nD) {h : k0_dev22 c < nD} : (⟨k0_dev22 c, h⟩ : Dev nD) = pr 1 c := Fin.ext ((k0_dev22_eq c).trans (prv_1 c))
theorem dev23 (c : Dev nD) {h : k0_dev23 c < nD} : (⟨k0_dev23 c, h⟩ : Dev nD) = pr 0 c := Fin.ext ((k0_dev23_eq c).trans (prv_0 c))
theorem dev24 (c : Dev nD) {h : k0_dev24 c < nD} : (⟨k0_dev24 c, h⟩ : Dev nD) = pr 1 c := Fin.ext ((k0_dev24_eq c).trans (prv_1 c))
theorem dev25 (c : Dev nD) {h : k0_dev25 c < nD} : (⟨k0_dev25 c, h⟩ : Dev nD) = pr 0 c := Fin.ext ((k0_dev25_eq c).trans (prv_0 c))
theorem dev26 (c : Dev nD) {h : k0_dev26 c < nD} : (⟨k0_dev26 c, h⟩ : Dev nD) = pr 1 c := Fin.ext ((k0_dev26_eq c).trans (prv_1 c))
theorem dev27 (c : Dev nD) {h : k0_dev27 c < nD} : (⟨k0_dev27 c, h⟩ : Dev nD) = pr 0 c := Fin.ext ((k0_dev27_eq c).trans (prv_0 c))
theorem dev28 (c : Dev nD) {h : k0_dev28 c < nD} : (⟨k0_dev28 c, h⟩ : Dev nD) = pr 1 c := Fin.ext ((k0_dev28_eq c).trans (prv_1 c))
theorem dev29 (c : Dev nD) {h : k0_dev29 c < nD} : (⟨k0_dev29 c, h⟩ : Dev nD) = pr 0 c := Fin.ext ((k0_dev29_eq c).trans (prv_0 c))
theorem dev30 (c : Dev nD) {h : k0_dev30 c < nD} : (⟨k0_dev30 c, h⟩ : Dev nD) = pr 1 c := Fin.ext ((k0_dev30_eq c).trans (prv_1 c))
theorem dev31 (c : Dev nD) {h : k0_dev31 c < nD} : (⟨k0_dev31 c, h⟩ : Dev nD) = pr 0 c := Fin.ext ((k0_dev31_eq c).trans (prv_0 c))
theorem dev32 (c : Dev nD) {h : k0_dev32 c < nD} : (⟨k0_dev32 c, h⟩ : Dev nD) = pr 1 c := Fin.ext ((k0_dev32_eq c).trans (prv_1 c))

end Cert.FusedProof
-- ==== Proof.Mem.lean ====
/-
  The body's memory operations on the parts of buffers a device owns: rows of the result, landing slots, whole input
  blocks, and the words of the two tables.
-/
module

public import proofs.«01_k».proof.Proof.Steps
public import proofs.«01_k».proof.Proof.Words

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Loading a row block. -/
theorem load_row (c : Dev nD) (k : Fin 8) (X : S256x2048.Idx → Elt F .f32) {off : Fin 2 → ℕ} (hoff : off = ![256 * k.val, 0])
    {inb : ∀ a, off a + S256x2048.size a ≤ S2048x2048.size a}
    {hl : outM.view.LoadsAt (Rect.unit (s := S2048x2048) off S256x2048.size inb).toLoadRect} {α : Type}
    {kk : (S256x2048.Idx → Elt F .f32) → Prog (TpuEff nD τ sig (Elt F) Λ₀ .tc) α} {Q : α → sProp 𝕄} :
    (owns (c : Thread nD τ) (rowM k) fullShare X : sProp 𝕄)
      ⊢ iprop((owns (c : Thread nD τ) (rowM k) fullShare X -∗ Wc c (kk X) Q)
          -∗ Wc c (.op (.load outM (Rect.unit (s := S2048x2048) off S256x2048.size inb).toLoadRect hl) kk) Q) := by
  subst hoff
  iintro H Hk
  ihave H' := (owns_ex (c : Thread nD τ) (rowM k) X) $$ H
  icases H' with ⟨%f, %hf, H⟩
  iapply (wp_load_rect 𝒱₀ (c : Thread nD τ) none Set.univ (m := outM) (r := rowR k) (f := f) (Finset.Subset.refl _)) $$ H
  iintro H
  have e : (outM.access (rowR k)).read (Elt F) f = X := hf
  rw [e]
  iapply Hk
  iapply (owns_mk (c : Thread nD τ) (rowM k) X f hf)
  iexact H

/-- Storing a row block. -/
theorem store_row (c : Dev nD) (k : Fin 8) (X w : S256x2048.Idx → Elt F .f32) {off : Fin 2 → ℕ} (hoff : off = ![256 * k.val, 0])
    {inb : ∀ a, off a + S256x2048.size a ≤ S2048x2048.size a}
    {hx : (outM.access (Rect.unit (s := S2048x2048) off S256x2048.size inb)).Stores Finset.univ}
    {hm : (Finset.univ : Finset S256x2048.Idx) = Finset.univ ∨ ∀ a, (Rect.unit (s := S2048x2048) off S256x2048.size inb).stride a = 1} {α : Type}
    {kk : PUnit → Prog (TpuEff nD τ sig (Elt F) Λ₀ .tc) α} {Q : α → sProp 𝕄} :
    (owns (c : Thread nD τ) (rowM k) fullShare X : sProp 𝕄)
      ⊢ iprop((owns (c : Thread nD τ) (rowM k) fullShare w -∗ Wc c (kk ⟨⟩) Q)
          -∗ Wc c (.op (.store outM (Rect.unit (s := S2048x2048) off S256x2048.size inb) w Finset.univ hx hm) kk) Q) := by
  subst hoff
  iintro H Hk
  ihave H' := (owns_ex (c : Thread nD τ) (rowM k) X) $$ H
  icases H' with ⟨%f, -, H⟩
  iapply (wp_store 𝒱₀ (c : Thread nD τ) none Set.univ (m := outM) (r := rowR k) (Mk := Finset.univ) (f := f)
    (S := (rowM k).view.set) (Finset.Subset.refl _)) $$ H
  iintro H
  iapply Hk
  iapply (owns_mk (c : Thread nD τ) (rowM k) w _ (View.read_write_univ f w))
  iexact H

/-- Loading a landing slot. -/
theorem load_slot (c : Dev nD) (r : Fin 2) (i : Fin 3) (X : S256x2048.Idx → Elt F .f32) {off : Fin 4 → ℕ} (hoff : off = ![r.val, i.val, 0, 0])
    {inb : ∀ a, off a + S1x1x256x2048.size a ≤ S2x3x256x2048.size a}
    {hl : tmpM.view.LoadsAt (Rect.unit (s := S2x3x256x2048) off S1x1x256x2048.size inb).toLoadRect} {α : Type}
    {kk : (S1x1x256x2048.Idx → Elt F .f32) → Prog (TpuEff nD τ sig (Elt F) Λ₀ .tc) α} {Q : α → sProp 𝕄} :
    (owns (c : Thread nD τ) (slotM r i) fullShare X : sProp 𝕄)
      ⊢ iprop((owns (c : Thread nD τ) (slotM r i) fullShare X
              -∗ ∀ v : S1x1x256x2048.Idx → Elt F .f32, ⌜shapeCast S256x2048 v shapeCasts_S1x1x256x2048_S256x2048 = X⌝ -∗ Wc c (kk v) Q)
          -∗ Wc c (.op (.load tmpM (Rect.unit (s := S2x3x256x2048) off S1x1x256x2048.size inb).toLoadRect hl) kk) Q) := by
  subst hoff
  iintro H Hk
  ihave H' := (owns_ex (c : Thread nD τ) (slotM r i) X) $$ H
  icases H' with ⟨%f, %hf, H⟩
  have hset : (tmpM.access (slotR r i)).set ⊆ (slotM r i).view.set := by
    have e : (slotM r i).view.set = (tmpM.access (slotR r i)).set := View.set_reshape _ _
    rw [e]
  iapply (wp_load_rect 𝒱₀ (c : Thread nD τ) none Set.univ (m := tmpM) (r := slotR r i) (f := f) hset) $$ H
  iintro H
  iapply Hk $$ [H]
  · iapply (owns_mk (c : Thread nD τ) (slotM r i) X f hf)
    iexact H
  ipureintro
  exact hf

/-- Loading a whole block. -/
theorem load_all (c : Dev nD) {sh : Shape} (m : Memref sig .tc .vmem sh .f32) (X : sh.Idx → Elt F .f32) {off : Fin sh.rank → ℕ}
    (hoff : off = fun _ => 0) {inb : ∀ a, off a + sh.size a ≤ sh.size a}
    {hl : m.view.LoadsAt (Rect.unit (s := sh) off sh.size inb).toLoadRect} {α : Type}
    {kk : (sh.Idx → Elt F .f32) → Prog (TpuEff nD τ sig (Elt F) Λ₀ .tc) α} {Q : α → sProp 𝕄} :
    (owns (c : Thread nD τ) m fullShare X : sProp 𝕄)
      ⊢ iprop((owns (c : Thread nD τ) m fullShare X -∗ Wc c (kk X) Q)
          -∗ Wc c (.op (.load m (Rect.unit (s := sh) off sh.size inb).toLoadRect hl) kk) Q) := by
  subst hoff
  iintro H Hk
  ihave H' := (owns_ex (c : Thread nD τ) m X) $$ H
  icases H' with ⟨%f, %hf, H⟩
  have hset : m.view.setOn (Rect.unit (s := sh) (fun _ => 0) sh.size inb).toLoadRect.set ⊆ m.view.set := by
    intro x hx
    obtain ⟨y, -, rfl⟩ := Finset.mem_map.mp hx
    exact Finset.mem_map_of_mem _ (Finset.mem_univ _)
  iapply (wp_load 𝒱₀ (c : Thread nD τ) none Set.univ (m := m) (f := f) hset) $$ H
  iintro H
  have e : m.view.readAt (Elt F) (Rect.unit (s := sh) (fun _ => 0) sh.size inb).toLoadRect f = X := by
    rw [← hf]
    funext x
    rw [View.readAt_apply]
    congr 1
    funext a
    refine Fin.ext ?_
    show 0 + 1 * (x a).val = (x a).val
    omega
  rw [e]
  iapply Hk
  iapply (owns_mk (c : Thread nD τ) m X f hf)
  iexact H

/-! ## The tables -/

def tabs (c : Dev nD) (q : PosShare TreeShare) : sProp 𝕄 :=
  iprop((((c : Thread nD τ).loc main_v8) ↦{q} (fun h : S4.Idx => wd (blk 0 c (h 0)) : S4.Idx → Elt F .i32))
    ∗ (((c : Thread nD τ).loc main_v13) ↦{q} (fun h : S4.Idx => wd (blk 1 c (h 0)) : S4.Idx → Elt F .i32)))

theorem smem_bind {sh : Shape} {e : EltTy} (m : Memref sig .tc .smem sh e) (r : Rect sh) (h1 : r.shape.numel = 1) (hp : e.packing = 1)
    {α : Type} (kk : Elt F e → Prog (TpuEff nD τ sig (Elt F) Λ₀ .tc) α) :
    (smemLoad m r h1 hp >>= kk) = .op (.load m r.toLoadRect (View.loadsAt_rect (View.loads_smem_one hp h1))) fun f => kk (f (Shape.Idx.first (h1.symm ▸ Nat.one_pos))) := rfl

/-- Reading entry `j` of the table of ring 0. -/
theorem tab0 (c : Dev nD) (q : PosShare TreeShare) (j : Fin 4) {off : Fin 1 → ℕ} (hoff : off = ![j.val])
    {inb : ∀ a, off a + S1.size a ≤ S4.size a} {h1 : S1.numel = 1} {hp : EltTy.i32.packing = 1} {α : Type}
    {kk : Elt F .i32 → Prog (TpuEff nD τ sig (Elt F) Λ₀ .tc) α} {Q : α → sProp 𝕄} :
    (tabs c q : sProp 𝕄) ⊢ iprop((tabs c q -∗ Wc c (kk (wd (blk 0 c j))) Q)
      -∗ Wc c (smemLoad (Memref.whole main_v8) (Rect.unit (s := S4) off S1.size inb) h1 hp >>= kk) Q) := by
  subst hoff
  rw [smem_bind]
  unfold tabs
  iintro ⟨H, H1⟩ Hk
  iapply (wp_load 𝒱₀ (c : Thread nD τ) none Set.univ (m := Memref.whole main_v8) (Finset.subset_univ _)) $$ H
  iintro H
  have e : ((Memref.whole main_v8 : Memref sig .tc .smem S4 .i32).view.readAt (Elt F) (Rect.unit (s := S4) ![j.val] S1.size inb).toLoadRect
      (fun h : S4.Idx => wd (blk 0 c (h 0)) : S4.Idx → Elt F .i32)) (Shape.Idx.first (s := S1) (h1.symm ▸ Nat.one_pos)) = wd (blk 0 c j) := by
    show wd (blk 0 c _) = wd (blk 0 c j)
    congr 2
  rw [e]
  iapply Hk
  isplitl [H] <;> iassumption

/-- Reading entry `j` of the table of ring 1. -/
theorem tab1 (c : Dev nD) (q : PosShare TreeShare) (j : Fin 4) {off : Fin 1 → ℕ} (hoff : off = ![j.val])
    {inb : ∀ a, off a + S1.size a ≤ S4.size a} {h1 : S1.numel = 1} {hp : EltTy.i32.packing = 1} {α : Type}
    {kk : Elt F .i32 → Prog (TpuEff nD τ sig (Elt F) Λ₀ .tc) α} {Q : α → sProp 𝕄} :
    (tabs c q : sProp 𝕄) ⊢ iprop((tabs c q -∗ Wc c (kk (wd (blk 1 c j))) Q)
      -∗ Wc c (smemLoad (Memref.whole main_v13) (Rect.unit (s := S4) off S1.size inb) h1 hp >>= kk) Q) := by
  subst hoff
  rw [smem_bind]
  unfold tabs
  iintro ⟨H0, H⟩ Hk
  iapply (wp_load 𝒱₀ (c : Thread nD τ) none Set.univ (m := Memref.whole main_v13) (Finset.subset_univ _)) $$ H
  iintro H
  have e : ((Memref.whole main_v13 : Memref sig .tc .smem S4 .i32).view.readAt (Elt F) (Rect.unit (s := S4) ![j.val] S1.size inb).toLoadRect
      (fun h : S4.Idx => wd (blk 1 c (h 0)) : S4.Idx → Elt F .i32)) (Shape.Idx.first (s := S1) (h1.symm ▸ Nat.one_pos)) = wd (blk 1 c j) := by
    show wd (blk 1 c _) = wd (blk 1 c j)
    congr 2
  rw [e]
  iapply Hk
  isplitl [H0] <;> iassumption

/-- An assumption of the program that holds. -/
theorem assume_of (c : Dev nD) {P : Prop} {d : Decidable P} (h : P) {α : Type}
    {kk : PLift P → Prog (TpuEff nD τ sig (Elt F) Λ₀ .tc) α} {Q : α → sProp 𝕄} :
    (Wc c (kk ⟨h⟩) Q : sProp 𝕄) ⊢ Wc c (.op (.assume P d) kk) Q :=
  wp_assume 𝒱₀ (c : Thread nD τ) none Set.univ h

end Cert.FusedProof
-- ==== Proof.Ag.lean ====
/-
  The gathering of the finished rows: which pieces of the result a device holds after `k` sends, `m` arrivals and `q`
  awaited departures, and the rule of each step. Also the sends of whole rows of the reduction.
-/
module

public import proofs.«01_k».proof.Proof.Mem

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

/-! ## The pieces -/

/-- Ring, part and block step of the piece numbered `n`: it is the one send `n` moves on. -/
def rOf (n : ℕ) : Fin 2 := ⟨n % 2, by omega⟩
def pOf (n : ℕ) : Fin 4 := ⟨n / 2 % 4, by omega⟩
def sOf (n : ℕ) : Fin 4 := ⟨(n / 8 + 3) % 4, by omega⟩

def isIn (k m q n : ℕ) : Prop := n + 6 < m + 8 ∧ (k ≤ n + 6 ∨ n + 6 < q)
def isDue (k m n : ℕ) : Prop := (n < 16 ∨ (n - 16) / 2 * 2 + (n + 1) % 2 + 6 < m) ∧ k ≤ n + 6
instance (k m q n : ℕ) : Decidable (isIn k m q n) := by unfold isIn; infer_instance
instance (k m n : ℕ) : Decidable (isDue k m n) := by unfold isDue; infer_instance

/-- A finished piece the device holds. -/
def inC (c : Dev nD) (k m q n : ℕ) : sProp 𝕄 :=
  if isIn k m q n then pieceAt R0 c (blk (rOf n) c (sOf n)) (pOf n) else iprop(emp)
/-- A place of its own the device hands over with send `n`. -/
def giveC (c : Dev nD) (k n : ℕ) : sProp 𝕄 :=
  if k ≤ n + 6 then anyPiece c (blk (ot (rOf n)) c 2) (pOf n) else iprop(emp)
/-- The place, on the neighbour, that send `n` writes. -/
def dueC (c : Dev nD) (k m n : ℕ) : sProp 𝕄 :=
  if isDue k m n then anyPiece (pr (rOf n) c) (blk (rOf n) c (sOf n)) (pOf n) else iprop(emp)

/-- What the gathering holds after `k` sends, `m` arrivals and `q` awaited departures. -/
def AG (c : Dev nD) (k m q : ℕ) : sProp 𝕄 :=
  iprop(cells c k m q ∗ (bigSep Finset.univ fun n : Fin 32 => inC R0 c k m q n.val)
    ∗ (bigSep Finset.univ fun n : Fin 8 => giveC c k n.val) ∗ bigSep Finset.univ fun n : Fin 24 => dueC c k m n.val)

theorem rOf_num (x : Fin 15 × Fin 2) : rOf (num x - 6) = x.2 ∨ x.1.val < 3 := by revert x; decide
theorem pOf_num (x : Fin 15 × Fin 2) : pOf (num x - 6) = part x.1 ∨ x.1.val < 3 := by revert x; decide
theorem sOf_num (x : Fin 15 × Fin 2) : sOf (num x - 6) = hop x.1 - 1 ∨ x.1.val < 3 := by revert x; decide
theorem rOf_arr (x : Fin 15 × Fin 2) : rOf (num x + 2) = x.2 ∨ x.1.val < 3 := by revert x; decide
theorem pOf_arr (x : Fin 15 × Fin 2) : pOf (num x + 2) = part x.1 ∨ x.1.val < 3 := by revert x; decide
theorem sOf_arr (x : Fin 15 × Fin 2) : sOf (num x + 2) = hop x.1 ∨ x.1.val < 3 := by revert x; decide

/-- The place handed over with arrival `x`, numbered by the send it is for. -/
def dn (x : Fin 15 × Fin 2) : ℕ := 16 + (num x - 6) / 2 * 2 + (num x + 1) % 2
theorem rOf_dn (x : Fin 15 × Fin 2) : rOf (dn x) = ot x.2 ∨ x.1.val < 3 := by revert x; decide
theorem pOf_dn (x : Fin 15 × Fin 2) : pOf (dn x) = part x.1 ∨ x.1.val < 3 := by revert x; decide
theorem sOf_dn (x : Fin 15 × Fin 2) : sOf (dn x) = 1 ∨ x.1.val < 3 ∨ 7 ≤ x.1.val := by revert x; decide

theorem hop_succ (x : Fin 15 × Fin 2) : hop x.1 - 1 + 1 = hop x.1 := by revert x; decide

/-- A piece of the result at whatever offsets denote it. -/
abbrev pieceO (off : Fin 2 → ℕ) (inb : ∀ a, off a + S256x512.size a ≤ S2048x2048.size a) : Memref sig .tc .vmem S256x512 .f32 :=
  outM.slice (Rect.unit (s := S2048x2048) off S256x512.size inb) (fun _ => rfl)

/-- What send `x` of the gathering leaves with the target. -/
theorem ag_arrives (c : Dev nD) (x : Fin 15 × Fin 2) (hx : 3 ≤ x.1.val) :
    iprop(pieceAt R0 (pr x.2 c) (blk x.2 c (hop x.1 - 1)) (part x.1) ∗ gift (F := F) c x.2 x.1) ⊢ rPay Acc R0 (pr x.2 c) x.2 x.1 := by
  unfold rPay
  rw [if_neg (by omega), sr_pr]
  have e : blk x.2 (pr x.2 c) (hop x.1) = blk x.2 c (hop x.1 - 1) := by
    rw [← blk_pr x.2 c (hop x.1 - 1), hop_succ]
  rw [e]

theorem ag_send (c : Dev nD) (x : Fin 15 × Fin 2) {m q : ℕ}
    (hq : 3 ≤ x.1.val ∧ q ≤ num x ∧ num x < m + 8 ∧ (x.1.val < 11 ∨ 14 ≤ m))
    {off : Fin 2 → ℕ} {inb : ∀ a, off a + S256x512.size a ≤ S2048x2048.size a}
    (hoff : off = ![256 * (blk x.2 c (hop x.1 - 1)).val, 512 * (part x.1).val])
    {hsc : (pieceO off inb).view.ref.isScScratch = false} {sS sV : DmaSem sig} (hS : sS = sendS x.2 x.1) (hV : sV = recvS x.2 x.1)
    {d : Dev nD} (hd : d = pr x.2 c) {hsrc : (pieceO off inb).view.WordExact} {hdst : (pieceO off inb).view.WordExact}
    {hsem : DmaTarget.Typed (nD := nD) (τ := τ) (.vmem) (.dma sV) (.remote (Dev.tc d) (pieceO off inb) (.dma sS) hsc)}
    {α : Type} {k : PUnit → Prog (TpuEff nD τ sig (Elt F) Λ₀ .tc) α} {Q : α → sProp 𝕄} :
    iprop(ctx Acc R0 K c ∗ AG R0 c (num x) m q)
      ⊢ iprop((AG R0 c (num x + 1) m q -∗ Wc c (k ⟨⟩) Q)
          -∗ Wc c (.op (.enqueueDma (pieceO off inb) (.remote (Dev.tc d) (pieceO off inb) (.dma sS) hsc) (.dma sV) hsrc hdst hsem) k) Q) := by
  obtain ⟨hx, hq, hm, h14⟩ := hq
  subst hoff
  have hnum : num x = 2 * x.1.val + x.2.val := rfl
  have h30 : num x < 30 := by have := x.1.isLt; have := x.2.isLt; omega
  have h6 : 6 ≤ num x := by omega
  have er := (rOf_num x).resolve_right (by omega)
  have ep := (pOf_num x).resolve_right (by omega)
  have es := (sOf_num x).resolve_right (by omega)
  have hin := bigSep_univ_update (Φ := fun n : Fin 32 => inC (F := F) R0 c (num x) m q n.val) (Ψ := fun n => inC R0 c (num x + 1) m q n.val)
    ⟨num x - 6, by omega⟩ (fun n hn => by
      have hne : n.val ≠ num x - 6 := fun h => hn (Fin.ext h)
      unfold inC
      have : isIn (num x) m q n.val ↔ isIn (num x + 1) m q n.val := by unfold isIn; omega
      simp only [this])
  have e1 : inC (F := F) R0 c (num x) m q (num x - 6) = pieceAt R0 c (blk x.2 c (hop x.1 - 1)) (part x.1) := by
    unfold inC; rw [if_pos (by unfold isIn; omega), er, ep, es]
  have e2 : inC (F := F) R0 c (num x + 1) m q (num x - 6) = iprop(emp) := by
    unfold inC; rw [if_neg (by unfold isIn; omega)]
  rw [e1, e2] at hin
  have hdue := bigSep_univ_update (Φ := fun n : Fin 24 => dueC (F := F) c (num x) m n.val) (Ψ := fun n => dueC c (num x + 1) m n.val)
    ⟨num x - 6, by omega⟩ (fun n hn => by
      have hne : n.val ≠ num x - 6 := fun h => hn (Fin.ext h)
      unfold dueC
      have : isDue (num x) m n.val ↔ isDue (num x + 1) m n.val := by unfold isDue; omega
      simp only [this])
  have e3 : dueC (F := F) c (num x) m (num x - 6) = anyPiece (pr x.2 c) (blk x.2 c (hop x.1 - 1)) (part x.1) := by
    unfold dueC; rw [if_pos (by unfold isDue; omega), er, ep, es]
  have e4 : dueC (F := F) c (num x + 1) m (num x - 6) = iprop(emp) := by
    unfold dueC; rw [if_neg (by unfold isDue; omega)]
  rw [e3, e4] at hdue
  have hgive : (bigSep Finset.univ fun n : Fin 8 => giveC (F := F) c (num x) n.val)
      ⊢ iprop(gift c x.2 x.1 ∗ bigSep Finset.univ fun n : Fin 8 => giveC c (num x + 1) n.val) := by
    by_cases h7 : x.1.val < 7
    · have h := bigSep_univ_update (Φ := fun n : Fin 8 => giveC (F := F) c (num x) n.val) (Ψ := fun n => giveC c (num x + 1) n.val)
        ⟨num x - 6, by omega⟩ (fun n hn => by
          have hne : n.val ≠ num x - 6 := fun h => hn (Fin.ext h)
          unfold giveC
          have : num x ≤ n.val + 6 ↔ num x + 1 ≤ n.val + 6 := by omega
          simp only [this])
      have e5 : giveC (F := F) c (num x) (num x - 6) = gift c x.2 x.1 := by
        unfold giveC gift; rw [if_pos (by omega), er, ep, if_neg (by omega), if_pos (by omega)]
      have e6 : giveC (F := F) c (num x + 1) (num x - 6) = iprop(emp) := by
        unfold giveC; rw [if_neg (by omega)]
      rw [e5, e6] at h
      iintro H
      ihave H' := h $$ H
      icases H' with ⟨Hg, Hk⟩
      isplitl [Hg]; · iexact Hg
      iapply Hk
      iempintro
    · have e : (fun n : Fin 8 => giveC (F := F) c (num x) n.val) = fun n => giveC c (num x + 1) n.val := by
        funext n; unfold giveC
        have : num x ≤ n.val + 6 ↔ num x + 1 ≤ n.val + 6 := by omega
        simp only [this]
      have e5 : gift (F := F) c x.2 x.1 = iprop(emp) := by
        unfold gift; rw [if_neg (by omega), if_neg (by omega)]
      rw [e, e5]
      iintro H
      isplitr; · iempintro
      iexact H
  unfold AG
  iintro ⟨#Hctx, Hc, Hin, Hg, Hd⟩ Hk
  ihave Hin' := hin $$ Hin
  icases Hin' with ⟨Hp, Hin⟩
  ihave Hd' := hdue $$ Hd
  icases Hd' with ⟨Ht, Hd⟩
  ihave Hg' := hgive $$ Hg
  icases Hg' with ⟨Hgf, Hg⟩
  unfold pieceAt anyPiece
  iapply (step_send Acc R0 K c x hq hS hV hd (by unfold amt; rw [if_neg (by omega)]; rfl)
    (fun j => R0 ((pieceR (blk x.2 c (hop x.1 - 1)) (part x.1)).emb j)) (gift c x.2 x.1)
    (by unfold sPay; rw [if_neg (by omega)]; exact .rfl) (ag_arrives Acc R0 c x hx)) $$ [Hc Hp Ht Hgf]
  · isplitr; · iexact Hctx
    isplitl [Hc]; · iexact Hc
    isplitl [Hp]; · iexact Hp
    isplitl [Ht]
    · iexact Ht
    iexact Hgf
  iintro Hc
  iapply Hk
  isplitl [Hc]; · iexact Hc
  isplitl [Hin]; · iapply Hin; iempintro
  isplitl [Hg]; · iexact Hg
  iapply Hd; iempintro

theorem ag_recv (c : Dev nD) (x : Fin 15 × Fin 2) {k q : ℕ}
    (hk : 3 ≤ x.1.val ∧ 2 * x.1.val + 2 ≤ k ∧ k ≤ num x + 8 ∧ (7 ≤ x.1.val ∨ k ≤ 22) ∧ q ≤ num x)
    {sh : Shape} {src dst : Memref sig .tc .vmem sh .f32}
    {sV : DmaSem sig} (hV : sV = recvS x.2 x.1) {hsrc : src.view.WordExact} {hdst : dst.view.WordExact}
    (hN : dst.view.dmaCredit = NPiece)
    {α : Type} {kk : PUnit → Prog (TpuEff nD τ sig (Elt F) Λ₀ .tc) α} {Q : α → sProp 𝕄} :
    iprop(ctx Acc R0 K c ∗ AG R0 c k (num x) q)
      ⊢ iprop((AG R0 c k (num x + 1) q -∗ Wc c (kk ⟨⟩) Q)
          -∗ Wc c (.op (.waitDma2 sV src dst hsrc hdst) kk) Q) := by
  obtain ⟨hx, hk1, hk2, h22, hq⟩ := hk
  have hnum : num x = 2 * x.1.val + x.2.val := rfl
  have h30 : num x < 30 := by have := x.1.isLt; have := x.2.isLt; omega
  have er := (rOf_arr x).resolve_right (by omega)
  have ep := (pOf_arr x).resolve_right (by omega)
  have es := (sOf_arr x).resolve_right (by omega)
  have hin := bigSep_univ_update (Φ := fun n : Fin 32 => inC (F := F) R0 c k (num x) q n.val) (Ψ := fun n => inC R0 c k (num x + 1) q n.val)
    ⟨num x + 2, by omega⟩ (fun n hn => by
      have hne : n.val ≠ num x + 2 := fun h => hn (Fin.ext h)
      unfold inC
      have : isIn k (num x) q n.val ↔ isIn k (num x + 1) q n.val := by unfold isIn; omega
      simp only [this])
  have e1 : inC (F := F) R0 c k (num x) q (num x + 2) = iprop(emp) := by
    unfold inC; rw [if_neg (by unfold isIn; omega)]
  have e2 : inC (F := F) R0 c k (num x + 1) q (num x + 2) = pieceAt R0 c (blk x.2 c (hop x.1)) (part x.1) := by
    unfold inC; rw [if_pos (by unfold isIn; omega), er, ep, es]
  rw [e1, e2] at hin
  have hdue : iprop((bigSep Finset.univ fun n : Fin 24 => dueC (F := F) c k (num x) n.val) ∗ gift (sr x.2 c) x.2 x.1)
      ⊢ bigSep Finset.univ fun n : Fin 24 => dueC (F := F) c k (num x + 1) n.val := by
    by_cases h7 : x.1.val < 7
    · have edn : dn x = 16 + (num x - 6) / 2 * 2 + (num x + 1) % 2 := rfl
      have fr := (rOf_dn x).resolve_right (by omega)
      have fp := (pOf_dn x).resolve_right (by omega)
      have fs := (sOf_dn x).resolve_right (by omega)
      have h := bigSep_univ_update (Φ := fun n : Fin 24 => dueC (F := F) c k (num x) n.val) (Ψ := fun n => dueC c k (num x + 1) n.val)
        ⟨dn x, by omega⟩ (fun n hn => by
          have hne : n.val ≠ dn x := fun h => hn (Fin.ext h)
          unfold dueC
          have : isDue k (num x) n.val ↔ isDue k (num x + 1) n.val := by unfold isDue; omega
          simp only [this])
      have e5 : dueC (F := F) c k (num x + 1) (dn x) = gift (sr x.2 c) x.2 x.1 := by
        have eb : blk (ot x.2) c 1 = blk (ot x.2) (sr x.2 c) 2 := by
          rw [← pr_ot]; exact (blk_pr (ot x.2) c 1).symm
        unfold dueC gift
        rw [if_pos (by unfold isDue; omega), fr, fp, fs, if_neg (by omega), if_pos (by omega), pr_ot, eb]
      have e6 : dueC (F := F) c k (num x) (dn x) = iprop(emp) := by
        unfold dueC; rw [if_neg (by unfold isDue; omega)]
      rw [e5, e6] at h
      iintro ⟨H, Hg⟩
      ihave H' := h $$ H
      icases H' with ⟨-, Hk⟩
      iapply Hk
      iexact Hg
    · have e : (fun n : Fin 24 => dueC (F := F) c k (num x) n.val) = fun n => dueC c k (num x + 1) n.val := by
        funext n; unfold dueC
        have : isDue k (num x) n.val ↔ isDue k (num x + 1) n.val := by unfold isDue; omega
        simp only [this]
      rw [e]
      iintro ⟨H, -⟩
      iexact H
  unfold AG
  iintro ⟨#Hctx, Hc, Hin, Hg, Hd⟩ Hk
  iapply (step_recv Acc R0 K c x (by omega) hV (by unfold amt; rw [if_neg (by omega)]; exact hN)) $$ [Hc]
  · isplitr; · iexact Hctx
    iexact Hc
  unfold rPay
  rw [if_neg (by omega)]
  iintro ⟨Hc, Hp, Hgf⟩
  ihave Hin' := hin $$ Hin
  icases Hin' with ⟨-, Hin⟩
  iapply Hk
  isplitl [Hc]; · iexact Hc
  isplitl [Hin Hp]; · iapply Hin; iexact Hp
  isplitl [Hg]; · iexact Hg
  iapply hdue; isplitl [Hd] <;> iassumption

theorem ag_swait (c : Dev nD) (x : Fin 15 × Fin 2) {k m : ℕ} (hk : 3 ≤ x.1.val ∧ num x < k ∧ num x < m + 8)
    {sh : Shape} {src dst : Memref sig .tc .vmem sh .f32}
    {sS : DmaSem sig} (hS : sS = sendS x.2 x.1) {hsrc : src.view.WordExact} {hdst : dst.view.WordExact}
    (hN : dst.view.dmaCredit = NPiece)
    {α : Type} {kk : PUnit → Prog (TpuEff nD τ sig (Elt F) Λ₀ .tc) α} {Q : α → sProp 𝕄} :
    iprop(ctx Acc R0 K c ∗ AG R0 c k m (num x))
      ⊢ iprop((AG R0 c k m (num x + 1) -∗ Wc c (kk ⟨⟩) Q)
          -∗ Wc c (.op (.waitDma2 sS src dst hsrc hdst) kk) Q) := by
  obtain ⟨hx, hk, hm⟩ := hk
  have hnum : num x = 2 * x.1.val + x.2.val := rfl
  have h30 : num x < 30 := by have := x.1.isLt; have := x.2.isLt; omega
  have er := (rOf_num x).resolve_right (by omega)
  have ep := (pOf_num x).resolve_right (by omega)
  have es := (sOf_num x).resolve_right (by omega)
  have hin := bigSep_univ_update (Φ := fun n : Fin 32 => inC (F := F) R0 c k m (num x) n.val) (Ψ := fun n => inC R0 c k m (num x + 1) n.val)
    ⟨num x - 6, by omega⟩ (fun n hn => by
      have hne : n.val ≠ num x - 6 := fun h => hn (Fin.ext h)
      unfold inC
      have : isIn k m (num x) n.val ↔ isIn k m (num x + 1) n.val := by unfold isIn; omega
      simp only [this])
  have e1 : inC (F := F) R0 c k m (num x) (num x - 6) = iprop(emp) := by
    unfold inC; rw [if_neg (by unfold isIn; omega)]
  have e2 : inC (F := F) R0 c k m (num x + 1) (num x - 6) = pieceAt R0 c (blk x.2 c (hop x.1 - 1)) (part x.1) := by
    unfold inC; rw [if_pos (by unfold isIn; omega), er, ep, es]
  rw [e1, e2] at hin
  unfold AG
  iintro ⟨#Hctx, Hc, Hin, Hg, Hd⟩ Hk
  iapply (step_swait Acc R0 K c x hk hS (by unfold amt; rw [if_neg (by omega)]; exact hN)) $$ [Hc]
  · isplitr; · iexact Hctx
    iexact Hc
  unfold sPay
  rw [if_neg (by omega)]
  iintro ⟨Hc, Hp⟩
  ihave Hin' := hin $$ Hin
  icases Hin' with ⟨-, Hin⟩
  iapply Hk
  isplitl [Hc]; · iexact Hc
  isplitl [Hin Hp]; · iapply Hin; iexact Hp
  isplitl [Hg] <;> iassumption

/-! ## The same, with the counts given -/

theorem ag_send_at (c : Dev nD) (x : Fin 15 × Fin 2) (n n' m q : ℕ)
    (hq : n = num x ∧ n' = num x + 1 ∧ 3 ≤ x.1.val ∧ q ≤ num x ∧ num x < m + 8 ∧ (x.1.val < 11 ∨ 14 ≤ m))
    {off : Fin 2 → ℕ} {inb : ∀ a, off a + S256x512.size a ≤ S2048x2048.size a} (b : Fin 8) (hb : b = blk x.2 c (hop x.1 - 1)) (o : ℕ)
    (ho : o = 512 * (part x.1).val) (hoff : off = ![256 * b.val, o])
    {hsc : (pieceO off inb).view.ref.isScScratch = false} {sS sV : DmaSem sig} (hS : sS = sendS x.2 x.1) (hV : sV = recvS x.2 x.1)
    {d : Dev nD} (hd : d = pr x.2 c) {hsrc : (pieceO off inb).view.WordExact} {hdst : (pieceO off inb).view.WordExact}
    {hsem : DmaTarget.Typed (nD := nD) (τ := τ) (.vmem) (.dma sV) (.remote (Dev.tc d) (pieceO off inb) (.dma sS) hsc)}
    {α : Type} {k : PUnit → Prog (TpuEff nD τ sig (Elt F) Λ₀ .tc) α} {Q : α → sProp 𝕄} :
    iprop(ctx Acc R0 K c ∗ AG R0 c n m q)
      ⊢ iprop((AG R0 c n' m q -∗ Wc c (k ⟨⟩) Q)
          -∗ Wc c (.op (.enqueueDma (pieceO off inb) (.remote (Dev.tc d) (pieceO off inb) (.dma sS) hsc) (.dma sV) hsrc hdst hsem) k) Q) := by
  obtain ⟨rfl, rfl, hq⟩ := hq
  subst hb; subst ho
  exact ag_send Acc R0 K c x hq hoff hS hV hd

theorem ag_recv_at (c : Dev nD) (x : Fin 15 × Fin 2) (k m m' q : ℕ)
    (hk : m = num x ∧ m' = num x + 1 ∧ 3 ≤ x.1.val ∧ 2 * x.1.val + 2 ≤ k ∧ k ≤ num x + 8 ∧ (7 ≤ x.1.val ∨ k ≤ 22) ∧ q ≤ num x)
    {off : Fin 2 → ℕ} {inb : ∀ a, off a + S256x512.size a ≤ S2048x2048.size a}
    {sV : DmaSem sig} (hV : sV = recvS x.2 x.1) {hsrc : (pieceO off inb).view.WordExact} {hdst : (pieceO off inb).view.WordExact}
    {α : Type} {kk : PUnit → Prog (TpuEff nD τ sig (Elt F) Λ₀ .tc) α} {Q : α → sProp 𝕄} :
    iprop(ctx Acc R0 K c ∗ AG R0 c k m q)
      ⊢ iprop((AG R0 c k m' q -∗ Wc c (kk ⟨⟩) Q)
          -∗ Wc c (.op (.waitDma2 sV (pieceO off inb) (pieceO off inb) hsrc hdst) kk) Q) := by
  obtain ⟨rfl, rfl, hk⟩ := hk
  exact ag_recv Acc R0 K c x (src := pieceO off inb) (dst := pieceO off inb) hk hV rfl

theorem ag_swait_at (c : Dev nD) (x : Fin 15 × Fin 2) (k m q q' : ℕ) (hk : q = num x ∧ q' = num x + 1 ∧ 3 ≤ x.1.val ∧ num x < k ∧ num x < m + 8)
    {off : Fin 2 → ℕ} {inb : ∀ a, off a + S256x512.size a ≤ S2048x2048.size a}
    {sS : DmaSem sig} (hS : sS = sendS x.2 x.1) {hsrc : (pieceO off inb).view.WordExact} {hdst : (pieceO off inb).view.WordExact}
    {α : Type} {kk : PUnit → Prog (TpuEff nD τ sig (Elt F) Λ₀ .tc) α} {Q : α → sProp 𝕄} :
    iprop(ctx Acc R0 K c ∗ AG R0 c k m q)
      ⊢ iprop((AG R0 c k m q' -∗ Wc c (kk ⟨⟩) Q)
          -∗ Wc c (.op (.waitDma2 sS (pieceO off inb) (pieceO off inb) hsrc hdst) kk) Q) := by
  obtain ⟨rfl, rfl, hk⟩ := hk
  exact ag_swait Acc R0 K c x (src := pieceO off inb) (dst := pieceO off inb) hk hS rfl

end Cert.FusedProof
-- ==== Proof.Rs.lean ====
/-
  The reduction's steps: the barrier with both neighbours, the sends of whole rows, and their waits.
-/
module

public import proofs.«01_k».proof.Proof.Ag

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

/-- A row block of the result and a landing slot at whatever offsets denote them. -/
abbrev rowO (off : Fin 2 → ℕ) (inb : ∀ a, off a + S256x2048.size a ≤ S2048x2048.size a) : Memref sig .tc .vmem S256x2048 .f32 :=
  outM.slice (Rect.unit (s := S2048x2048) off S256x2048.size inb) (fun _ => rfl)
abbrev slotO (off : Fin 4 → ℕ) (inb : ∀ a, off a + S1x1x256x2048.size a ≤ S2x3x256x2048.size a) : Memref sig .tc .vmem S256x2048 .f32 :=
  (tmpM.slice (Rect.unit (s := S2x3x256x2048) off S1x1x256x2048.size inb) (fun _ => rfl)).squeeze S256x2048 squeezes_S1x1x256x2048_S256x2048

/-- Send `i` of ring `r` of the reduction. -/
theorem rs_send (c : Dev nD) (r : Fin 2) (i : Fin 15) (s : Fin 4) (l : Fin 3) (n n' m q : ℕ)
    (h : n = num (i, r) ∧ n' = n + 1 ∧ i.val < 3 ∧ q ≤ n ∧ s = stp i ∧ l = slt i)
    {off : Fin 2 → ℕ} {inb : ∀ a, off a + S256x2048.size a ≤ S2048x2048.size a} (hoff : off = ![256 * (blk r c s).val, 0])
    {off' : Fin 4 → ℕ} {inb' : ∀ a, off' a + S1x1x256x2048.size a ≤ S2x3x256x2048.size a} (hoff' : off' = ![r.val, l.val, 0, 0])
    {hsc : (slotO off' inb').view.ref.isScScratch = false} {sS sV : DmaSem sig} (hS : sS = sendS r i) (hV : sV = recvS r i)
    {d : Dev nD} (hd : d = pr r c) {hsrc : (rowO off inb).view.WordExact} {hdst : (slotO off' inb').view.WordExact}
    {hsem : DmaTarget.Typed (nD := nD) (τ := τ) (.vmem) (.dma sV) (.remote (Dev.tc d) (slotO off' inb') (.dma sS) hsc)}
    {α : Type} {k : PUnit → Prog (TpuEff nD τ sig (Elt F) Λ₀ .tc) α} {Q : α → sProp 𝕄} :
    iprop(ctx Acc R0 K c ∗ cells c n m q ∗ owns (c : Thread nD τ) (rowM (blk r c s)) fullShare (Acc r s c)
        ∗ anySlot (pr r c) r l ∗ gift c r i)
      ⊢ iprop((cells c n' m q -∗ Wc c (k ⟨⟩) Q)
          -∗ Wc c (.op (.enqueueDma (rowO off inb) (.remote (Dev.tc d) (slotO off' inb') (.dma sS) hsc) (.dma sV) hsrc hdst hsem) k) Q) := by
  obtain ⟨rfl, rfl, hi, hq, rfl, rfl⟩ := h
  subst hoff; subst hoff'
  unfold anySlot
  exact step_send Acc R0 K c (i, r) hq hS hV hd (by unfold amt; rw [if_pos hi]) (Acc r (stp i) c) (gift c r i)
    (by unfold sPay; rw [if_pos hi]) (by unfold rPay; rw [if_pos hi, sr_pr])

/-- Awaiting arrival `i` of ring `r` of the reduction. -/
theorem rs_recv (c : Dev nD) (r : Fin 2) (i : Fin 15) (s : Fin 4) (l : Fin 3) (k m m' q : ℕ)
    (h : m = num (i, r) ∧ m' = m + 1 ∧ i.val < 3 ∧ 2 * i.val + 2 ≤ k ∧ s = stp i ∧ l = slt i)
    {off' : Fin 4 → ℕ} {inb' : ∀ a, off' a + S1x1x256x2048.size a ≤ S2x3x256x2048.size a} {src : Memref sig .tc .vmem S256x2048 .f32}
    {sV : DmaSem sig} (hV : sV = recvS r i) {hsrc : src.view.WordExact} {hdst : (slotO off' inb').view.WordExact}
    {α : Type} {kk : PUnit → Prog (TpuEff nD τ sig (Elt F) Λ₀ .tc) α} {Q : α → sProp 𝕄} :
    iprop(ctx Acc R0 K c ∗ cells c k m q)
      ⊢ iprop((cells c k m' q ∗ owns (c : Thread nD τ) (slotM r l) fullShare (Acc r s (sr r c)) ∗ gift (sr r c) r i -∗ Wc c (kk ⟨⟩) Q)
          -∗ Wc c (.op (.waitDma2 sV src (slotO off' inb') hsrc hdst) kk) Q) := by
  obtain ⟨rfl, rfl, hi, hk, rfl, rfl⟩ := h
  have h := step_recv Acc R0 K c (i, r) (q := q) hk (src := src) (dst := slotO off' inb') (hsrc := hsrc) (hdst := hdst) hV
    (show (slotO off' inb').view.dmaCredit = amt i by unfold amt; rw [if_pos hi]) (kk := kk) (Q := Q)
  unfold rPay at h
  rw [if_pos hi] at h
  exact h

/-- Awaiting departure `i` of ring `r` of the reduction. -/
theorem rs_swait (c : Dev nD) (r : Fin 2) (i : Fin 15) (s : Fin 4) (k m q q' : ℕ)
    (h : q = num (i, r) ∧ q' = q + 1 ∧ i.val < 3 ∧ q < k ∧ s = stp i)
    {off : Fin 2 → ℕ} {inb : ∀ a, off a + S256x2048.size a ≤ S2048x2048.size a} {src : Memref sig .tc .vmem S256x2048 .f32}
    {sS : DmaSem sig} (hS : sS = sendS r i) {hsrc : src.view.WordExact} {hdst : (rowO off inb).view.WordExact}
    {α : Type} {kk : PUnit → Prog (TpuEff nD τ sig (Elt F) Λ₀ .tc) α} {Q : α → sProp 𝕄} :
    iprop(ctx Acc R0 K c ∗ cells c k m q)
      ⊢ iprop((cells c k m q' ∗ owns (c : Thread nD τ) (rowM (blk r c s)) fullShare (Acc r s c) -∗ Wc c (kk ⟨⟩) Q)
          -∗ Wc c (.op (.waitDma2 sS src (rowO off inb) hsrc hdst) kk) Q) := by
  obtain ⟨rfl, rfl, hi, hk, rfl⟩ := h
  have h := step_swait Acc R0 K c (i, r) (m := m) hk (src := src) (dst := rowO off inb) (hsrc := hsrc) (hdst := hdst) hS
    (show (rowO off inb).view.dmaCredit = amt i by unfold amt; rw [if_pos hi]) (kk := kk) (Q := Q)
  unfold sPay at h
  rw [if_pos hi] at h
  exact h

/-! ## The barrier -/

/-- What is known before the barrier. -/
def ctx0 (c : Dev nD) : sProp 𝕄 :=
  iprop(Inv Acc R0 K ∗ levAts L lv ∗ (bigSep Finset.univ fun x : Fin 15 × Fin 2 => reached ET (sendC c x.2 x.1) 0)
    ∗ (bigSep Finset.univ fun i : Fin 15 => reached ET (recvC c 0 i) 0) ∗ (bigSep Finset.univ fun i : Fin 15 => reached ET (recvC c 1 i) 0)
    ∗ reached ET (barC (prv c)) 0 ∗ reached ET (barC (nxt c)) 0)

instance ctx0_persistent (c : Dev nD) : BI.Persistent (ctx0 (F := F) Acc R0 K c) := by unfold ctx0; infer_instance

theorem ctx0_inv (c : Dev nD) : ctx0 (F := F) Acc R0 K c ⊢ Inv Acc R0 K := by unfold ctx0; iintro ⟨H, -⟩; iexact H
theorem ctx0_bar (c d : Dev nD) : ctx0 (F := F) Acc R0 K c ⊢ cellInv ET (Rd Acc R0) (K (barC d)) (barC d) :=
  (ctx0_inv Acc R0 K c).trans (inv_at Acc R0 K (barC d) (bar_mem d))

/-- What is owed and held for the barrier. -/
def barSt (c : Dev nD) : sProp 𝕄 :=
  iprop((∃ W, owes (c : Thread nD τ) (Ob c) W) ∗ dutyTok ET (barC (prv c)) 0 true ∗ dutyTok ET (barC (nxt c)) 0 false
    ∗ atPos ET (barC c) 0 ∅ 0 ∗ cred (tallyAt (barC c) () 2)
    ∗ (bigSep Finset.univ fun i : Fin 3 => anySlot c 0 i) ∗ bigSep Finset.univ fun i : Fin 3 => anySlot c 1 i)

/-- What the barrier gives. -/
def barEnd (c : Dev nD) : sProp 𝕄 :=
  iprop((∃ W, owes (c : Thread nD τ) (Ow c 0) W) ∗ semVal (barC c) 0
    ∗ (bigSep Finset.univ fun i : Fin 3 => anySlot (pr 0 c) 0 i) ∗ bigSep Finset.univ fun i : Fin 3 => anySlot (pr 1 c) 1 i)

theorem one_toInt : (1#32 : BitVec 32).toInt = ((1 : ℕ) : ℤ) := by decide
theorem two_toInt : (2#32 : BitVec 32).toInt = ((2 : ℕ) : ℤ) := by decide

theorem reached_pairs (c : Dev nD) :
    iprop((bigSep Finset.univ fun i : Fin 15 => reached ET (recvC (pr 0 c) 0 i) 0) ∗ bigSep Finset.univ fun i : Fin 15 => reached ET (recvC (pr 1 c) 1 i) 0)
      ⊢ (bigSep Finset.univ fun x : Fin 15 × Fin 2 => (reached ET (recvC (pr x.2 c) x.2 x.1) 0 : sProp 𝕄)) := by
  refine bigSep_intro_persistent fun x _ => ?_
  obtain ⟨i, r⟩ := x
  rw [bigSep_univ_at (fun i : Fin 15 => (reached ET (recvC (pr 0 c) 0 i) 0 : sProp 𝕄)) i,
    bigSep_univ_at (fun i : Fin 15 => (reached ET (recvC (pr 1 c) 1 i) 0 : sProp 𝕄)) i]
  iintro ⟨⟨H0, -⟩, H1, -⟩
  match r with
  | 0 => iexact H0
  | 1 => iexact H1

set_option maxHeartbeats 1000000 in
/-- The barrier: a signal to each neighbour, hands over the slots the neighbour writes; the wait brings the neighbours' slots. -/
theorem bar_step (c : Dev nD) {d1 d2 : Dev nD} (h1 : d1 = pr 1 c) (h2 : d2 = pr 0 c) {α : Type}
    {kk : PUnit → Prog (TpuEff nD τ sig (Elt F) Λ₀ .tc) α} {Q : α → sProp 𝕄} :
    iprop(ctx0 Acc R0 K c ∗ barSt c)
      ⊢ iprop((ctx Acc R0 K c ∗ barEnd c -∗ Wc c (kk ⟨⟩) Q)
          -∗ Wc c (.op (.semSignal (d1, .tc) barS.sem (1#32 : BitVec 32).toInt) fun _ => .op (.semSignal (d2, .tc) barS.sem (1#32 : BitVec 32).toInt) fun _ =>
              .op (.semWait barS.sem (2#32 : BitVec 32).toInt) kk) Q) := by
  subst h1; subst h2
  rw [one_toInt, two_toInt]
  unfold barSt
  iintro ⟨#Hctx, ⟨%W, Ho⟩, Ht1, Ht0, Hat, Hcr, Hs0, Hs1⟩ Hk
  ihave Hc := (show ctx0 (F := F) Acc R0 K c ⊢ _ from .rfl) $$ Hctx
  unfold ctx0
  icases Hc with ⟨#Hinv, #Hlev, #Hsend, #Hr0, #Hr1, #Hb1, #Hb0⟩
  have hp : prv c = pr 1 c := rfl
  have hn : nxt c = pr 0 c := rfl
  iapply (wp_signal 𝒱₀ ET (Rd Acc R0) (c : Thread nD τ) none (dst := (pr 1 c : Thread nD τ)) (sem := barS.sem) (r := 0) (d := true) (k' := 1) (κ := K (barC (pr 1 c)))
    (by rw [duties_bar]; exact Finset.mem_univ _) (amount_bar Acc R0 (pr 1 c) true) () (Ow c 0 + tallyAt (barC (nxt c)) () 1)
    (O₀ := Ob c) rfl (W := W)) $$ [Ho Ht1 Hs0]
  · isplitr; · iapply (inv_at Acc R0 K (barC (pr 1 c)) (bar_mem _)); iexact Hinv
    isplitl [Ho]; · iexact Ho
    isplitl [Ht1]; · iexact Ht1
    isplitl [Hs0]
    · rw [payload_bar]
      unfold bPay
      rw [if_pos rfl, show pr 0 (pr 1 c) = c from by rw [show (0 : Fin 2) = ot 1 from rfl, pr_ot, sr_pr]]
      isplitl [Hs0]; · iexact Hs0
      iexact Hr0
    · iexact Hb1
  iintro Ho
  iapply (wp_signal 𝒱₀ ET (Rd Acc R0) (c : Thread nD τ) none (dst := (pr 0 c : Thread nD τ)) (sem := barS.sem) (r := 0) (d := false) (k' := 1) (κ := K (barC (pr 0 c)))
    (by rw [duties_bar]; exact Finset.mem_univ _) (amount_bar Acc R0 (pr 0 c) false) () (Ow c 0)
    (O₀ := Ow c 0 + tallyAt (barC (nxt c)) () 1) rfl (W := W)) $$ [Ho Ht0 Hs1]
  · isplitr; · iapply (inv_at Acc R0 K (barC (pr 0 c)) (bar_mem _)); iexact Hinv
    isplitl [Ho]; · iexact Ho
    isplitl [Ht0]; · iexact Ht0
    isplitl [Hs1]
    · rw [payload_bar]
      unfold bPay
      rw [if_neg Bool.false_ne_true, show pr 1 (pr 0 c) = c from by rw [show (1 : Fin 2) = ot 0 from rfl, pr_ot, sr_pr]]
      isplitl [Hs1]; · iexact Hs1
      iexact Hr1
    · iexact Hb0
  iintro Ho
  iapply (wp_wait_rest_token 𝒱₀ ET (Rd Acc R0) (c : Thread nD τ) none (κ := K (barC c)) (sm := .reg barS.sem)
    (Es := Set.univ) (wpE_semWait_eq 𝒱₀ (c : Thread nD τ) none Set.univ) (Set.mem_univ _)
    (O := Ow c 0) (W := W) (R := 0) (m := 0) (T := ∅) () (by rw [expect_bar])) $$ [Hcr Hat Ho]
  · isplitr; · iapply (inv_at Acc R0 K (barC c) (bar_mem _)); iexact Hinv
    isplitl [Hcr]; · iexact Hcr
    isplitl [Ho]; · iexact Ho
    isplitr
    · iapply (mayWait_bar c); iexact Hlev
    · iexact Hat
  rw [rest_bar]
  unfold bPay
  iintro ⟨Ho, Hat, -, ⟨Hs1, #Hr1'⟩, Hs0, #Hr0'⟩
  imod (cell_close ET (Rd Acc R0) (Set.mem_univ (K (barC c))) (fun h => h) (R := 1) (fun r hr => duties_later Acc R0 _ r hr)) $$ [Hat] with Hv
  · isplitr; · iapply (inv_at Acc R0 K (barC c) (bar_mem _)); iexact Hinv
    iexact Hat
  iapply Hk
  isplitr
  · unfold ctx
    isplitr; · iexact Hinv
    isplitr; · iexact Hlev
    isplitr; · iexact Hsend
    iapply (reached_pairs c)
    isplitr; · iexact Hr0'
    iexact Hr1'
  unfold barEnd
  isplitl [Ho]; · iexists _; iexact Ho
  isplitl [Hv]; · iexact Hv
  isplitl [Hs0] <;> iassumption

end Cert.FusedProof
-- ==== Proof.RsParts.lean ====
/-
  The reduction, part of the body by part.
-/
module

public import proofs.«01_k».proof.Proof.Rs

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

/-- Adding what arrived to the device's own partial. -/
def accB (a y : S256x2048.Idx → Elt F .f32) : S256x2048.Idx → Elt F .f32 := addf (s := S256x2048) (φ := .f32) a y

theorem accB_of (a y : S256x2048.Idx → Elt F .f32) (v : S1x1x256x2048.Idx → Elt F .f32)
    (h : shapeCast S256x2048 v shapeCasts_S1x1x256x2048_S256x2048 = y) : k0_pay8 a v = accB a y := by
  subst h; rfl

/-- Part 1: the barrier, and the last addition into both rows of step 0. -/
theorem rs1 (c : Dev nD) (w : PosShare TreeShare) (i : grid0.Coords) (k0_h3 : k0_cond3 i = 1#1) (k0_h4 : k0_cond4 i = 1#1)
    {arg4 harg4 arg5 harg5 arg6 harg6 arg7 harg7 harg2 harg3 harg8 harg9} (v5 v8 : BitVec 32) (v28 v29 X0 X1 : S256x2048.Idx → Elt F .f32) {α : Type} {kk : _ → Prog (TpuEff nD τ sig (Elt F) Λ₀ .tc) α} {Q : α → sProp 𝕄} :
    iprop(ctx0 Acc R0 K c ∗ tabs c w ∗ barSt c ∗ owns (c : Thread nD τ) (rowM (blk 0 c 0)) fullShare X0 ∗ owns (c : Thread nD τ) (rowM (blk 1 c 0)) fullShare X1)
      ⊢ iprop((ctx Acc R0 K c ∗ tabs c w ∗ barEnd c ∗ owns (c : Thread nD τ) (rowM (blk 0 c 0)) fullShare (k0_pay1 v28 X0) ∗ owns (c : Thread nD τ) (rowM (blk 1 c 0)) fullShare (k0_pay1 v29 X1)
          -∗ Wc c (kk ⟨wd (blk 0 c 0), chk3 i (blk 0 c 0), wd (blk 1 c 0), chk4 i (blk 1 c 0)⟩) Q)
        -∗ Wc c (k0_part1 i (Memref.whole main_v8) harg2 (Memref.whole main_v13) harg3 arg4 harg4 arg5 harg5 arg6 harg6 arg7 harg7 outM harg8 tmpM harg9 cc0_scratch1 cc0_scratch2 c v5 v8 v28 v29 k0_h3 k0_h4 >>= kk) Q) := by
  rw [k0_part1_eq_skeleton]
  unfold k0_part1_skel
  simp only [semSignalWord, semWaitWord, Prog.lift, Prog.bind_op, Prog.bind_ret, Prog.pure_eq_ret, Prog.bind_assoc]
  iintro ⟨#Hctx0, Ht, Hb, H0, H1⟩ Hk
  iapply (tab0 c w 0 rfl) $$ Ht
  iintro Ht
  iapply (assume_of c (chk3 i (blk 0 c 0)))
  iapply (tab1 c w 0 rfl) $$ Ht
  iintro Ht
  iapply (assume_of c (chk4 i (blk 1 c 0)))
  iapply (bar_step Acc R0 K c (dev1 c) (dev2 c)) $$ [Hb]
  · isplitr; · iexact Hctx0
    iexact Hb
  iintro ⟨#Hctx, Hb⟩
  iapply (load_row c (blk 0 c 0) X0 (off7 (blk 0 c 0))) $$ H0
  iintro H0
  iapply (load_row c (blk 0 c 0) X0 (off7 (blk 0 c 0))) $$ H0
  iintro H0
  iapply (store_row c (blk 0 c 0) X0 _ (off7 (blk 0 c 0))) $$ H0
  iintro H0
  iapply (load_row c (blk 1 c 0) X1 (off8 (blk 1 c 0))) $$ H1
  iintro H1
  iapply (load_row c (blk 1 c 0) X1 (off8 (blk 1 c 0))) $$ H1
  iintro H1
  iapply (store_row c (blk 1 c 0) X1 _ (off8 (blk 1 c 0))) $$ H1
  iintro H1
  iapply Hk
  isplitr; · iexact Hctx
  isplitl [Ht]; · iexact Ht
  isplitl [Hb]; · iexact Hb
  isplitl [H0]; · iexact H0
  iexact H1

/-- Part 2: what arrived over ring 0 in step 0, and the rows sent then, are the device's. -/
theorem rs2 (c : Dev nD) (w : PosShare TreeShare) (i : grid0.Coords) (k0_h3 : k0_cond3 i = 1#1) (k0_h5 : k0_cond5 i = 1#1)
    {arg4 harg4 arg5 harg5 arg6 harg6 arg7 harg7 harg2 harg3 harg8 harg9} (v8 : BitVec 32) (v28 X0 : S256x2048.Idx → Elt F .f32) {α : Type} {kk : _ → Prog (TpuEff nD τ sig (Elt F) Λ₀ .tc) α} {Q : α → sProp 𝕄} :
    iprop(ctx Acc R0 K c ∗ tabs c w ∗ cells c 2 0 0 ∗ owns (c : Thread nD τ) (rowM (blk 0 c 1)) fullShare X0)
      ⊢ iprop((tabs c w ∗ cells c 2 1 1 ∗ owns (c : Thread nD τ) (rowM (blk 0 c 1)) fullShare X0 ∗ owns (c : Thread nD τ) (slotM 0 0) fullShare (Acc 0 0 (sr 0 c)) ∗ gift (sr 0 c) 0 0
            ∗ owns (c : Thread nD τ) (rowM (blk 0 c 0)) fullShare (Acc 0 0 c)
          -∗ Wc c (kk ⟨wd (blk 0 c 1), chk6 i (blk 0 c 1), Scalar.muli (wd (blk 0 c 1)) 256#32, wd (blk 1 c 1), chk8 i (blk 1 c 1), Scalar.muli (wd (blk 1 c 1)) 256#32, k0_pay1 v28 X0⟩) Q)
        -∗ Wc c (k0_part2 i (Memref.whole main_v8) harg2 (Memref.whole main_v13) harg3 arg4 harg4 arg5 harg5 arg6 harg6 arg7 harg7 outM harg8 tmpM harg9 cc0_scratch1 cc0_scratch2 v8 v28 k0_h3 k0_h5 >>= kk) Q) := by
  rw [k0_part2_eq_skeleton]
  unfold k0_part2_skel
  simp only [semSignalWord, semWaitWord, Prog.lift, Prog.bind_op, Prog.bind_ret, Prog.pure_eq_ret, Prog.bind_assoc]
  iintro ⟨#Hctx, Ht, Hc, H0⟩ Hk
  iapply (tab0 c w 1 rfl) $$ Ht
  iintro Ht
  iapply (assume_of c (chk6 i (blk 0 c 1)))
  iapply (tab1 c w 1 rfl) $$ Ht
  iintro Ht
  iapply (assume_of c (chk8 i (blk 1 c 1)))
  iapply (tab0 c w 0 rfl) $$ Ht
  iintro Ht
  iapply (assume_of c (chk5 i (blk 0 c 0)))
  iapply (rs_recv Acc R0 K c 0 0 0 0 2 0 1 0 (by decide) rfl) $$ [Hc]
  · isplitr; · iexact Hctx
    iexact Hc
  iintro ⟨Hc, Hs, Hg⟩
  iapply (rs_swait Acc R0 K c 0 0 0 2 1 0 1 (by decide) rfl) $$ [Hc]
  · isplitr; · iexact Hctx
    iexact Hc
  iintro ⟨Hc, Hr⟩
  iapply (load_row c (blk 0 c 1) X0 (off12 (blk 0 c 1))) $$ H0
  iintro H0
  iapply Hk
  isplitl [Ht]; · iexact Ht
  isplitl [Hc]; · iexact Hc
  isplitl [H0]; · iexact H0
  isplitl [Hs]; · iexact Hs
  isplitl [Hg]; · iexact Hg
  iexact Hr

/-- Part 3: the arrived rows are added on ring 0; ring 1's are awaited. -/
theorem rs3 (c : Dev nD) (w : PosShare TreeShare) (i : grid0.Coords) (k0_h3 : k0_cond3 i = 1#1) (k0_h5 : k0_cond5 i = 1#1)
    {arg4 harg4 arg5 harg5 arg6 harg6 arg7 harg7 harg2 harg3 harg8 harg9} (v5 v54 v56 : BitVec 32) (v29 v75 X0 X1 Y : S256x2048.Idx → Elt F .f32)
    (hw6 : k0_chk6 i (wd (blk 0 c 1))) (hw8 : k0_chk8 i (wd (blk 1 c 1))) {α : Type} {kk : _ → Prog (TpuEff nD τ sig (Elt F) Λ₀ .tc) α} {Q : α → sProp 𝕄} :
    iprop(ctx Acc R0 K c ∗ tabs c w ∗ cells c 2 1 1 ∗ owns (c : Thread nD τ) (rowM (blk 0 c 1)) fullShare X0 ∗ owns (c : Thread nD τ) (slotM 0 0) fullShare Y ∗ owns (c : Thread nD τ) (rowM (blk 1 c 1)) fullShare X1)
      ⊢ iprop((tabs c w ∗ cells c 2 2 2 ∗ owns (c : Thread nD τ) (rowM (blk 0 c 1)) fullShare (accB v75 Y) ∗ owns (c : Thread nD τ) (slotM 0 0) fullShare Y ∗ owns (c : Thread nD τ) (rowM (blk 1 c 1)) fullShare X1
            ∗ owns (c : Thread nD τ) (slotM 1 0) fullShare (Acc 1 0 (sr 1 c)) ∗ gift (sr 1 c) 1 0 ∗ owns (c : Thread nD τ) (rowM (blk 1 c 0)) fullShare (Acc 1 0 c)
          -∗ Wc c (kk (k0_pay1 v29 X1)) Q)
        -∗ Wc c (k0_part3 i (Memref.whole main_v8) harg2 (Memref.whole main_v13) harg3 arg4 harg4 arg5 harg5 arg6 harg6 arg7 harg7 outM harg8 tmpM harg9 cc0_scratch1 cc0_scratch2 v5 v29 k0_h3 k0_h5 (wd (blk 0 c 1)) hw6 v54 (wd (blk 1 c 1)) hw8 v56 v75 >>= kk) Q) := by
  rw [k0_part3_eq_skeleton]
  unfold k0_part3_skel
  simp only [semSignalWord, semWaitWord, Prog.lift, Prog.bind_op, Prog.bind_ret, Prog.pure_eq_ret, Prog.bind_assoc]
  iintro ⟨#Hctx, Ht, Hc, H0, Hs0, H1⟩ Hk
  iapply (load_slot c 0 0 Y rfl) $$ Hs0
  iintro Hs0 %v %hv
  iapply (load_row c (blk 0 c 1) X0 (off12 (blk 0 c 1))) $$ H0
  iintro H0
  iapply (store_row c (blk 0 c 1) X0 _ (off12 (blk 0 c 1))) $$ H0
  iintro H0
  rw [show k0_pay8 v75 v = accB v75 Y from accB_of v75 Y v hv]
  iapply (tab1 c w 0 rfl) $$ Ht
  iintro Ht
  iapply (assume_of c (chk7 i (blk 1 c 0)))
  iapply (rs_recv Acc R0 K c 1 0 0 0 2 1 2 1 (by decide) rfl) $$ [Hc]
  · isplitr; · iexact Hctx
    iexact Hc
  iintro ⟨Hc, Hs, Hg⟩
  iapply (rs_swait Acc R0 K c 1 0 0 2 2 1 2 (by decide) rfl) $$ [Hc]
  · isplitr; · iexact Hctx
    iexact Hc
  iintro ⟨Hc, Hr⟩
  iapply (load_row c (blk 1 c 1) X1 (off14 (blk 1 c 1))) $$ H1
  iintro H1
  iapply Hk
  isplitl [Ht]; · iexact Ht
  isplitl [Hc]; · iexact Hc
  isplitl [H0]; · iexact H0
  isplitl [Hs0]; · iexact Hs0
  isplitl [H1]; · iexact H1
  isplitl [Hs]; · iexact Hs
  isplitl [Hg]; · iexact Hg
  iexact Hr

/-- Part 4: what arrived over ring 0 in step 1, and the rows sent then, are the device's. -/
theorem rs4 (c : Dev nD) (w : PosShare TreeShare) (i : grid0.Coords) (k0_h3 : k0_cond3 i = 1#1) (k0_h6 : k0_cond6 i = 1#1)
    {arg4 harg4 arg5 harg5 arg6 harg6 arg7 harg7 harg2 harg3 harg8 harg9} (v8 : BitVec 32) (v28 X0 : S256x2048.Idx → Elt F .f32) {α : Type} {kk : _ → Prog (TpuEff nD τ sig (Elt F) Λ₀ .tc) α} {Q : α → sProp 𝕄} :
    iprop(ctx Acc R0 K c ∗ tabs c w ∗ cells c 4 2 2 ∗ owns (c : Thread nD τ) (rowM (blk 0 c 2)) fullShare X0)
      ⊢ iprop((tabs c w ∗ cells c 4 3 3 ∗ owns (c : Thread nD τ) (rowM (blk 0 c 2)) fullShare X0 ∗ owns (c : Thread nD τ) (slotM 0 1) fullShare (Acc 0 1 (sr 0 c)) ∗ gift (sr 0 c) 0 1
            ∗ owns (c : Thread nD τ) (rowM (blk 0 c 1)) fullShare (Acc 0 1 c)
          -∗ Wc c (kk ⟨wd (blk 0 c 2), chk10 i (blk 0 c 2), Scalar.muli (wd (blk 0 c 2)) 256#32, wd (blk 1 c 2), chk12 i (blk 1 c 2), Scalar.muli (wd (blk 1 c 2)) 256#32, k0_pay1 v28 X0⟩) Q)
        -∗ Wc c (k0_part4 i (Memref.whole main_v8) harg2 (Memref.whole main_v13) harg3 arg4 harg4 arg5 harg5 arg6 harg6 arg7 harg7 outM harg8 tmpM harg9 cc0_scratch1 cc0_scratch2 v8 v28 k0_h3 k0_h6 >>= kk) Q) := by
  rw [k0_part4_eq_skeleton]
  unfold k0_part4_skel
  simp only [semSignalWord, semWaitWord, Prog.lift, Prog.bind_op, Prog.bind_ret, Prog.pure_eq_ret, Prog.bind_assoc]
  iintro ⟨#Hctx, Ht, Hc, H0⟩ Hk
  iapply (tab0 c w 2 rfl) $$ Ht
  iintro Ht
  iapply (assume_of c (chk10 i (blk 0 c 2)))
  iapply (tab1 c w 2 rfl) $$ Ht
  iintro Ht
  iapply (assume_of c (chk12 i (blk 1 c 2)))
  iapply (tab0 c w 1 rfl) $$ Ht
  iintro Ht
  iapply (assume_of c (chk9 i (blk 0 c 1)))
  iapply (rs_recv Acc R0 K c 0 1 1 1 4 2 3 2 (by decide) rfl) $$ [Hc]
  · isplitr; · iexact Hctx
    iexact Hc
  iintro ⟨Hc, Hs, Hg⟩
  iapply (rs_swait Acc R0 K c 0 1 1 4 3 2 3 (by decide) rfl) $$ [Hc]
  · isplitr; · iexact Hctx
    iexact Hc
  iintro ⟨Hc, Hr⟩
  iapply (load_row c (blk 0 c 2) X0 (off18 (blk 0 c 2))) $$ H0
  iintro H0
  iapply Hk
  isplitl [Ht]; · iexact Ht
  isplitl [Hc]; · iexact Hc
  isplitl [H0]; · iexact H0
  isplitl [Hs]; · iexact Hs
  isplitl [Hg]; · iexact Hg
  iexact Hr

/-- Part 5: the arrived rows are added on ring 0; ring 1's are awaited. -/
theorem rs5 (c : Dev nD) (w : PosShare TreeShare) (i : grid0.Coords) (k0_h3 : k0_cond3 i = 1#1) (k0_h6 : k0_cond6 i = 1#1)
    {arg4 harg4 arg5 harg5 arg6 harg6 arg7 harg7 harg2 harg3 harg8 harg9} (v5 v54 v56 : BitVec 32) (v29 v75 X0 X1 Y : S256x2048.Idx → Elt F .f32)
    (hw10 : k0_chk10 i (wd (blk 0 c 2))) (hw12 : k0_chk12 i (wd (blk 1 c 2))) {α : Type} {kk : _ → Prog (TpuEff nD τ sig (Elt F) Λ₀ .tc) α} {Q : α → sProp 𝕄} :
    iprop(ctx Acc R0 K c ∗ tabs c w ∗ cells c 4 3 3 ∗ owns (c : Thread nD τ) (rowM (blk 0 c 2)) fullShare X0 ∗ owns (c : Thread nD τ) (slotM 0 1) fullShare Y ∗ owns (c : Thread nD τ) (rowM (blk 1 c 2)) fullShare X1)
      ⊢ iprop((tabs c w ∗ cells c 4 4 4 ∗ owns (c : Thread nD τ) (rowM (blk 0 c 2)) fullShare (accB v75 Y) ∗ owns (c : Thread nD τ) (slotM 0 1) fullShare Y ∗ owns (c : Thread nD τ) (rowM (blk 1 c 2)) fullShare X1
            ∗ owns (c : Thread nD τ) (slotM 1 1) fullShare (Acc 1 1 (sr 1 c)) ∗ gift (sr 1 c) 1 1 ∗ owns (c : Thread nD τ) (rowM (blk 1 c 1)) fullShare (Acc 1 1 c)
          -∗ Wc c (kk (k0_pay1 v29 X1)) Q)
        -∗ Wc c (k0_part5 i (Memref.whole main_v8) harg2 (Memref.whole main_v13) harg3 arg4 harg4 arg5 harg5 arg6 harg6 arg7 harg7 outM harg8 tmpM harg9 cc0_scratch1 cc0_scratch2 v5 v29 k0_h3 k0_h6 (wd (blk 0 c 2)) hw10 v54 (wd (blk 1 c 2)) hw12 v56 v75 >>= kk) Q) := by
  rw [k0_part5_eq_skeleton]
  unfold k0_part5_skel
  simp only [semSignalWord, semWaitWord, Prog.lift, Prog.bind_op, Prog.bind_ret, Prog.pure_eq_ret, Prog.bind_assoc]
  iintro ⟨#Hctx, Ht, Hc, H0, Hs0, H1⟩ Hk
  iapply (load_slot c 0 1 Y rfl) $$ Hs0
  iintro Hs0 %v %hv
  iapply (load_row c (blk 0 c 2) X0 (off18 (blk 0 c 2))) $$ H0
  iintro H0
  iapply (store_row c (blk 0 c 2) X0 _ (off18 (blk 0 c 2))) $$ H0
  iintro H0
  rw [show k0_pay11 v75 v = accB v75 Y from accB_of v75 Y v hv]
  iapply (tab1 c w 1 rfl) $$ Ht
  iintro Ht
  iapply (assume_of c (chk11 i (blk 1 c 1)))
  iapply (rs_recv Acc R0 K c 1 1 1 1 4 3 4 3 (by decide) rfl) $$ [Hc]
  · isplitr; · iexact Hctx
    iexact Hc
  iintro ⟨Hc, Hs, Hg⟩
  iapply (rs_swait Acc R0 K c 1 1 1 4 4 3 4 (by decide) rfl) $$ [Hc]
  · isplitr; · iexact Hctx
    iexact Hc
  iintro ⟨Hc, Hr⟩
  iapply (load_row c (blk 1 c 2) X1 (off20 (blk 1 c 2))) $$ H1
  iintro H1
  iapply Hk
  isplitl [Ht]; · iexact Ht
  isplitl [Hc]; · iexact Hc
  isplitl [H0]; · iexact H0
  isplitl [Hs0]; · iexact Hs0
  isplitl [H1]; · iexact H1
  isplitl [Hs]; · iexact Hs
  isplitl [Hg]; · iexact Hg
  iexact Hr

/-- Part 6: what arrived over ring 0 in step 2, and the rows sent then, are the device's. -/
theorem rs6 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v8 : BitVec 32) (v28 X0 : S256x2048.Idx → Elt F .f32) {α : Type} {kk : _ → Prog (TpuEff nD τ sig (Elt F) Λ₀ .tc) α} {Q : α → sProp 𝕄} :
    iprop(ctx Acc R0 K c ∗ tabs c w ∗ cells c 6 4 4 ∗ owns (c : Thread nD τ) (rowM (blk 0 c 3)) fullShare X0)
      ⊢ iprop((tabs c w ∗ cells c 6 5 5 ∗ owns (c : Thread nD τ) (rowM (blk 0 c 3)) fullShare X0 ∗ owns (c : Thread nD τ) (slotM 0 2) fullShare (Acc 0 2 (sr 0 c)) ∗ gift (sr 0 c) 0 2
            ∗ owns (c : Thread nD τ) (rowM (blk 0 c 2)) fullShare (Acc 0 2 c)
          -∗ Wc c (kk ⟨wd (blk 0 c 3), chk14 i (blk 0 c 3), Scalar.muli (wd (blk 0 c 3)) 256#32, wd (blk 1 c 3), chk16 i (blk 1 c 3), Scalar.muli (wd (blk 1 c 3)) 256#32, k0_pay1 v28 X0⟩) Q)
        -∗ Wc c (k0_part6 i (Memref.whole main_v8) harg2 (Memref.whole main_v13) harg3 arg4 harg4 arg5 harg5 arg6 harg6 arg7 harg7 outM harg8 tmpM harg9 cc0_scratch1 cc0_scratch2 v8 v28 k0_h3 k0_h7 >>= kk) Q) := by
  rw [k0_part6_eq_skeleton]
  unfold k0_part6_skel
  simp only [semSignalWord, semWaitWord, Prog.lift, Prog.bind_op, Prog.bind_ret, Prog.pure_eq_ret, Prog.bind_assoc]
  iintro ⟨#Hctx, Ht, Hc, H0⟩ Hk
  iapply (tab0 c w 3 rfl) $$ Ht
  iintro Ht
  iapply (assume_of c (chk14 i (blk 0 c 3)))
  iapply (tab1 c w 3 rfl) $$ Ht
  iintro Ht
  iapply (assume_of c (chk16 i (blk 1 c 3)))
  iapply (tab0 c w 2 rfl) $$ Ht
  iintro Ht
  iapply (assume_of c (chk13 i (blk 0 c 2)))
  iapply (rs_recv Acc R0 K c 0 2 2 2 6 4 5 4 (by decide) rfl) $$ [Hc]
  · isplitr; · iexact Hctx
    iexact Hc
  iintro ⟨Hc, Hs, Hg⟩
  iapply (rs_swait Acc R0 K c 0 2 2 6 5 4 5 (by decide) rfl) $$ [Hc]
  · isplitr; · iexact Hctx
    iexact Hc
  iintro ⟨Hc, Hr⟩
  iapply (load_row c (blk 0 c 3) X0 (off24 (blk 0 c 3))) $$ H0
  iintro H0
  iapply Hk
  isplitl [Ht]; · iexact Ht
  isplitl [Hc]; · iexact Hc
  isplitl [H0]; · iexact H0
  isplitl [Hs]; · iexact Hs
  isplitl [Hg]; · iexact Hg
  iexact Hr

/-- Part 7: the arrived rows are added on ring 0; ring 1's are awaited. -/
theorem rs7 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 v54 v56 : BitVec 32) (v29 v75 X0 X1 Y : S256x2048.Idx → Elt F .f32)
    (hw14 : k0_chk14 i (wd (blk 0 c 3))) (hw16 : k0_chk16 i (wd (blk 1 c 3))) {α : Type} {kk : _ → Prog (TpuEff nD τ sig (Elt F) Λ₀ .tc) α} {Q : α → sProp 𝕄} :
    iprop(ctx Acc R0 K c ∗ tabs c w ∗ cells c 6 5 5 ∗ owns (c : Thread nD τ) (rowM (blk 0 c 3)) fullShare X0 ∗ owns (c : Thread nD τ) (slotM 0 2) fullShare Y ∗ owns (c : Thread nD τ) (rowM (blk 1 c 3)) fullShare X1)
      ⊢ iprop((tabs c w ∗ cells c 6 6 6 ∗ owns (c : Thread nD τ) (rowM (blk 0 c 3)) fullShare (accB v75 Y) ∗ owns (c : Thread nD τ) (slotM 0 2) fullShare Y ∗ owns (c : Thread nD τ) (rowM (blk 1 c 3)) fullShare X1
            ∗ owns (c : Thread nD τ) (slotM 1 2) fullShare (Acc 1 2 (sr 1 c)) ∗ gift (sr 1 c) 1 2 ∗ owns (c : Thread nD τ) (rowM (blk 1 c 2)) fullShare (Acc 1 2 c)
          -∗ Wc c (kk (k0_pay1 v29 X1)) Q)
        -∗ Wc c (k0_part7 i (Memref.whole main_v8) harg2 (Memref.whole main_v13) harg3 arg4 harg4 arg5 harg5 arg6 harg6 arg7 harg7 outM harg8 tmpM harg9 cc0_scratch1 cc0_scratch2 v5 v29 k0_h3 k0_h7 (wd (blk 0 c 3)) hw14 v54 (wd (blk 1 c 3)) hw16 v56 v75 >>= kk) Q) := by
  rw [k0_part7_eq_skeleton]
  unfold k0_part7_skel
  simp only [semSignalWord, semWaitWord, Prog.lift, Prog.bind_op, Prog.bind_ret, Prog.pure_eq_ret, Prog.bind_assoc]
  iintro ⟨#Hctx, Ht, Hc, H0, Hs0, H1⟩ Hk
  iapply (load_slot c 0 2 Y rfl) $$ Hs0
  iintro Hs0 %v %hv
  iapply (load_row c (blk 0 c 3) X0 (off24 (blk 0 c 3))) $$ H0
  iintro H0
  iapply (store_row c (blk 0 c 3) X0 _ (off24 (blk 0 c 3))) $$ H0
  iintro H0
  rw [show k0_pay14 v75 v = accB v75 Y from accB_of v75 Y v hv]
  iapply (tab1 c w 2 rfl) $$ Ht
  iintro Ht
  iapply (assume_of c (chk15 i (blk 1 c 2)))
  iapply (rs_recv Acc R0 K c 1 2 2 2 6 5 6 5 (by decide) rfl) $$ [Hc]
  · isplitr; · iexact Hctx
    iexact Hc
  iintro ⟨Hc, Hs, Hg⟩
  iapply (rs_swait Acc R0 K c 1 2 2 6 6 5 6 (by decide) rfl) $$ [Hc]
  · isplitr; · iexact Hctx
    iexact Hc
  iintro ⟨Hc, Hr⟩
  iapply (load_row c (blk 1 c 3) X1 (off26 (blk 1 c 3))) $$ H1
  iintro H1
  iapply Hk
  isplitl [Ht]; · iexact Ht
  isplitl [Hc]; · iexact Hc
  isplitl [H0]; · iexact H0
  isplitl [Hs0]; · iexact Hs0
  isplitl [H1]; · iexact H1
  isplitl [Hs]; · iexact Hs
  isplitl [Hg]; · iexact Hg
  iexact Hr

end Cert.FusedProof
-- ==== Proof.AgParts.lean ====
/-
  The gathering, part of the body by part: every send, arrival and awaited departure in the order the kernel has them.
-/
module

public import proofs.«01_k».proof.Proof.Ag

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

/-- Part 9 of the body: from 8 sends, 6 arrivals and 6 awaited departures to 11, 6 and 6. -/
theorem ag9 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw19 : k0_chk19 i (wd (blk 0 c 3)))
    {α : Type} {kk : _ → Prog (TpuEff nD τ sig (Elt F) Λ₀ .tc) α} {Q : α → sProp 𝕄} :
    iprop(ctx Acc R0 K c ∗ tabs c w ∗ AG R0 c 8 6 6) ⊢ iprop((tabs c w ∗ AG R0 c 11 6 6 -∗ Wc c (kk ⟨wd (blk 1 c 3), chk20 i (blk 1 c 3), wd (blk 0 c 3), chk21 i (blk 0 c 3)⟩) Q)
       -∗ Wc c (k0_part9 i (Memref.whole main_v8) harg2 (Memref.whole main_v13) harg3 arg4 harg4 arg5 harg5 arg6 harg6 arg7 harg7 outM harg8 tmpM harg9 cc0_scratch1 cc0_scratch2 c v5 v8 k0_h3 k0_h7 (wd (blk 0 c 3)) hw19 >>= kk) Q) := by
  rw [k0_part9_eq_skeleton]
  unfold k0_part9_skel
  simp only [Prog.lift, Prog.bind_op, Prog.bind_ret, Prog.pure_eq_ret, Prog.bind_assoc]
  iintro ⟨#Hctx, Ht, Ha⟩ Hk
  iapply (ag_send_at Acc R0 K c (4, 0) 8 9 6 6 (by decide) (blk 0 c 3) rfl 512 rfl (off29 (blk 0 c 3)) rfl rfl (dev11 c)) $$ [Ha]
  · isplitr; · iexact Hctx
    iexact Ha
  iintro Ha
  iapply (tab1 c w 3 rfl) $$ Ht
  iintro Ht
  iapply (assume_of c (chk20 i (blk 1 c 3)))
  iapply (ag_send_at Acc R0 K c (4, 1) 9 10 6 6 (by decide) (blk 1 c 3) rfl 512 rfl (off30 (blk 1 c 3)) rfl rfl (dev12 c)) $$ [Ha]
  · isplitr; · iexact Hctx
    iexact Ha
  iintro Ha
  iapply (tab0 c w 3 rfl) $$ Ht
  iintro Ht
  iapply (assume_of c (chk21 i (blk 0 c 3)))
  iapply (ag_send_at Acc R0 K c (5, 0) 10 11 6 6 (by decide) (blk 0 c 3) rfl 1024 rfl (off31 (blk 0 c 3)) rfl rfl (dev13 c)) $$ [Ha]
  · isplitr; · iexact Hctx
    iexact Ha
  iintro Ha
  iapply Hk
  isplitl [Ht] <;> iassumption

/-- Part 10 of the body: from 11 sends, 6 arrivals and 6 awaited departures to 13, 6 and 6. -/
theorem ag10 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32)
    {α : Type} {kk : _ → Prog (TpuEff nD τ sig (Elt F) Λ₀ .tc) α} {Q : α → sProp 𝕄} :
    iprop(ctx Acc R0 K c ∗ tabs c w ∗ AG R0 c 11 6 6) ⊢ iprop((tabs c w ∗ AG R0 c 13 6 6 -∗ Wc c (kk ⟨wd (blk 1 c 3), chk22 i (blk 1 c 3), wd (blk 0 c 3), chk23 i (blk 0 c 3), wd (blk 1 c 3), chk24 i (blk 1 c 3)⟩) Q)
       -∗ Wc c (k0_part10 i (Memref.whole main_v8) harg2 (Memref.whole main_v13) harg3 arg4 harg4 arg5 harg5 arg6 harg6 arg7 harg7 outM harg8 tmpM harg9 cc0_scratch1 cc0_scratch2 c v5 v8 k0_h3 k0_h7 >>= kk) Q) := by
  rw [k0_part10_eq_skeleton]
  unfold k0_part10_skel
  simp only [Prog.lift, Prog.bind_op, Prog.bind_ret, Prog.pure_eq_ret, Prog.bind_assoc]
  iintro ⟨#Hctx, Ht, Ha⟩ Hk
  iapply (tab1 c w 3 rfl) $$ Ht
  iintro Ht
  iapply (assume_of c (chk22 i (blk 1 c 3)))
  iapply (ag_send_at Acc R0 K c (5, 1) 11 12 6 6 (by decide) (blk 1 c 3) rfl 1024 rfl (off32 (blk 1 c 3)) rfl rfl (dev14 c)) $$ [Ha]
  · isplitr; · iexact Hctx
    iexact Ha
  iintro Ha
  iapply (tab0 c w 3 rfl) $$ Ht
  iintro Ht
  iapply (assume_of c (chk23 i (blk 0 c 3)))
  iapply (ag_send_at Acc R0 K c (6, 0) 12 13 6 6 (by decide) (blk 0 c 3) rfl 1536 rfl (off33 (blk 0 c 3)) rfl rfl (dev15 c)) $$ [Ha]
  · isplitr; · iexact Hctx
    iexact Ha
  iintro Ha
  iapply (tab1 c w 3 rfl) $$ Ht
  iintro Ht
  iapply (assume_of c (chk24 i (blk 1 c 3)))
  iapply Hk
  isplitl [Ht] <;> iassumption

/-- Part 11 of the body: from 13 sends, 6 arrivals and 6 awaited departures to 14, 8 and 6. -/
theorem ag11 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw24 : k0_chk24 i (wd (blk 1 c 3)))
    {α : Type} {kk : _ → Prog (TpuEff nD τ sig (Elt F) Λ₀ .tc) α} {Q : α → sProp 𝕄} :
    iprop(ctx Acc R0 K c ∗ tabs c w ∗ AG R0 c 13 6 6) ⊢ iprop((tabs c w ∗ AG R0 c 14 8 6 -∗ Wc c (kk ⟨wd (blk 0 c 0), chk27 i (blk 0 c 0)⟩) Q)
       -∗ Wc c (k0_part11 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 3)) hw24 >>= kk) Q) := by
  rw [k0_part11_eq_skeleton]
  unfold k0_part11_skel
  simp only [Prog.lift, Prog.bind_op, Prog.bind_ret, Prog.pure_eq_ret, Prog.bind_assoc]
  iintro ⟨#Hctx, Ht, Ha⟩ Hk
  iapply (ag_send_at Acc R0 K c (6, 1) 13 14 6 6 (by decide) (blk 1 c 3) rfl 1536 rfl (off34 (blk 1 c 3)) rfl rfl (dev16 c)) $$ [Ha]
  · isplitr; · iexact Hctx
    iexact Ha
  iintro Ha
  iapply (tab0 c w 0 rfl) $$ Ht
  iintro Ht
  iapply (assume_of c (chk25 i (blk 0 c 0)))
  iapply (ag_recv_at Acc R0 K c (3, 0) 14 6 7 6 (by decide) rfl) $$ [Ha]
  · isplitr; · iexact Hctx
    iexact Ha
  iintro Ha
  iapply (tab1 c w 0 rfl) $$ Ht
  iintro Ht
  iapply (assume_of c (chk26 i (blk 1 c 0)))
  iapply (ag_recv_at Acc R0 K c (3, 1) 14 7 8 6 (by decide) rfl) $$ [Ha]
  · isplitr; · iexact Hctx
    iexact Ha
  iintro Ha
  iapply (tab0 c w 0 rfl) $$ Ht
  iintro Ht
  iapply (assume_of c (chk27 i (blk 0 c 0)))
  iapply Hk
  isplitl [Ht] <;> iassumption

/-- Part 12 of the body: from 14 sends, 8 arrivals and 6 awaited departures to 16, 9 and 6. -/
theorem ag12 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (hw27 : k0_chk27 i (wd (blk 0 c 0)))
    {α : Type} {kk : _ → Prog (TpuEff nD τ sig (Elt F) Λ₀ .tc) α} {Q : α → sProp 𝕄} :
    iprop(ctx Acc R0 K c ∗ tabs c w ∗ AG R0 c 14 8 6) ⊢ iprop((tabs c w ∗ AG R0 c 16 9 6 -∗ Wc c (kk ⟨wd (blk 1 c 0), chk28 i (blk 1 c 0), wd (blk 1 c 0), chk30 i (blk 1 c 0), 1#32⟩) Q)
       -∗ Wc c (k0_part12 i (Memref.whole main_v8) harg2 (Memref.whole main_v13) harg3 arg4 harg4 arg5 harg5 arg6 harg6 arg7 harg7 outM harg8 tmpM harg9 cc0_scratch1 cc0_scratch2 c v5 k0_h3 k0_h7 (wd (blk 0 c 0)) hw27 >>= kk) Q) := by
  rw [k0_part12_eq_skeleton]
  unfold k0_part12_skel
  simp only [Prog.lift, Prog.bind_op, Prog.bind_ret, Prog.pure_eq_ret, Prog.bind_assoc]
  iintro ⟨#Hctx, Ht, Ha⟩ Hk
  iapply (ag_send_at Acc R0 K c (7, 0) 14 15 8 6 (by decide) (blk 0 c 0) rfl 0 rfl (off37 (blk 0 c 0)) rfl rfl (dev17 c)) $$ [Ha]
  · isplitr; · iexact Hctx
    iexact Ha
  iintro Ha
  iapply (tab1 c w 0 rfl) $$ Ht
  iintro Ht
  iapply (assume_of c (chk28 i (blk 1 c 0)))
  iapply (ag_send_at Acc R0 K c (7, 1) 15 16 8 6 (by decide) (blk 1 c 0) rfl 0 rfl (off38 (blk 1 c 0)) rfl rfl (dev18 c)) $$ [Ha]
  · isplitr; · iexact Hctx
    iexact Ha
  iintro Ha
  iapply (tab0 c w 0 rfl) $$ Ht
  iintro Ht
  iapply (assume_of c (chk29 i (blk 0 c 0)))
  iapply (ag_recv_at Acc R0 K c (4, 0) 16 8 9 6 (by decide) rfl) $$ [Ha]
  · isplitr; · iexact Hctx
    iexact Ha
  iintro Ha
  iapply (tab1 c w 0 rfl) $$ Ht
  iintro Ht
  iapply (assume_of c (chk30 i (blk 1 c 0)))
  iapply Hk
  isplitl [Ht] <;> iassumption

/-- Part 13 of the body: from 16 sends, 9 arrivals and 6 awaited departures to 18, 10 and 6. -/
theorem ag13 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw30 : k0_chk30 i (wd (blk 1 c 0))) (c1_i32_222 : BitVec 32)
    {α : Type} {kk : _ → Prog (TpuEff nD τ sig (Elt F) Λ₀ .tc) α} {Q : α → sProp 𝕄} :
    iprop(ctx Acc R0 K c ∗ tabs c w ∗ AG R0 c 16 9 6) ⊢ iprop((tabs c w ∗ AG R0 c 18 10 6 -∗ Wc c (kk ⟨wd (blk 0 c 0), chk31 i (blk 0 c 0), wd (blk 1 c 0), chk32 i (blk 1 c 0), wd (blk 0 c 0), chk33 i (blk 0 c 0)⟩) Q)
       -∗ Wc c (k0_part13 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 0)) hw30 c1_i32_222 >>= kk) Q) := by
  rw [k0_part13_eq_skeleton]
  unfold k0_part13_skel
  simp only [Prog.lift, Prog.bind_op, Prog.bind_ret, Prog.pure_eq_ret, Prog.bind_assoc]
  iintro ⟨#Hctx, Ht, Ha⟩ Hk
  iapply (ag_recv_at Acc R0 K c (4, 1) 16 9 10 6 (by decide) rfl) $$ [Ha]
  · isplitr; · iexact Hctx
    iexact Ha
  iintro Ha
  iapply (tab0 c w 0 rfl) $$ Ht
  iintro Ht
  iapply (assume_of c (chk31 i (blk 0 c 0)))
  iapply (ag_send_at Acc R0 K c (8, 0) 16 17 10 6 (by decide) (blk 0 c 0) rfl 512 rfl (off41 (blk 0 c 0)) rfl rfl (dev19 c)) $$ [Ha]
  · isplitr; · iexact Hctx
    iexact Ha
  iintro Ha
  iapply (tab1 c w 0 rfl) $$ Ht
  iintro Ht
  iapply (assume_of c (chk32 i (blk 1 c 0)))
  iapply (ag_send_at Acc R0 K c (8, 1) 17 18 10 6 (by decide) (blk 1 c 0) rfl 512 rfl (off42 (blk 1 c 0)) rfl rfl (dev20 c)) $$ [Ha]
  · isplitr; · iexact Hctx
    iexact Ha
  iintro Ha
  iapply (tab0 c w 0 rfl) $$ Ht
  iintro Ht
  iapply (assume_of c (chk33 i (blk 0 c 0)))
  iapply Hk
  isplitl [Ht] <;> iassumption

/-- Part 14 of the body: from 18 sends, 10 arrivals and 6 awaited departures to 19, 12 and 6. -/
theorem ag14 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw33 : k0_chk33 i (wd (blk 0 c 0)))
    {α : Type} {kk : _ → Prog (TpuEff nD τ sig (Elt F) Λ₀ .tc) α} {Q : α → sProp 𝕄} :
    iprop(ctx Acc R0 K c ∗ tabs c w ∗ AG R0 c 18 10 6) ⊢ iprop((tabs c w ∗ AG R0 c 19 12 6 -∗ Wc c (kk ⟨wd (blk 0 c 0), chk35 i (blk 0 c 0), wd (blk 1 c 0), chk36 i (blk 1 c 0), 256#32⟩) Q)
       -∗ Wc c (k0_part14 i (Memref.whole main_v8) harg2 (Memref.whole main_v13) harg3 arg4 harg4 arg5 harg5 arg6 harg6 arg7 harg7 outM harg8 tmpM harg9 cc0_scratch1 cc0_scratch2 c v5 v8 k0_h3 k0_h7 (wd (blk 0 c 0)) hw33 >>= kk) Q) := by
  rw [k0_part14_eq_skeleton]
  unfold k0_part14_skel
  simp only [Prog.lift, Prog.bind_op, Prog.bind_ret, Prog.pure_eq_ret, Prog.bind_assoc]
  iintro ⟨#Hctx, Ht, Ha⟩ Hk
  iapply (ag_recv_at Acc R0 K c (5, 0) 18 10 11 6 (by decide) rfl) $$ [Ha]
  · isplitr; · iexact Hctx
    iexact Ha
  iintro Ha
  iapply (tab1 c w 0 rfl) $$ Ht
  iintro Ht
  iapply (assume_of c (chk34 i (blk 1 c 0)))
  iapply (ag_recv_at Acc R0 K c (5, 1) 18 11 12 6 (by decide) rfl) $$ [Ha]
  · isplitr; · iexact Hctx
    iexact Ha
  iintro Ha
  iapply (tab0 c w 0 rfl) $$ Ht
  iintro Ht
  iapply (assume_of c (chk35 i (blk 0 c 0)))
  iapply (ag_send_at Acc R0 K c (9, 0) 18 19 12 6 (by decide) (blk 0 c 0) rfl 1024 rfl (off45 (blk 0 c 0)) rfl rfl (dev21 c)) $$ [Ha]
  · isplitr; · iexact Hctx
    iexact Ha
  iintro Ha
  iapply (tab1 c w 0 rfl) $$ Ht
  iintro Ht
  iapply (assume_of c (chk36 i (blk 1 c 0)))
  iapply Hk
  isplitl [Ht] <;> iassumption

/-- Part 15 of the body: from 19 sends, 12 arrivals and 6 awaited departures to 20, 14 and 6. -/
theorem ag15 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw36 : k0_chk36 i (wd (blk 1 c 0))) (c256_i32_276 : BitVec 32)
    {α : Type} {kk : _ → Prog (TpuEff nD τ sig (Elt F) Λ₀ .tc) α} {Q : α → sProp 𝕄} :
    iprop(ctx Acc R0 K c ∗ tabs c w ∗ AG R0 c 19 12 6) ⊢ iprop((tabs c w ∗ AG R0 c 20 14 6 -∗ Wc c (kk (wd (blk 0 c 0))) Q)
       -∗ Wc c (k0_part15 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 0)) hw36 c256_i32_276 >>= kk) Q) := by
  rw [k0_part15_eq_skeleton]
  unfold k0_part15_skel
  simp only [Prog.lift, Prog.bind_op, Prog.bind_ret, Prog.pure_eq_ret, Prog.bind_assoc]
  iintro ⟨#Hctx, Ht, Ha⟩ Hk
  iapply (ag_send_at Acc R0 K c (9, 1) 19 20 12 6 (by decide) (blk 1 c 0) rfl 1024 rfl (off46 (blk 1 c 0)) rfl rfl (dev22 c)) $$ [Ha]
  · isplitr; · iexact Hctx
    iexact Ha
  iintro Ha
  iapply (tab0 c w 0 rfl) $$ Ht
  iintro Ht
  iapply (assume_of c (chk37 i (blk 0 c 0)))
  iapply (ag_recv_at Acc R0 K c (6, 0) 20 12 13 6 (by decide) rfl) $$ [Ha]
  · isplitr; · iexact Hctx
    iexact Ha
  iintro Ha
  iapply (tab1 c w 0 rfl) $$ Ht
  iintro Ht
  iapply (assume_of c (chk38 i (blk 1 c 0)))
  iapply (ag_recv_at Acc R0 K c (6, 1) 20 13 14 6 (by decide) rfl) $$ [Ha]
  · isplitr; · iexact Hctx
    iexact Ha
  iintro Ha
  iapply (tab0 c w 0 rfl) $$ Ht
  iintro Ht
  iapply Hk
  isplitl [Ht] <;> iassumption

/-- Part 16 of the body: from 20 sends, 14 arrivals and 6 awaited departures to 22, 14 and 6. -/
theorem ag16 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32)
    {α : Type} {kk : _ → Prog (TpuEff nD τ sig (Elt F) Λ₀ .tc) α} {Q : α → sProp 𝕄} :
    iprop(ctx Acc R0 K c ∗ tabs c w ∗ AG R0 c 20 14 6) ⊢ iprop((tabs c w ∗ AG R0 c 22 14 6 -∗ Wc c (kk ⟨chk39 i (blk 0 c 0), wd (blk 1 c 0), chk40 i (blk 1 c 0), wd (blk 0 c 1), chk41 i (blk 0 c 1)⟩) Q)
       -∗ Wc c (k0_part16 i (Memref.whole main_v8) harg2 (Memref.whole main_v13) harg3 arg4 harg4 arg5 harg5 arg6 harg6 arg7 harg7 outM harg8 tmpM harg9 cc0_scratch1 cc0_scratch2 c v5 v8 k0_h3 k0_h7 (wd (blk 0 c 0)) >>= kk) Q) := by
  rw [k0_part16_eq_skeleton]
  unfold k0_part16_skel
  simp only [Prog.lift, Prog.bind_op, Prog.bind_ret, Prog.pure_eq_ret, Prog.bind_assoc]
  iintro ⟨#Hctx, Ht, Ha⟩ Hk
  iapply (assume_of c (chk39 i (blk 0 c 0)))
  iapply (ag_send_at Acc R0 K c (10, 0) 20 21 14 6 (by decide) (blk 0 c 0) rfl 1536 rfl (off49 (blk 0 c 0)) rfl rfl (dev23 c)) $$ [Ha]
  · isplitr; · iexact Hctx
    iexact Ha
  iintro Ha
  iapply (tab1 c w 0 rfl) $$ Ht
  iintro Ht
  iapply (assume_of c (chk40 i (blk 1 c 0)))
  iapply (ag_send_at Acc R0 K c (10, 1) 21 22 14 6 (by decide) (blk 1 c 0) rfl 1536 rfl (off50 (blk 1 c 0)) rfl rfl (dev24 c)) $$ [Ha]
  · isplitr; · iexact Hctx
    iexact Ha
  iintro Ha
  iapply (tab0 c w 1 rfl) $$ Ht
  iintro Ht
  iapply (assume_of c (chk41 i (blk 0 c 1)))
  iapply Hk
  isplitl [Ht] <;> iassumption

/-- Part 17 of the body: from 22 sends, 14 arrivals and 6 awaited departures to 23, 16 and 6. -/
theorem ag17 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw41 : k0_chk41 i (wd (blk 0 c 1)))
    {α : Type} {kk : _ → Prog (TpuEff nD τ sig (Elt F) Λ₀ .tc) α} {Q : α → sProp 𝕄} :
    iprop(ctx Acc R0 K c ∗ tabs c w ∗ AG R0 c 22 14 6) ⊢ iprop((tabs c w ∗ AG R0 c 23 16 6 -∗ Wc c (kk ⟨wd (blk 0 c 1), chk43 i (blk 0 c 1), wd (blk 1 c 1), chk44 i (blk 1 c 1)⟩) Q)
       -∗ Wc c (k0_part17 i (Memref.whole main_v8) harg2 (Memref.whole main_v13) harg3 arg4 harg4 arg5 harg5 arg6 harg6 arg7 harg7 outM harg8 tmpM harg9 cc0_scratch1 cc0_scratch2 c v5 v8 k0_h3 k0_h7 (wd (blk 0 c 1)) hw41 >>= kk) Q) := by
  rw [k0_part17_eq_skeleton]
  unfold k0_part17_skel
  simp only [Prog.lift, Prog.bind_op, Prog.bind_ret, Prog.pure_eq_ret, Prog.bind_assoc]
  iintro ⟨#Hctx, Ht, Ha⟩ Hk
  iapply (ag_recv_at Acc R0 K c (7, 0) 22 14 15 6 (by decide) rfl) $$ [Ha]
  · isplitr; · iexact Hctx
    iexact Ha
  iintro Ha
  iapply (tab1 c w 1 rfl) $$ Ht
  iintro Ht
  iapply (assume_of c (chk42 i (blk 1 c 1)))
  iapply (ag_recv_at Acc R0 K c (7, 1) 22 15 16 6 (by decide) rfl) $$ [Ha]
  · isplitr; · iexact Hctx
    iexact Ha
  iintro Ha
  iapply (tab0 c w 1 rfl) $$ Ht
  iintro Ht
  iapply (assume_of c (chk43 i (blk 0 c 1)))
  iapply (ag_send_at Acc R0 K c (11, 0) 22 23 16 6 (by decide) (blk 0 c 1) rfl 0 rfl (off53 (blk 0 c 1)) rfl rfl (dev25 c)) $$ [Ha]
  · isplitr; · iexact Hctx
    iexact Ha
  iintro Ha
  iapply (tab1 c w 1 rfl) $$ Ht
  iintro Ht
  iapply (assume_of c (chk44 i (blk 1 c 1)))
  iapply Hk
  isplitl [Ht] <;> iassumption

/-- Part 18 of the body: from 23 sends, 16 arrivals and 6 awaited departures to 24, 18 and 6. -/
theorem ag18 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw44 : k0_chk44 i (wd (blk 1 c 1)))
    {α : Type} {kk : _ → Prog (TpuEff nD τ sig (Elt F) Λ₀ .tc) α} {Q : α → sProp 𝕄} :
    iprop(ctx Acc R0 K c ∗ tabs c w ∗ AG R0 c 23 16 6) ⊢ iprop((tabs c w ∗ AG R0 c 24 18 6 -∗ Wc c (kk ⟨wd (blk 0 c 1), chk47 i (blk 0 c 1)⟩) Q)
       -∗ Wc c (k0_part18 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 1)) hw44 >>= kk) Q) := by
  rw [k0_part18_eq_skeleton]
  unfold k0_part18_skel
  simp only [Prog.lift, Prog.bind_op, Prog.bind_ret, Prog.pure_eq_ret, Prog.bind_assoc]
  iintro ⟨#Hctx, Ht, Ha⟩ Hk
  iapply (ag_send_at Acc R0 K c (11, 1) 23 24 16 6 (by decide) (blk 1 c 1) rfl 0 rfl (off54 (blk 1 c 1)) rfl rfl (dev26 c)) $$ [Ha]
  · isplitr; · iexact Hctx
    iexact Ha
  iintro Ha
  iapply (tab0 c w 1 rfl) $$ Ht
  iintro Ht
  iapply (assume_of c (chk45 i (blk 0 c 1)))
  iapply (ag_recv_at Acc R0 K c (8, 0) 24 16 17 6 (by decide) rfl) $$ [Ha]
  · isplitr; · iexact Hctx
    iexact Ha
  iintro Ha
  iapply (tab1 c w 1 rfl) $$ Ht
  iintro Ht
  iapply (assume_of c (chk46 i (blk 1 c 1)))
  iapply (ag_recv_at Acc R0 K c (8, 1) 24 17 18 6 (by decide) rfl) $$ [Ha]
  · isplitr; · iexact Hctx
    iexact Ha
  iintro Ha
  iapply (tab0 c w 1 rfl) $$ Ht
  iintro Ht
  iapply (assume_of c (chk47 i (blk 0 c 1)))
  iapply Hk
  isplitl [Ht] <;> iassumption

/-- Part 19 of the body: from 24 sends, 18 arrivals and 6 awaited departures to 26, 19 and 6. -/
theorem ag19 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (hw47 : k0_chk47 i (wd (blk 0 c 1)))
    {α : Type} {kk : _ → Prog (TpuEff nD τ sig (Elt F) Λ₀ .tc) α} {Q : α → sProp 𝕄} :
    iprop(ctx Acc R0 K c ∗ tabs c w ∗ AG R0 c 24 18 6) ⊢ iprop((tabs c w ∗ AG R0 c 26 19 6 -∗ Wc c (kk ⟨wd (blk 1 c 1), chk48 i (blk 1 c 1), wd (blk 1 c 1), chk50 i (blk 1 c 1), 1#32⟩) Q)
       -∗ Wc c (k0_part19 i (Memref.whole main_v8) harg2 (Memref.whole main_v13) harg3 arg4 harg4 arg5 harg5 arg6 harg6 arg7 harg7 outM harg8 tmpM harg9 cc0_scratch1 cc0_scratch2 c v5 k0_h3 k0_h7 (wd (blk 0 c 1)) hw47 >>= kk) Q) := by
  rw [k0_part19_eq_skeleton]
  unfold k0_part19_skel
  simp only [Prog.lift, Prog.bind_op, Prog.bind_ret, Prog.pure_eq_ret, Prog.bind_assoc]
  iintro ⟨#Hctx, Ht, Ha⟩ Hk
  iapply (ag_send_at Acc R0 K c (12, 0) 24 25 18 6 (by decide) (blk 0 c 1) rfl 512 rfl (off57 (blk 0 c 1)) rfl rfl (dev27 c)) $$ [Ha]
  · isplitr; · iexact Hctx
    iexact Ha
  iintro Ha
  iapply (tab1 c w 1 rfl) $$ Ht
  iintro Ht
  iapply (assume_of c (chk48 i (blk 1 c 1)))
  iapply (ag_send_at Acc R0 K c (12, 1) 25 26 18 6 (by decide) (blk 1 c 1) rfl 512 rfl (off58 (blk 1 c 1)) rfl rfl (dev28 c)) $$ [Ha]
  · isplitr; · iexact Hctx
    iexact Ha
  iintro Ha
  iapply (tab0 c w 1 rfl) $$ Ht
  iintro Ht
  iapply (assume_of c (chk49 i (blk 0 c 1)))
  iapply (ag_recv_at Acc R0 K c (9, 0) 26 18 19 6 (by decide) rfl) $$ [Ha]
  · isplitr; · iexact Hctx
    iexact Ha
  iintro Ha
  iapply (tab1 c w 1 rfl) $$ Ht
  iintro Ht
  iapply (assume_of c (chk50 i (blk 1 c 1)))
  iapply Hk
  isplitl [Ht] <;> iassumption

/-- Part 20 of the body: from 26 sends, 19 arrivals and 6 awaited departures to 28, 20 and 6. -/
theorem ag20 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw50 : k0_chk50 i (wd (blk 1 c 1))) (c1_i32_418 : BitVec 32)
    {α : Type} {kk : _ → Prog (TpuEff nD τ sig (Elt F) Λ₀ .tc) α} {Q : α → sProp 𝕄} :
    iprop(ctx Acc R0 K c ∗ tabs c w ∗ AG R0 c 26 19 6) ⊢ iprop((tabs c w ∗ AG R0 c 28 20 6 -∗ Wc c (kk ⟨wd (blk 0 c 1), chk51 i (blk 0 c 1), wd (blk 1 c 1), chk52 i (blk 1 c 1), wd (blk 0 c 1), chk53 i (blk 0 c 1)⟩) Q)
       -∗ Wc c (k0_part20 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 1)) hw50 c1_i32_418 >>= kk) Q) := by
  rw [k0_part20_eq_skeleton]
  unfold k0_part20_skel
  simp only [Prog.lift, Prog.bind_op, Prog.bind_ret, Prog.pure_eq_ret, Prog.bind_assoc]
  iintro ⟨#Hctx, Ht, Ha⟩ Hk
  iapply (ag_recv_at Acc R0 K c (9, 1) 26 19 20 6 (by decide) rfl) $$ [Ha]
  · isplitr; · iexact Hctx
    iexact Ha
  iintro Ha
  iapply (tab0 c w 1 rfl) $$ Ht
  iintro Ht
  iapply (assume_of c (chk51 i (blk 0 c 1)))
  iapply (ag_send_at Acc R0 K c (13, 0) 26 27 20 6 (by decide) (blk 0 c 1) rfl 1024 rfl (off61 (blk 0 c 1)) rfl rfl (dev29 c)) $$ [Ha]
  · isplitr; · iexact Hctx
    iexact Ha
  iintro Ha
  iapply (tab1 c w 1 rfl) $$ Ht
  iintro Ht
  iapply (assume_of c (chk52 i (blk 1 c 1)))
  iapply (ag_send_at Acc R0 K c (13, 1) 27 28 20 6 (by decide) (blk 1 c 1) rfl 1024 rfl (off62 (blk 1 c 1)) rfl rfl (dev30 c)) $$ [Ha]
  · isplitr; · iexact Hctx
    iexact Ha
  iintro Ha
  iapply (tab0 c w 1 rfl) $$ Ht
  iintro Ht
  iapply (assume_of c (chk53 i (blk 0 c 1)))
  iapply Hk
  isplitl [Ht] <;> iassumption

/-- Part 21 of the body: from 28 sends, 20 arrivals and 6 awaited departures to 29, 22 and 6. -/
theorem ag21 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw53 : k0_chk53 i (wd (blk 0 c 1)))
    {α : Type} {kk : _ → Prog (TpuEff nD τ sig (Elt F) Λ₀ .tc) α} {Q : α → sProp 𝕄} :
    iprop(ctx Acc R0 K c ∗ tabs c w ∗ AG R0 c 28 20 6) ⊢ iprop((tabs c w ∗ AG R0 c 29 22 6 -∗ Wc c (kk ⟨wd (blk 0 c 1), chk55 i (blk 0 c 1), wd (blk 1 c 1), chk56 i (blk 1 c 1), 256#32⟩) Q)
       -∗ Wc c (k0_part21 i (Memref.whole main_v8) harg2 (Memref.whole main_v13) harg3 arg4 harg4 arg5 harg5 arg6 harg6 arg7 harg7 outM harg8 tmpM harg9 cc0_scratch1 cc0_scratch2 c v5 v8 k0_h3 k0_h7 (wd (blk 0 c 1)) hw53 >>= kk) Q) := by
  rw [k0_part21_eq_skeleton]
  unfold k0_part21_skel
  simp only [Prog.lift, Prog.bind_op, Prog.bind_ret, Prog.pure_eq_ret, Prog.bind_assoc]
  iintro ⟨#Hctx, Ht, Ha⟩ Hk
  iapply (ag_recv_at Acc R0 K c (10, 0) 28 20 21 6 (by decide) rfl) $$ [Ha]
  · isplitr; · iexact Hctx
    iexact Ha
  iintro Ha
  iapply (tab1 c w 1 rfl) $$ Ht
  iintro Ht
  iapply (assume_of c (chk54 i (blk 1 c 1)))
  iapply (ag_recv_at Acc R0 K c (10, 1) 28 21 22 6 (by decide) rfl) $$ [Ha]
  · isplitr; · iexact Hctx
    iexact Ha
  iintro Ha
  iapply (tab0 c w 1 rfl) $$ Ht
  iintro Ht
  iapply (assume_of c (chk55 i (blk 0 c 1)))
  iapply (ag_send_at Acc R0 K c (14, 0) 28 29 22 6 (by decide) (blk 0 c 1) rfl 1536 rfl (off65 (blk 0 c 1)) rfl rfl (dev31 c)) $$ [Ha]
  · isplitr; · iexact Hctx
    iexact Ha
  iintro Ha
  iapply (tab1 c w 1 rfl) $$ Ht
  iintro Ht
  iapply (assume_of c (chk56 i (blk 1 c 1)))
  iapply Hk
  isplitl [Ht] <;> iassumption

/-- Part 22 of the body: from 29 sends, 22 arrivals and 6 awaited departures to 30, 24 and 6. -/
theorem ag22 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32) (hw56 : k0_chk56 i (wd (blk 1 c 1))) (c256_i32_471 : BitVec 32)
    {α : Type} {kk : _ → Prog (TpuEff nD τ sig (Elt F) Λ₀ .tc) α} {Q : α → sProp 𝕄} :
    iprop(ctx Acc R0 K c ∗ tabs c w ∗ AG R0 c 29 22 6) ⊢ iprop((tabs c w ∗ AG R0 c 30 24 6 -∗ Wc c (kk (wd (blk 0 c 2))) Q)
       -∗ Wc c (k0_part22 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 1)) hw56 c256_i32_471 >>= kk) Q) := by
  rw [k0_part22_eq_skeleton]
  unfold k0_part22_skel
  simp only [Prog.lift, Prog.bind_op, Prog.bind_ret, Prog.pure_eq_ret, Prog.bind_assoc]
  iintro ⟨#Hctx, Ht, Ha⟩ Hk
  iapply (ag_send_at Acc R0 K c (14, 1) 29 30 22 6 (by decide) (blk 1 c 1) rfl 1536 rfl (off66 (blk 1 c 1)) rfl rfl (dev32 c)) $$ [Ha]
  · isplitr; · iexact Hctx
    iexact Ha
  iintro Ha
  iapply (tab0 c w 2 rfl) $$ Ht
  iintro Ht
  iapply (assume_of c (chk57 i (blk 0 c 2)))
  iapply (ag_recv_at Acc R0 K c (11, 0) 30 22 23 6 (by decide) rfl) $$ [Ha]
  · isplitr; · iexact Hctx
    iexact Ha
  iintro Ha
  iapply (tab1 c w 2 rfl) $$ Ht
  iintro Ht
  iapply (assume_of c (chk58 i (blk 1 c 2)))
  iapply (ag_recv_at Acc R0 K c (11, 1) 30 23 24 6 (by decide) rfl) $$ [Ha]
  · isplitr; · iexact Hctx
    iexact Ha
  iintro Ha
  iapply (tab0 c w 2 rfl) $$ Ht
  iintro Ht
  iapply Hk
  isplitl [Ht] <;> iassumption

/-- Part 23 of the body: from 30 sends, 24 arrivals and 6 awaited departures to 30, 27 and 6. -/
theorem ag23 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32)
    {α : Type} {kk : _ → Prog (TpuEff nD τ sig (Elt F) Λ₀ .tc) α} {Q : α → sProp 𝕄} :
    iprop(ctx Acc R0 K c ∗ tabs c w ∗ AG R0 c 30 24 6) ⊢ iprop((tabs c w ∗ AG R0 c 30 27 6 -∗ Wc c (kk (wd (blk 1 c 2))) Q)
       -∗ Wc c (k0_part23 i (Memref.whole main_v8) harg2 (Memref.whole main_v13) harg3 arg4 harg4 arg5 harg5 arg6 harg6 arg7 harg7 outM harg8 tmpM harg9 cc0_scratch1 cc0_scratch2 v5 v8 k0_h3 k0_h7 (wd (blk 0 c 2)) >>= kk) Q) := by
  rw [k0_part23_eq_skeleton]
  unfold k0_part23_skel
  simp only [Prog.lift, Prog.bind_op, Prog.bind_ret, Prog.pure_eq_ret, Prog.bind_assoc]
  iintro ⟨#Hctx, Ht, Ha⟩ Hk
  iapply (assume_of c (chk59 i (blk 0 c 2)))
  iapply (ag_recv_at Acc R0 K c (12, 0) 30 24 25 6 (by decide) rfl) $$ [Ha]
  · isplitr; · iexact Hctx
    iexact Ha
  iintro Ha
  iapply (tab1 c w 2 rfl) $$ Ht
  iintro Ht
  iapply (assume_of c (chk60 i (blk 1 c 2)))
  iapply (ag_recv_at Acc R0 K c (12, 1) 30 25 26 6 (by decide) rfl) $$ [Ha]
  · isplitr; · iexact Hctx
    iexact Ha
  iintro Ha
  iapply (tab0 c w 2 rfl) $$ Ht
  iintro Ht
  iapply (assume_of c (chk61 i (blk 0 c 2)))
  iapply (ag_recv_at Acc R0 K c (13, 0) 30 26 27 6 (by decide) rfl) $$ [Ha]
  · isplitr; · iexact Hctx
    iexact Ha
  iintro Ha
  iapply (tab1 c w 2 rfl) $$ Ht
  iintro Ht
  iapply Hk
  isplitl [Ht] <;> iassumption

/-- Part 24 of the body: from 30 sends, 27 arrivals and 6 awaited departures to 30, 30 and 6. -/
theorem ag24 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 : BitVec 32) (v8 : BitVec 32)
    {α : Type} {kk : _ → Prog (TpuEff nD τ sig (Elt F) Λ₀ .tc) α} {Q : α → sProp 𝕄} :
    iprop(ctx Acc R0 K c ∗ tabs c w ∗ AG R0 c 30 27 6) ⊢ iprop((tabs c w ∗ AG R0 c 30 30 6 -∗ Wc c (kk ⟨⟩) Q)
       -∗ Wc c (k0_part24 i (Memref.whole main_v8) harg2 (Memref.whole main_v13) harg3 arg4 harg4 arg5 harg5 arg6 harg6 arg7 harg7 outM harg8 tmpM harg9 cc0_scratch1 cc0_scratch2 v5 v8 k0_h3 k0_h7 (wd (blk 1 c 2)) >>= kk) Q) := by
  rw [k0_part24_eq_skeleton]
  unfold k0_part24_skel
  simp only [Prog.lift, Prog.bind_op, Prog.bind_ret, Prog.pure_eq_ret, Prog.bind_assoc]
  iintro ⟨#Hctx, Ht, Ha⟩ Hk
  iapply (assume_of c (chk62 i (blk 1 c 2)))
  iapply (ag_recv_at Acc R0 K c (13, 1) 30 27 28 6 (by decide) rfl) $$ [Ha]
  · isplitr; · iexact Hctx
    iexact Ha
  iintro Ha
  iapply (tab0 c w 2 rfl) $$ Ht
  iintro Ht
  iapply (assume_of c (chk63 i (blk 0 c 2)))
  iapply (ag_recv_at Acc R0 K c (14, 0) 30 28 29 6 (by decide) rfl) $$ [Ha]
  · isplitr; · iexact Hctx
    iexact Ha
  iintro Ha
  iapply (tab1 c w 2 rfl) $$ Ht
  iintro Ht
  iapply (assume_of c (chk64 i (blk 1 c 2)))
  iapply (ag_recv_at Acc R0 K c (14, 1) 30 29 30 6 (by decide) rfl) $$ [Ha]
  · isplitr; · iexact Hctx
    iexact Ha
  iintro Ha
  iapply Hk
  isplitl [Ht] <;> iassumption

/-- Part 25 of the body: from 30 sends, 30 arrivals and 6 awaited departures to 30, 30 and 11. -/
theorem ag25 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (hw17 : k0_chk17 i (wd (blk 0 c 3))) (hw18 : k0_chk18 i (wd (blk 1 c 3))) (hw19 : k0_chk19 i (wd (blk 0 c 3))) (hw20 : k0_chk20 i (wd (blk 1 c 3))) (hw21 : k0_chk21 i (wd (blk 0 c 3)))
    {α : Type} {kk : _ → Prog (TpuEff nD τ sig (Elt F) Λ₀ .tc) α} {Q : α → sProp 𝕄} :
    iprop(ctx Acc R0 K c ∗ tabs c w ∗ AG R0 c 30 30 6) ⊢ iprop((tabs c w ∗ AG R0 c 30 30 11 -∗ Wc c (kk ⟨⟩) Q)
       -∗ Wc c (k0_part25 i (Memref.whole main_v8) harg2 (Memref.whole main_v13) harg3 arg4 harg4 arg5 harg5 arg6 harg6 arg7 harg7 outM harg8 tmpM harg9 cc0_scratch1 cc0_scratch2 k0_h3 k0_h7 (wd (blk 0 c 3)) hw17 (wd (blk 1 c 3)) hw18 (wd (blk 0 c 3)) hw19 (wd (blk 1 c 3)) hw20 (wd (blk 0 c 3)) hw21 >>= kk) Q) := by
  rw [k0_part25_eq_skeleton]
  unfold k0_part25_skel
  simp only [Prog.lift, Prog.bind_op, Prog.bind_ret, Prog.pure_eq_ret, Prog.bind_assoc]
  iintro ⟨#Hctx, Ht, Ha⟩ Hk
  iapply (ag_swait_at Acc R0 K c (3, 0) 30 30 6 7 (by decide) rfl) $$ [Ha]
  · isplitr; · iexact Hctx
    iexact Ha
  iintro Ha
  iapply (ag_swait_at Acc R0 K c (3, 1) 30 30 7 8 (by decide) rfl) $$ [Ha]
  · isplitr; · iexact Hctx
    iexact Ha
  iintro Ha
  iapply (ag_swait_at Acc R0 K c (4, 0) 30 30 8 9 (by decide) rfl) $$ [Ha]
  · isplitr; · iexact Hctx
    iexact Ha
  iintro Ha
  iapply (ag_swait_at Acc R0 K c (4, 1) 30 30 9 10 (by decide) rfl) $$ [Ha]
  · isplitr; · iexact Hctx
    iexact Ha
  iintro Ha
  iapply (ag_swait_at Acc R0 K c (5, 0) 30 30 10 11 (by decide) rfl) $$ [Ha]
  · isplitr; · iexact Hctx
    iexact Ha
  iintro Ha
  iapply Hk
  isplitl [Ht] <;> iassumption

/-- Part 26 of the body: from 30 sends, 30 arrivals and 11 awaited departures to 30, 30 and 16. -/
theorem ag26 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (hw22 : k0_chk22 i (wd (blk 1 c 3))) (hw23 : k0_chk23 i (wd (blk 0 c 3))) (hw24 : k0_chk24 i (wd (blk 1 c 3))) (hw27 : k0_chk27 i (wd (blk 0 c 0))) (hw28 : k0_chk28 i (wd (blk 1 c 0)))
    {α : Type} {kk : _ → Prog (TpuEff nD τ sig (Elt F) Λ₀ .tc) α} {Q : α → sProp 𝕄} :
    iprop(ctx Acc R0 K c ∗ tabs c w ∗ AG R0 c 30 30 11) ⊢ iprop((tabs c w ∗ AG R0 c 30 30 16 -∗ Wc c (kk ⟨⟩) Q)
       -∗ Wc c (k0_part26 i (Memref.whole main_v8) harg2 (Memref.whole main_v13) harg3 arg4 harg4 arg5 harg5 arg6 harg6 arg7 harg7 outM harg8 tmpM harg9 cc0_scratch1 cc0_scratch2 k0_h3 k0_h7 (wd (blk 1 c 3)) hw22 (wd (blk 0 c 3)) hw23 (wd (blk 1 c 3)) hw24 (wd (blk 0 c 0)) hw27 (wd (blk 1 c 0)) hw28 >>= kk) Q) := by
  rw [k0_part26_eq_skeleton]
  unfold k0_part26_skel
  simp only [Prog.lift, Prog.bind_op, Prog.bind_ret, Prog.pure_eq_ret, Prog.bind_assoc]
  iintro ⟨#Hctx, Ht, Ha⟩ Hk
  iapply (ag_swait_at Acc R0 K c (5, 1) 30 30 11 12 (by decide) rfl) $$ [Ha]
  · isplitr; · iexact Hctx
    iexact Ha
  iintro Ha
  iapply (ag_swait_at Acc R0 K c (6, 0) 30 30 12 13 (by decide) rfl) $$ [Ha]
  · isplitr; · iexact Hctx
    iexact Ha
  iintro Ha
  iapply (ag_swait_at Acc R0 K c (6, 1) 30 30 13 14 (by decide) rfl) $$ [Ha]
  · isplitr; · iexact Hctx
    iexact Ha
  iintro Ha
  iapply (ag_swait_at Acc R0 K c (7, 0) 30 30 14 15 (by decide) rfl) $$ [Ha]
  · isplitr; · iexact Hctx
    iexact Ha
  iintro Ha
  iapply (ag_swait_at Acc R0 K c (7, 1) 30 30 15 16 (by decide) rfl) $$ [Ha]
  · isplitr; · iexact Hctx
    iexact Ha
  iintro Ha
  iapply Hk
  isplitl [Ht] <;> iassumption

/-- Part 27 of the body: from 30 sends, 30 arrivals and 16 awaited departures to 30, 30 and 21. -/
theorem ag27 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (hw31 : k0_chk31 i (wd (blk 0 c 0))) (hw32 : k0_chk32 i (wd (blk 1 c 0))) (hw35 : k0_chk35 i (wd (blk 0 c 0))) (hw36 : k0_chk36 i (wd (blk 1 c 0))) (hw39 : k0_chk39 i (wd (blk 0 c 0)))
    {α : Type} {kk : _ → Prog (TpuEff nD τ sig (Elt F) Λ₀ .tc) α} {Q : α → sProp 𝕄} :
    iprop(ctx Acc R0 K c ∗ tabs c w ∗ AG R0 c 30 30 16) ⊢ iprop((tabs c w ∗ AG R0 c 30 30 21 -∗ Wc c (kk ⟨⟩) Q)
       -∗ Wc c (k0_part27 i (Memref.whole main_v8) harg2 (Memref.whole main_v13) harg3 arg4 harg4 arg5 harg5 arg6 harg6 arg7 harg7 outM harg8 tmpM harg9 cc0_scratch1 cc0_scratch2 k0_h3 k0_h7 (wd (blk 0 c 0)) hw31 (wd (blk 1 c 0)) hw32 (wd (blk 0 c 0)) hw35 (wd (blk 1 c 0)) hw36 (wd (blk 0 c 0)) hw39 >>= kk) Q) := by
  rw [k0_part27_eq_skeleton]
  unfold k0_part27_skel
  simp only [Prog.lift, Prog.bind_op, Prog.bind_ret, Prog.pure_eq_ret, Prog.bind_assoc]
  iintro ⟨#Hctx, Ht, Ha⟩ Hk
  iapply (ag_swait_at Acc R0 K c (8, 0) 30 30 16 17 (by decide) rfl) $$ [Ha]
  · isplitr; · iexact Hctx
    iexact Ha
  iintro Ha
  iapply (ag_swait_at Acc R0 K c (8, 1) 30 30 17 18 (by decide) rfl) $$ [Ha]
  · isplitr; · iexact Hctx
    iexact Ha
  iintro Ha
  iapply (ag_swait_at Acc R0 K c (9, 0) 30 30 18 19 (by decide) rfl) $$ [Ha]
  · isplitr; · iexact Hctx
    iexact Ha
  iintro Ha
  iapply (ag_swait_at Acc R0 K c (9, 1) 30 30 19 20 (by decide) rfl) $$ [Ha]
  · isplitr; · iexact Hctx
    iexact Ha
  iintro Ha
  iapply (ag_swait_at Acc R0 K c (10, 0) 30 30 20 21 (by decide) rfl) $$ [Ha]
  · isplitr; · iexact Hctx
    iexact Ha
  iintro Ha
  iapply Hk
  isplitl [Ht] <;> iassumption

/-- Part 28 of the body: from 30 sends, 30 arrivals and 21 awaited departures to 30, 30 and 26. -/
theorem ag28 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (hw40 : k0_chk40 i (wd (blk 1 c 0))) (hw43 : k0_chk43 i (wd (blk 0 c 1))) (hw44 : k0_chk44 i (wd (blk 1 c 1))) (hw47 : k0_chk47 i (wd (blk 0 c 1))) (hw48 : k0_chk48 i (wd (blk 1 c 1)))
    {α : Type} {kk : _ → Prog (TpuEff nD τ sig (Elt F) Λ₀ .tc) α} {Q : α → sProp 𝕄} :
    iprop(ctx Acc R0 K c ∗ tabs c w ∗ AG R0 c 30 30 21) ⊢ iprop((tabs c w ∗ AG R0 c 30 30 26 -∗ Wc c (kk ⟨⟩) Q)
       -∗ Wc c (k0_part28 i (Memref.whole main_v8) harg2 (Memref.whole main_v13) harg3 arg4 harg4 arg5 harg5 arg6 harg6 arg7 harg7 outM harg8 tmpM harg9 cc0_scratch1 cc0_scratch2 k0_h3 k0_h7 (wd (blk 1 c 0)) hw40 (wd (blk 0 c 1)) hw43 (wd (blk 1 c 1)) hw44 (wd (blk 0 c 1)) hw47 (wd (blk 1 c 1)) hw48 >>= kk) Q) := by
  rw [k0_part28_eq_skeleton]
  unfold k0_part28_skel
  simp only [Prog.lift, Prog.bind_op, Prog.bind_ret, Prog.pure_eq_ret, Prog.bind_assoc]
  iintro ⟨#Hctx, Ht, Ha⟩ Hk
  iapply (ag_swait_at Acc R0 K c (10, 1) 30 30 21 22 (by decide) rfl) $$ [Ha]
  · isplitr; · iexact Hctx
    iexact Ha
  iintro Ha
  iapply (ag_swait_at Acc R0 K c (11, 0) 30 30 22 23 (by decide) rfl) $$ [Ha]
  · isplitr; · iexact Hctx
    iexact Ha
  iintro Ha
  iapply (ag_swait_at Acc R0 K c (11, 1) 30 30 23 24 (by decide) rfl) $$ [Ha]
  · isplitr; · iexact Hctx
    iexact Ha
  iintro Ha
  iapply (ag_swait_at Acc R0 K c (12, 0) 30 30 24 25 (by decide) rfl) $$ [Ha]
  · isplitr; · iexact Hctx
    iexact Ha
  iintro Ha
  iapply (ag_swait_at Acc R0 K c (12, 1) 30 30 25 26 (by decide) rfl) $$ [Ha]
  · isplitr; · iexact Hctx
    iexact Ha
  iintro Ha
  iapply Hk
  isplitl [Ht] <;> iassumption

end Cert.FusedProof
-- ==== Proof.Conv.lean ====
/-
  The result buffer as row blocks and pieces, the receive buffer as slots, and what the gathering of the finished rows
  starts from and ends with.
-/
module

public import proofs.«01_k».proof.Proof.RsParts
public import proofs.«01_k».proof.Proof.AgParts

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

/-! ## Rows, pieces and slots as parts of their buffers -/

theorem row_set (k : Fin 8) : (rowM k).view.set = (rowR k).set := (View.set_slice _ _).trans Finset.map_refl
theorem piece_set (k : Fin 8) (p : Fin 4) : (pieceM k p).view.set = (pieceR k p).set := (View.set_slice _ _).trans Finset.map_refl

theorem mem_row (k : Fin 8) (i : S2048x2048.Idx) : i ∈ (rowR k).set ↔ 256 * k.val ≤ (i 0).val ∧ (i 0).val < 256 * k.val + 256 := by
  rw [Rect.mem_set_unit, Fin.forall_fin_two]
  show (256 * k.val ≤ (i 0).val ∧ (i 0).val < 256 * k.val + 256) ∧ (0 ≤ (i 1).val ∧ (i 1).val < 0 + 2048) ↔ _
  have : (i 1).val < 2048 := (i 1).isLt
  omega
theorem mem_piece (k : Fin 8) (p : Fin 4) (i : S2048x2048.Idx) : i ∈ (pieceR k p).set
    ↔ (256 * k.val ≤ (i 0).val ∧ (i 0).val < 256 * k.val + 256) ∧ 512 * p.val ≤ (i 1).val ∧ (i 1).val < 512 * p.val + 512 := by
  rw [Rect.mem_set_unit, Fin.forall_fin_two]; rfl

theorem row_pieces_set (k : Fin 8) : (rowR k).set = (Finset.univ : Finset (Fin 4)).biUnion fun p => (pieceR k p).set := by
  ext i
  rw [mem_row]
  simp only [Finset.mem_biUnion, Finset.mem_univ, true_and, mem_piece]
  have h1 : (i 1).val < 2048 := (i 1).isLt
  constructor
  · intro h
    exact ⟨⟨(i 1).val / 512, by omega⟩, h, by show 512 * ((i 1).val / 512) ≤ _; omega, by show _ < 512 * ((i 1).val / 512) + 512; omega⟩
  · rintro ⟨p, h, -⟩; exact h

theorem piece_disj (k k' : Fin 8) (p p' : Fin 4) (h : (k, p) ≠ (k', p')) : Disjoint (pieceR k p).set (pieceR k' p').set := by
  rw [Finset.disjoint_left]
  intro i h1 h2
  rw [mem_piece] at h1 h2
  apply h
  have e1 : k = k' := Fin.ext (by omega)
  have e2 : p = p' := Fin.ext (by omega)
  rw [e1, e2]

theorem row_disj (k k' : Fin 8) (h : k ≠ k') : Disjoint (rowR k).set (rowR k').set := by
  rw [Finset.disjoint_left]
  intro i h1 h2
  rw [mem_row] at h1 h2
  exact h (Fin.ext (by omega))

theorem piece_in_row (k : Fin 8) (p : Fin 4) (j : S256x512.Idx) : ∃ j' : S256x2048.Idx, (rowR k).emb j' = (pieceR k p).emb j := by
  have h : (pieceR k p).emb j ∈ (rowR k).set := by
    rw [row_pieces_set]
    exact Finset.mem_biUnion.mpr ⟨p, Finset.mem_univ _, (pieceR k p).idx_mem j⟩
  obtain ⟨j', e⟩ := (rowR k).exists_idx_of_mem h
  exact ⟨j', e⟩

theorem bigs {T : Type} [Fintype T] (Φ Ψ : T → sProp 𝕄) (h : ∀ i, Φ i ⊢ Ψ i) :
    (bigSep Finset.univ Φ : sProp 𝕄) ⊢ bigSep Finset.univ Ψ := bigSep_mono fun i _ => h i

theorem slice_split_at {T : Type} [Fintype T] (t : Thread nD τ) {sp : Space} {sh : Shape} {e : EltTy} (m : Memref sig t.2.kind sp sh e)
    (r : Rect sh) (hr : ∀ a, r.stride a = 1) (rs : T → Rect sh) (hrs : ∀ i a, (rs i).stride a = 1)
    (hd : ∀ i i', i ≠ i' → Disjoint (rs i).set (rs i').set) (hset : ∀ x, x ∈ r.set ↔ ∃ i, x ∈ (rs i).set)
    (R : sh.Idx → Elt F e) (f : (m.slice r hr).view.ty.Contents (Elt F)) (hX : ∀ j, m.view.read (Elt F) f (r.emb j) = R (r.emb j)) :
    ((m.slice r hr).view.loc t ↦[(m.slice r hr).view.set]{fullShare} f : sProp 𝕄)
      ⊢ bigSep Finset.univ fun i => owns t (m.slice (rs i) (hrs i)) fullShare fun j => R ((rs i).emb j) := by
  classical
  have h1 : ((m.slice r hr).view.set) = Finset.univ.biUnion fun i => (m.slice (rs i) (hrs i)).view.set := by
    show (m.view.slice r).set = Finset.univ.biUnion fun i => (m.view.slice (rs i)).set
    ext x
    simp only [View.set_slice, Finset.mem_biUnion, Finset.mem_univ, true_and, Finset.mem_map]
    constructor
    · rintro ⟨y, hy, rfl⟩
      obtain ⟨i, hi⟩ := (hset y).mp hy
      exact ⟨i, y, hi, rfl⟩
    · rintro ⟨i, y, hy, rfl⟩
      exact ⟨y, (hset y).mpr ⟨i, hy⟩, rfl⟩
  have h2 : ((m.slice r hr).view.loc t ↦[(m.slice r hr).view.set]{fullShare} f : sProp 𝕄)
      = bigSep Finset.univ fun i => ((m.slice r hr).view.loc t ↦[(m.slice (rs i) (hrs i)).view.set]{fullShare} f) := by
    rw [h1]
    refine pointsTo_biUnion _ _ fun i _ i' _ hi => ?_
    show Disjoint (m.view.slice (rs i)).set (m.view.slice (rs i')).set
    rw [View.set_slice, View.set_slice]; exact (Finset.disjoint_map _).mpr (hd i i' hi)
  have h3 : ∀ i : T, ((m.slice r hr).view.loc t ↦[(m.slice (rs i) (hrs i)).view.set]{fullShare} f : sProp 𝕄)
      ⊢ owns t (m.slice (rs i) (hrs i)) fullShare fun j => R ((rs i).emb j) := by
    intro i
    refine owns_mk t (m.slice (rs i) (hrs i)) _ f ?_
    funext j
    obtain ⟨j', hj⟩ := r.exists_idx_of_mem ((hset _).mpr ⟨i, (rs i).idx_mem j⟩)
    have hj' : r.emb j' = (rs i).emb j := hj
    show m.view.read (Elt F) f ((rs i).emb j) = R ((rs i).emb j)
    rw [← hj', hX]
  rw [h2]
  exact bigs _ _ h3

/-- A part of a buffer owned at its part of `R` is smaller disjoint parts that make it up, owned at theirs. -/
theorem slice_split {T : Type} [Fintype T] (t : Thread nD τ) {sp : Space} {sh : Shape} {e : EltTy} (m : Memref sig t.2.kind sp sh e)
    (r : Rect sh) (hr : ∀ a, r.stride a = 1) (rs : T → Rect sh) (hrs : ∀ i a, (rs i).stride a = 1)
    (hd : ∀ i i', i ≠ i' → Disjoint (rs i).set (rs i').set) (hset : ∀ x, x ∈ r.set ↔ ∃ i, x ∈ (rs i).set)
    (R : sh.Idx → Elt F e) (X : r.shape.Idx → Elt F e) (hX : ∀ j, X j = R (r.emb j)) :
    (owns t (m.slice r hr) fullShare X : sProp 𝕄)
      ⊢ bigSep Finset.univ fun i => owns t (m.slice (rs i) (hrs i)) fullShare fun j => R ((rs i).emb j) := by
  refine (owns_ex t (m.slice r hr) X).trans ?_
  iintro ⟨%f, %hf, H⟩
  iapply (slice_split_at t m r hr rs hrs hd hset R f (fun j => by rw [← hX, ← hf]; rfl))
  iexact H

/-- A row block owned at its part of `R` is its four pieces at theirs. -/
theorem row_pieces (c : Dev nD) (k : Fin 8) (R : S2048x2048.Idx → Elt F .f32) (X : S256x2048.Idx → Elt F .f32)
    (hX : ∀ j : S256x2048.Idx, X j = R ((rowR k).emb j)) :
    (owns (c : Thread nD τ) (rowM k) fullShare X : sProp 𝕄) ⊢ bigSep Finset.univ fun p : Fin 4 => pieceAt R c k p :=
  slice_split (c : Thread nD τ) outM (rowR k) (fun _ => rfl) (fun p : Fin 4 => pieceR k p) (fun _ _ => rfl)
    (fun p p' hp => piece_disj k k p p' (fun he => hp (Prod.ext_iff.mp he).2))
    (fun x => by rw [row_pieces_set]; simp only [Finset.mem_biUnion, Finset.mem_univ, true_and]) R X hX

/-- What is owned at some contents is owned at any. -/
theorem owns_any (t : Thread nD τ) {sp : Space} {sh : Shape} {e : EltTy} (m : Memref sig t.2.kind sp sh e) (X : sh.Idx → Elt F e) :
    (owns t m fullShare X : sProp 𝕄) ⊢ iprop(∃ Y, owns t m fullShare Y) := by
  iintro H; iexists X; iexact H

/-- A row block at any contents is its four pieces at any. -/
theorem row_anys (c : Dev nD) (k : Fin 8) : anyRow (F := F) c k ⊢ bigSep Finset.univ fun p : Fin 4 => anyPiece c k p := by
  unfold anyRow
  iintro ⟨%X, H⟩
  ihave H' := (owns_ex (c : Thread nD τ) (rowM k) X) $$ H
  icases H' with ⟨%f, %hf, H⟩
  ihave H2 := ((owns_mk (c : Thread nD τ) (rowM k) X f hf).trans (row_pieces c k f X (fun j => by rw [← hf]; rfl))) $$ H
  have hm : (bigSep Finset.univ fun p : Fin 4 => pieceAt (F := F) f c k p) ⊢ bigSep Finset.univ fun p : Fin 4 => anyPiece (F := F) c k p :=
    bigSep_mono fun p _ => owns_any (c : Thread nD τ) (pieceM k p) _
  iapply hm; iexact H2

theorem blk_inj (c : Dev nD) : Function.Injective fun x : Fin 2 × Fin 4 => blk x.1 c x.2 := by revert c; decide
theorem blk_surj (c : Dev nD) : Function.Surjective fun x : Fin 2 × Fin 4 => blk x.1 c x.2 := by revert c; decide

/-- The eight row blocks, as the two rings number them. -/
theorem out_rows (c : Dev nD) (X : S2048x2048.Idx → Elt F .f32) :
    (owns (c : Thread nD τ) outM fullShare X : sProp 𝕄) ⊢ bigSep Finset.univ fun x : Fin 2 × Fin 4 => anyRow (F := F) c (blk x.1 c x.2) := by
  refine (owns_rects (c : Thread nD τ) outM fullShare (fun x : Fin 2 × Fin 4 => rowR (blk x.1 c x.2)) (fun _ _ => rfl)
    (fun t t' h => row_disj _ _ (fun e => h (blk_inj c e))) ?_ X).trans (bigSep_mono fun x _ => ?_)
  · ext i
    simp only [Finset.mem_biUnion, Finset.mem_univ, true_and, iff_true]
    have h0 : (i 0).val < 2048 := (i 0).isLt
    obtain ⟨x, hx⟩ := blk_surj c ⟨(i 0).val / 256, by omega⟩
    refine ⟨x, (mem_row _ i).mpr ?_⟩
    have : (blk x.1 c x.2).val = (i 0).val / 256 := congrArg Fin.val hx
    omega
  · exact owns_any (c : Thread nD τ) (rowM (blk x.1 c x.2)) _

/-! ## The slots -/

/-- A slot at any contents, as a part of its buffer. -/
theorem slot_of (c : Dev nD) (r : Fin 2) (i : Fin 3) :
    iprop(∃ X, owns (c : Thread nD τ) (tmpM.slice (slotR r i) (fun _ => rfl)) fullShare X) ⊢ (anySlot (F := F) c r i : sProp 𝕄) := by
  unfold anySlot
  iintro ⟨%X, H⟩
  ihave H' := (owns_ex (c : Thread nD τ) (tmpM.slice (slotR r i) (fun _ => rfl)) X) $$ H
  icases H' with ⟨%f, -, H⟩
  iexists ((slotM r i).view.read (Elt F) f)
  have e : (slotM r i).view.set = (tmpM.slice (slotR r i) (fun _ => rfl)).view.set := View.set_reshape _ _
  iapply (owns_mk (c : Thread nD τ) (slotM r i) _ f rfl)
  rw [e]; iexact H
theorem of_slot (c : Dev nD) (r : Fin 2) (i : Fin 3) :
    (anySlot (F := F) c r i : sProp 𝕄) ⊢ iprop(∃ X, owns (c : Thread nD τ) (tmpM.slice (slotR r i) (fun _ => rfl)) fullShare X) := by
  unfold anySlot
  iintro ⟨%X, H⟩
  ihave H' := (owns_ex (c : Thread nD τ) (slotM r i) X) $$ H
  icases H' with ⟨%f, -, H⟩
  iexists ((tmpM.slice (slotR r i) (fun _ => rfl)).view.read (Elt F) f)
  have e : (slotM r i).view.set = (tmpM.slice (slotR r i) (fun _ => rfl)).view.set := View.set_reshape _ _
  iapply (owns_mk (c : Thread nD τ) (tmpM.slice (slotR r i) (fun _ => rfl)) _ f rfl)
  rw [← e]; iexact H

theorem mem_slot (r : Fin 2) (i : Fin 3) (x : S2x3x256x2048.Idx) : x ∈ (slotR r i).set ↔ (x 0).val = r.val ∧ (x 1).val = i.val := by
  rw [Rect.mem_set_unit]
  constructor
  · intro h
    have h0 : r.val ≤ (x 0).val ∧ (x 0).val < r.val + 1 := h 0
    have h1 : i.val ≤ (x 1).val ∧ (x 1).val < i.val + 1 := h 1
    omega
  · intro h a
    have h2 : (x 2).val < 256 := (x 2).isLt
    have h3 : (x 3).val < 2048 := (x 3).isLt
    fin_cases a
    · show r.val ≤ (x 0).val ∧ (x 0).val < r.val + 1; omega
    · show i.val ≤ (x 1).val ∧ (x 1).val < i.val + 1; omega
    · show 0 ≤ (x 2).val ∧ (x 2).val < 0 + 256; omega
    · show 0 ≤ (x 3).val ∧ (x 3).val < 0 + 2048; omega

theorem slot_disj (t t' : Fin 2 × Fin 3) (h : t ≠ t') : Disjoint (slotR t.1 t.2).set (slotR t'.1 t'.2).set := by
  rw [Finset.disjoint_left]
  intro i h1 h2
  rw [mem_slot] at h1 h2
  exact h (Prod.ext (Fin.ext (by omega)) (Fin.ext (by omega)))

theorem slot_cov : ((Finset.univ : Finset (Fin 2 × Fin 3)).biUnion fun t => (slotR t.1 t.2).set) = Finset.univ := by
  ext i
  simp only [Finset.mem_biUnion, Finset.mem_univ, true_and, iff_true]
  exact ⟨(⟨(i 0).val, (i 0).isLt⟩, ⟨(i 1).val, (i 1).isLt⟩), (mem_slot _ _ _).mpr ⟨rfl, rfl⟩⟩

theorem tmp_slots (c : Dev nD) (X : S2x3x256x2048.Idx → Elt F .f32) :
    (owns (c : Thread nD τ) tmpM fullShare X : sProp 𝕄) ⊢ bigSep Finset.univ fun x : Fin 2 × Fin 3 => anySlot (F := F) c x.1 x.2 :=
  (owns_rects (c : Thread nD τ) tmpM fullShare (fun x : Fin 2 × Fin 3 => slotR x.1 x.2) (fun _ _ => rfl)
    slot_disj slot_cov X).trans (bigSep_mono fun x _ =>
      (owns_any (c : Thread nD τ) (tmpM.slice (slotR x.1 x.2) (fun _ => rfl)) _).trans (slot_of c x.1 x.2))

theorem slots_tmp (c : Dev nD) :
    (bigSep Finset.univ fun x : Fin 2 × Fin 3 => anySlot (F := F) c x.1 x.2) ⊢ iprop(∃ X, owns (c : Thread nD τ) tmpM fullShare X : sProp 𝕄) := by
  have h1 : (bigSep Finset.univ fun x : Fin 2 × Fin 3 => anySlot (F := F) c x.1 x.2)
      ⊢ bigSep Finset.univ fun x : Fin 2 × Fin 3 => iprop(∃ f : S2x3x256x2048.Idx → Elt F .f32,
        owns (c : Thread nD τ) (tmpM.slice (slotR x.1 x.2) (fun _ => rfl)) fullShare (fun j => f ((slotR x.1 x.2).emb j)) : sProp 𝕄) := by
    refine bigSep_mono fun x _ => (of_slot c x.1 x.2).trans ?_
    iintro ⟨%X, H⟩
    ihave H' := (owns_ex (c : Thread nD τ) (tmpM.slice (slotR x.1 x.2) (fun _ => rfl)) X) $$ H
    icases H' with ⟨%f, %hf, H⟩
    iexists f
    iapply (owns_mk (c : Thread nD τ) (tmpM.slice (slotR x.1 x.2) (fun _ => rfl)) _ f rfl); iexact H
  haveI : Nonempty (S2x3x256x2048.Idx → Elt F .f32) := ⟨fun _ => (inferInstance : ∀ e, Nonempty (Elt F e)) EltTy.f32 |>.some⟩
  refine h1.trans ((bigSep_exists_pi Finset.univ _).trans ?_)
  iintro ⟨%f, H⟩
  have hg : ∀ (x : Fin 2 × Fin 3) (j : (slotR x.1 x.2).shape.Idx),
      f x ((slotR x.1 x.2).emb j) = (fun i : S2x3x256x2048.Idx => f (⟨(i 0).val, (i 0).isLt⟩, ⟨(i 1).val, (i 1).isLt⟩) i) ((slotR x.1 x.2).emb j) := by
    intro x j
    have hm := (mem_slot x.1 x.2 _).mp ((slotR x.1 x.2).idx_mem j)
    have e : (⟨(((slotR x.1 x.2).emb j) 0).val, (((slotR x.1 x.2).emb j) 0).isLt⟩, ⟨(((slotR x.1 x.2).emb j) 1).val, (((slotR x.1 x.2).emb j) 1).isLt⟩) = x :=
      Prod.ext (Fin.ext hm.1) (Fin.ext hm.2)
    show _ = f (⟨(((slotR x.1 x.2).emb j) 0).val, _⟩, ⟨(((slotR x.1 x.2).emb j) 1).val, _⟩) _
    rw [e]
  iexists (fun i : S2x3x256x2048.Idx => f (⟨(i 0).val, (i 0).isLt⟩, ⟨(i 1).val, (i 1).isLt⟩) i)
  iapply (owns_of_rects (c : Thread nD τ) tmpM fullShare (fun x : Fin 2 × Fin 3 => slotR x.1 x.2) (fun _ _ => rfl) slot_disj slot_cov)
  have e : (bigSep Finset.univ fun x : Fin 2 × Fin 3 => owns (c : Thread nD τ) (tmpM.slice (slotR x.1 x.2) (fun _ => rfl)) fullShare (fun j => f x ((slotR x.1 x.2).emb j)) : sProp 𝕄)
      = bigSep Finset.univ fun x : Fin 2 × Fin 3 => owns (c : Thread nD τ) (tmpM.slice (slotR x.1 x.2) (fun _ => rfl)) fullShare
          (fun j => (fun i : S2x3x256x2048.Idx => f (⟨(i 0).val, (i 0).isLt⟩, ⟨(i 1).val, (i 1).isLt⟩) i) ((slotR x.1 x.2).emb j)) :=
    bigSep_congr fun x _ => congrArg _ (funext (hg x))
  rw [← e]; iexact H

/-! ## What the gathering starts from and ends with -/

/-- The first two row blocks of the other ring, as the eight places handed over at once. -/
theorem rows_gift (c : Dev nD) (r : Fin 2) :
    iprop(anyRow (F := F) c (blk (ot r) c 0) ∗ anyRow c (blk (ot r) c 1)) ⊢ (gift c r 2 : sProp 𝕄) := by
  unfold gift
  rw [if_pos (by decide), bigSep_univ_prod, bigSep_univ_two]
  exact Idealize.SL.BI.sep_mono (row_anys c _) (row_anys c _)

def eIn : Fin 2 × Fin 4 ↪ Fin 32 := ⟨fun x => ⟨2 * x.2.val + x.1.val, by omega⟩, by decide⟩
def eGive : Fin 2 × Fin 4 ↪ Fin 8 := ⟨fun x => ⟨2 * x.2.val + x.1.val, by omega⟩, by decide⟩
def eDue : Fin 2 × (Fin 2 × Fin 4) ↪ Fin 24 := ⟨fun x => ⟨8 * x.2.1.val + 2 * x.2.2.val + x.1.val, by omega⟩, by decide⟩

theorem in_start (c : Dev nD) : (bigSep Finset.univ fun n : Fin 32 => inC (F := F) R0 c 6 6 6 n.val)
    = bigSep Finset.univ fun r : Fin 2 => bigSep Finset.univ fun p : Fin 4 => pieceAt R0 c (blk r c 3) p := by
  have h : (fun n : Fin 32 => inC (F := F) R0 c 6 6 6 n.val)
      = fun n : Fin 32 => if n.val < 8 then pieceAt R0 c (blk (rOf n.val) c (sOf n.val)) (pOf n.val) else iprop(emp) := by
    funext n; unfold inC isIn
    have : (n.val + 6 < 6 + 8 ∧ (6 ≤ n.val + 6 ∨ n.val + 6 < 6)) ↔ n.val < 8 := by omega
    simp only [this]
  rw [h]
  refine Eq.trans (bigSep_filter Finset.univ (fun n : Fin 32 => n.val < 8) (fun n : Fin 32 => pieceAt R0 c (blk (rOf n.val) c (sOf n.val)) (pOf n.val))).symm ?_
  rw [show (Finset.univ.filter fun n : Fin 32 => n.val < 8) = Finset.univ.map eIn by decide, bigSep_map, bigSep_univ_prod]
  refine bigSep_congr fun r _ => bigSep_congr fun p _ => ?_
  have : ∀ (r : Fin 2) (p : Fin 4), rOf (eIn (r, p)).val = r ∧ sOf (eIn (r, p)).val = 3 ∧ pOf (eIn (r, p)).val = p := by decide
  obtain ⟨a, b, d⟩ := this r p
  rw [a, b, d]

theorem give_start (c : Dev nD) : (bigSep Finset.univ fun n : Fin 8 => giveC (F := F) c 6 n.val)
    = bigSep Finset.univ fun r : Fin 2 => bigSep Finset.univ fun p : Fin 4 => anyPiece c (blk (ot r) c 2) p := by
  have h : (fun n : Fin 8 => giveC (F := F) c 6 n.val) = fun n : Fin 8 => anyPiece c (blk (ot (rOf n.val)) c 2) (pOf n.val) := by
    funext n; unfold giveC; rw [if_pos (by omega)]
  rw [h, show (Finset.univ : Finset (Fin 8)) = Finset.univ.map eGive by decide, bigSep_map, bigSep_univ_prod]
  refine bigSep_congr fun r _ => bigSep_congr fun p _ => ?_
  have : ∀ (r : Fin 2) (p : Fin 4), rOf (eGive (r, p)).val = r ∧ pOf (eGive (r, p)).val = p := by decide
  obtain ⟨a, d⟩ := this r p
  rw [a, d]

theorem due_start (c : Dev nD) : (bigSep Finset.univ fun n : Fin 24 => dueC (F := F) c 6 6 n.val)
    = bigSep Finset.univ fun r : Fin 2 => gift (F := F) (sr (ot r) c) (ot r) 2 := by
  have h : (fun n : Fin 24 => dueC (F := F) c 6 6 n.val)
      = fun n : Fin 24 => if n.val < 16 then anyPiece (pr (rOf n.val) c) (blk (rOf n.val) c (sOf n.val)) (pOf n.val) else iprop(emp) := by
    funext n; unfold dueC isDue
    have : ((n.val < 16 ∨ (n.val - 16) / 2 * 2 + (n.val + 1) % 2 + 6 < 6) ∧ 6 ≤ n.val + 6) ↔ n.val < 16 := by omega
    simp only [this]
  rw [h]
  refine Eq.trans (bigSep_filter Finset.univ (fun n : Fin 24 => n.val < 16) (fun n : Fin 24 => anyPiece (F := F) (pr (rOf n.val) c) (blk (rOf n.val) c (sOf n.val)) (pOf n.val))).symm ?_
  rw [show (Finset.univ.filter fun n : Fin 24 => n.val < 16) = Finset.univ.map eDue by decide, bigSep_map, bigSep_univ_prod]
  refine bigSep_congr fun r _ => ?_
  unfold gift
  rw [if_pos (by decide)]
  refine bigSep_congr fun x _ => ?_
  have : ∀ (r : Fin 2) (x : Fin 2 × Fin 4) (c : Dev nD), rOf (eDue (r, x)).val = r ∧ pOf (eDue (r, x)).val = x.2
      ∧ blk r c (sOf (eDue (r, x)).val) = blk (ot (ot r)) (sr (ot r) c) ⟨x.1.val, by omega⟩ ∧ sr (ot r) c = pr r c := by decide
  obtain ⟨a, b, d, e⟩ := this r x c
  rw [a, b, d, e]

/-- The gathering's start, from the finished rows of step 3, the rows of step 2 to be overwritten, and the places
    the neighbours handed over. -/
theorem ag_start (c : Dev nD) (X0 X1 : S256x2048.Idx → Elt F .f32)
    (h0 : ∀ j : S256x2048.Idx, X0 j = R0 ((rowR (blk 0 c 3)).emb j)) (h1 : ∀ j : S256x2048.Idx, X1 j = R0 ((rowR (blk 1 c 3)).emb j)) :
    iprop(cells (F := F) c 6 6 6 ∗ owns (c : Thread nD τ) (rowM (blk 0 c 3)) fullShare X0 ∗ owns (c : Thread nD τ) (rowM (blk 1 c 3)) fullShare X1
        ∗ anyRow c (blk 0 c 2) ∗ anyRow c (blk 1 c 2) ∗ gift (sr 0 c) 0 2 ∗ gift (sr 1 c) 1 2) ⊢ AG R0 c 6 6 6 := by
  unfold AG
  rw [in_start, give_start, due_start, bigSep_univ_two, bigSep_univ_two, bigSep_univ_two]
  iintro ⟨Hc, H0, H1, Ha, Hb, Hg, Hh⟩
  isplitl [Hc]; · iexact Hc
  isplitl [H0 H1]
  · isplitl [H0]
    · iapply (row_pieces c _ R0 X0 h0); iexact H0
    · iapply (row_pieces c _ R0 X1 h1); iexact H1
  isplitl [Ha Hb]
  · isplitl [Hb]
    · iapply (row_anys c _); iexact Hb
    · iapply (row_anys c _); iexact Ha
  · isplitl [Hh]
    · iexact Hh
    · iexact Hg

/-- After the gathering the whole result is there. -/
theorem ag_end (c : Dev nD) : AG (F := F) R0 c 30 30 30 ⊢ iprop(cells c 30 30 30 ∗ owns (c : Thread nD τ) outM fullShare R0) := by
  unfold AG
  have h : (fun n : Fin 32 => inC (F := F) R0 c 30 30 30 n.val)
      = fun n : Fin 32 => owns (c : Thread nD τ) (outM.slice (pieceR (blk (rOf n.val) c (sOf n.val)) (pOf n.val)) (fun _ => rfl)) fullShare
          (fun j => R0 ((pieceR (blk (rOf n.val) c (sOf n.val)) (pOf n.val)).emb j)) := by
    funext n; unfold inC; rw [if_pos (by unfold isIn; omega)]; rfl
  rw [h]
  iintro ⟨Hc, H, -, -⟩
  isplitl [Hc]; · iexact Hc
  have hinj : ∀ (c : Dev nD) (n n' : Fin 32), blk (rOf n.val) c (sOf n.val) = blk (rOf n'.val) c (sOf n'.val) → pOf n.val = pOf n'.val → n = n' := by
    decide
  have hsur : ∀ (c : Dev nD) (k : Fin 8) (p : Fin 4), ∃ n : Fin 32, blk (rOf n.val) c (sOf n.val) = k ∧ pOf n.val = p := by decide
  iapply (owns_of_rects (c : Thread nD τ) outM fullShare (fun n : Fin 32 => pieceR (blk (rOf n.val) c (sOf n.val)) (pOf n.val)) (fun _ _ => rfl)
    (fun t t' ht => piece_disj _ _ _ _ (fun e => ht (hinj c t t' (Prod.ext_iff.mp e).1 (Prod.ext_iff.mp e).2))) (by
      ext i
      simp only [Finset.mem_biUnion, Finset.mem_univ, true_and, iff_true]
      have h0 : (i 0).val < 2048 := (i 0).isLt
      have h1 : (i 1).val < 2048 := (i 1).isLt
      obtain ⟨n, hn, hp⟩ := hsur c ⟨(i 0).val / 256, by omega⟩ ⟨(i 1).val / 512, by omega⟩
      refine ⟨n, (mem_piece _ _ i).mpr ?_⟩
      have e1 := congrArg Fin.val hn
      have e2 := congrArg Fin.val hp
      simp only at e1 e2
      omega) R0)
  iexact H

end Cert.FusedProof
-- ==== Proof.Stage.lean ====
/-
  The first part of the body, which computes a point's two products, and the parts of the last point together.
-/
module

public import proofs.«01_k».proof.Proof.Conv

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

theorem off2 (i : grid0.Coords) : k0_off2 i = ![(i 0).val] := by
  have h : ∀ s : Fin 4, (Scalar.indexCast (BitVec.ofNat 32 s.val)).toNat = s.val := by decide
  unfold k0_off2
  funext a; fin_cases a
  exact h (i 0)

/-- The first part: the four blocks are read and the two products of the point computed. -/
theorem p30 (c : Dev nD) (w : PosShare TreeShare) (i : grid0.Coords) {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32)
    {α : Type} {kk : _ → Prog (TpuEff nD τ sig (Elt F) Λ₀ .tc) α} {Q : α → sProp 𝕄} :
    iprop(tabs c w ∗ owns (c : Thread nD τ) arg4 fullShare X4 ∗ owns (c : Thread nD τ) arg5 fullShare X5
        ∗ owns (c : Thread nD τ) arg6 fullShare X6 ∗ owns (c : Thread nD τ) arg7 fullShare X7)
      ⊢ iprop((∀ z : Fin 7 → BitVec 32, tabs c w ∗ owns (c : Thread nD τ) arg4 fullShare X4 ∗ owns (c : Thread nD τ) arg5 fullShare X5
            ∗ owns (c : Thread nD τ) arg6 fullShare X6 ∗ owns (c : Thread nD τ) arg7 fullShare X7
          -∗ Wc c (kk ⟨z 0, z 1, c, z 2, z 3, wd (blk 0 c (i 0)), chk1 i (blk 0 c (i 0)), z 4, wd (blk 1 c (i 0)), chk2 i (blk 1 c (i 0)), z 5,
              k0_pay18 X4 X5 X6 X7, k0_pay19 X4 X5 X6 X7, z 6, 0#32⟩) Q)
        -∗ Wc c (k0_part30 i (Memref.whole main_v8) harg2 (Memref.whole main_v13) harg3 arg4 harg4 arg5 harg5 arg6 harg6 arg7 harg7 outM harg8 tmpM harg9 cc0_scratch1 cc0_scratch2 >>= kk) Q) := by
  rw [k0_part30_eq_skeleton]
  unfold k0_part30_skel
  simp only [Prog.lift, Prog.bind_op, Prog.bind_ret, Prog.pure_eq_ret, Prog.bind_assoc, wp_deviceId]
  iintro ⟨Ht, H4, H5, H6, H7⟩ Hk
  iapply (tab0 c w (i 0) (off2 i)) $$ Ht
  iintro Ht
  iapply (assume_of c (chk1 i (blk 0 c (i 0))))
  iapply (tab1 c w (i 0) (off2 i)) $$ Ht
  iintro Ht
  iapply (assume_of c (chk2 i (blk 1 c (i 0))))
  iapply (load_all c arg4 X4 (by funext a; fin_cases a <;> rfl)) $$ H4
  iintro H4
  iapply (load_all c arg5 X5 (by funext a; fin_cases a <;> rfl)) $$ H5
  iintro H5
  iapply (load_all c arg6 X6 (by funext a; fin_cases a <;> rfl)) $$ H6
  iintro H6
  iapply (load_all c arg7 X7 (by funext a; fin_cases a <;> rfl)) $$ H7
  iintro H7
  ispecialize Hk $$ %(![BitVec.ofNat 32 (i 0).val, BitVec.ofNat 32 (i 1).val, Scalar.remsi (Scalar.addi (Scalar.subi (Scalar.remsi (Scalar.divsi (Dev.word c) 1#32) 4#32) 1#32) 8#32) 4#32,
    Scalar.remsi (Scalar.addi (Scalar.addi (Scalar.remsi (Scalar.divsi (Dev.word c) 1#32) 4#32) 1#32) 8#32) 4#32, Scalar.muli (wd (blk 0 c (i 0))) 256#32, Scalar.muli (wd (blk 1 c (i 0))) 256#32,
    Scalar.extui (Scalar.cmpi .eq (BitVec.ofNat 32 (i 1).val) 0#32)])
  iapply Hk
  isplitl [Ht]; · iexact Ht
  isplitl [H4]; · iexact H4
  isplitl [H5]; · iexact H5
  isplitl [H6]; · iexact H6
  iexact H7

/-- Part 8 of the body: the last rows are added on ring 1 and the first two pieces sent. -/
theorem ag8 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 v8 : BitVec 32) (hw16 : k0_chk16 i (wd (blk 1 c 3))) (v56 : BitVec 32) (v99 : S256x2048.Idx → Elt F .f32)
    (X0 X1 Y : S256x2048.Idx → Elt F .f32)
    (h0 : ∀ j : S256x2048.Idx, X0 j = R0 ((rowR (blk 0 c 3)).emb j)) (h1 : ∀ j : S256x2048.Idx, accB v99 Y j = R0 ((rowR (blk 1 c 3)).emb j))
    {α : Type} {kk : _ → Prog (TpuEff nD τ sig (Elt F) Λ₀ .tc) α} {Q : α → sProp 𝕄} :
    iprop(ctx Acc R0 K c ∗ tabs c w ∗ cells c 6 6 6 ∗ owns (c : Thread nD τ) (rowM (blk 0 c 3)) fullShare X0 ∗ owns (c : Thread nD τ) (slotM 1 2) fullShare Y
        ∗ owns (c : Thread nD τ) (rowM (blk 1 c 3)) fullShare X1
        ∗ anyRow c (blk 0 c 2) ∗ anyRow c (blk 1 c 2) ∗ gift (sr 0 c) 0 2 ∗ gift (sr 1 c) 1 2)
      ⊢ iprop((tabs c w ∗ AG R0 c 8 6 6 ∗ owns (c : Thread nD τ) (slotM 1 2) fullShare Y
          -∗ Wc c (kk ⟨wd (blk 0 c 3), chk17 i (blk 0 c 3), wd (blk 1 c 3), chk18 i (blk 1 c 3), wd (blk 0 c 3), chk19 i (blk 0 c 3)⟩) Q)
        -∗ Wc c (k0_part8 i (Memref.whole main_v8) harg2 (Memref.whole main_v13) harg3 arg4 harg4 arg5 harg5 arg6 harg6 arg7 harg7 outM harg8 tmpM harg9 cc0_scratch1 cc0_scratch2 c v5 v8 k0_h3 k0_h7 (wd (blk 1 c 3)) hw16 v56 v99 >>= kk) Q) := by
  rw [k0_part8_eq_skeleton]
  unfold k0_part8_skel
  simp only [Prog.lift, Prog.bind_op, Prog.bind_ret, Prog.pure_eq_ret, Prog.bind_assoc]
  iintro ⟨#Hctx, Ht, Hc, H0, Hs, H1, Ha, Hb, Hg, Hh⟩ Hk
  iapply (load_slot c 1 2 Y rfl) $$ Hs
  iintro Hs %v %hv
  iapply (load_row c (blk 1 c 3) X1 (off26 (blk 1 c 3))) $$ H1
  iintro H1
  iapply (store_row c (blk 1 c 3) X1 _ (off26 (blk 1 c 3))) $$ H1
  iintro H1
  rw [show k0_pay16 v99 v = accB v99 Y from accB_of v99 Y v hv]
  ihave Hag := (ag_start R0 c X0 (accB v99 Y) h0 h1) $$ [Hc H0 H1 Ha Hb Hg Hh]
  · isplitl [Hc]; · iexact Hc
    isplitl [H0]; · iexact H0
    isplitl [H1]; · iexact H1
    isplitl [Ha]; · iexact Ha
    isplitl [Hb]; · iexact Hb
    isplitl [Hg]; · iexact Hg
    iexact Hh
  iapply (tab0 c w 3 rfl) $$ Ht
  iintro Ht
  iapply (assume_of c (chk17 i (blk 0 c 3)))
  iapply (ag_send_at Acc R0 K c (3, 0) 6 7 6 6 (by decide) (blk 0 c 3) rfl 0 rfl (off27 (blk 0 c 3)) rfl rfl (dev9 c)) $$ [Hag]
  · isplitr; · iexact Hctx
    iexact Hag
  iintro Hag
  iapply (tab1 c w 3 rfl) $$ Ht
  iintro Ht
  iapply (assume_of c (chk18 i (blk 1 c 3)))
  iapply (ag_send_at Acc R0 K c (3, 1) 7 8 6 6 (by decide) (blk 1 c 3) rfl 0 rfl (off28 (blk 1 c 3)) rfl rfl (dev10 c)) $$ [Hag]
  · isplitr; · iexact Hctx
    iexact Hag
  iintro Hag
  iapply (tab0 c w 3 rfl) $$ Ht
  iintro Ht
  iapply (assume_of c (chk19 i (blk 0 c 3)))
  iapply Hk
  isplitl [Ht]; · iexact Ht
  isplitl [Hag]; · iexact Hag
  iexact Hs

/-- The parts of the last point up to its last wait. -/
theorem p29 (c : Dev nD) (w : PosShare TreeShare) (i : grid0.Coords) (k0_h3 : k0_cond3 i = 1#1) (k0_h7 : k0_cond7 i = 1#1)
    {arg4 harg4 arg5 harg5 arg6 harg6 arg7 harg7 harg2 harg3 harg8 harg9} (v5 v8 : BitVec 32) (v28 v29 X0 X1 : S256x2048.Idx → Elt F .f32)
    (h0 : ∀ j : S256x2048.Idx, accB (k0_pay1 v28 X0) (Acc 0 2 (sr 0 c)) j = R0 ((rowR (blk 0 c 3)).emb j))
    (h1 : ∀ j : S256x2048.Idx, accB (k0_pay1 v29 X1) (Acc 1 2 (sr 1 c)) j = R0 ((rowR (blk 1 c 3)).emb j))
    {α : Type} {kk : _ → Prog (TpuEff nD τ sig (Elt F) Λ₀ .tc) α} {Q : α → sProp 𝕄} :
    iprop(ctx Acc R0 K c ∗ tabs c w ∗ cells c 6 4 4 ∗ owns (c : Thread nD τ) (rowM (blk 0 c 3)) fullShare X0 ∗ owns (c : Thread nD τ) (rowM (blk 1 c 3)) fullShare X1)
      ⊢ iprop((tabs c w ∗ AG R0 c 30 30 29 ∗ anySlot c 0 2 ∗ anySlot c 1 2
          -∗ Wc c (kk ⟨wd (blk 1 c 1), chk56 i (blk 1 c 1)⟩) Q)
        -∗ Wc c (k0_part29 i (Memref.whole main_v8) harg2 (Memref.whole main_v13) harg3 arg4 harg4 arg5 harg5 arg6 harg6 arg7 harg7 outM harg8 tmpM harg9 cc0_scratch1 cc0_scratch2 c v5 v8 v28 v29 k0_h3 k0_h7 >>= kk) Q) := by
  rw [k0_part29_eq_skeleton]
  unfold k0_part29_skel
  simp only [Prog.lift, Prog.bind_op, Prog.bind_ret, Prog.pure_eq_ret, Prog.bind_assoc]
  iintro ⟨#Hctx, Ht, Hc, H0, H1⟩ Hk
  iapply (rs6 Acc R0 K c w i k0_h3 k0_h7 v8 v28 X0) $$ [Ht Hc H0]
  · isplitr; · iexact Hctx
    isplitl [Ht]; · iexact Ht
    isplitl [Hc]; · iexact Hc
    iexact H0
  iintro ⟨Ht, Hc, H0, Hs0, Hg, Ha⟩
  iapply (rs7 Acc R0 K c w i k0_h3 k0_h7 v5 _ _ v29 (k0_pay1 v28 X0) X0 X1 (Acc 0 2 (sr 0 c)) _ _) $$ [Ht Hc H0 Hs0 H1]
  · isplitr; · iexact Hctx
    isplitl [Ht]; · iexact Ht
    isplitl [Hc]; · iexact Hc
    isplitl [H0]; · iexact H0
    isplitl [Hs0]; · iexact Hs0
    iexact H1
  iintro ⟨Ht, Hc, H0, Hs0, H1, Hs1, Hh, Hb⟩
  iapply (ag8 Acc R0 K c w i k0_h3 k0_h7 v5 v8 _ _ (k0_pay1 v29 X1) _ X1 (Acc 1 2 (sr 1 c)) h0 h1) $$ [Ht Hc H0 Hs1 H1 Ha Hb Hg Hh]
  · isplitr; · iexact Hctx
    isplitl [Ht]; · iexact Ht
    isplitl [Hc]; · iexact Hc
    isplitl [H0]; · iexact H0
    isplitl [Hs1]; · iexact Hs1
    isplitl [H1]; · iexact H1
    isplitl [Ha]; · unfold anyRow; iexists _; iexact Ha
    isplitl [Hb]; · unfold anyRow; iexists _; iexact Hb
    isplitl [Hg]; · iexact Hg
    iexact Hh
  iintro ⟨Ht, Hag, Hs1⟩
  iapply (ag9 Acc R0 K c w i k0_h3 k0_h7 v5 v8 _) $$ [Ht Hag]
  · isplitr; · iexact Hctx
    isplitl [Ht] <;> iassumption
  iintro ⟨Ht, Hag⟩
  iapply (ag10 Acc R0 K c w i k0_h3 k0_h7 v5 v8) $$ [Ht Hag]
  · isplitr; · iexact Hctx
    isplitl [Ht] <;> iassumption
  iintro ⟨Ht, Hag⟩
  iapply (ag11 Acc R0 K c w i k0_h3 k0_h7 v5 v8 _) $$ [Ht Hag]
  · isplitr; · iexact Hctx
    isplitl [Ht] <;> iassumption
  iintro ⟨Ht, Hag⟩
  iapply (ag12 Acc R0 K c w i k0_h3 k0_h7 v5 _) $$ [Ht Hag]
  · isplitr; · iexact Hctx
    isplitl [Ht] <;> iassumption
  iintro ⟨Ht, Hag⟩
  iapply (ag13 Acc R0 K c w i k0_h3 k0_h7 v5 v8 _ _) $$ [Ht Hag]
  · isplitr; · iexact Hctx
    isplitl [Ht] <;> iassumption
  iintro ⟨Ht, Hag⟩
  iapply (ag14 Acc R0 K c w i k0_h3 k0_h7 v5 v8 _) $$ [Ht Hag]
  · isplitr; · iexact Hctx
    isplitl [Ht] <;> iassumption
  iintro ⟨Ht, Hag⟩
  iapply (ag15 Acc R0 K c w i k0_h3 k0_h7 v5 v8 _ _) $$ [Ht Hag]
  · isplitr; · iexact Hctx
    isplitl [Ht] <;> iassumption
  iintro ⟨Ht, Hag⟩
  iapply (ag16 Acc R0 K c w i k0_h3 k0_h7 v5 v8) $$ [Ht Hag]
  · isplitr; · iexact Hctx
    isplitl [Ht] <;> iassumption
  iintro ⟨Ht, Hag⟩
  iapply (ag17 Acc R0 K c w i k0_h3 k0_h7 v5 v8 _) $$ [Ht Hag]
  · isplitr; · iexact Hctx
    isplitl [Ht] <;> iassumption
  iintro ⟨Ht, Hag⟩
  iapply (ag18 Acc R0 K c w i k0_h3 k0_h7 v5 v8 _) $$ [Ht Hag]
  · isplitr; · iexact Hctx
    isplitl [Ht] <;> iassumption
  iintro ⟨Ht, Hag⟩
  iapply (ag19 Acc R0 K c w i k0_h3 k0_h7 v5 _) $$ [Ht Hag]
  · isplitr; · iexact Hctx
    isplitl [Ht] <;> iassumption
  iintro ⟨Ht, Hag⟩
  iapply (ag20 Acc R0 K c w i k0_h3 k0_h7 v5 v8 _ _) $$ [Ht Hag]
  · isplitr; · iexact Hctx
    isplitl [Ht] <;> iassumption
  iintro ⟨Ht, Hag⟩
  iapply (ag21 Acc R0 K c w i k0_h3 k0_h7 v5 v8 _) $$ [Ht Hag]
  · isplitr; · iexact Hctx
    isplitl [Ht] <;> iassumption
  iintro ⟨Ht, Hag⟩
  iapply (ag22 Acc R0 K c w i k0_h3 k0_h7 v5 v8 _ _) $$ [Ht Hag]
  · isplitr; · iexact Hctx
    isplitl [Ht] <;> iassumption
  iintro ⟨Ht, Hag⟩
  iapply (ag23 Acc R0 K c w i k0_h3 k0_h7 v5 v8) $$ [Ht Hag]
  · isplitr; · iexact Hctx
    isplitl [Ht] <;> iassumption
  iintro ⟨Ht, Hag⟩
  iapply (ag24 Acc R0 K c w i k0_h3 k0_h7 v5 v8) $$ [Ht Hag]
  · isplitr; · iexact Hctx
    isplitl [Ht] <;> iassumption
  iintro ⟨Ht, Hag⟩
  iapply (ag25 Acc R0 K c w i k0_h3 k0_h7 _ _ _ _ _) $$ [Ht Hag]
  · isplitr; · iexact Hctx
    isplitl [Ht] <;> iassumption
  iintro ⟨Ht, Hag⟩
  iapply (ag26 Acc R0 K c w i k0_h3 k0_h7 _ _ _ _ _) $$ [Ht Hag]
  · isplitr; · iexact Hctx
    isplitl [Ht] <;> iassumption
  iintro ⟨Ht, Hag⟩
  iapply (ag27 Acc R0 K c w i k0_h3 k0_h7 _ _ _ _ _) $$ [Ht Hag]
  · isplitr; · iexact Hctx
    isplitl [Ht] <;> iassumption
  iintro ⟨Ht, Hag⟩
  iapply (ag28 Acc R0 K c w i k0_h3 k0_h7 _ _ _ _ _) $$ [Ht Hag]
  · isplitr; · iexact Hctx
    isplitl [Ht] <;> iassumption
  iintro ⟨Ht, Hag⟩
  iapply (ag_swait_at Acc R0 K c (13, 0) 30 30 26 27 (by decide) rfl) $$ [Hag]
  · isplitr; · iexact Hctx
    iexact Hag
  iintro Hag
  iapply (ag_swait_at Acc R0 K c (13, 1) 30 30 27 28 (by decide) rfl) $$ [Hag]
  · isplitr; · iexact Hctx
    iexact Hag
  iintro Hag
  iapply (ag_swait_at Acc R0 K c (14, 0) 30 30 28 29 (by decide) rfl) $$ [Hag]
  · isplitr; · iexact Hctx
    iexact Hag
  iintro Hag
  iapply Hk
  isplitl [Ht]; · iexact Ht
  isplitl [Hag]; · iexact Hag
  isplitl [Hs0]; · unfold anySlot; iexists _; iexact Hs0
  unfold anySlot; iexists _; iexact Hs1

end Cert.FusedProof
-- ==== Proof.Body.lean ====
/-
  The body at each kind of grid point: the first, a middle and the last block of the hidden axis, the last one in each
  of the four steps.
-/
module

public import proofs.«01_k».proof.Proof.Stage

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32)
variable (K : GSem nD τ sig → ℕ)

theorem cond1_iff (i : grid0.Coords) : k0_cond1 i = 1#1 ↔ (i 1).val = 0 := by
  have h : ∀ j : Fin 8, (Scalar.cmpi .ne (Scalar.extui (Scalar.cmpi .eq (BitVec.ofNat 32 j.val) 0#32) : BitVec 32) 0#32) = 1#1 ↔ j.val = 0 := by decide
  exact h (i 1)
theorem cond2_iff (i : grid0.Coords) : k0_cond2 i = 1#1 ↔ (0 < (i 1).val ∧ (i 1).val < 7) := by
  have h : ∀ j : Fin 8, (Scalar.cmpi .ne (Scalar.extui (Scalar.andi (Scalar.cmpi .sgt (BitVec.ofNat 32 j.val) 0#32) (Scalar.cmpi .slt (BitVec.ofNat 32 j.val) 7#32)) : BitVec 32) 0#32) = 1#1 ↔ (0 < j.val ∧ j.val < 7) := by decide
  exact h (i 1)
theorem cond3_iff (i : grid0.Coords) : k0_cond3 i = 1#1 ↔ (i 1).val = 7 := by
  have h : ∀ j : Fin 8, (Scalar.cmpi .ne (Scalar.extui (Scalar.cmpi .eq (BitVec.ofNat 32 j.val) 7#32) : BitVec 32) 0#32) = 1#1 ↔ j.val = 7 := by decide
  exact h (i 1)
theorem cond4_iff (i : grid0.Coords) : k0_cond4 i = 1#1 ↔ (i 0).val = 0 := by
  have h : ∀ j : Fin 4, (Scalar.cmpi .ne (Scalar.extui (Scalar.cmpi .eq (BitVec.ofNat 32 j.val) 0#32) : BitVec 32) 0#32) = 1#1 ↔ j.val = 0 := by decide
  exact h (i 0)
theorem cond5_iff (i : grid0.Coords) : k0_cond5 i = 1#1 ↔ (i 0).val = 1 := by
  have h : ∀ j : Fin 4, (Scalar.cmpi .ne (Scalar.extui (Scalar.cmpi .eq (BitVec.ofNat 32 j.val) 1#32) : BitVec 32) 0#32) = 1#1 ↔ j.val = 1 := by decide
  exact h (i 0)
theorem cond6_iff (i : grid0.Coords) : k0_cond6 i = 1#1 ↔ (i 0).val = 2 := by
  have h : ∀ j : Fin 4, (Scalar.cmpi .ne (Scalar.extui (Scalar.cmpi .eq (BitVec.ofNat 32 j.val) 2#32) : BitVec 32) 0#32) = 1#1 ↔ j.val = 2 := by decide
  exact h (i 0)
theorem cond7_iff (i : grid0.Coords) : k0_cond7 i = 1#1 ↔ (i 0).val = 3 := by
  have h : ∀ j : Fin 4, (Scalar.cmpi .ne (Scalar.extui (Scalar.cmpi .eq (BitVec.ofNat 32 j.val) 3#32) : BitVec 32) 0#32) = 1#1 ↔ j.val = 3 := by decide
  exact h (i 0)

/-- The four blocks a point reads. -/
def ins (c : Dev nD) (arg4 arg5 : Memref sig .tc .vmem S256x2048 .f32) (arg6 : Memref sig .tc .vmem S2048x512 .f32) (arg7 : Memref sig .tc .vmem S512x2048 .f32)
    (X4 X5 : S256x2048.Idx → Elt F .f32) (X6 : S2048x512.Idx → Elt F .f32) (X7 : S512x2048.Idx → Elt F .f32) : sProp 𝕄 :=
  iprop(owns (c : Thread nD τ) arg4 fullShare X4 ∗ owns (c : Thread nD τ) arg5 fullShare X5
    ∗ owns (c : Thread nD τ) arg6 fullShare X6 ∗ owns (c : Thread nD τ) arg7 fullShare X7)

/-- The first block: the partial products start the rows. -/
theorem body_first (c : Dev nD) (w : PosShare TreeShare) (i : grid0.Coords) (hj : (i 1).val = 0)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32)
    {Q : PUnit → sProp 𝕄} :
    iprop(tabs c w ∗ ins c arg4 arg5 arg6 arg7 X4 X5 X6 X7 ∗ anyRow c (blk 0 c (i 0)) ∗ anyRow c (blk 1 c (i 0)))
      ⊢ iprop((tabs c w ∗ ins c arg4 arg5 arg6 arg7 X4 X5 X6 X7 ∗ owns (c : Thread nD τ) (rowM (blk 0 c (i 0))) fullShare (k0_pay18 X4 X5 X6 X7)
            ∗ owns (c : Thread nD τ) (rowM (blk 1 c (i 0))) fullShare (k0_pay19 X4 X5 X6 X7)
          -∗ Q ⟨⟩) -∗ Wc c (cc0__fused_body i (Memref.whole main_v8) harg2 (Memref.whole main_v13) harg3 arg4 harg4 arg5 harg5 arg6 harg6 arg7 harg7 outM harg8 tmpM harg9 cc0_scratch1 cc0_scratch2) Q) := by
  rw [cc0__fused_body_eq_skeleton]
  unfold cc0__fused_body_skel ins
  simp only [Prog.lift, Prog.bind_op, Prog.bind_ret, Prog.pure_eq_ret, Prog.bind_assoc, wp_ret]
  iintro ⟨Ht, Hi, H0, H1⟩ Hk
  iapply (p30 c w i X4 X5 X6 X7) $$ [Ht Hi]
  · isplitl [Ht]; · iexact Ht
    iexact Hi
  iintro %z ⟨Ht, Hi⟩
  dsimp only
  simp only [dif_pos ((cond1_iff i).mpr (hj)), dif_neg (fun h => absurd ((cond2_iff i).mp h) (by omega)), dif_neg (fun h => absurd ((cond3_iff i).mp h) (by omega)), Prog.lift, Prog.bind_op, Prog.bind_ret, Prog.pure_eq_ret, Prog.bind_assoc, wp_ret]
  unfold anyRow
  icases H0 with ⟨%Y0, H0⟩
  icases H1 with ⟨%Y1, H1⟩
  iapply (load_row c (blk 0 c (i 0)) Y0 (off3 (blk 0 c (i 0)))) $$ H0
  iintro H0
  iapply (store_row c (blk 0 c (i 0)) Y0 _ (off3 (blk 0 c (i 0)))) $$ H0
  iintro H0
  iapply (load_row c (blk 1 c (i 0)) Y1 (off4 (blk 1 c (i 0)))) $$ H1
  iintro H1
  iapply (store_row c (blk 1 c (i 0)) Y1 _ (off4 (blk 1 c (i 0)))) $$ H1
  iintro H1
  try simp only [Prog.lift, Prog.bind_op, Prog.bind_ret, Prog.pure_eq_ret, Prog.bind_assoc, wp_ret]
  imodintro
  iapply Hk
  isplitl [Ht]; · iexact Ht
  isplitl [Hi]; · iexact Hi
  isplitl [H0]; · iexact H0
  iexact H1

/-- A middle block: the partial products are added to the rows. -/
theorem body_mid (c : Dev nD) (w : PosShare TreeShare) (i : grid0.Coords) (hj : 0 < (i 1).val ∧ (i 1).val < 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32) (Y0 Y1 : S256x2048.Idx → Elt F .f32)
    {Q : PUnit → sProp 𝕄} :
    iprop(tabs c w ∗ ins c arg4 arg5 arg6 arg7 X4 X5 X6 X7 ∗ owns (c : Thread nD τ) (rowM (blk 0 c (i 0))) fullShare Y0 ∗ owns (c : Thread nD τ) (rowM (blk 1 c (i 0))) fullShare Y1)
      ⊢ iprop((tabs c w ∗ ins c arg4 arg5 arg6 arg7 X4 X5 X6 X7 ∗ owns (c : Thread nD τ) (rowM (blk 0 c (i 0))) fullShare (k0_pay1 (k0_pay18 X4 X5 X6 X7) Y0)
            ∗ owns (c : Thread nD τ) (rowM (blk 1 c (i 0))) fullShare (k0_pay1 (k0_pay19 X4 X5 X6 X7) Y1)
          -∗ Q ⟨⟩) -∗ Wc c (cc0__fused_body i (Memref.whole main_v8) harg2 (Memref.whole main_v13) harg3 arg4 harg4 arg5 harg5 arg6 harg6 arg7 harg7 outM harg8 tmpM harg9 cc0_scratch1 cc0_scratch2) Q) := by
  rw [cc0__fused_body_eq_skeleton]
  unfold cc0__fused_body_skel ins
  simp only [Prog.lift, Prog.bind_op, Prog.bind_ret, Prog.pure_eq_ret, Prog.bind_assoc, wp_ret]
  iintro ⟨Ht, Hi, H0, H1⟩ Hk
  iapply (p30 c w i X4 X5 X6 X7) $$ [Ht Hi]
  · isplitl [Ht]; · iexact Ht
    iexact Hi
  iintro %z ⟨Ht, Hi⟩
  dsimp only
  simp only [dif_pos ((cond2_iff i).mpr (hj)), dif_neg (fun h => absurd ((cond1_iff i).mp h) (by omega)), dif_neg (fun h => absurd ((cond3_iff i).mp h) (by omega)), Prog.lift, Prog.bind_op, Prog.bind_ret, Prog.pure_eq_ret, Prog.bind_assoc, wp_ret]
  iapply (load_row c (blk 0 c (i 0)) Y0 (off5 (blk 0 c (i 0)))) $$ H0
  iintro H0
  iapply (load_row c (blk 0 c (i 0)) Y0 (off5 (blk 0 c (i 0)))) $$ H0
  iintro H0
  iapply (store_row c (blk 0 c (i 0)) Y0 _ (off5 (blk 0 c (i 0)))) $$ H0
  iintro H0
  iapply (load_row c (blk 1 c (i 0)) Y1 (off6 (blk 1 c (i 0)))) $$ H1
  iintro H1
  iapply (load_row c (blk 1 c (i 0)) Y1 (off6 (blk 1 c (i 0)))) $$ H1
  iintro H1
  iapply (store_row c (blk 1 c (i 0)) Y1 _ (off6 (blk 1 c (i 0)))) $$ H1
  iintro H1
  try simp only [Prog.lift, Prog.bind_op, Prog.bind_ret, Prog.pure_eq_ret, Prog.bind_assoc, wp_ret]
  imodintro
  iapply Hk
  isplitl [Ht]; · iexact Ht
  isplitl [Hi]; · iexact Hi
  isplitl [H0]; · iexact H0
  iexact H1

theorem three (Φ : Fin 3 → sProp 𝕄) : bigSep Finset.univ Φ = iprop(Φ 0 ∗ Φ 1 ∗ Φ 2) :=
  bigSep_univ_eq_bigSepL [0, 1, 2] (by decide) (by decide) Φ

theorem gift_01 (c : Dev nD) (r : Fin 2) (i : Fin 15) (h : i.val < 2) : (iprop(emp) : sProp 𝕄) ⊢ gift c r i := by
  unfold gift
  rw [if_neg (by omega), if_neg (by omega)]

/-- The last block of step 0: the barrier, and the first rows leave. -/
theorem body_last0 (c : Dev nD) (w : PosShare TreeShare) (i : grid0.Coords) (hj : (i 0).val = 0 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32) (Y0 Y1 : S256x2048.Idx → Elt F .f32)
    (hA0 : k0_pay1 (k0_pay18 X4 X5 X6 X7) Y0 = Acc 0 0 c) (hA1 : k0_pay1 (k0_pay19 X4 X5 X6 X7) Y1 = Acc 1 0 c)
    {Q : PUnit → sProp 𝕄} :
    iprop(ctx0 Acc R0 K c ∗ tabs c w ∗ ins c arg4 arg5 arg6 arg7 X4 X5 X6 X7 ∗ barSt c ∗ cellsI c 0 0 0
        ∗ owns (c : Thread nD τ) (rowM (blk 0 c 0)) fullShare Y0 ∗ owns (c : Thread nD τ) (rowM (blk 1 c 0)) fullShare Y1)
      ⊢ iprop((ctx Acc R0 K c ∗ tabs c w ∗ ins c arg4 arg5 arg6 arg7 X4 X5 X6 X7 ∗ cells c 2 0 0 ∗ semVal (barC c) 0
            ∗ anySlot (pr 0 c) 0 1 ∗ anySlot (pr 0 c) 0 2 ∗ anySlot (pr 1 c) 1 1 ∗ anySlot (pr 1 c) 1 2
          -∗ Q ⟨⟩) -∗ Wc c (cc0__fused_body i (Memref.whole main_v8) harg2 (Memref.whole main_v13) harg3 arg4 harg4 arg5 harg5 arg6 harg6 arg7 harg7 outM harg8 tmpM harg9 cc0_scratch1 cc0_scratch2) Q) := by
  rw [cc0__fused_body_eq_skeleton]
  unfold cc0__fused_body_skel ins
  simp only [Prog.lift, Prog.bind_op, Prog.bind_ret, Prog.pure_eq_ret, Prog.bind_assoc, wp_ret]
  iintro ⟨#Hctx0, Ht, Hi, Hb, Hce, H0, H1⟩ Hk
  iapply (p30 c w i X4 X5 X6 X7) $$ [Ht Hi]
  · isplitl [Ht]; · iexact Ht
    iexact Hi
  iintro %z ⟨Ht, Hi⟩
  dsimp only
  simp only [dif_pos ((cond3_iff i).mpr (hj.2)), dif_pos ((cond4_iff i).mpr (hj.1)), dif_neg (fun h => absurd ((cond1_iff i).mp h) (by omega)), dif_neg (fun h => absurd ((cond2_iff i).mp h) (by omega)), dif_neg (fun h => absurd ((cond5_iff i).mp h) (by omega)), dif_neg (fun h => absurd ((cond6_iff i).mp h) (by omega)), dif_neg (fun h => absurd ((cond7_iff i).mp h) (by omega)), Prog.lift, Prog.bind_op, Prog.bind_ret, Prog.pure_eq_ret, Prog.bind_assoc, wp_ret]
  iapply (rs1 Acc R0 K c w i _ _ _ _ (k0_pay18 X4 X5 X6 X7) (k0_pay19 X4 X5 X6 X7) Y0 Y1) $$ [Ht Hb H0 H1]
  · isplitr; · iexact Hctx0
    isplitl [Ht]; · iexact Ht
    isplitl [Hb]; · iexact Hb
    isplitl [H0]; · iexact H0
    iexact H1
  iintro ⟨#Hctx, Ht, Hb, H0, H1⟩
  unfold barEnd
  rw [three, three, hA0, hA1]
  icases Hb with ⟨Ho, Hsv, ⟨Hs00, Hs01, Hs02⟩, ⟨Hs10, Hs11, Hs12⟩⟩
  ihave Hc := (show iprop((∃ W, owes (c : Thread nD τ) (Ow c 0) W) ∗ cellsI (F := F) c 0 0 0) ⊢ cells c 0 0 0 from .rfl) $$ [Ho Hce]
  · isplitl [Ho] <;> iassumption
  iapply (rs_send Acc R0 K c 0 0 0 0 0 1 0 0 (by decide) (off9 (blk 0 c 0)) rfl rfl rfl (dev3 c)) $$ [Hc H0 Hs00]
  · isplitr; · iexact Hctx
    isplitl [Hc]; · iexact Hc
    isplitl [H0]; · iexact H0
    isplitl [Hs00]; · iexact Hs00
    iapply (gift_01 c 0 0 (by decide)); iempintro
  iintro Hc
  iapply (rs_send Acc R0 K c 1 0 0 0 1 2 0 0 (by decide) (off10 (blk 1 c 0)) rfl rfl rfl (dev4 c)) $$ [Hc H1 Hs10]
  · isplitr; · iexact Hctx
    isplitl [Hc]; · iexact Hc
    isplitl [H1]; · iexact H1
    isplitl [Hs10]; · iexact Hs10
    iapply (gift_01 c 1 0 (by decide)); iempintro
  iintro Hc
  try simp only [Prog.lift, Prog.bind_op, Prog.bind_ret, Prog.pure_eq_ret, Prog.bind_assoc, wp_ret]
  imodintro
  iapply Hk
  isplitr; · iexact Hctx
  isplitl [Ht]; · iexact Ht
  isplitl [Hi]; · iexact Hi
  isplitl [Hc]; · iexact Hc
  isplitl [Hsv]; · iexact Hsv
  isplitl [Hs01]; · iexact Hs01
  isplitl [Hs02]; · iexact Hs02
  isplitl [Hs11]; · iexact Hs11
  iexact Hs12

/-- The last block of step 1: the rows from the neighbours are added and passed on. -/
theorem body_last1 (c : Dev nD) (w : PosShare TreeShare) (i : grid0.Coords) (hj : (i 0).val = 1 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32) (Y0 Y1 : S256x2048.Idx → Elt F .f32)
    (hA0 : accB (k0_pay1 (k0_pay18 X4 X5 X6 X7) Y0) (Acc 0 0 (sr 0 c)) = Acc 0 1 c) (hA1 : accB (k0_pay1 (k0_pay19 X4 X5 X6 X7) Y1) (Acc 1 0 (sr 1 c)) = Acc 1 1 c)
    {Q : PUnit → sProp 𝕄} :
    iprop(ctx Acc R0 K c ∗ tabs c w ∗ ins c arg4 arg5 arg6 arg7 X4 X5 X6 X7 ∗ cells c 2 0 0
        ∗ owns (c : Thread nD τ) (rowM (blk 0 c 1)) fullShare Y0 ∗ owns (c : Thread nD τ) (rowM (blk 1 c 1)) fullShare Y1
        ∗ anySlot (pr 0 c) 0 1 ∗ anySlot (pr 1 c) 1 1)
      ⊢ iprop((tabs c w ∗ ins c arg4 arg5 arg6 arg7 X4 X5 X6 X7 ∗ cells c 4 2 2
            ∗ anySlot c 0 0 ∗ anySlot c 1 0 ∗ anyRow c (blk 0 c 0) ∗ anyRow c (blk 1 c 0)
          -∗ Q ⟨⟩) -∗ Wc c (cc0__fused_body i (Memref.whole main_v8) harg2 (Memref.whole main_v13) harg3 arg4 harg4 arg5 harg5 arg6 harg6 arg7 harg7 outM harg8 tmpM harg9 cc0_scratch1 cc0_scratch2) Q) := by
  rw [cc0__fused_body_eq_skeleton]
  unfold cc0__fused_body_skel ins
  simp only [Prog.lift, Prog.bind_op, Prog.bind_ret, Prog.pure_eq_ret, Prog.bind_assoc, wp_ret]
  iintro ⟨#Hctx, Ht, Hi, Hc, H0, H1, Hd0, Hd1⟩ Hk
  iapply (p30 c w i X4 X5 X6 X7) $$ [Ht Hi]
  · isplitl [Ht]; · iexact Ht
    iexact Hi
  iintro %z ⟨Ht, Hi⟩
  dsimp only
  simp only [dif_pos ((cond3_iff i).mpr (hj.2)), dif_pos ((cond5_iff i).mpr (hj.1)), dif_neg (fun h => absurd ((cond1_iff i).mp h) (by omega)), dif_neg (fun h => absurd ((cond2_iff i).mp h) (by omega)), dif_neg (fun h => absurd ((cond4_iff i).mp h) (by omega)), dif_neg (fun h => absurd ((cond6_iff i).mp h) (by omega)), dif_neg (fun h => absurd ((cond7_iff i).mp h) (by omega)), Prog.lift, Prog.bind_op, Prog.bind_ret, Prog.pure_eq_ret, Prog.bind_assoc, wp_ret]
  iapply (rs2 Acc R0 K c w i _ _ _ (k0_pay18 X4 X5 X6 X7) Y0) $$ [Ht Hc H0]
  · isplitr; · iexact Hctx
    isplitl [Ht]; · iexact Ht
    isplitl [Hc]; · iexact Hc
    iexact H0
  iintro ⟨Ht, Hc, H0, Hs0, -, Ha⟩
  dsimp only
  iapply (rs3 Acc R0 K c w i _ _ _ _ _ (k0_pay19 X4 X5 X6 X7) (k0_pay1 (k0_pay18 X4 X5 X6 X7) Y0) Y0 Y1 (Acc 0 0 (sr 0 c)) _ _) $$ [Ht Hc H0 Hs0 H1]
  · isplitr; · iexact Hctx
    isplitl [Ht]; · iexact Ht
    isplitl [Hc]; · iexact Hc
    isplitl [H0]; · iexact H0
    isplitl [Hs0]; · iexact Hs0
    iexact H1
  iintro ⟨Ht, Hc, H0, Hs0, H1, Hs1, -, Hb⟩
  rw [hA0]
  iapply (load_slot c 1 0 (Acc 1 0 (sr 1 c)) rfl) $$ Hs1
  iintro Hs1 %v %hv
  iapply (load_row c (blk 1 c 1) Y1 (off14 (blk 1 c 1))) $$ H1
  iintro H1
  iapply (store_row c (blk 1 c 1) Y1 _ (off14 (blk 1 c 1))) $$ H1
  iintro H1
  rw [show k0_pay3 (k0_pay1 (k0_pay19 X4 X5 X6 X7) Y1) v = Acc 1 1 c from (accB_of (k0_pay1 (k0_pay19 X4 X5 X6 X7) Y1) (Acc 1 0 (sr 1 c)) v hv).trans hA1]
  iapply (rs_send Acc R0 K c 0 1 1 1 2 3 2 2 (by decide) (off15 (blk 0 c 1)) rfl rfl rfl (dev5 c)) $$ [Hc H0 Hd0]
  · isplitr; · iexact Hctx
    isplitl [Hc]; · iexact Hc
    isplitl [H0]; · iexact H0
    isplitl [Hd0]; · iexact Hd0
    iapply (gift_01 c 0 1 (by decide)); iempintro
  iintro Hc
  iapply (rs_send Acc R0 K c 1 1 1 1 3 4 2 2 (by decide) (off16 (blk 1 c 1)) rfl rfl rfl (dev6 c)) $$ [Hc H1 Hd1]
  · isplitr; · iexact Hctx
    isplitl [Hc]; · iexact Hc
    isplitl [H1]; · iexact H1
    isplitl [Hd1]; · iexact Hd1
    iapply (gift_01 c 1 1 (by decide)); iempintro
  iintro Hc
  try simp only [Prog.lift, Prog.bind_op, Prog.bind_ret, Prog.pure_eq_ret, Prog.bind_assoc, wp_ret]
  imodintro
  iapply Hk
  isplitl [Ht]; · iexact Ht
  isplitl [Hi]; · iexact Hi
  isplitl [Hc]; · iexact Hc
  isplitl [Hs0]; · unfold anySlot; iexists _; iexact Hs0
  isplitl [Hs1]; · unfold anySlot; iexists _; iexact Hs1
  isplitl [Ha]; · unfold anyRow; iexists _; iexact Ha
  unfold anyRow; iexists _; iexact Hb

/-- The last block of step 2: the rows from the neighbours are added and passed on. -/
theorem body_last2 (c : Dev nD) (w : PosShare TreeShare) (i : grid0.Coords) (hj : (i 0).val = 2 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32) (Y0 Y1 : S256x2048.Idx → Elt F .f32)
    (hA0 : accB (k0_pay1 (k0_pay18 X4 X5 X6 X7) Y0) (Acc 0 1 (sr 0 c)) = Acc 0 2 c) (hA1 : accB (k0_pay1 (k0_pay19 X4 X5 X6 X7) Y1) (Acc 1 1 (sr 1 c)) = Acc 1 2 c)
    {Q : PUnit → sProp 𝕄} :
    iprop(ctx Acc R0 K c ∗ tabs c w ∗ ins c arg4 arg5 arg6 arg7 X4 X5 X6 X7 ∗ cells c 4 2 2
        ∗ owns (c : Thread nD τ) (rowM (blk 0 c 2)) fullShare Y0 ∗ owns (c : Thread nD τ) (rowM (blk 1 c 2)) fullShare Y1
        ∗ anySlot (pr 0 c) 0 2 ∗ anySlot (pr 1 c) 1 2 ∗ anyRow c (blk 0 c 0) ∗ anyRow c (blk 1 c 0))
      ⊢ iprop((tabs c w ∗ ins c arg4 arg5 arg6 arg7 X4 X5 X6 X7 ∗ cells c 6 4 4
            ∗ anySlot c 0 1 ∗ anySlot c 1 1
          -∗ Q ⟨⟩) -∗ Wc c (cc0__fused_body i (Memref.whole main_v8) harg2 (Memref.whole main_v13) harg3 arg4 harg4 arg5 harg5 arg6 harg6 arg7 harg7 outM harg8 tmpM harg9 cc0_scratch1 cc0_scratch2) Q) := by
  rw [cc0__fused_body_eq_skeleton]
  unfold cc0__fused_body_skel ins
  simp only [Prog.lift, Prog.bind_op, Prog.bind_ret, Prog.pure_eq_ret, Prog.bind_assoc, wp_ret]
  iintro ⟨#Hctx, Ht, Hi, Hc, H0, H1, Hd0, Hd1, Hr0, Hr1⟩ Hk
  iapply (p30 c w i X4 X5 X6 X7) $$ [Ht Hi]
  · isplitl [Ht]; · iexact Ht
    iexact Hi
  iintro %z ⟨Ht, Hi⟩
  dsimp only
  simp only [dif_pos ((cond3_iff i).mpr (hj.2)), dif_pos ((cond6_iff i).mpr (hj.1)), dif_neg (fun h => absurd ((cond1_iff i).mp h) (by omega)), dif_neg (fun h => absurd ((cond2_iff i).mp h) (by omega)), dif_neg (fun h => absurd ((cond4_iff i).mp h) (by omega)), dif_neg (fun h => absurd ((cond5_iff i).mp h) (by omega)), dif_neg (fun h => absurd ((cond7_iff i).mp h) (by omega)), Prog.lift, Prog.bind_op, Prog.bind_ret, Prog.pure_eq_ret, Prog.bind_assoc, wp_ret]
  iapply (rs4 Acc R0 K c w i _ _ _ (k0_pay18 X4 X5 X6 X7) Y0) $$ [Ht Hc H0]
  · isplitr; · iexact Hctx
    isplitl [Ht]; · iexact Ht
    isplitl [Hc]; · iexact Hc
    iexact H0
  iintro ⟨Ht, Hc, H0, Hs0, -, Ha⟩
  dsimp only
  iapply (rs5 Acc R0 K c w i _ _ _ _ _ (k0_pay19 X4 X5 X6 X7) (k0_pay1 (k0_pay18 X4 X5 X6 X7) Y0) Y0 Y1 (Acc 0 1 (sr 0 c)) _ _) $$ [Ht Hc H0 Hs0 H1]
  · isplitr; · iexact Hctx
    isplitl [Ht]; · iexact Ht
    isplitl [Hc]; · iexact Hc
    isplitl [H0]; · iexact H0
    isplitl [Hs0]; · iexact Hs0
    iexact H1
  iintro ⟨Ht, Hc, H0, Hs0, H1, Hs1, -, Hb⟩
  rw [hA0]
  iapply (load_slot c 1 1 (Acc 1 1 (sr 1 c)) rfl) $$ Hs1
  iintro Hs1 %v %hv
  iapply (load_row c (blk 1 c 2) Y1 (off20 (blk 1 c 2))) $$ H1
  iintro H1
  iapply (store_row c (blk 1 c 2) Y1 _ (off20 (blk 1 c 2))) $$ H1
  iintro H1
  rw [show k0_pay4 (k0_pay1 (k0_pay19 X4 X5 X6 X7) Y1) v = Acc 1 2 c from (accB_of (k0_pay1 (k0_pay19 X4 X5 X6 X7) Y1) (Acc 1 1 (sr 1 c)) v hv).trans hA1]
  ihave Hg0 := (rows_gift c 0) $$ [Hr1 Hb]
  · isplitl [Hr1]; · iexact Hr1
    unfold anyRow; iexists _; iexact Hb
  ihave Hg1 := (rows_gift c 1) $$ [Hr0 Ha]
  · isplitl [Hr0]; · iexact Hr0
    unfold anyRow; iexists _; iexact Ha
  iapply (rs_send Acc R0 K c 0 2 2 2 4 5 4 4 (by decide) (off21 (blk 0 c 2)) rfl rfl rfl (dev7 c)) $$ [Hc H0 Hd0 Hg0]
  · isplitr; · iexact Hctx
    isplitl [Hc]; · iexact Hc
    isplitl [H0]; · iexact H0
    isplitl [Hd0]; · iexact Hd0
    iexact Hg0
  iintro Hc
  iapply (rs_send Acc R0 K c 1 2 2 2 5 6 4 4 (by decide) (off22 (blk 1 c 2)) rfl rfl rfl (dev8 c)) $$ [Hc H1 Hd1 Hg1]
  · isplitr; · iexact Hctx
    isplitl [Hc]; · iexact Hc
    isplitl [H1]; · iexact H1
    isplitl [Hd1]; · iexact Hd1
    iexact Hg1
  iintro Hc
  try simp only [Prog.lift, Prog.bind_op, Prog.bind_ret, Prog.pure_eq_ret, Prog.bind_assoc, wp_ret]
  imodintro
  iapply Hk
  isplitl [Ht]; · iexact Ht
  isplitl [Hi]; · iexact Hi
  isplitl [Hc]; · iexact Hc
  isplitl [Hs0]; · unfold anySlot; iexists _; iexact Hs0
  unfold anySlot; iexists _; iexact Hs1

/-- The last block of step 3: the finished rows are gathered. -/
theorem body_last3 (c : Dev nD) (w : PosShare TreeShare) (i : grid0.Coords) (hj : (i 0).val = 3 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    (X4 X5 : S256x2048.Idx → Elt F .f32) (X6 : S2048x512.Idx → Elt F .f32) (X7 : S512x2048.Idx → Elt F .f32) (Y0 Y1 : S256x2048.Idx → Elt F .f32)
    (h0 : ∀ j : S256x2048.Idx, accB (k0_pay1 (k0_pay18 X4 X5 X6 X7) Y0) (Acc 0 2 (sr 0 c)) j = R0 ((rowR (blk 0 c 3)).emb j))
    (h1 : ∀ j : S256x2048.Idx, accB (k0_pay1 (k0_pay19 X4 X5 X6 X7) Y1) (Acc 1 2 (sr 1 c)) j = R0 ((rowR (blk 1 c 3)).emb j))
    {Q : PUnit → sProp 𝕄} :
    iprop(ctx Acc R0 K c ∗ tabs c w ∗ ins c arg4 arg5 arg6 arg7 X4 X5 X6 X7 ∗ cells c 6 4 4
        ∗ owns (c : Thread nD τ) (rowM (blk 0 c 3)) fullShare Y0 ∗ owns (c : Thread nD τ) (rowM (blk 1 c 3)) fullShare Y1)
      ⊢ iprop((tabs c w ∗ ins c arg4 arg5 arg6 arg7 X4 X5 X6 X7 ∗ cells c 30 30 30
            ∗ owns (c : Thread nD τ) outM fullShare R0 ∗ anySlot c 0 2 ∗ anySlot c 1 2
          -∗ Q ⟨⟩) -∗ Wc c (cc0__fused_body i (Memref.whole main_v8) harg2 (Memref.whole main_v13) harg3 arg4 harg4 arg5 harg5 arg6 harg6 arg7 harg7 outM harg8 tmpM harg9 cc0_scratch1 cc0_scratch2) Q) := by
  rw [cc0__fused_body_eq_skeleton]
  unfold cc0__fused_body_skel ins
  simp only [Prog.lift, Prog.bind_op, Prog.bind_ret, Prog.pure_eq_ret, Prog.bind_assoc, wp_ret]
  iintro ⟨#Hctx, Ht, Hi, Hc, H0, H1⟩ Hk
  iapply (p30 c w i X4 X5 X6 X7) $$ [Ht Hi]
  · isplitl [Ht]; · iexact Ht
    iexact Hi
  iintro %z ⟨Ht, Hi⟩
  dsimp only
  simp only [dif_pos ((cond3_iff i).mpr (hj.2)), dif_pos ((cond7_iff i).mpr (hj.1)), dif_neg (fun h => absurd ((cond1_iff i).mp h) (by omega)), dif_neg (fun h => absurd ((cond2_iff i).mp h) (by omega)), dif_neg (fun h => absurd ((cond4_iff i).mp h) (by omega)), dif_neg (fun h => absurd ((cond5_iff i).mp h) (by omega)), dif_neg (fun h => absurd ((cond6_iff i).mp h) (by omega)), Prog.lift, Prog.bind_op, Prog.bind_ret, Prog.pure_eq_ret, Prog.bind_assoc, wp_ret]
  iapply (p29 Acc R0 K c w i _ _ _ _ (k0_pay18 X4 X5 X6 X7) (k0_pay19 X4 X5 X6 X7) Y0 Y1 h0 h1) $$ [Ht Hc H0 H1]
  · isplitr; · iexact Hctx
    isplitl [Ht]; · iexact Ht
    isplitl [Hc]; · iexact Hc
    isplitl [H0]; · iexact H0
    iexact H1
  iintro ⟨Ht, Ha, Hs0, Hs1⟩
  dsimp only
  iapply (ag_swait_at Acc R0 K c (14, 1) 30 30 29 30 (by decide) rfl) $$ [Ha]
  · isplitr; · iexact Hctx
    iexact Ha
  iintro Ha
  ihave He := (ag_end R0 c) $$ Ha
  icases He with ⟨Hc, Ho⟩
  try simp only [Prog.lift, Prog.bind_op, Prog.bind_ret, Prog.pure_eq_ret, Prog.bind_assoc, wp_ret]
  imodintro
  iapply Hk
  isplitl [Ht]; · iexact Ht
  isplitl [Hi]; · iexact Hi
  isplitl [Hc]; · iexact Hc
  isplitl [Ho]; · iexact Ho
  isplitl [Hs0]; · iexact Hs0
  iexact Hs1

end Cert.FusedProof
-- ==== Proof.Point.lean ====
/-
  What a device holds before each grid point, and that the body takes it from each point to the next: the running sums
  of the partial products, the sums along the rings, and the invariant of the loop over the grid.
-/
module

public import proofs.«01_k».proof.Proof.Body

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

section Values

variable (x : Dev nD → S2048x2048.Idx → Elt F .f32) (w1 : Dev nD → S2048x4096.Idx → Elt F .f32) (w2 : Dev nD → S4096x2048.Idx → Elt F .f32)

/-- Row block `k` of a device's copy of `x`. -/
def xB (c : Dev nD) (k : Fin 8) : S256x2048.Idx → Elt F .f32 := fun i => x c ((rowR k).emb i)

/-- Columns `512 j … 512 j + 511`, as a rectangle of the first weights. -/
def colR (j : Fin 8) : Rect S2048x4096 := Rect.unit (s := S2048x4096) ![0, 512 * j.val] S2048x512.size (by
  have := j.isLt
  intro a; fin_cases a
  · show 0 + 2048 ≤ 2048; omega
  · show 512 * j.val + 512 ≤ 4096; omega)

/-- Rows `512 j … 512 j + 511`, as a rectangle of the second weights. -/
def hidR (j : Fin 8) : Rect S4096x2048 := Rect.unit (s := S4096x2048) ![512 * j.val, 0] S512x2048.size (by
  have := j.isLt
  intro a; fin_cases a
  · show 512 * j.val + 512 ≤ 4096; omega
  · show 0 + 2048 ≤ 2048; omega)

/-- Block `j` of a device's first weights. -/
def w1B (c : Dev nD) (j : Fin 8) : S2048x512.Idx → Elt F .f32 := fun i => w1 c ((colR j).emb i)

/-- Block `j` of a device's second weights. -/
def w2B (c : Dev nD) (j : Fin 8) : S512x2048.Idx → Elt F .f32 := fun i => w2 c ((hidR j).emb i)

/-- The partial product of step `s` and hidden block `j`, for the rows of ring `r`. -/
def pp (r : Fin 2) (c : Dev nD) (s : Fin 4) (j : Fin 8) : S256x2048.Idx → Elt F .f32 :=
  if r = 0 then k0_pay18 (xB x c (blk 0 c s)) (xB x c (blk 1 c s)) (w1B w1 c j) (w2B w2 c j)
  else k0_pay19 (xB x c (blk 0 c s)) (xB x c (blk 1 c s)) (w1B w1 c j) (w2B w2 c j)

/-- The sum of the partial products of the hidden blocks `0 … n`. -/
def PS (r : Fin 2) (c : Dev nD) (s : Fin 4) : ℕ → S256x2048.Idx → Elt F .f32
  | 0 => pp x w1 w2 r c s 0
  | n + 1 => k0_pay1 (pp x w1 w2 r c s (Fin.ofNat 8 (n + 1))) (PS r c s n)

/-- The sum a device has after step `n`: its own rows' and those of the devices before it in the ring. -/
def AccN (r : Fin 2) : ℕ → Dev nD → S256x2048.Idx → Elt F .f32
  | 0 => fun c => PS x w1 w2 r c 0 7
  | n + 1 => fun c => accB (PS x w1 w2 r c (Fin.ofNat 4 (n + 1)) 7) (AccN r n (sr r c))

/-- The sum a device has after step `s`. -/
def Acc (r : Fin 2) (s : Fin 4) (c : Dev nD) : S256x2048.Idx → Elt F .f32 := AccN x w1 w2 r s.val c

end Values

/-! ## The invariant -/

variable (x : Dev nD → S2048x2048.Idx → Elt F .f32) (w1 : Dev nD → S2048x4096.Idx → Elt F .f32) (w2 : Dev nD → S4096x2048.Idx → Elt F .f32)
variable (R0 : S2048x2048.Idx → Elt F .f32) (K : GSem nD τ sig → ℕ)

/-- What is held for the barrier. -/
def barI (c : Dev nD) : sProp 𝕄 :=
  iprop(dutyTok ET (barC (prv c)) 0 true ∗ dutyTok ET (barC (nxt c)) 0 false
    ∗ atPos ET (barC c) 0 ∅ 0 ∗ cred (tallyAt (barC c) () 2)
    ∗ (bigSep Finset.univ fun i : Fin 3 => anySlot c 0 i) ∗ bigSep Finset.univ fun i : Fin 3 => anySlot c 1 i)

/-- The talk and the memory a device holds during step 0, but for the rows it is working on. -/
def Stage0 (c : Dev nD) : sProp 𝕄 :=
  iprop(ctx0 (Acc x w1 w2) R0 K c ∗ barI c ∗ cellsI c 0 0 0 ∗ (anyRow c (blk 0 c 1) ∗ anyRow c (blk 0 c 2) ∗ anyRow c (blk 0 c 3))
      ∗ anyRow c (blk 1 c 1) ∗ anyRow c (blk 1 c 2) ∗ anyRow c (blk 1 c 3))

/-- The talk and the memory a device holds during step 1, but for the rows it is working on. -/
def Stage1 (c : Dev nD) : sProp 𝕄 :=
  iprop(ctx (Acc x w1 w2) R0 K c ∗ semVal (barC c) 0 ∗ cellsI c 2 0 0
      ∗ (anySlot (pr 0 c) 0 1 ∗ anySlot (pr 0 c) 0 2 ∗ anySlot (pr 1 c) 1 1 ∗ anySlot (pr 1 c) 1 2)
      ∗ (anyRow c (blk 0 c 2) ∗ anyRow c (blk 0 c 3)) ∗ anyRow c (blk 1 c 2) ∗ anyRow c (blk 1 c 3))

/-- The talk and the memory a device holds during step 2, but for the rows it is working on. -/
def Stage2 (c : Dev nD) : sProp 𝕄 :=
  iprop(ctx (Acc x w1 w2) R0 K c ∗ semVal (barC c) 0 ∗ cellsI c 4 2 2
      ∗ (anySlot (pr 0 c) 0 2 ∗ anySlot (pr 1 c) 1 2) ∗ (anySlot c 0 0 ∗ anySlot c 1 0)
      ∗ (anyRow c (blk 0 c 0) ∗ anyRow c (blk 1 c 0)) ∗ anyRow c (blk 0 c 3) ∗ anyRow c (blk 1 c 3))

/-- The talk and the memory a device holds during step 3, but for the rows it is working on. -/
def Stage3 (c : Dev nD) : sProp 𝕄 :=
  iprop(ctx (Acc x w1 w2) R0 K c ∗ semVal (barC c) 0 ∗ cellsI c 6 4 4
      ∗ (anySlot c 0 0 ∗ anySlot c 1 0) ∗ anySlot c 0 1 ∗ anySlot c 1 1)

/-- The same at any step. -/
def Stage (c : Dev nD) : Fin 4 → sProp 𝕄 := fun
  | 0 => Stage0 x w1 w2 R0 K c
  | 1 => Stage1 x w1 w2 R0 K c
  | 2 => Stage2 x w1 w2 R0 K c
  | 3 => Stage3 x w1 w2 R0 K c

/-- The rows a device is working on in step `s`, before hidden block `n`. -/
def Cur (c : Dev nD) (s : Fin 4) : ℕ → sProp 𝕄
  | 0 => iprop(anyRow c (blk 0 c s) ∗ anyRow c (blk 1 c s))
  | n + 1 => iprop(owns (c : Thread nD τ) (rowM (blk 0 c s)) fullShare (PS x w1 w2 0 c s n)
      ∗ owns (c : Thread nD τ) (rowM (blk 1 c s)) fullShare (PS x w1 w2 1 c s n))

/-- What a device holds before hidden block `n` of step `s`. -/
def PhiS (c : Dev nD) (w : PosShare TreeShare) (s : Fin 4) (n : ℕ) : sProp 𝕄 :=
  iprop(tabs c w ∗ Stage x w1 w2 R0 K c s ∗ Cur x w1 w2 c s n)

/-- What a device holds at the end: every copy taken, the result whole, the scratch rows back. -/
def PhiE (c : Dev nD) (w : PosShare TreeShare) : sProp 𝕄 :=
  iprop(tabs c w ∗ ctx (Acc x w1 w2) R0 K c ∗ semVal (barC c) 0 ∗ cellsI c 30 30 30 ∗ owns (c : Thread nD τ) outM fullShare R0
    ∗ ∃ X, owns (c : Thread nD τ) tmpM fullShare X)

/-- What a device owes, its waits so far forgotten. -/
def oweE (c : Dev nD) (O : CellTallies nD τ sig Unit) : sProp 𝕄 := iprop(∃ W, owes (c : Thread nD τ) O W)

/-- The four blocks of the point. -/
def insB (c : Dev nD) (i : grid0.Coords) (arg4 arg5 : Memref sig .tc .vmem S256x2048 .f32) (arg6 : Memref sig .tc .vmem S2048x512 .f32)
    (arg7 : Memref sig .tc .vmem S512x2048 .f32) : sProp 𝕄 :=
  ins c arg4 arg5 arg6 arg7 (xB x c (blk 0 c (i 0))) (xB x c (blk 1 c (i 0))) (w1B w1 c (i 1)) (w2B w2 c (i 1))

theorem pp_0 (c : Dev nD) (s : Fin 4) (j : Fin 8) :
    k0_pay18 (xB x c (blk 0 c s)) (xB x c (blk 1 c s)) (w1B w1 c j) (w2B w2 c j) = pp x w1 w2 0 c s j := by
  unfold pp; rw [if_pos rfl]

theorem pp_1 (c : Dev nD) (s : Fin 4) (j : Fin 8) :
    k0_pay19 (xB x c (blk 0 c s)) (xB x c (blk 1 c s)) (w1B w1 c j) (w2B w2 c j) = pp x w1 w2 1 c s j := by
  unfold pp; rw [if_neg (by decide)]

theorem ppi_0 (c : Dev nD) (i : grid0.Coords) (s : Fin 4) (h : i 0 = s) :
    k0_pay18 (xB x c (blk 0 c (i 0))) (xB x c (blk 1 c (i 0))) (w1B w1 c (i 1)) (w2B w2 c (i 1)) = pp x w1 w2 0 c s (i 1) := by
  subst h; exact pp_0 x w1 w2 c (i 0) (i 1)

theorem ppi_1 (c : Dev nD) (i : grid0.Coords) (s : Fin 4) (h : i 0 = s) :
    k0_pay19 (xB x c (blk 0 c (i 0))) (xB x c (blk 1 c (i 0))) (w1B w1 c (i 1)) (w2B w2 c (i 1)) = pp x w1 w2 1 c s (i 1) := by
  subst h; exact pp_1 x w1 w2 c (i 0) (i 1)

theorem PS_step (r : Fin 2) (c : Dev nD) (s : Fin 4) (j : Fin 8) (n : ℕ) (h : j.val = n + 1) :
    k0_pay1 (pp x w1 w2 r c s j) (PS x w1 w2 r c s n) = PS x w1 w2 r c s (n + 1) := by
  have e : j = Fin.ofNat 8 (n + 1) := Fin.ext (by
    have := j.isLt
    show j.val = (n + 1) % 8; omega)
  rw [e]; rfl

/-- The first hidden block of a step. -/
theorem point_first (c : Dev nD) (w : PosShare TreeShare) (i : grid0.Coords) (hj : (i 1).val = 0)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop(PhiS x w1 w2 R0 K c w (i 0) 0 ∗ insB x w1 w2 c i arg4 arg5 arg6 arg7)
      ⊢ iprop((PhiS x w1 w2 R0 K c w (i 0) 1 ∗ insB x w1 w2 c i arg4 arg5 arg6 arg7 -∗ Q ⟨⟩)
          -∗ Wc c (cc0__fused_body i (Memref.whole main_v8) harg2 (Memref.whole main_v13) harg3 arg4 harg4 arg5 harg5 arg6 harg6 arg7 harg7 outM harg8 tmpM harg9 cc0_scratch1 cc0_scratch2) Q) := by
  have e : i 1 = (0 : Fin 8) := Fin.ext hj
  have h0 := ppi_0 x w1 w2 c i (i 0) rfl
  have h1 := ppi_1 x w1 w2 c i (i 0) rfl
  unfold PhiS insB Cur
  iintro ⟨⟨Ht, HS, H0, H1⟩, Hi⟩ Hk
  iapply (body_first c w i hj (xB x c (blk 0 c (i 0))) (xB x c (blk 1 c (i 0))) (w1B w1 c (i 1)) (w2B w2 c (i 1))) $$ [Ht Hi H0 H1]
  · isplitl [Ht]; · iexact Ht
    isplitl [Hi]; · iexact Hi
    isplitl [H0]; · iexact H0
    iexact H1
  rw [h0, h1, show pp x w1 w2 0 c (i 0) (i 1) = PS x w1 w2 0 c (i 0) 0 from congrArg (pp x w1 w2 0 c (i 0)) e,
    show pp x w1 w2 1 c (i 0) (i 1) = PS x w1 w2 1 c (i 0) 0 from congrArg (pp x w1 w2 1 c (i 0)) e]
  iintro ⟨Ht, Hi, H0, H1⟩
  iapply Hk
  isplitr [Hi]
  · isplitl [Ht]; · iexact Ht
    isplitl [HS]; · iexact HS
    isplitl [H0]; · iexact H0
    iexact H1
  iexact Hi

/-- A middle hidden block of a step. -/
theorem point_mid (c : Dev nD) (w : PosShare TreeShare) (i : grid0.Coords) (n : ℕ) (hn : (i 1).val = n + 1) (hj : (i 1).val < 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop(PhiS x w1 w2 R0 K c w (i 0) (n + 1) ∗ insB x w1 w2 c i arg4 arg5 arg6 arg7)
      ⊢ iprop((PhiS x w1 w2 R0 K c w (i 0) (n + 2) ∗ insB x w1 w2 c i arg4 arg5 arg6 arg7 -∗ Q ⟨⟩)
          -∗ Wc c (cc0__fused_body i (Memref.whole main_v8) harg2 (Memref.whole main_v13) harg3 arg4 harg4 arg5 harg5 arg6 harg6 arg7 harg7 outM harg8 tmpM harg9 cc0_scratch1 cc0_scratch2) Q) := by
  have h0 := ppi_0 x w1 w2 c i (i 0) rfl
  have h1 := ppi_1 x w1 w2 c i (i 0) rfl
  unfold PhiS insB Cur
  iintro ⟨⟨Ht, HS, H0, H1⟩, Hi⟩ Hk
  iapply (body_mid c w i ⟨by omega, hj⟩ (xB x c (blk 0 c (i 0))) (xB x c (blk 1 c (i 0))) (w1B w1 c (i 1)) (w2B w2 c (i 1))
    (PS x w1 w2 0 c (i 0) n) (PS x w1 w2 1 c (i 0) n)) $$ [Ht Hi H0 H1]
  · isplitl [Ht]; · iexact Ht
    isplitl [Hi]; · iexact Hi
    isplitl [H0]; · iexact H0
    iexact H1
  rw [h0, h1, PS_step x w1 w2 0 c (i 0) (i 1) n hn, PS_step x w1 w2 1 c (i 0) (i 1) n hn]
  iintro ⟨Ht, Hi, H0, H1⟩
  iapply Hk
  isplitr [Hi]
  · isplitl [Ht]; · iexact Ht
    isplitl [HS]; · iexact HS
    isplitl [H0]; · iexact H0
    iexact H1
  iexact Hi

/-- The last hidden block of step 0. -/
theorem point_last0 (c : Dev nD) (w : PosShare TreeShare) (i : grid0.Coords) (hj : (i 0).val = 0 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop((PhiS x w1 w2 R0 K c w 0 7 ∗ oweE c (Ob c)) ∗ insB x w1 w2 c i arg4 arg5 arg6 arg7)
      ⊢ iprop(((PhiS x w1 w2 R0 K c w 1 0 ∗ oweE c (Ow c 2)) ∗ insB x w1 w2 c i arg4 arg5 arg6 arg7 -∗ Q ⟨⟩)
          -∗ Wc c (cc0__fused_body i (Memref.whole main_v8) harg2 (Memref.whole main_v13) harg3 arg4 harg4 arg5 harg5 arg6 harg6 arg7 harg7 outM harg8 tmpM harg9 cc0_scratch1 cc0_scratch2) Q) := by
  have hs : i 0 = (0 : Fin 4) := Fin.ext hj.1
  have a0 : k0_pay1 (k0_pay18 (xB x c (blk 0 c (i 0))) (xB x c (blk 1 c (i 0))) (w1B w1 c (i 1)) (w2B w2 c (i 1))) (PS x w1 w2 0 c 0 6) = (Acc x w1 w2) 0 0 c := by
    rw [ppi_0 x w1 w2 c i _ hs]
    exact PS_step x w1 w2 0 c 0 (i 1) 6 hj.2
  have a1 : k0_pay1 (k0_pay19 (xB x c (blk 0 c (i 0))) (xB x c (blk 1 c (i 0))) (w1B w1 c (i 1)) (w2B w2 c (i 1))) (PS x w1 w2 1 c 0 6) = (Acc x w1 w2) 1 0 c := by
    rw [ppi_1 x w1 w2 c i _ hs]
    exact PS_step x w1 w2 1 c 0 (i 1) 6 hj.2
  unfold PhiS insB Cur Stage oweE
  dsimp only
  unfold Stage0 Stage1
  iintro ⟨⟨⟨Ht, ⟨#Hctx0, HB, HC, ⟨Hr1, Hr2, Hr3⟩, Hs1, Hs2, Hs3⟩, H0, H1⟩, Ho⟩, Hi⟩ Hk
  ihave Hb := (show iprop((∃ W, owes (c : Thread nD τ) (Ob c) W) ∗ barI (F := F) c) ⊢ barSt c from .rfl) $$ [Ho HB]
  · isplitl [Ho] <;> iassumption
  iapply (body_last0 (Acc x w1 w2) R0 K c w i hj (xB x c (blk 0 c (i 0))) (xB x c (blk 1 c (i 0))) (w1B w1 c (i 1)) (w2B w2 c (i 1))
    (PS x w1 w2 0 c 0 6) (PS x w1 w2 1 c 0 6) a0 a1) $$ [Ht Hi Hb HC H0 H1]
  · isplitr; · iexact Hctx0
    isplitl [Ht]; · iexact Ht
    isplitl [Hi]; · iexact Hi
    isplitl [Hb]; · iexact Hb
    isplitl [HC]; · iexact HC
    isplitl [H0]; · iexact H0
    iexact H1
  iintro ⟨#Hctx, Ht, Hi, Hc, Hsv, Hp1, Hp2, Hp3, Hp4⟩
  ihave Hc := (show cells (F := F) c 2 0 0 ⊢ iprop((∃ W, owes (c : Thread nD τ) (Ow c 2) W) ∗ cellsI c 2 0 0) from .rfl) $$ Hc
  icases Hc with ⟨Ho, HC⟩
  iapply Hk
  isplitr [Hi]
  · isplitr [Ho]
    · isplitl [Ht]; · iexact Ht
      isplitl [Hsv HC Hp1 Hp2 Hp3 Hp4 Hr2 Hr3 Hs2 Hs3]
      · isplitr; · iexact Hctx
        isplitl [Hsv]; · iexact Hsv
        isplitl [HC]; · iexact HC
        isplitl [Hp1 Hp2 Hp3 Hp4]
        · isplitl [Hp1]; · iexact Hp1
          isplitl [Hp2]; · iexact Hp2
          isplitl [Hp3]; · iexact Hp3
          iexact Hp4
        isplitl [Hr2 Hr3]
        · isplitl [Hr2]; · iexact Hr2
          iexact Hr3
        isplitl [Hs2]; · iexact Hs2
        iexact Hs3
      isplitl [Hr1]; · iexact Hr1
      iexact Hs1
    iexact Ho
  iexact Hi

/-- The last hidden block of step 1. -/
theorem point_last1 (c : Dev nD) (w : PosShare TreeShare) (i : grid0.Coords) (hj : (i 0).val = 1 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop((PhiS x w1 w2 R0 K c w 1 7 ∗ oweE c (Ow c 2)) ∗ insB x w1 w2 c i arg4 arg5 arg6 arg7)
      ⊢ iprop(((PhiS x w1 w2 R0 K c w 2 0 ∗ oweE c (Ow c 4)) ∗ insB x w1 w2 c i arg4 arg5 arg6 arg7 -∗ Q ⟨⟩)
          -∗ Wc c (cc0__fused_body i (Memref.whole main_v8) harg2 (Memref.whole main_v13) harg3 arg4 harg4 arg5 harg5 arg6 harg6 arg7 harg7 outM harg8 tmpM harg9 cc0_scratch1 cc0_scratch2) Q) := by
  have hs : i 0 = (1 : Fin 4) := Fin.ext hj.1
  have a0 : accB (k0_pay1 (k0_pay18 (xB x c (blk 0 c (i 0))) (xB x c (blk 1 c (i 0))) (w1B w1 c (i 1)) (w2B w2 c (i 1))) (PS x w1 w2 0 c 1 6)) ((Acc x w1 w2) 0 0 (sr 0 c)) = (Acc x w1 w2) 0 1 c := by
    rw [ppi_0 x w1 w2 c i _ hs, PS_step x w1 w2 0 c 1 (i 1) 6 hj.2]
    rfl
  have a1 : accB (k0_pay1 (k0_pay19 (xB x c (blk 0 c (i 0))) (xB x c (blk 1 c (i 0))) (w1B w1 c (i 1)) (w2B w2 c (i 1))) (PS x w1 w2 1 c 1 6)) ((Acc x w1 w2) 1 0 (sr 1 c)) = (Acc x w1 w2) 1 1 c := by
    rw [ppi_1 x w1 w2 c i _ hs, PS_step x w1 w2 1 c 1 (i 1) 6 hj.2]
    rfl
  unfold PhiS insB Cur Stage oweE
  dsimp only
  unfold Stage1 Stage2
  iintro ⟨⟨⟨Ht, ⟨#Hctx, Hsv, HC, ⟨Hp1, Hp2, Hp3, Hp4⟩, ⟨Hr2, Hr3⟩, Hs2, Hs3⟩, H0, H1⟩, Ho⟩, Hi⟩ Hk
  ihave Hc := (show iprop((∃ W, owes (c : Thread nD τ) (Ow c 2) W) ∗ cellsI (F := F) c 2 0 0) ⊢ cells c 2 0 0 from .rfl) $$ [Ho HC]
  · isplitl [Ho] <;> iassumption
  iapply (body_last1 (Acc x w1 w2) R0 K c w i hj (xB x c (blk 0 c (i 0))) (xB x c (blk 1 c (i 0))) (w1B w1 c (i 1)) (w2B w2 c (i 1))
    (PS x w1 w2 0 c 1 6) (PS x w1 w2 1 c 1 6) a0 a1) $$ [Ht Hi Hc H0 H1 Hp1 Hp3]
  · isplitr; · iexact Hctx
    isplitl [Ht]; · iexact Ht
    isplitl [Hi]; · iexact Hi
    isplitl [Hc]; · iexact Hc
    isplitl [H0]; · iexact H0
    isplitl [H1]; · iexact H1
    isplitl [Hp1]; · iexact Hp1
    iexact Hp3
  iintro ⟨Ht, Hi, Hc, Hq0, Hq1, Hr0, Hs0⟩
  ihave Hc := (show cells (F := F) c 4 2 2 ⊢ iprop((∃ W, owes (c : Thread nD τ) (Ow c 4) W) ∗ cellsI c 4 2 2) from .rfl) $$ Hc
  icases Hc with ⟨Ho, HC⟩
  iapply Hk
  isplitr [Hi]
  · isplitr [Ho]
    · isplitl [Ht]; · iexact Ht
      isplitl [Hsv HC Hp2 Hp4 Hq0 Hq1 Hr0 Hs0 Hr3 Hs3]
      · isplitr; · iexact Hctx
        isplitl [Hsv]; · iexact Hsv
        isplitl [HC]; · iexact HC
        isplitl [Hp2 Hp4]
        · isplitl [Hp2]; · iexact Hp2
          iexact Hp4
        isplitl [Hq0 Hq1]
        · isplitl [Hq0]; · iexact Hq0
          iexact Hq1
        isplitl [Hr0 Hs0]
        · isplitl [Hr0]; · iexact Hr0
          iexact Hs0
        isplitl [Hr3]; · iexact Hr3
        iexact Hs3
      isplitl [Hr2]; · iexact Hr2
      iexact Hs2
    iexact Ho
  iexact Hi

/-- The last hidden block of step 2. -/
theorem point_last2 (c : Dev nD) (w : PosShare TreeShare) (i : grid0.Coords) (hj : (i 0).val = 2 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop((PhiS x w1 w2 R0 K c w 2 7 ∗ oweE c (Ow c 4)) ∗ insB x w1 w2 c i arg4 arg5 arg6 arg7)
      ⊢ iprop(((PhiS x w1 w2 R0 K c w 3 0 ∗ oweE c (Ow c 6)) ∗ insB x w1 w2 c i arg4 arg5 arg6 arg7 -∗ Q ⟨⟩)
          -∗ Wc c (cc0__fused_body i (Memref.whole main_v8) harg2 (Memref.whole main_v13) harg3 arg4 harg4 arg5 harg5 arg6 harg6 arg7 harg7 outM harg8 tmpM harg9 cc0_scratch1 cc0_scratch2) Q) := by
  have hs : i 0 = (2 : Fin 4) := Fin.ext hj.1
  have a0 : accB (k0_pay1 (k0_pay18 (xB x c (blk 0 c (i 0))) (xB x c (blk 1 c (i 0))) (w1B w1 c (i 1)) (w2B w2 c (i 1))) (PS x w1 w2 0 c 2 6)) ((Acc x w1 w2) 0 1 (sr 0 c)) = (Acc x w1 w2) 0 2 c := by
    rw [ppi_0 x w1 w2 c i _ hs, PS_step x w1 w2 0 c 2 (i 1) 6 hj.2]
    rfl
  have a1 : accB (k0_pay1 (k0_pay19 (xB x c (blk 0 c (i 0))) (xB x c (blk 1 c (i 0))) (w1B w1 c (i 1)) (w2B w2 c (i 1))) (PS x w1 w2 1 c 2 6)) ((Acc x w1 w2) 1 1 (sr 1 c)) = (Acc x w1 w2) 1 2 c := by
    rw [ppi_1 x w1 w2 c i _ hs, PS_step x w1 w2 1 c 2 (i 1) 6 hj.2]
    rfl
  unfold PhiS insB Cur Stage oweE
  dsimp only
  unfold Stage2 Stage3
  iintro ⟨⟨⟨Ht, ⟨#Hctx, Hsv, HC, ⟨Hp2, Hp4⟩, ⟨Hq00, Hq10⟩, ⟨Hr0, Hs0⟩, Hr3, Hs3⟩, H0, H1⟩, Ho⟩, Hi⟩ Hk
  ihave Hc := (show iprop((∃ W, owes (c : Thread nD τ) (Ow c 4) W) ∗ cellsI (F := F) c 4 2 2) ⊢ cells c 4 2 2 from .rfl) $$ [Ho HC]
  · isplitl [Ho] <;> iassumption
  iapply (body_last2 (Acc x w1 w2) R0 K c w i hj (xB x c (blk 0 c (i 0))) (xB x c (blk 1 c (i 0))) (w1B w1 c (i 1)) (w2B w2 c (i 1))
    (PS x w1 w2 0 c 2 6) (PS x w1 w2 1 c 2 6) a0 a1) $$ [Ht Hi Hc H0 H1 Hp2 Hp4 Hr0 Hs0]
  · isplitr; · iexact Hctx
    isplitl [Ht]; · iexact Ht
    isplitl [Hi]; · iexact Hi
    isplitl [Hc]; · iexact Hc
    isplitl [H0]; · iexact H0
    isplitl [H1]; · iexact H1
    isplitl [Hp2]; · iexact Hp2
    isplitl [Hp4]; · iexact Hp4
    isplitl [Hr0]; · iexact Hr0
    iexact Hs0
  iintro ⟨Ht, Hi, Hc, Hq01, Hq11⟩
  ihave Hc := (show cells (F := F) c 6 4 4 ⊢ iprop((∃ W, owes (c : Thread nD τ) (Ow c 6) W) ∗ cellsI c 6 4 4) from .rfl) $$ Hc
  icases Hc with ⟨Ho, HC⟩
  iapply Hk
  isplitr [Hi]
  · isplitr [Ho]
    · isplitl [Ht]; · iexact Ht
      isplitl [Hsv HC Hq00 Hq10 Hq01 Hq11]
      · isplitr; · iexact Hctx
        isplitl [Hsv]; · iexact Hsv
        isplitl [HC]; · iexact HC
        isplitl [Hq00 Hq10]
        · isplitl [Hq00]; · iexact Hq00
          iexact Hq10
        isplitl [Hq01]; · iexact Hq01
        iexact Hq11
      isplitl [Hr3]; · iexact Hr3
      iexact Hs3
    iexact Ho
  iexact Hi

/-- The last hidden block of step 3. -/
theorem point_last3 (c : Dev nD) (w : PosShare TreeShare) (i : grid0.Coords) (hR : ∀ (r : Fin 2) (c : Dev nD) (j : S256x2048.Idx), (Acc x w1 w2) r 3 c j = R0 ((rowR (blk r c 3)).emb j)) (hj : (i 0).val = 3 ∧ (i 1).val = 7)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop((PhiS x w1 w2 R0 K c w 3 7 ∗ oweE c (Ow c 6)) ∗ insB x w1 w2 c i arg4 arg5 arg6 arg7)
      ⊢ iprop(((PhiE x w1 w2 R0 K c w ∗ oweE c (Ow c 30)) ∗ insB x w1 w2 c i arg4 arg5 arg6 arg7 -∗ Q ⟨⟩)
          -∗ Wc c (cc0__fused_body i (Memref.whole main_v8) harg2 (Memref.whole main_v13) harg3 arg4 harg4 arg5 harg5 arg6 harg6 arg7 harg7 outM harg8 tmpM harg9 cc0_scratch1 cc0_scratch2) Q) := by
  have hs : i 0 = (3 : Fin 4) := Fin.ext hj.1
  have a0 : ∀ j : S256x2048.Idx, accB (k0_pay1 (k0_pay18 (xB x c (blk 0 c (i 0))) (xB x c (blk 1 c (i 0))) (w1B w1 c (i 1)) (w2B w2 c (i 1))) (PS x w1 w2 0 c 3 6)) ((Acc x w1 w2) 0 2 (sr 0 c)) j
      = R0 ((rowR (blk 0 c 3)).emb j) := by
    intro j
    rw [ppi_0 x w1 w2 c i _ hs, PS_step x w1 w2 0 c 3 (i 1) 6 hj.2]
    exact hR 0 c j
  have a1 : ∀ j : S256x2048.Idx, accB (k0_pay1 (k0_pay19 (xB x c (blk 0 c (i 0))) (xB x c (blk 1 c (i 0))) (w1B w1 c (i 1)) (w2B w2 c (i 1))) (PS x w1 w2 1 c 3 6)) ((Acc x w1 w2) 1 2 (sr 1 c)) j
      = R0 ((rowR (blk 1 c 3)).emb j) := by
    intro j
    rw [ppi_1 x w1 w2 c i _ hs, PS_step x w1 w2 1 c 3 (i 1) 6 hj.2]
    exact hR 1 c j
  unfold PhiS insB Cur Stage oweE PhiE
  dsimp only
  unfold Stage3
  iintro ⟨⟨⟨Ht, ⟨#Hctx, Hsv, HC, ⟨Hq00, Hq10⟩, Hq01, Hq11⟩, H0, H1⟩, Ho⟩, Hi⟩ Hk
  ihave Hc := (show iprop((∃ W, owes (c : Thread nD τ) (Ow c 6) W) ∗ cellsI (F := F) c 6 4 4) ⊢ cells c 6 4 4 from .rfl) $$ [Ho HC]
  · isplitl [Ho] <;> iassumption
  iapply (body_last3 (Acc x w1 w2) R0 K c w i hj (xB x c (blk 0 c (i 0))) (xB x c (blk 1 c (i 0))) (w1B w1 c (i 1)) (w2B w2 c (i 1))
    (PS x w1 w2 0 c 3 6) (PS x w1 w2 1 c 3 6) a0 a1) $$ [Ht Hi Hc H0 H1]
  · isplitr; · iexact Hctx
    isplitl [Ht]; · iexact Ht
    isplitl [Hi]; · iexact Hi
    isplitl [Hc]; · iexact Hc
    isplitl [H0]; · iexact H0
    iexact H1
  iintro ⟨Ht, Hi, Hc, HR, Hq02, Hq12⟩
  ihave Hc := (show cells (F := F) c 30 30 30 ⊢ iprop((∃ W, owes (c : Thread nD τ) (Ow c 30) W) ∗ cellsI c 30 30 30) from .rfl) $$ Hc
  icases Hc with ⟨Ho, HC⟩
  ihave Htm := (slots_tmp c) $$ [Hq00 Hq10 Hq01 Hq11 Hq02 Hq12]
  · rw [bigSep_univ_prod, bigSep_univ_two, three, three]
    isplitl [Hq00 Hq01 Hq02]
    · isplitl [Hq00]; · iexact Hq00
      isplitl [Hq01]; · iexact Hq01
      iexact Hq02
    isplitl [Hq10]; · iexact Hq10
    isplitl [Hq11]; · iexact Hq11
    iexact Hq12
  iapply Hk
  isplitr [Hi]
  · isplitr [Ho]
    · isplitl [Ht]; · iexact Ht
      isplitr; · iexact Hctx
      isplitl [Hsv]; · iexact Hsv
      isplitl [HC]; · iexact HC
      isplitl [HR]; · iexact HR
      iexact Htm
    iexact Ho
  iexact Hi

end Cert.FusedProof
-- ==== Proof.BodyOb.lean ====
/-
  The data of the loop over the grid — what each window's buffer holds, the invariant before each point, what is owed
  there — and the obligation on the body: at every point it takes the invariant to the next.
-/
module

public import proofs.«01_k».proof.Proof.Point

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (RDat)

variable (x : Dev nD → S2048x2048.Idx → Elt F .f32) (w1 : Dev nD → S2048x4096.Idx → Elt F .f32) (w2 : Dev nD → S4096x2048.Idx → Elt F .f32)
variable (R0 : S2048x2048.Idx → Elt F .f32) (K : GSem nD τ sig → ℕ)

/-- The grid coordinates of the point number `t`. -/
theorem crd : ∀ t : Fin grid0.N, (grid0.coords t 0).val = t.val / 8 ∧ (grid0.coords t 1).val = t.val % 8 := by decide

/-- The block of window `k` at a grid point. -/
def VB (c : Dev nD) (i : grid0.Coords) : (k : Fin 4) → ((cfgB F c 0).win k).block.Idx → Elt F ((cfgB F c 0).win k).elt := fun
  | 0 => xB x c (blk 0 c (i 0))
  | 1 => xB x c (blk 1 c (i 0))
  | 2 => w1B w1 c (i 1)
  | 3 => w2B w2 c (i 1)
  | ⟨_ + 4, h⟩ => absurd h (Nat.not_lt.2 (Nat.le_add_left _ _))

/-- The arrays the windows read. -/
def AB (c : Dev nD) : (k : Fin 4) → Buf (Elt F) (((cfgB F c 0).win k).arr.view.loc (c.tc : Thread nD τ)) := fun
  | 0 => x c
  | 1 => x c
  | 2 => w1 c
  | 3 => w2 c
  | ⟨_ + 4, h⟩ => absurd h (Nat.not_lt.2 (Nat.le_add_left _ _))

/-- The shares the windows hold of them: the first two read one array. -/
def qB : Fin 4 → PosShare TreeShare := fun
  | 0 => fullShare.left
  | 1 => fullShare.right
  | _ => fullShare

/-- The invariant before the point number `n`. -/
def PhiB (c : Dev nD) (n : ℕ) : sProp 𝕄 :=
  if h : n < 32 then PhiS x w1 w2 R0 K c fullShare ⟨n / 8, by omega⟩ (n % 8) else PhiE x w1 w2 R0 K c fullShare

/-- What is owed there. -/
def owedB (c : Dev nD) (n : ℕ) : CellTallies nD τ sig Unit :=
  if n < 8 then Ob c else if n < 32 then Ow c (2 * (n / 8)) else Ow c 30

/-- The data of the loop. -/
def rdB (c : Dev nD) : RDat τ (Elt F) Unit ℕ UU ℕ (cfgB F c 0) c where
  A := AB x w1 w2 c
  after k t _ X := X = VB x w1 w2 c (grid0.coords t) k
  Φ n := PhiB x w1 w2 R0 K c n.val
  q := qB
  owed n := owedB c n.val

theorem fetched_VB (c : Dev nD) (k : Fin 4) (t : Fin (cfgB F c 0).N) (d) :
    (rdB x w1 w2 R0 K c).fetched k t d = VB x w1 w2 c (grid0.coords t) k := by
  have e0 := transform_0 (F := F) c (grid0.coords t)
  have e1 := transform_1 (F := F) c (grid0.coords t)
  have n0 : ∀ j : Fin 8, (BitVec.ofNat 32 j.val).toNat = j.val := by decide
  fin_cases k
  · refine funext fun (j : S256x2048.Idx) => ?_
    refine congrArg (x c) (funext fun a => Fin.ext ?_)
    fin_cases a
    · show cc0_transform_0 (F := F) k0_off1_inb numel1_S1 (tab c) (grid0.coords t) 0 * 256 + 1 * (j 0).val = 256 * (blk 0 c _).val + 1 * (j 0).val
      rw [e0]; show (blk 0 c _).val * 256 + _ = _; omega
    · show cc0_transform_0 (F := F) k0_off1_inb numel1_S1 (tab c) (grid0.coords t) 1 * 2048 + 1 * (j 1).val = 0 + 1 * (j 1).val
      rw [e0]; show 0 * 2048 + _ = _; omega
  · refine funext fun (j : S256x2048.Idx) => ?_
    refine congrArg (x c) (funext fun a => Fin.ext ?_)
    fin_cases a
    · show cc0_transform_1 (F := F) k0_off1_inb numel1_S1 (tab c) (grid0.coords t) 0 * 256 + 1 * (j 0).val = 256 * (blk 1 c _).val + 1 * (j 0).val
      rw [e1]; show (blk 1 c _).val * 256 + _ = _; omega
    · show cc0_transform_1 (F := F) k0_off1_inb numel1_S1 (tab c) (grid0.coords t) 1 * 2048 + 1 * (j 1).val = 0 + 1 * (j 1).val
      rw [e1]; show 0 * 2048 + _ = _; omega
  · refine funext fun (j : S2048x512.Idx) => ?_
    refine congrArg (w1 c) (funext fun a => Fin.ext ?_)
    fin_cases a
    · show 0 * 2048 + 1 * (j 0).val = 0 + 1 * (j 0).val
      omega
    · show (BitVec.ofNat 32 (grid0.coords t 1).val).toNat * 512 + 1 * (j 1).val = 512 * (grid0.coords t 1).val + 1 * (j 1).val
      rw [n0 (grid0.coords t 1)]; omega
  · refine funext fun (j : S512x2048.Idx) => ?_
    refine congrArg (w2 c) (funext fun a => Fin.ext ?_)
    fin_cases a
    · show (BitVec.ofNat 32 (grid0.coords t 1).val).toNat * 512 + 1 * (j 0).val = 512 * (grid0.coords t 1).val + 1 * (j 0).val
      rw [n0 (grid0.coords t 1)]; omega
    · show 0 * 2048 + 1 * (j 1).val = 0 + 1 * (j 1).val
      omega

instance elts_nonempty (e : EltTy) : Nonempty (Elt F e) := inferInstance

/-- Whatever a window's buffer may hold at a point is the window's block there. -/
theorem finds_VB (c : Dev nD) (k : Fin 4) (t : Fin (cfgB F c 0).N) (X) (h : (rdB x w1 w2 R0 K c).Finds k t X) :
    X = VB x w1 w2 c (grid0.coords t) k := by
  have hin := cfgB_in (F := F) c 0 k
  cases hf : ((cfgB F c 0).win k).fetch t with
  | true =>
    obtain ⟨d, rfl⟩ := ((rdB x w1 w2 R0 K c).finds_of_fetch hf X).mp h
    exact fetched_VB x w1 w2 R0 K c k t d
  | false =>
    have hf' := hf
    unfold Pipeline.Window.fetch at hf'
    rw [hin] at hf'
    simp only [Bool.not_false, Bool.true_and, Bool.or_eq_false_iff, decide_eq_false_iff_not, not_exists, not_not] at hf'
    obtain ⟨h0, h1⟩ := hf'
    rw [(rdB x w1 w2 R0 K c).finds_of_pos hf h0] at h
    rcases h with h | ⟨Y, -, h⟩
    · unfold Pipeline.Window.flush at h
      rw [hin] at h
      simp at h
    · have hi := h1 (by omega)
      have hc : ((cfgB F c 0).win k).clip ((cfgB F c 0).grid.coords t)
          = ((cfgB F c 0).win k).clip ((cfgB F c 0).grid.coords ⟨t.val - 1, Nat.lt_of_le_of_lt (Nat.sub_le _ _) t.isLt⟩) := by
        fin_cases k <;> rfl
      have e := (rdB x w1 w2 R0 K c).fetched_congr k hi hc X
      rw [fetched_VB, fetched_VB] at e
      exact h.trans e.symm

theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem PhiB_at (c : Dev nD) (n : ℕ) (s : Fin 4) (j : ℕ) (h : n = 8 * s.val + j) (hj : j < 8) :
    PhiB x w1 w2 R0 K c n = PhiS x w1 w2 R0 K c fullShare s j := by
  have := s.isLt
  unfold PhiB
  rw [dif_pos (by omega)]
  have e1 : (⟨n / 8, by omega⟩ : Fin 4) = s := Fin.ext (by show n / 8 = s.val; omega)
  have e2 : n % 8 = j := by omega
  rw [e1, e2]

theorem PhiB_end (c : Dev nD) (n : ℕ) (h : n = 32) : PhiB x w1 w2 R0 K c n = PhiE x w1 w2 R0 K c fullShare := by
  unfold PhiB; rw [dif_neg (by omega)]

theorem owedB_eq (c : Dev nD) (n m : ℕ) (h : n / 8 = m / 8) (hm : m < 32) : owedB c n = owedB c m := by
  unfold owedB
  by_cases h8 : n < 8
  · rw [if_pos h8, if_pos (by omega)]
  · rw [if_neg h8, if_neg (show ¬m < 8 by omega), if_pos (show n < 32 by omega), if_pos hm, h]

/-- A point of the loop, its windows' buffers at their blocks. -/
theorem point_any (hR : ∀ (r : Fin 2) (c : Dev nD) (j : S256x2048.Idx), Acc x w1 w2 r 3 c j = R0 ((rowR (blk r c 3)).emb j))
    (c : Dev nD) (t : Fin grid0.N)
    {arg4 : Memref sig .tc .vmem S256x2048 .f32} {harg4} {arg5 : Memref sig .tc .vmem S256x2048 .f32} {harg5}
    {arg6 : Memref sig .tc .vmem S2048x512 .f32} {harg6} {arg7 : Memref sig .tc .vmem S512x2048 .f32} {harg7 harg2 harg3 harg8 harg9}
    {Q : PUnit → sProp 𝕄} :
    iprop((PhiB x w1 w2 R0 K c t.val ∗ oweE c (owedB c t.val)) ∗ insB x w1 w2 c (grid0.coords t) arg4 arg5 arg6 arg7)
      ⊢ iprop(((PhiB x w1 w2 R0 K c (t.val + 1) ∗ oweE c (owedB c (t.val + 1))) ∗ insB x w1 w2 c (grid0.coords t) arg4 arg5 arg6 arg7 -∗ Q ⟨⟩)
          -∗ Wc c (cc0__fused_body (grid0.coords t) (Memref.whole main_v8) harg2 (Memref.whole main_v13) harg3 arg4 harg4 arg5 harg5 arg6 harg6 arg7 harg7 outM harg8 tmpM harg9 cc0_scratch1 cc0_scratch2) Q) := by
  obtain ⟨c0, c1⟩ := crd t
  have ht : t.val < 32 := t.isLt.trans_eq N_0
  have hs : (grid0.coords t 0).val < 4 := (grid0.coords t 0).isLt
  generalize hi : grid0.coords t = i at *
  rw [PhiB_at x w1 w2 R0 K c t.val (i 0) (i 1).val (by omega) (by omega)]
  by_cases h7 : (i 1).val = 7
  · have hcase : (i 0).val = 0 ∨ (i 0).val = 1 ∨ (i 0).val = 2 ∨ (i 0).val = 3 := by omega
    rcases hcase with h | h | h | h
    · rw [h7, show i 0 = (0 : Fin 4) from Fin.ext h, PhiB_at x w1 w2 R0 K c (t.val + 1) 1 0 (by show _ = 8 * 1 + 0; omega) (by omega),
        show owedB c t.val = Ob c from if_pos (by omega), show owedB c (t.val + 1) = Ow c 2 from by
          rw [owedB_eq c (t.val + 1) 8 (by omega) (by omega)]; rfl]
      exact point_last0 x w1 w2 R0 K c fullShare i ⟨h, h7⟩
    · rw [h7, show i 0 = (1 : Fin 4) from Fin.ext h, PhiB_at x w1 w2 R0 K c (t.val + 1) 2 0 (by show _ = 8 * 2 + 0; omega) (by omega),
        show owedB c t.val = Ow c 2 from by rw [owedB_eq c t.val 8 (by omega) (by omega)]; rfl,
        show owedB c (t.val + 1) = Ow c 4 from by rw [owedB_eq c (t.val + 1) 16 (by omega) (by omega)]; rfl]
      exact point_last1 x w1 w2 R0 K c fullShare i ⟨h, h7⟩
    · rw [h7, show i 0 = (2 : Fin 4) from Fin.ext h, PhiB_at x w1 w2 R0 K c (t.val + 1) 3 0 (by show _ = 8 * 3 + 0; omega) (by omega),
        show owedB c t.val = Ow c 4 from by rw [owedB_eq c t.val 16 (by omega) (by omega)]; rfl,
        show owedB c (t.val + 1) = Ow c 6 from by rw [owedB_eq c (t.val + 1) 24 (by omega) (by omega)]; rfl]
      exact point_last2 x w1 w2 R0 K c fullShare i ⟨h, h7⟩
    · rw [h7, show i 0 = (3 : Fin 4) from Fin.ext h, PhiB_end x w1 w2 R0 K c (t.val + 1) (by omega),
        show owedB c t.val = Ow c 6 from by rw [owedB_eq c t.val 24 (by omega) (by omega)]; rfl,
        show owedB c (t.val + 1) = Ow c 30 from by unfold owedB; rw [if_neg (by omega), if_neg (by omega)]]
      exact point_last3 x w1 w2 R0 K c fullShare i hR ⟨h, h7⟩
  · rw [PhiB_at x w1 w2 R0 K c (t.val + 1) (i 0) ((i 1).val + 1) (by omega) (by omega), owedB_eq c (t.val + 1) t.val (by omega) ht]
    iintro ⟨⟨HP, Ho⟩, Hi⟩ Hk
    by_cases h0 : (i 1).val = 0
    · rw [h0]
      iapply (point_first x w1 w2 R0 K c fullShare i h0) $$ [HP Hi]
      · isplitl [HP] <;> iassumption
      iintro ⟨HP, Hi⟩
      iapply Hk
      isplitr [Hi]
      · isplitl [HP] <;> iassumption
      iexact Hi
    · obtain ⟨n, hn⟩ : ∃ n, (i 1).val = n + 1 := ⟨(i 1).val - 1, by omega⟩
      rw [hn]
      iapply (point_mid x w1 w2 R0 K c fullShare i n hn (by omega)) $$ [HP Hi]
      · isplitl [HP] <;> iassumption
      iintro ⟨HP, Hi⟩
      iapply Hk
      isplitr [Hi]
      · isplitl [HP] <;> iassumption
      iexact Hi

/-- The obligation on the body. -/
theorem body_ob (hR : ∀ (r : Fin 2) (c : Dev nD) (j : S256x2048.Idx), Acc x w1 w2 r 3 c j = R0 ((rowR (blk r c 3)).emb j)) (c : Dev nD) :
    (rdB x w1 w2 R0 K c).BodyObligation defs₀ 𝒱₀ () Set.univ := by
  intro t Y hY
  have hw : ∀ k, Y k = VB x w1 w2 c (grid0.coords t) k := fun k => finds_VB x w1 w2 R0 K c k t (Y k) (hY k)
  rw [bigSep4, bigSep4, hw 0, hw 1, hw 2, hw 3]
  iintro ⟨HP, ⟨%W, -, Ho⟩, Hi⟩
  iapply (point_any x w1 w2 R0 K hR c t (Q := fun _ => _)) $$ [HP Ho Hi]
  · isplitr [Hi]
    · isplitl [HP]; · iapply (show (rdB x w1 w2 R0 K c).Φ t.castSucc ⊢ PhiB x w1 w2 R0 K c t.val from .rfl); iexact HP
      unfold oweE
      iexists W
      iapply (show owes (c : Thread nD τ) ((rdB x w1 w2 R0 K c).owed t.castSucc) W ⊢ (owes (c : Thread nD τ) (owedB c t.val) W : sProp 𝕄) from .rfl)
      iexact Ho
    unfold insB ins
    icases Hi with ⟨H0, H1, H2, H3⟩
    isplitl [H0]; · iapply (show _ ⊢ _ from .rfl); iexact H0
    isplitl [H1]; · iapply (show _ ⊢ _ from .rfl); iexact H1
    isplitl [H2]; · iapply (show _ ⊢ _ from .rfl); iexact H2
    iapply (show _ ⊢ _ from .rfl); iexact H3
  unfold oweE insB ins
  iintro ⟨⟨HP, ⟨%W', Ho⟩⟩, H0, H1, H2, H3⟩
  isplitl [HP]; · iapply (show PhiB x w1 w2 R0 K c (t.val + 1) ⊢ (rdB x w1 w2 R0 K c).Φ t.succ from .rfl); iexact HP
  isplitl [Ho]
  · iexists W'
    isplitr; · ipureintro; exact fun _ _ => Or.inl trivial
    iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; · ipureintro; rfl
  iexact H3

end Cert.FusedProof
-- ==== Proof.Open.lean ====
/-
  The semaphores the kernel signals outside the pipeline's windows: sixty-one scoped DMA semaphores of each device, as
  the cells of the talk. Opened on entry to the call, closed on leaving it.
-/
module

public import proofs.«01_k».proof.Proof.BodyOb

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32) (K : GSem nD τ sig → ℕ)

/-- The four windows' shapes and semaphores. -/
abbrev spec4 := fun w : Fin 4 => spec0 w.castSucc

theorem win4 : Pipeline.WinFacts₀ spec4 := by decide

/-- The kernel's own semaphores: the write-back's, the sends', the arrivals'. -/
def own61 (k : Fin 61) : SemLoc sig := .dma (⟨8 + k.val, by have := k.isLt; show 8 + k.val < 69; omega⟩ : Fin 69)

theorem own4 : Pipeline.OwnSemFacts spec4 own61 where
  isScoped := by decide
  inj := by decide
  disj := by decide

/-- The own semaphores, sorted. -/
theorem own61_sorted (Φ : SemLoc sig → sProp 𝕄) :
    (bigSep Finset.univ fun k => Φ (own61 k))
      = iprop(Φ (.dma wbS) ∗ (bigSep Finset.univ fun x : Fin 15 × Fin 2 => Φ (.dma (sendS x.2 x.1)))
          ∗ bigSep Finset.univ fun x : Fin 15 × Fin 2 => Φ (.dma (recvS x.2 x.1))) := by
  let f0 : Unit → Fin 61 := fun _ => 0
  let f1 : Fin 15 × Fin 2 → Fin 61 := fun x => ⟨1 + 15 * x.2.val + x.1.val, by omega⟩
  let f2 : Fin 15 × Fin 2 → Fin 61 := fun x => ⟨31 + 15 * x.2.val + x.1.val, by omega⟩
  have h1 : Function.Injective f1 := by decide
  have h2 : Function.Injective f2 := by decide
  have hu : (Finset.univ : Finset (Fin 61)) = {0} ∪ (Finset.univ.image f1 ∪ Finset.univ.image f2) := by decide
  have d1 : Disjoint ({0} : Finset (Fin 61)) (Finset.univ.image f1 ∪ Finset.univ.image f2) := by decide
  have d2 : Disjoint (Finset.univ.image f1) (Finset.univ.image f2) := by decide
  rw [hu, bigSep_union d1, bigSep_union d2, bigSep_singleton, bigSep_image_of_injOn h1.injOn, bigSep_image_of_injOn h2.injOn]
  have e1 : ∀ x, own61 (f1 x) = .dma (sendS x.2 x.1) := by decide
  have e2 : ∀ x, own61 (f2 x) = .dma (recvS x.2 x.1) := by decide
  have e0 : own61 0 = .dma wbS := by decide
  simp only [e0, e1, e2]
  rfl

/-- One of the device's own cells is opened. -/
theorem open_one (c : Dev nD) (sm : SemLoc sig) (h : ((c : Thread nD τ), sm) ∈ barCells ∪ dmaCells) :
    iprop(Inv Acc R0 K ∗ openTok ET ((c : Thread nD τ), sm) ∗ semVal ((c : Thread nD τ), sm) 0)
      ⊢ iprop(|={Set.univ}=> (atPos ET ((c : Thread nD τ), sm) 0 ∅ 0 ∗ reached ET ((c : Thread nD τ), sm) 0) : sProp 𝕄) := by
  iintro ⟨Hi, Ho, Hv⟩
  ihave Hi := (inv_at Acc R0 K _ h) $$ Hi
  iapply (cell_open ET (Rd Acc R0) (Set.mem_univ _))
  isplitl [Hi]; · iexact Hi
  isplitl [Ho] <;> iassumption

theorem open_many {I : Type} [Fintype I] [DecidableEq I] (c : Dev nD) (sm : I → SemLoc sig) (h : ∀ i, ((c : Thread nD τ), sm i) ∈ barCells ∪ dmaCells) :
    iprop(Inv Acc R0 K ∗ (bigSep Finset.univ fun i => openTok ET ((c : Thread nD τ), sm i)) ∗ bigSep Finset.univ fun i => semVal ((c : Thread nD τ), sm i) 0)
      ⊢ iprop(|={Set.univ}=> ((bigSep Finset.univ fun i => atPos ET ((c : Thread nD τ), sm i) 0 ∅ 0)
          ∗ bigSep Finset.univ fun i => reached ET ((c : Thread nD τ), sm i) 0) : sProp 𝕄) := by
  have hone : (bigSep Finset.univ fun i => iprop(Inv Acc R0 K ∗ openTok ET ((c : Thread nD τ), sm i) ∗ semVal ((c : Thread nD τ), sm i) 0))
      ⊢ iprop(|={Set.univ}=> (bigSep Finset.univ fun i => iprop(atPos ET ((c : Thread nD τ), sm i) 0 ∅ 0 ∗ reached ET ((c : Thread nD τ), sm i) 0)) : sProp 𝕄) :=
    (BI.bigSep_mono fun i _ => open_one Acc R0 K c (sm i) (h i)).trans (BI.bigSep_fupd _ _)
  iintro ⟨#Hi, Ho, Hv⟩
  imod hone $$ [Ho Hv] with H
  · rw [bigSep_sep', bigSep_sep']
    isplitr
    · iapply (bigSep_intro_persistent (R := Inv Acc R0 K) fun i _ => BI.Entails.refl _); iexact Hi
    isplitl [Ho] <;> iassumption
  imodintro
  iapply (Entails.of_eq (bigSep_sep' Finset.univ (fun i => atPos ET ((c : Thread nD τ), sm i) 0 ∅ 0) fun i => (reached ET ((c : Thread nD τ), sm i) 0 : sProp 𝕄)))
  iexact H

end Cert.FusedProof

end
-- ==== Proof.Tail.lean ====
/-
  What the program does after its last grid point: the write-back of the result, whole, and the wait for it.
-/
module

public import proofs.«01_k».proof.Proof.Open

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (Acc : Fin 2 → Fin 4 → Dev nD → S256x2048.Idx → Elt F .f32) (R0 : S2048x2048.Idx → Elt F .f32) (K : GSem nD τ sig → ℕ)

/-- A slice of all of a memref is the memref. -/
theorem owns_all (c : Dev nD) {sp : Space} (m : Memref sig .tc sp S2048x2048 .f32) (off : Fin 2 → ℕ) (inb : ∀ a, off a + S2048x2048.size a ≤ S2048x2048.size a)
    (X : S2048x2048.Idx → Elt F .f32) :
    (owns (c : Thread nD τ) (m.slice (Rect.unit (s := S2048x2048) off S2048x2048.size inb) fun _ => rfl) fullShare X : sProp 𝕄)
      = owns (c : Thread nD τ) m fullShare X := by
  have h0 : ∀ j : S2048x2048.Idx, (Rect.unit (s := S2048x2048) off S2048x2048.size inb).emb j = j := fun j => funext fun a => Fin.ext (by
    rw [Rect.emb_apply]; have := inb a; show off a + 1 * (j a).val = _; omega)
  have hs : (m.slice (Rect.unit (s := S2048x2048) off S2048x2048.size inb) fun _ => rfl).view.set = m.view.set := by
    refine (View.set_slice _ _).trans (congrArg (Finset.map m.view.emb) (Finset.eq_univ_iff_forall.2 fun j => ?_))
    rw [Rect.mem_set_unit]
    intro a; have := inb a; have := (j a).isLt; show off a ≤ _ ∧ _ < off a + S2048x2048.size a; omega
  have hr : ∀ f, (m.slice (Rect.unit (s := S2048x2048) off S2048x2048.size inb) fun _ => rfl).view.read (Elt F) f = m.view.read (Elt F) f := fun f => by
    refine funext fun (j : S2048x2048.Idx) => ?_
    exact congrArg (m.view.read (Elt F) f) (h0 j)
  unfold owns
  refine congrArg _ (funext fun f => ?_)
  exact congrArg₂ (fun (p : Prop) (q : sProp 𝕄) => iprop(⌜p⌝ ∗ q)) (by rw [hr]) (by rw [hs])

/-- What a device needs to write the result back. -/
def wbHold (c : Dev nD) : sProp 𝕄 :=
  iprop(dutyTok ET (wbC c) 0 false ∗ reached ET (wbC c) 0 ∗ atPos ET (wbC c) 0 ∅ 0)

theorem wb_mem (c : Dev nD) : wbC c ∈ barCells ∪ dmaCells := dma_mem c wbS (show 8 ≤ 8 by omega)

abbrev allS {sp : Space} (m : Memref sig .tc sp S2048x2048 .f32) (off : Fin 2 → ℕ) (inb : ∀ a, off a + S2048x2048.size a ≤ S2048x2048.size a) :
    Memref sig .tc sp S2048x2048 .f32 := m.slice (Rect.unit (s := S2048x2048) off S2048x2048.size inb) fun _ => rfl

/-- The write-back needs as much of its cell as its cell's one duty gives. -/
theorem all_credit (off : Fin 2 → ℕ) (inb : ∀ a, off a + S2048x2048.size a ≤ S2048x2048.size a) : (allS resM off inb).view.dmaCredit = NRes := rfl

set_option maxHeartbeats 1000000 in
/-- A copy of the staging buffer to the result and the wait for it. -/
theorem wp_back (c : Dev nD) (v) (off off' : Fin 2 → ℕ) (inb : ∀ a, off a + S2048x2048.size a ≤ S2048x2048.size a)
    (inb' : ∀ a, off' a + S2048x2048.size a ≤ S2048x2048.size a) (Y : S2048x2048.Idx → Elt F .f32)
    {src : Memref sig .tc .vmem S2048x2048 .f32} {dst : Memref sig .tc .hbm S2048x2048 .f32} {sem : DmaSem sig}
    (es : src = allS outM off inb) (ed : dst = allS resM off' inb') (em : sem = wbS)
    {h1 : src.view.WordExact} {h2 : dst.view.WordExact}
    {h3 : DmaTarget.Typed (nD := nD) (τ := τ) (p := Proc.tc) (.core .vmem) (.dma sem) (.here dst)}
    {α : Type} (k : PUnit → Prog (Eff F) α) (Q : α → sProp 𝕄) :
    iprop(Inv Acc R0 K ∗ levAts L lv ∗ wbHold c ∗ (∃ W, owes (c : Thread nD τ) (Ow c 30) W)
        ∗ owns (c : Thread nD τ) resM fullShare Y ∗ owns (c : Thread nD τ) outM fullShare R0)
      ⊢ iprop((semVal (wbC c) 0 ∗ (∃ W, owes (c : Thread nD τ) (Ow c 30) W)
            ∗ owns (c : Thread nD τ) resM fullShare R0 ∗ owns (c : Thread nD τ) outM fullShare R0
            -∗ wp frame (wpE (defs (F := F)) (Variants.lift 𝒱₀) (c : Thread nD τ) v) Set.univ (k ⟨⟩) Q)
        -∗ wp frame (wpE (defs (F := F)) (Variants.lift 𝒱₀) (c : Thread nD τ) v) Set.univ
          (.op (.enqueueDma src (.here dst) (.dma sem) h1 h2 h3) fun _ => .op (.waitDma2 sem src dst h1 h2) k) Q) := by
  subst es ed em
  unfold wbHold
  iintro ⟨#Hi, #Hl, ⟨Ht, Hr, Hat⟩, ⟨%W, Ho⟩, Hdst, Hsrc⟩ Hk
  ihave Hsrc := (Entails.of_eq (owns_all c outM off inb R0).symm) $$ Hsrc
  ihave Hdst := (Entails.of_eq (owns_all c resM off' inb' Y).symm) $$ Hdst
  ihave Hsrc' := (owns_ex (c : Thread nD τ) (allS outM off inb) R0) $$ Hsrc
  icases Hsrc' with ⟨%fs, %hfs, Hsrc⟩
  ihave Hdst' := (owns_ex (c : Thread nD τ) (allS resM off' inb') Y) $$ Hdst
  icases Hdst' with ⟨%fd, -, Hdst⟩
  iapply (wp_copy_pointsTo (Variants.lift 𝒱₀) ET (Rd Acc R0) (c : Thread nD τ) v (src := allS outM off inb) (dst := allS resM off' inb') (sem := .dma wbS)
    (q := fullShare) (fs := fs) (fd := fd) (r := 0) (d := false) (κ := K (wbC c))
    (by rw [duties_dma Acc R0 c _ (show 8 ≤ 8 by omega)]; exact Finset.mem_singleton_self _) () NRes (all_credit off' inb') (amount_wb Acc R0 c false)
    (by
      rw [payload_wb]
      unfold wbPay
      rw [← owns_all c resM off' inb' R0, ← owns_all c outM off inb R0]
      exact Idealize.SL.BI.sep_mono (owns_mk (c : Thread nD τ) (allS resM off' inb') R0 _ (by rw [View.read_write_univ]; exact hfs)) (owns_mk (c : Thread nD τ) (allS outM off inb) R0 fs hfs))) $$ [Ht Hr Hsrc Hdst]
  · isplitr; · iapply (inv_at Acc R0 K (wbC c) (wb_mem c)); iexact Hi
    isplitl [Hsrc]; · iexact Hsrc
    isplitl [Hdst]; · iexact Hdst
    isplitl [Ht] <;> iassumption
  iintro Hcr
  iapply (wp_wait_rest_token (Variants.lift 𝒱₀) ET (Rd Acc R0) (c : Thread nD τ) v (κ := K (wbC c)) (sm := .dma wbS)
    (Es := Set.univ) (wpE_waitDma2_eq (Variants.lift 𝒱₀) (c : Thread nD τ) v Set.univ) (Set.mem_univ _)
    (O := Ow c 30) (W := W) (R := 0) (m := 0) (T := ∅) ()
    (by rw [expect_dma Acc R0 c _ (show 8 ≤ 8 by omega), amount_wb, all_credit]; exact Nat.zero_add _)) $$ [Hcr Hat Ho]
  · isplitr; · iapply (inv_at Acc R0 K (wbC c) (wb_mem c)); iexact Hi
    isplitl [Hcr]; · rw [all_credit]; iexact Hcr
    isplitl [Ho]; · iexact Ho
    isplitr
    · iapply (mayWait_low c wbS (show 8 < 39 by omega) 30); iexact Hl
    · iexact Hat
  rw [rest_dma Acc R0 c _ (show 8 ≤ 8 by omega), payload_wb]
  iintro ⟨Ho, Hat, -, Hp⟩
  imod (cell_close ET (Rd Acc R0) (Set.mem_univ (K (wbC c))) (fun h => h) (R := 1) (fun r hr => duties_later Acc R0 _ r hr)) $$ [Hat] with Hv
  · isplitr; · iapply (inv_at Acc R0 K (wbC c) (wb_mem c)); iexact Hi
    iexact Hat
  iapply Hk
  unfold wbPay
  isplitl [Hv]; · iexact Hv
  isplitl [Ho]; · iexists _; iexact Ho
  iexact Hp

theorem blk_all (c : Dev nD) (u : Fin (cfgA F c).N) : ∃ off inb, ((cfgA F c).win 4).blk u = allS resM off inb :=
  ⟨_, ((cfgA F c).win 4).hclip (grid0.coords u), rfl⟩

theorem stg_all (c : Dev nD) (u : Fin (cfgA F c).N) : ∃ off inb, ((cfgA F c).win 4).stg u (0 : Fin 1) = allS outM off inb :=
  ⟨fun _ => 0, fun a => (Nat.zero_add _).le, rfl⟩

/-- The write-back and the wait at point `u` through buffer `s`, and the loop's last call. -/
def tailAt (c : Dev nD) (u : Fin (cfgA F c).N) (s : Fin ((cfgA F c).win 4).nbuf) : Prog (Eff F) PUnit :=
  .op (.enqueueDma (((cfgA F c).win 4).stg u s) (.here (((cfgA F c).win 4).blk u)) (.dma (((cfgA F c).win 4).sem s))
    (((cfgA F c).win 4).wordExact_stg u s) (((cfgA F c).win 4).wordExact_blk u) ⟨Or.inl rfl, trivial⟩) fun _ =>
  .op (.waitDma2 (((cfgA F c).win 4).sem s) (((cfgA F c).win 4).stg u s) (((cfgA F c).win 4).blk u)
    (((cfgA F c).win 4).wordExact_stg u s) (((cfgA F c).win 4).wordExact_blk u)) fun _ =>
  .op (.call (Pipeline.pipe 0) (adm c, 33)) fun _ => .ret ⟨⟩

theorem tail_at (c : Dev nD) :
    tail (F := F) c = tailAt c ⟨31, by rw [show (cfgA F c).N = 32 from N_0]; omega⟩ ((cfgA F c).slots ⟨31, by rw [show (cfgA F c).N = 32 from N_0]; omega⟩ 4) := by
  with_unfolding_all exact Eq.refl _

theorem wp_end (c : Dev nD) (Q : sProp 𝕄) :
    Q ⊢ wp frame (wpE (defs (F := F)) (Variants.lift 𝒱₀) (c : Thread nD τ) (some (.inr 1))) Set.univ (.op (.call (Pipeline.pipe 0) (adm c, 33)) fun _ => .ret PUnit.unit) fun _ => Q := by
  iintro H
  iapply (wp_call (Variants.lift 𝒱₀) (c : Thread nD τ) (some (.inr 1)) Set.univ (ℓ := Pipeline.pipe 0) (a := (adm c, 33))
        (k := fun _ => .ret PUnit.unit) (Q := fun _ => Q) (Sum.inr 0)
        (fun u hu => by obtain rfl := Option.mem_some_iff.mp hu; exact Sum.Lex.inr (by omega)))
  rw [pipe_end, wp_ret]
  imodintro
  rw [wp_ret]
  imodintro
  iexact H

theorem wp_tailAt (c : Dev nD) (u : Fin (cfgA F c).N) (Y : S2048x2048.Idx → Elt F .f32) (Q : sProp 𝕄) :
    iprop(Inv Acc R0 K ∗ levAts L lv ∗ wbHold c ∗ (∃ W, owes (c : Thread nD τ) (Ow c 30) W)
        ∗ owns (c : Thread nD τ) resM fullShare Y ∗ owns (c : Thread nD τ) outM fullShare R0)
      ⊢ iprop((semVal (wbC c) 0 ∗ (∃ W, owes (c : Thread nD τ) (Ow c 30) W)
            ∗ owns (c : Thread nD τ) resM fullShare R0 ∗ owns (c : Thread nD τ) outM fullShare R0 -∗ Q)
        -∗ wp frame (wpE (defs (F := F)) (Variants.lift 𝒱₀) (c : Thread nD τ) (some (.inr 1))) Set.univ (tailAt c u (0 : Fin 1)) fun _ => Q) := by
  obtain ⟨off, inb, es⟩ := stg_all (F := F) c u
  obtain ⟨off', inb', ed⟩ := blk_all (F := F) c u
  have h := wp_back Acc R0 K c (some (.inr 1)) off off' inb inb' Y (src := ((cfgA F c).win 4).stg u (0 : Fin 1)) (dst := ((cfgA F c).win 4).blk u)
      (sem := ((cfgA F c).win 4).sem (0 : Fin 1)) es ed rfl (h1 := ((cfgA F c).win 4).wordExact_stg u (0 : Fin 1)) (h2 := ((cfgA F c).win 4).wordExact_blk u) (h3 := ⟨Or.inl rfl, trivial⟩)
      (fun _ => .op (.call (Pipeline.pipe 0) (adm c, 33)) fun _ => .ret PUnit.unit) (fun _ => Q)
  refine h.trans (wand_mono_left (wand_mono_right (wp_end c Q)))

/-- The write-back as the program does it after the last point. -/
theorem wp_tail (c : Dev nD) (Y : S2048x2048.Idx → Elt F .f32) (Q : sProp 𝕄) :
    iprop(Inv Acc R0 K ∗ levAts L lv ∗ wbHold c ∗ (∃ W, owes (c : Thread nD τ) (Ow c 30) W)
        ∗ owns (c : Thread nD τ) resM fullShare Y ∗ owns (c : Thread nD τ) outM fullShare R0)
      ⊢ iprop((semVal (wbC c) 0 ∗ (∃ W, owes (c : Thread nD τ) (Ow c 30) W)
            ∗ owns (c : Thread nD τ) resM fullShare R0 ∗ owns (c : Thread nD τ) outM fullShare R0 -∗ Q)
        -∗ wp frame (wpE (defs (F := F)) (Variants.lift 𝒱₀) (c : Thread nD τ) (some (.inr 1))) Set.univ (tail c) fun _ => Q) := by
  rw [tail_at c, Subsingleton.elim (α := Fin 1) ((cfgA F c).slots ⟨31, by rw [show (cfgA F c).N = 32 from N_0]; omega⟩ 4) 0]
  exact wp_tailAt Acc R0 K c _ Y Q

end Cert.FusedProof

end
-- ==== Proof.Enter.lean ====
/-
  What the call takes from its device on entry — the buffers of the arguments, of the tables and of the result, the
  scratch buffers, the cells of the talk — in the form the loop's first point wants it, and how it gives them back.
-/
module

public import proofs.«01_k».proof.Proof.Tail
public import proofs.«01_k».proof.Proof.Gen.KernelIdeal.Regions

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers in HBM -/

/-- The buffers the call works on. -/
def six : List (DevRef τ sig) := [Proc.devRef .tc main_arg0, Proc.devRef .tc main_arg1, Proc.devRef .tc main_arg2, Proc.devRef .tc main_v8, Proc.devRef .tc main_v13, Proc.devRef .tc main_v14]

theorem six_nodup : six.Nodup := by decide

theorem six_sub : six.toFinset ⊆ Pipeline.ucRefs τ sig := fun b hb => by
  have : b ∈ six := List.mem_toFinset.mp hb
  unfold six at this
  simp only [List.mem_cons, List.not_mem_nil, _root_.or_false] at this
  rcases this with rfl | rfl | rfl | rfl | rfl | rfl <;>
    exact Finset.mem_filter.mpr ⟨StableHlo.devRef_mem_tcRefs _, by decide⟩

variable (x : Dev nD → S2048x2048.Idx → Elt F .f32) (w1 : Dev nD → S2048x4096.Idx → Elt F .f32) (w2 : Dev nD → S4096x2048.Idx → Elt F .f32)

/-- What the host leaves in the buffers the call reads. -/
structure Ready (V : Dev nD → Valuation τ sig (Elt F)) : Prop where
  arg0 : ∀ c, V c main_arg0 = x c
  arg1 : ∀ c, V c main_arg1 = w1 c
  arg2 : ∀ c, V c main_arg2 = w2 c
  top : ∀ c, V c main_v8 = (fun h : S4.Idx => wd (blk 0 c (h 0)) : S4.Idx → Elt F .i32)
  bottom : ∀ c, V c main_v13 = (fun h : S4.Idx => wd (blk 1 c (h 0)) : S4.Idx → Elt F .i32)

/-- The arguments, the tables and the result, the other buffers left aside. -/
def args (c : Dev nD) (R : S2048x2048.Idx → Elt F .f32) : sProp 𝕄 :=
  iprop((((c : Thread nD τ).loc main_arg0) ↦{fullShare} (x c)) ∗ (((c : Thread nD τ).loc main_arg1) ↦{fullShare} (w1 c))
    ∗ (((c : Thread nD τ).loc main_arg2) ↦{fullShare} (w2 c)) ∗ tabs c fullShare ∗ owns (c : Thread nD τ) resM fullShare R)

theorem held_six (c : Dev nD) (V : Valuation τ sig (Elt F)) :
    (StableHlo.held (c : Thread nD τ) (Pipeline.ucRefs τ sig) V : sProp 𝕄)
      = iprop(((((c : Thread nD τ).loc main_arg0) ↦{fullShare} V main_arg0) ∗ (((c : Thread nD τ).loc main_arg1) ↦{fullShare} V main_arg1)
          ∗ (((c : Thread nD τ).loc main_arg2) ↦{fullShare} V main_arg2) ∗ (((c : Thread nD τ).loc main_v8) ↦{fullShare} V main_v8)
          ∗ (((c : Thread nD τ).loc main_v13) ↦{fullShare} V main_v13) ∗ (((c : Thread nD τ).loc main_v14) ↦{fullShare} V main_v14))
        ∗ StableHlo.held (c : Thread nD τ) (Pipeline.ucRefs τ sig \ six.toFinset) V) := by
  rw [StableHlo.held_sub_split (c : Thread nD τ) six_sub V]
  refine congrArg (fun P : sProp 𝕄 => iprop(P ∗ StableHlo.held (c : Thread nD τ) (Pipeline.ucRefs τ sig \ six.toFinset) V)) ?_
  unfold StableHlo.held
  exact bigSep_eq_bigSepL six six_nodup _

theorem held_args (c : Dev nD) (V : Dev nD → Valuation τ sig (Elt F)) (h : Ready x w1 w2 V) :
    (StableHlo.held (c : Thread nD τ) (Pipeline.ucRefs τ sig) (V c) : sProp 𝕄)
      ⊢ iprop((∃ R, args x w1 w2 c R) ∗ StableHlo.held (c : Thread nD τ) (Pipeline.ucRefs τ sig \ six.toFinset) (V c)) := by
  rw [held_six, h.arg0, h.arg1, h.arg2, h.top, h.bottom]
  unfold args tabs
  iintro ⟨⟨H0, H1, H2, H3, H4, H5⟩, Hr⟩
  isplitr [Hr]
  · iexists (V c main_v14)
    isplitl [H0]; · iexact H0
    isplitl [H1]; · iexact H1
    isplitl [H2]; · iexact H2
    isplitl [H3 H4]; · isplitl [H3] <;> iassumption
    rw [owns_whole (c : Thread nD τ) main_v14 fullShare (V c main_v14)]
    iexact H5
  iexact Hr

theorem args_held (c : Dev nD) (V : Dev nD → Valuation τ sig (Elt F)) (h : Ready x w1 w2 V) (R : S2048x2048.Idx → Elt F .f32) :
    iprop(args x w1 w2 c R ∗ StableHlo.held (c : Thread nD τ) (Pipeline.ucRefs τ sig \ six.toFinset) (V c))
      ⊢ (StableHlo.held (c : Thread nD τ) (Pipeline.ucRefs τ sig) (Function.update (V c) main_v14 R) : sProp 𝕄) := by
  have hne : ∀ b : DevRef τ sig, b ≠ Proc.devRef .tc main_v14 → Function.update (V c) main_v14 R b = V c b := fun b hb => Function.update_of_ne hb _ _
  rw [held_six, hne (Proc.devRef .tc main_arg0) (by decide), hne (Proc.devRef .tc main_arg1) (by decide), hne (Proc.devRef .tc main_arg2) (by decide),
    hne (Proc.devRef .tc main_v8) (by decide), hne (Proc.devRef .tc main_v13) (by decide),
    show Function.update (V c) main_v14 R (Proc.devRef .tc main_v14) = R from Function.update_self _ _ _, h.arg0, h.arg1, h.arg2, h.top, h.bottom,
    StableHlo.held_congr (c : Thread nD τ) (S := Pipeline.ucRefs τ sig \ six.toFinset) (V := Function.update (V c) main_v14 R) (V' := V c) fun b hb =>
      hne b fun e => (Finset.mem_sdiff.mp hb).2 (List.mem_toFinset.mpr (by rw [e]; decide))]
  unfold args tabs
  iintro ⟨⟨H0, H1, H2, ⟨H3, H4⟩, H5⟩, Hr⟩
  isplitr [Hr]
  · isplitl [H0]; · iexact H0
    isplitl [H1]; · iexact H1
    isplitl [H2]; · iexact H2
    isplitl [H3]; · iexact H3
    isplitl [H4]; · iexact H4
    rw [← owns_whole (c : Thread nD τ) main_v14 fullShare R]
    iexact H5
  iexact Hr

end Cert.FusedProof

end
-- ==== Proof.Begin.lean ====
/-
  The state of the loop before its first point, built from what the call is given on entry, and what the state after the
  last point gives back.
-/
module

public import proofs.«01_k».proof.Proof.Enter

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Talk

variable (Acc : Fin 2 → Fin 4 → Dev nD → S256x2048.Idx → Elt F .f32) (R0 : S2048x2048.Idx → Elt F .f32) (K : GSem nD τ sig → ℕ)

/-- What a device holds of the talk when the call begins: its own cells are still closed. -/
def Talk (c : Dev nD) : sProp 𝕄 :=
  iprop(Inv Acc R0 K ∗ (reached ET (barC (prv c)) 0 ∗ reached ET (barC (nxt c)) 0)
    ∗ (dutyTok ET (barC (prv c)) 0 true ∗ dutyTok ET (barC (nxt c)) 0 false ∗ atPos ET (barC c) 0 ∅ 0 ∗ cred (tallyAt (barC c) () 2))
    ∗ (bigSep Finset.univ fun k => openTok ET ((c : Thread nD τ), own61 k)) ∗ dutyTok ET (wbC c) 0 false
    ∗ (bigSep Finset.univ fun x : Fin 15 × Fin 2 => dutyTok ET (sendC c x.2 x.1) 0 false)
    ∗ (bigSep Finset.univ fun x : Fin 15 × Fin 2 => dutyTok ET (recvC (pr x.2 c) x.2 x.1) 0 false)
    ∗ bigSep Finset.univ fun x : Fin 15 × Fin 2 => cred (tallyAt (recvC c x.2 x.1) () (amt x.1)))

theorem cells_start (c : Dev nD) :
    iprop((bigSep Finset.univ fun x : Fin 15 × Fin 2 => dutyTok ET (sendC c x.2 x.1) 0 false)
      ∗ (bigSep Finset.univ fun x : Fin 15 × Fin 2 => dutyTok ET (recvC (pr x.2 c) x.2 x.1) 0 false)
      ∗ (bigSep Finset.univ fun x : Fin 15 × Fin 2 => atPos ET (sendC c x.2 x.1) 0 ∅ 0)
      ∗ (bigSep Finset.univ fun x : Fin 15 × Fin 2 => cred (tallyAt (recvC c x.2 x.1) () (amt x.1)))
      ∗ bigSep Finset.univ fun x : Fin 15 × Fin 2 => atPos ET (recvC c x.2 x.1) 0 ∅ 0)
      ⊢ (cellsI c 0 0 0 : sProp 𝕄) := by
  have e1 : (fun x => (sSt c 0 0 x : sProp 𝕄)) = fun x => iprop(dutyTok ET (sendC c x.2 x.1) 0 false ∗ dutyTok ET (recvC (pr x.2 c) x.2 x.1) 0 false ∗ atPos ET (sendC c x.2 x.1) 0 ∅ 0) :=
    funext fun x => by unfold sSt; rw [if_neg (Nat.not_lt_zero _), if_neg (Nat.not_lt_zero _)]; rfl
  have e2 : (fun x => (rSt c 0 x : sProp 𝕄)) = fun x => iprop(cred (tallyAt (recvC c x.2 x.1) () (amt x.1)) ∗ atPos ET (recvC c x.2 x.1) 0 ∅ 0) :=
    funext fun x => by unfold rSt; rw [if_neg (Nat.not_lt_zero _)]; rfl
  unfold cellsI
  rw [e1, e2, bigSep_sep', bigSep_sep', bigSep_sep']
  iintro ⟨H1, H2, H3, H4, H5⟩
  isplitl [H1 H2 H3]
  · isplitl [H1]; · iexact H1
    isplitl [H2] <;> iassumption
  isplitl [H4] <;> iassumption

theorem cells_end (c : Dev nD) :
    (cellsI c 30 30 30 : sProp 𝕄) ⊢ iprop((bigSep Finset.univ fun x : Fin 15 × Fin 2 => semVal (sendC c x.2 x.1) 0)
      ∗ bigSep Finset.univ fun x : Fin 15 × Fin 2 => semVal (recvC c x.2 x.1) 0) := by
  have h : ∀ x : Fin 15 × Fin 2, num x < 30 := by decide
  have e1 : (fun x => (sSt c 30 30 x : sProp 𝕄)) = fun x => semVal (sendC c x.2 x.1) 0 := funext fun x => by unfold sSt; rw [if_pos (h x)]
  have e2 : (fun x => (rSt c 30 x : sProp 𝕄)) = fun x => semVal (recvC c x.2 x.1) 0 := funext fun x => by unfold rSt; rw [if_pos (h x)]
  unfold cellsI
  rw [e1, e2]

/-- The device's part of the barrier. -/
def barH (c : Dev nD) : sProp 𝕄 :=
  iprop(dutyTok ET (barC (prv c)) 0 true ∗ dutyTok ET (barC (nxt c)) 0 false ∗ atPos ET (barC c) 0 ∅ 0 ∗ cred (tallyAt (barC c) () 2))

theorem reached_ring (c : Dev nD) (r : Fin 2) :
    (bigSep Finset.univ fun x : Fin 15 × Fin 2 => reached ET (recvC c x.2 x.1) 0)
      ⊢ (bigSep Finset.univ fun i : Fin 15 => reached ET (recvC c r i) 0 : sProp 𝕄) :=
  bigSep_intro_persistent fun i _ => by
    rw [bigSep_univ_at (fun x : Fin 15 × Fin 2 => (reached ET (recvC c x.2 x.1) 0 : sProp 𝕄)) (i, r)]
    iintro ⟨H, -⟩; iexact H

/-- The device's cells are opened. -/
theorem talk_open (c : Dev nD) :
    iprop(Talk Acc R0 K c ∗ levAts L lv ∗ Pipeline.ownSems0 own61 c)
      ⊢ iprop(|={Set.univ}=> (ctx0 Acc R0 K c ∗ barH c ∗ cellsI c 0 0 0 ∗ wbHold c) : sProp 𝕄) := by
  have hm : ∀ k, ((c : Thread nD τ), own61 k) ∈ barCells ∪ dmaCells := fun k => dma_mem c _ (show 8 ≤ 8 + k.val by omega)
  unfold Talk Pipeline.ownSems0
  iintro ⟨⟨#Hi, ⟨#Hp, #Hn⟩, Hb, Ho, Hw, Hs, Hr, Hc⟩, #Hl, Hv⟩
  imod (open_many Acc R0 K c own61 hm) $$ [Ho Hv] with ⟨Hat, Hre⟩
  · isplitr; · iexact Hi
    isplitl [Ho]; · iexact Ho
    iexact Hv
  imodintro
  ihave Hat := (Entails.of_eq (own61_sorted (F := F) fun sm => atPos ET ((c : Thread nD τ), sm) 0 ∅ 0)) $$ Hat
  ihave Hre := (Entails.of_eq (own61_sorted (F := F) fun sm => reached ET ((c : Thread nD τ), sm) 0)) $$ Hre
  icases Hat with ⟨Ha0, Ha1, Ha2⟩
  icases Hre with ⟨Hr0, #Hr1, #Hr2⟩
  isplitr [Hb Hw Hs Hr Hc Ha0 Ha1 Ha2 Hr0]
  · unfold ctx0
    isplitr; · iexact Hi
    isplitr; · iexact Hl
    isplitr; · iexact Hr1
    isplitr; · iapply (reached_ring c 0); iexact Hr2
    isplitr; · iapply (reached_ring c 1); iexact Hr2
    isplitr <;> iassumption
  isplitl [Hb]; · unfold barH; iexact Hb
  isplitl [Hs Hr Hc Ha1 Ha2]
  · iapply (cells_start c)
    isplitl [Hs]; · iexact Hs
    isplitl [Hr]; · iexact Hr
    isplitl [Ha1]; · iexact Ha1
    isplitl [Hc]; · iexact Hc
    iexact Ha2
  unfold wbHold
  isplitl [Hw]; · iexact Hw
  isplitl [Hr0] <;> iassumption

/-- The device's cells, closed again. -/
theorem talk_close (c : Dev nD) :
    iprop(semVal (wbC c) 0 ∗ cellsI c 30 30 30) ⊢ (Pipeline.ownSems0 own61 c : sProp 𝕄) := by
  unfold Pipeline.ownSems0
  iintro ⟨H0, H⟩
  ihave H' := (cells_end c) $$ H
  iapply (Entails.of_eq (own61_sorted (F := F) fun sm => semVal ((c : Thread nD τ), sm) 0).symm)
  isplitl [H0] <;> iassumption

end Talk

/-! ## The scratch buffers -/

/-- The other scoped buffers. -/
abbrev restB (c : Dev nD) : sProp 𝕄 := Pipeline.scopedRestBut (Ix := Unit) (Name := ℕ) (U := UU) (Lvl := ℕ) (Val := Elt F) spec4 c [cc0_stg4_0, cc0_scratch0]

theorem rest_split (c : Dev nD) :
    (Pipeline.scopedRest (Ix := Unit) (Name := ℕ) (U := UU) (Lvl := ℕ) (Val := Elt F) spec4 c : sProp 𝕄)
      = iprop(((∃ f : Buf (Elt F) ((c : Thread nD τ).loc cc0_stg4_0), ((c : Thread nD τ).loc cc0_stg4_0) ↦{fullShare} f)
          ∗ ∃ f : Buf (Elt F) ((c : Thread nD τ).loc cc0_scratch0), ((c : Thread nD τ).loc cc0_scratch0) ↦{fullShare} f) ∗ restB c) :=
  Pipeline.scopedRest_split_of_list (Ix := Unit) (Name := ℕ) (U := UU) (Lvl := ℕ) (Val := Elt F) spec4 c [cc0_stg4_0, cc0_scratch0] (by decide) (by decide)

theorem rest_open (c : Dev nD) :
    (Pipeline.scopedRest (Ix := Unit) (Name := ℕ) (U := UU) (Lvl := ℕ) (Val := Elt F) spec4 c : sProp 𝕄)
      ⊢ iprop((bigSep Finset.univ fun x : Fin 2 × Fin 4 => anyRow (F := F) c (blk x.1 c x.2))
          ∗ (bigSep Finset.univ fun x : Fin 2 × Fin 3 => anySlot (F := F) c x.1 x.2) ∗ restB c) := by
  rw [rest_split]
  iintro ⟨⟨⟨%f, H1⟩, ⟨%g, H2⟩⟩, Hr⟩
  isplitl [H1]
  · iapply (out_rows c f)
    iapply (Entails.of_eq (owns_whole (c : Thread nD τ) cc0_stg4_0 fullShare f).symm); iexact H1
  isplitl [H2]
  · iapply (tmp_slots c g)
    iapply (Entails.of_eq (owns_whole (c : Thread nD τ) cc0_scratch0 fullShare g).symm); iexact H2
  iexact Hr

theorem rest_close (c : Dev nD) (X : S2048x2048.Idx → Elt F .f32) :
    iprop(owns (c : Thread nD τ) outM fullShare X ∗ (∃ Y, owns (c : Thread nD τ) tmpM fullShare Y) ∗ restB c)
      ⊢ (Pipeline.scopedRest (Ix := Unit) (Name := ℕ) (U := UU) (Lvl := ℕ) (Val := Elt F) spec4 c : sProp 𝕄) := by
  rw [rest_split]
  iintro ⟨H1, ⟨%Y, H2⟩, Hr⟩
  isplitr [Hr]
  · isplitl [H1]
    · iexists X; iapply (Entails.of_eq (owns_whole (c : Thread nD τ) cc0_stg4_0 fullShare X)); iexact H1
    · iexists Y; iapply (Entails.of_eq (owns_whole (c : Thread nD τ) cc0_scratch0 fullShare Y)); iexact H2
  iexact Hr

/-! ## The first point -/

section First

variable (x : Dev nD → S2048x2048.Idx → Elt F .f32) (w1 : Dev nD → S2048x4096.Idx → Elt F .f32) (w2 : Dev nD → S4096x2048.Idx → Elt F .f32)
variable (R0 : S2048x2048.Idx → Elt F .f32) (K : GSem nD τ sig → ℕ)

theorem eight (Φ : Fin 2 × Fin 4 → sProp 𝕄) :
    bigSep Finset.univ Φ = iprop(Φ (0, 0) ∗ Φ (0, 1) ∗ Φ (0, 2) ∗ Φ (0, 3) ∗ Φ (1, 0) ∗ Φ (1, 1) ∗ Φ (1, 2) ∗ Φ (1, 3)) := by
  rw [bigSep_univ_eq_bigSepL [(0, 0), (0, 1), (0, 2), (0, 3), (1, 0), (1, 1), (1, 2), (1, 3)] (by decide) (by decide) Φ]
  rfl

theorem first_at (c : Dev nD) :
    iprop(tabs c fullShare ∗ (ctx0 (Acc x w1 w2) R0 K c ∗ barH c ∗ cellsI c 0 0 0)
        ∗ (bigSep Finset.univ fun x : Fin 2 × Fin 4 => anyRow (F := F) c (blk x.1 c x.2))
        ∗ bigSep Finset.univ fun x : Fin 2 × Fin 3 => anySlot (F := F) c x.1 x.2)
      ⊢ PhiB x w1 w2 R0 K c 0 := by
  rw [PhiB_at x w1 w2 R0 K c 0 0 0 rfl (by omega)]
  rw [eight (fun x : Fin 2 × Fin 4 => anyRow (F := F) c (blk x.1 c x.2)), bigSep_univ_prod, bigSep_univ_two]
  unfold PhiS Stage Cur
  dsimp only
  unfold Stage0 barI barH
  iintro ⟨Ht, ⟨#Hx, ⟨Hb1, Hb2, Hb3, Hb4⟩, Hc⟩, ⟨H00, H01, H02, H03, H10, H11, H12, H13⟩, Hs0, Hs1⟩
  isplitl [Ht]; · iexact Ht
  isplitr [H00 H10]
  · isplitr; · iexact Hx
    isplitl [Hb1 Hb2 Hb3 Hb4 Hs0 Hs1]
    · isplitl [Hb1]; · iexact Hb1
      isplitl [Hb2]; · iexact Hb2
      isplitl [Hb3]; · iexact Hb3
      isplitl [Hb4]; · iexact Hb4
      isplitl [Hs0] <;> iassumption
    isplitl [Hc]; · iexact Hc
    isplitl [H01 H02 H03]
    · isplitl [H01]; · iexact H01
      isplitl [H02] <;> iassumption
    isplitl [H11]; · iexact H11
    isplitl [H12] <;> iassumption
  isplitl [H00] <;> iassumption

end First

end Cert.FusedProof

end
-- ==== Proof.Call.lean ====
/-
  The call of the fused kernel: entered with the host's buffers and the device's part of the talk, it ends with the
  result in its buffer and everything else as it was.
-/
module

public import proofs.«01_k».proof.Proof.Begin

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)
open Idealize.ShloMosaic.Pipeline.PerCore (NamesIn loopInv cellsSems0)
open Idealize.ShloMosaic.Pipeline.PerCore.RDat

variable {F : FTy → Type} [FloatOps F]

local notation "𝕄" => MT nD τ sig Unit (Elt F) ℕ UU ℕ

variable (x : Dev nD → S2048x2048.Idx → Elt F .f32) (w1 : Dev nD → S2048x4096.Idx → Elt F .f32) (w2 : Dev nD → S4096x2048.Idx → Elt F .f32)
variable (R0 : S2048x2048.Idx → Elt F .f32) (K : GSem nD τ sig → ℕ)

/-- The data of the loop, for the only pipeline there is. -/
abbrev rds (p : Fin 1) (c : Dev nD) : RDat τ (Elt F) Unit ℕ UU ℕ (cfgB F c p) c := rdB x w1 w2 R0 K c

/-- The arguments' buffers, as the windows hold them. -/
theorem arrays_args (c : Dev nD) :
    ((rdB x w1 w2 R0 K c).arrays (rdB x w1 w2 R0 K c).A : sProp 𝕄)
      = iprop((((c : Thread nD τ).loc main_arg0) ↦{fullShare.left} (x c)) ∗ (((c : Thread nD τ).loc main_arg0) ↦{fullShare.right} (x c))
        ∗ (((c : Thread nD τ).loc main_arg1) ↦{fullShare} (w1 c)) ∗ (((c : Thread nD τ).loc main_arg2) ↦{fullShare} (w2 c))) := by
  unfold RDat.arrays
  refine (bigSep4 (F := F) _).trans ?_
  have e0 := View.set_whole (main_arg0 : Ref sig .tc)
  have e1 := View.set_whole (main_arg1 : Ref sig .tc)
  have e2 := View.set_whole (main_arg2 : Ref sig .tc)
  show iprop((((c : Thread nD τ).loc main_arg0) ↦[(View.whole (main_arg0 : Ref sig .tc)).set]{fullShare.left} (x c)) ∗ (((c : Thread nD τ).loc main_arg0) ↦[(View.whole (main_arg0 : Ref sig .tc)).set]{fullShare.right} (x c))
        ∗ (((c : Thread nD τ).loc main_arg1) ↦[(View.whole (main_arg1 : Ref sig .tc)).set]{fullShare} (w1 c)) ∗ (((c : Thread nD τ).loc main_arg2) ↦[(View.whole (main_arg2 : Ref sig .tc)).set]{fullShare} (w2 c))) = _
  rw [e0, e1, e2]

theorem arrays_end (c : Dev nD) (n : ℕ) :
    ((rdB x w1 w2 R0 K c).arraysAt n : sProp 𝕄) ⊢ (rdB x w1 w2 R0 K c).arrays (rdB x w1 w2 R0 K c).A := by
  unfold RDat.arraysAt RDat.arrays
  have aux (w : Fin (cfgB F c 0).W) : iprop(∃ G, ⌜(rdB x w1 w2 R0 K c).ArrAt w n G⌝
        ∗ ((cfgB F c 0).win w).arr.view.loc (c.tc : Thread nD τ) ↦[((cfgB F c 0).win w).arr.view.set]{(rdB x w1 w2 R0 K c).share w} G)
      ⊢ (((cfgB F c 0).win w).arr.view.loc (c.tc : Thread nD τ) ↦[((cfgB F c 0).win w).arr.view.set]{(rdB x w1 w2 R0 K c).share w} (rdB x w1 w2 R0 K c).A w : sProp 𝕄) := by
    have h : ∀ G, (rdB x w1 w2 R0 K c).ArrAt w n G → G = (rdB x w1 w2 R0 K c).A w := fun G hG =>
      (congrFun (RDat.ArrAt_in (rdB x w1 w2 R0 K c) w (cfgB_in c 0 w) n) G).mp hG
    iintro ⟨%G, %hG, H⟩
    rw [← h G hG]
    iexact H
  exact bigSep_mono fun w _ => aux w

theorem tabs_held (c : Dev nD) :
    (Pipeline.prefHeld (pcfgs (F := F) 0).pre c (fun _ => fullShare) (adm c).1 : sProp 𝕄) = tabs c fullShare := by
  unfold Pipeline.prefHeld
  refine (bigSep_univ_two _).trans ?_
  rfl

/-- The staging cells may be waited on at every point. -/
theorem waits_ok (c : Dev nD) :
    (levAts L lv : sProp 𝕄) ⊢ cellsWaits (cfgB F) (rds x w1 w2 R0 K) () 0 c := by
  refine cellsWaits_intro (cfgB F) (rds x w1 w2 R0 K) () 0 c fun w s t => ?_
  have hq : ∀ (w : Fin 4) (s : Fin (spec0 w.castSucc).nbuf), ((spec0 w.castSucc).sem s).val < 39 := by decide
  show (levAts L lv : sProp 𝕄) ⊢ MayWait (c : Thread nD τ) (.dma ((spec0 w.castSucc).sem s)) () (owedB c t.val)
  unfold owedB
  split
  · exact mayWait_low_b c _ (hq w s)
  split
  · exact mayWait_low c _ (hq w s) _
  · exact mayWait_low c _ (hq w s) _

theorem runs (c : Dev nD) :
    ((cfgA F c).runAt (nD := nD) (τ := τ) (Val := Elt F) (A := fun p => (pcfgs (F := F) p).Adm) (0 : Fin 1) (adm c) : Prog (Eff F) PUnit)
      = .op (.call (Pipeline.pipe 0) (adm c, 0)) fun _ => .ret PUnit.unit := by
  unfold Pipeline.Cfg.runAt
  rw [if_neg (by rw [show (cfgA F c).N = 32 from N_0]; omega), dif_neg (by rw [show (cfgA F c).N = 32 from N_0]; omega)]

/-- What the loop with its write-back leaves. -/
def after (c : Dev nD) : sProp 𝕄 :=
  iprop((rdB x w1 w2 R0 K c).arrays (rdB x w1 w2 R0 K c).A ∗ Dat.staging (cfgB F c 0) c ∗ cellsSems0 (cfgB F) 0 c ∗ (∃ W, owes (c : Thread nD τ) 0 W)
    ∗ tabs c fullShare ∗ semVal (barC c) 0 ∗ (semVal (wbC c) 0 ∗ cellsI c 30 30 30) ∗ owns (c : Thread nD τ) outM fullShare R0
    ∗ (∃ X, owns (c : Thread nD τ) tmpM fullShare X) ∗ owns (c : Thread nD τ) resM fullShare R0)

variable (hR : ∀ (r : Fin 2) (c : Dev nD) (j : S256x2048.Idx), Acc x w1 w2 r 3 c j = R0 ((rowR (blk r c 3)).emb j))

include hR in
/-- The loop from its first iteration. -/
theorem wp_pipe (κ : GSem nD τ sig → ℕ) (c : Dev nD) (Q : sProp 𝕄) :
    iprop(RunPre (cfgB F) (rds x w1 w2 R0 K) () EL κ 0 c ∗ Inv (Acc x w1 w2) R0 K ∗ levAts L lv ∗ wbHold c ∗ ∃ Y, owns (c : Thread nD τ) resM fullShare Y)
      ⊢ iprop((after x w1 w2 R0 K c -∗ Q)
        -∗ wp frame (wpE (defs (F := F)) (Variants.lift 𝒱₀) (c : Thread nD τ) (some (.inr 33))) Set.univ (defs (F := F) .tc (Pipeline.pipe 0) (adm c, 0)) fun _ => Q) := by
  have hN : (cfgB F c 0).N = 32 := cfgB_N c 0
  have hE : NamesIn (cfgB F) κ 0 c Set.univ := fun _ _ => Set.mem_univ _
  have hne : ∀ w : Fin 4, 0 < ((cfgB F c 0).win w).block.numel := fun w => block_pos0 w.castSucc
  have hloop := Held.wp_loop (cfgB F) (rds x w1 w2 R0 K) () EL κ cfgB_inj 0 defs₀ 𝒱₀ (defs (F := F)) (Pipeline.defs_kernel (pcfgs (F := F)) defs₀) c
    (cfgB_in c 0) (cfgB_two c 0) Set.univ hE (body_ob x w1 w2 R0 K hR c) (by rw [hN]; omega) (adm c) (tail c) (hstep c) (hlast c) 1 Q 32 0 (by rw [hN])
  iintro ⟨Hrun, #Hi, #Hl, Hw, ⟨%Y, Hres⟩⟩ Hk
  iapply (fupd_wp frame _ Set.univ _ _)
  imod (loopInv_zero (cfgB F) (rds x w1 w2 R0 K) () EL κ cfgB_inj 0 c Set.univ hE) $$ Hrun with H
  imodintro
  iapply hloop $$ H
  iintro H
  ihave H := (loopInv_post (cfgB F) (rds x w1 w2 R0 K) () EL κ 0 c ((cfgB F c 0).N + 1) (by omega)
    (fun w => by unfold Pipeline.Cfg.outstanding; rw [show (cfgB F c 0).point ((cfgB F c 0).N + 1) 1 = none from (cfgB F c 0).point_none (by omega), cfgB_in c 0 w]; simp)) $$ H
  icases H with ⟨Hp, He⟩
  iapply (fupd_wp frame _ Set.univ _ _)
  imod (cellsEnd_close (cfgB F) (rds x w1 w2 R0 K) EL κ cfgB_inj 0 c Set.univ hE hne) $$ He with Hz
  imodintro
  unfold RDat.Post
  icases Hp with ⟨Ha, Hst, Ho, HΦ⟩
  ihave Ha := (arrays_end x w1 w2 R0 K c _) $$ Ha
  ihave HΦ := (show (rdB x w1 w2 R0 K c).Φ (Fin.last (cfgB F c 0).N) ⊢ PhiE x w1 w2 R0 K c fullShare from Entails.of_eq (PhiB_end x w1 w2 R0 K c _ hN)) $$ HΦ
  have ho : (rdB x w1 w2 R0 K c).owesAt () (Fin.last (cfgB F c 0).N) ⊢ (iprop(∃ W, owes (c : Thread nD τ) (Ow c 30) W) : sProp 𝕄) := by
    have e : (rdB x w1 w2 R0 K c).owed (Fin.last (cfgB F c 0).N) = Ow c 30 := by
      show owedB c (cfgB F c 0).N = _
      unfold owedB; rw [hN, if_neg (by omega), if_neg (by omega)]
    unfold RDat.owesAt Pipeline.owesWithin
    rw [e]
    iintro ⟨%W, -, H⟩
    iexists W; iexact H
  ihave Ho := ho $$ Ho
  unfold PhiE
  icases HΦ with ⟨Ht, -, Hb, Hc, Hout, Htmp⟩
  iapply (wp_tail (Acc x w1 w2) R0 K c Y Q) $$ [Hw Ho Hres Hout]
  · isplitr; · iexact Hi
    isplitr; · iexact Hl
    isplitl [Hw]; · iexact Hw
    isplitl [Ho]; · iexact Ho
    isplitl [Hres] <;> iassumption
  rw [Ow_end c 30 (Nat.le_refl _)]
  iintro ⟨Hv, Ho, Hres, Hout⟩
  iapply Hk
  unfold after
  isplitl [Ha]; · iexact Ha
  isplitl [Hst]; · iexact Hst
  isplitl [Hz]; · iexact Hz
  isplitl [Ho]; · iexact Ho
  isplitl [Ht]; · iexact Ht
  isplitl [Hb]; · iexact Hb
  isplitl [Hv Hc]; · isplitl [Hv] <;> iassumption
  isplitl [Hout]; · iexact Hout
  isplitl [Htmp]; · iexact Htmp
  iexact Hres

end Cert.FusedProof

end
-- ==== Proof.Entry.lean ====
/-
  The call as one step of the main program.
-/
module

public import proofs.«01_k».proof.Proof.Call

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)
open Idealize.ShloMosaic.Pipeline.PerCore (NamesIn loopInv cellsSems0 cellsGhost toksInit)
open Idealize.ShloMosaic.Pipeline.PerCore.RDat

variable {F : FTy → Type} [FloatOps F]

local notation "𝕄" => MT nD τ sig Unit (Elt F) ℕ UU ℕ

variable (x : Dev nD → S2048x2048.Idx → Elt F .f32) (w1 : Dev nD → S2048x4096.Idx → Elt F .f32) (w2 : Dev nD → S4096x2048.Idx → Elt F .f32)
variable (R0 : S2048x2048.Idx → Elt F .f32)

/-- What a device holds beside its buffers up to the call. -/
def keep (c : Dev nD) : sProp 𝕄 :=
  iprop((∃ K, Talk (Acc x w1 w2) R0 K c) ∗ (∃ W, owes (c : Thread nD τ) (Ob c) W)
    ∗ cellsGhost (cfgB F) EL 0 c ∗ toksInit (cfgB F) EL 0 c)

variable (hR : ∀ (r : Fin 2) (c : Dev nD) (j : S256x2048.Idx), Acc x w1 w2 r 3 c j = R0 ((rowR (blk r c 3)).emb j))

include hR in
/-- The region of the call: the tables read, the loop run. -/
theorem wp_region (K : GSem nD τ sig → ℕ) (κ : GSem nD τ sig → ℕ) (c : Dev nD) (Q : sProp 𝕄) :
    iprop(tabs c fullShare ∗ (tabs c fullShare -∗ RunPre (cfgB F) (rds x w1 w2 R0 K) () EL κ 0 c)
        ∗ Inv (Acc x w1 w2) R0 K ∗ levAts L lv ∗ wbHold c ∗ ∃ Y, owns (c : Thread nD τ) resM fullShare Y)
      ⊢ iprop((after x w1 w2 R0 K c -∗ |={Set.univ}=> Q)
        -∗ wp frame (wpE (defs (F := F)) (Variants.lift 𝒱₀) (c : Thread nD τ) (some (.inr 34))) Set.univ (Pipeline.prun (pcfgs (F := F)) 0) fun _ => Q) := by
  iintro ⟨Ht, Hrun, #Hi, #Hl, Hw, Hres⟩ Hk
  unfold Pipeline.prun
  iapply (Pipeline.Prefetch.wp_readAll (Variants.lift 𝒱₀) (some (.inr 34)) Set.univ (pcfgs (F := F) 0).pre c (fun _ => fullShare) (adm (F := F) c).1 _) $$ [Ht]
  · iapply (Entails.of_eq (tabs_held (F := F) c).symm); iexact Ht
  iintro Ht
  ihave Ht := (Entails.of_eq (tabs_held (F := F) c)) $$ Ht
  iapply (wp_assume (Variants.lift 𝒱₀) _ (some (.inr 34)) Set.univ (adm (F := F) c).2)
  have hwp : wp frame (wpE (defs (F := F)) (Variants.lift 𝒱₀) (c : Thread nD τ) (some (.inr 34))) Set.univ
        ((cfgA F c).runAt (nD := nD) (τ := τ) (Val := Elt F) (A := fun p => (pcfgs (F := F) p).Adm) (0 : Fin 1) (adm c) : Prog (Eff F) PUnit) (fun _ => Q)
      = wp frame (wpE (defs (F := F)) (Variants.lift 𝒱₀) (c : Thread nD τ) (some (.inr 34))) Set.univ (.op (.call (Pipeline.pipe 0) (adm c, 0)) fun _ => .ret PUnit.unit) (fun _ => Q) := by
    rw [runs]
  iapply (show _ ⊢ wp frame (wpE (defs (F := F)) (Variants.lift 𝒱₀) (c : Thread nD τ) (some (.inr 34))) Set.univ
        ((cfgA F c).runAt (nD := nD) (τ := τ) (Val := Elt F) (A := fun p => (pcfgs (F := F) p).Adm) (0 : Fin 1) (adm c) : Prog (Eff F) PUnit) (fun _ => Q)
      from Entails.of_eq hwp.symm)
  iapply (wp_call (Variants.lift 𝒱₀) (c : Thread nD τ) (some (.inr 34)) Set.univ (ℓ := Pipeline.pipe 0) (a := (adm c, 0))
        (k := fun _ => .ret PUnit.unit) (Q := fun _ => Q) (Sum.inr 33)
        (fun u hu => by obtain rfl := Option.mem_some_iff.mp hu; exact Sum.Lex.inr (by omega)))
  iapply (wp_pipe x w1 w2 R0 K hR κ c _) $$ [Ht Hrun Hw Hres]
  · isplitl [Ht Hrun]; · iapply Hrun; iexact Ht
    isplitr; · iexact Hi
    isplitr; · iexact Hl
    isplitl [Hw] <;> iassumption
  iintro H
  rw [wp_ret]
  iapply Hk
  iexact H

/-- The scoped semaphores: those of the staging buffers, the kernel's own, the rest. -/
theorem sems_split (c : Dev nD) :
    (scopedSems0 (c : Thread nD τ) : sProp 𝕄)
      = iprop((cellsSems0 (cfgB F) 0 c ∗ Pipeline.ownSems0 own61 c)
          ∗ Pipeline.PerCore.idleSems0 (cfgB F) cfgB_inj 0 (fun _ => own4) c) :=
  Pipeline.PerCore.scopedSems0_split (cfgB F) cfgB_inj 0 (fun _ => win4) (fun _ => own4) c

/-- The scoped buffers: the staging buffers and the others. -/
theorem bufs_split (c : Dev nD) :
    (scopedBufs (c : Thread nD τ) : sProp 𝕄)
      = iprop(Dat.staging (cfgB F c 0) c ∗ Pipeline.scopedRest (Ix := Unit) (Name := ℕ) (U := UU) (Lvl := ℕ) (Val := Elt F) spec4 c) :=
  Pipeline.PerCore.scopedBufs_split (cfgB F) 0 c win4.stage_scoped win4.stage_inj fun w s => stage_whole0 w.castSucc s

variable (V : Dev nD → Valuation τ sig (Elt F)) (hV : Ready x w1 w2 V)

/-- What the call starts from, -/
def preC (c : Dev nD) : sProp 𝕄 := iprop(StableHlo.held (c : Thread nD τ) (Pipeline.ucRefs τ sig) (V c) ∗ keep x w1 w2 R0 c)

/-- and what it ends with. -/
def postC (c : Dev nD) : sProp 𝕄 :=
  iprop(StableHlo.held (c : Thread nD τ) (Pipeline.ucRefs τ sig) (Function.update (V c) main_v14 R0) ∗ semVal (barC c) 0 ∗ ∃ W, owes (c : Thread nD τ) 0 W)

include hR hV in
/-- The call. -/
theorem wp_call_fused (c : Dev nD) {β : Type} (k : PUnit → Prog (Eff F) β) (Q : β → sProp 𝕄) :
    iprop((iprop(boundary (c : Thread nD τ) ∗ postC R0 V c) -∗ wp frame (wpE (defs (F := F)) (Variants.lift 𝒱₀) (c : Thread nD τ) none) Set.univ (k ⟨⟩) Q)
        ∗ boundary (c : Thread nD τ) ∗ preC x w1 w2 R0 V c ∗ levAts L lv)
      ⊢ wp frame (wpE (defs (F := F)) (Variants.lift 𝒱₀) (c : Thread nD τ) none) Set.univ (.op (.customCall (Pipeline.entry 0) ()) k) Q := by
  have hbd : (boundary (c : Thread nD τ) : sProp 𝕄)
      ⊢ iprop(scopedBufs (c : Thread nD τ) ∗ ((cellsSems0 (cfgB F) 0 c ∗ Pipeline.ownSems0 own61 c)
          ∗ Pipeline.PerCore.idleSems0 (cfgB F) cfgB_inj 0 (fun _ => own4) c) ∗ opIdle (c : Thread nD τ)) := by
    unfold boundary; rw [sems_split]
  unfold preC keep
  iintro ⟨Hk, Hbd, ⟨Hh, ⟨⟨%K, Ht⟩, Ho, Hg, Htk⟩⟩, #Hl⟩
  ihave Hb := hbd $$ Hbd
  icases Hb with ⟨Hsc, ⟨⟨Hcells, Hos⟩, Hidle⟩, Hidl⟩
  ihave Hwt := (waits_ok x w1 w2 R0 K c) $$ Hl
  ihave #Hi := (show Talk (Acc x w1 w2) R0 K c ⊢ Inv (Acc x w1 w2) R0 K from by unfold Talk; iintro ⟨#H, -⟩; iexact H) $$ Ht
  ihave Hh := (held_args x w1 w2 c V hV) $$ Hh
  icases Hh with ⟨⟨%R, Ha⟩, Hrest⟩
  iapply (fupd_wp frame (wpE (defs (F := F)) (Variants.lift 𝒱₀) (c : Thread nD τ) none) Set.univ _ _)
  imod (cellsInit_alloc (cfgB F) (rds x w1 w2 R0 K) EL cfgB_inj 0 c) $$ [Hcells Hg] with ⟨%κ, -, Hinit⟩
  · isplitl [Hcells] <;> iassumption
  imod (talk_open (Acc x w1 w2) R0 K c) $$ [Ht Hos] with ⟨Hctx, Hbar, Hcl, Hwb⟩
  · isplitl [Ht]; · iexact Ht
    isplitr; · iexact Hl
    iexact Hos
  imodintro
  unfold args
  icases Ha with ⟨Hx, Hw1, Hw2, Htab, Hres⟩
  ihave Hx := (pointsTo_share (PosShare.mem_left_op_right fullShare)).1 $$ Hx
  icases Hx with ⟨Hxl, Hxr⟩
  iapply (wp_customCall (Variants.lift 𝒱₀) (c : Thread nD τ) none Set.univ (ℓ := Pipeline.entry 0) (a := ()) (k := k) (Q := Q) (Sum.inr 34)
    (fun u hu => absurd hu (by simp))) $$ Hsc
  iintro Hsc
  ihave Hsc := (Entails.of_eq (bufs_split (F := F) c)) $$ Hsc
  icases Hsc with ⟨Hst, Hsr⟩
  ihave Hsr := (rest_open (F := F) c) $$ Hsr
  icases Hsr with ⟨Hrows, Hslots, Hother⟩
  iapply (wp_region x w1 w2 R0 hR K κ c (kernelExitSpec (c : Thread nD τ) fun _ => wp frame (wpE (defs (F := F)) (Variants.lift 𝒱₀) (c : Thread nD τ) none) Set.univ (k ⟨⟩) Q))
    $$ [Htab Hxl Hxr Hw1 Hw2 Hst Ho Hwt Hinit Htk Hctx Hbar Hcl Hrows Hslots Hwb Hres]
  · isplitl [Htab]; · iexact Htab
    isplitr [Hwb Hres]
    · iintro Htab
      unfold RunPre RDat.Pre
      isplitl [Hxl Hxr Hw1 Hw2 Hst Ho Htab Hctx Hbar Hcl Hrows Hslots]
      · isplitl [Hxl Hxr Hw1 Hw2]
        · iapply (Entails.of_eq (arrays_args x w1 w2 R0 K c).symm)
          isplitl [Hxl]; · iexact Hxl
          isplitl [Hxr]; · iexact Hxr
          isplitl [Hw1] <;> iassumption
        isplitl [Hst]; · iexact Hst
        isplitl [Ho]
        · unfold RDat.owesAt Pipeline.owesWithin
          icases Ho with ⟨%W, Ho⟩
          iexists W
          isplitr
          · ipureintro; exact fun _ _ => Or.inl (Set.mem_univ _)
          iexact Ho
        iapply (show _ ⊢ (rdB x w1 w2 R0 K c).Φ 0 from first_at x w1 w2 R0 K c)
        isplitl [Htab]; · iexact Htab
        isplitl [Hctx Hbar Hcl]
        · isplitl [Hctx]; · iexact Hctx
          isplitl [Hbar] <;> iassumption
        isplitl [Hrows] <;> iassumption
      isplitl [Hwt]; · iexact Hwt
      isplitl [Hinit] <;> iassumption
    isplitr; · iexact Hi
    isplitr; · iexact Hl
    isplitl [Hwb]; · iexact Hwb
    iexists R; iexact Hres
  unfold after
  iintro ⟨Harr, Hst, Hcells, Ho, Htab, Hbar, Hclose, Hout, Htmp, Hres⟩
  rw [kernelExitSpec_apply]
  imodintro
  ihave Hos := (talk_close (F := F) c) $$ Hclose
  isplitl [Hcells Hos Hidle]
  · iapply (Entails.of_eq (sems_split (F := F) c).symm)
    isplitl [Hcells Hos]
    · isplitl [Hcells] <;> iassumption
    iexact Hidle
  iintro Hss
  isplitl [Hst Hout Htmp Hother]
  · iapply (Entails.of_eq (bufs_split (F := F) c).symm)
    isplitl [Hst]; · iexact Hst
    iapply (rest_close (F := F) c R0)
    isplitl [Hout]; · iexact Hout
    isplitl [Htmp] <;> iassumption
  iintro Hsc
  iapply Hk
  isplitl [Hss Hsc Hidl]
  · unfold boundary
    isplitl [Hsc]; · iexact Hsc
    isplitl [Hss] <;> iassumption
  unfold postC
  isplitr [Hbar Ho]
  · ihave Harr := (Entails.of_eq (arrays_args x w1 w2 R0 K c)) $$ Harr
    icases Harr with ⟨Hxl, Hxr, Hw1, Hw2⟩
    iapply (args_held x w1 w2 c V hV R0)
    isplitr [Hrest]
    · unfold args
      isplitl [Hxl Hxr]
      · iapply (pointsTo_share (PosShare.mem_left_op_right fullShare)).2
        isplitl [Hxl] <;> iassumption
      isplitl [Hw1]; · iexact Hw1
      isplitl [Hw2]; · iexact Hw2
      isplitl [Htab] <;> iassumption
    iexact Hrest
  isplitl [Hbar] <;> iassumption

/-- The call as a step of the main program. -/
def segC : Pipeline.HostSeg (Ix := Unit) (Name := ℕ) (U := UU) (Lvl := ℕ) (pcfgs (F := F)) defs₀ 𝒱₀ L lv where
  prog := Prog.lift (.customCall (Pipeline.entry 0) ())
  pre := preC x w1 w2 R0 V
  post := postC R0 V
  run := fun c _ k Q => wp_call_fused x w1 w2 R0 hR V hV c k Q

end Cert.FusedProof

end
-- ==== Proof.Deal.lean ====
/-
  What each device is dealt when the machine starts: the cells of the talk, the tokens of every payment to come and the
  credit of every payment a device will receive.
-/
module

public import proofs.«01_k».proof.Proof.Entry

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices and the cells -/

/-- Ring `r`'s step from a device to the next one, undone by the step back. -/
def ringE (r : Fin 2) : Dev nD ≃ Dev nD where
  toFun := pr r
  invFun := sr r
  left_inv := sr_pr r
  right_inv := pr_sr r

/-- The barrier's cells, one on each device. -/
theorem bars (Φ : GSem nD τ sig → sProp 𝕄) : bigSep barCells Φ = bigSep Finset.univ fun c => Φ (barC c) :=
  bigSep_image_of_injOn (fun a _ b _ h => congrArg (fun g : GSem nD τ sig => g.1.1) h) Φ

/-- The transfers' cells, sixty-one on each device. -/
theorem dmas (Φ : GSem nD τ sig → sProp 𝕄) :
    bigSep dmaCells Φ = bigSep Finset.univ fun c : Dev nD => bigSep Finset.univ fun k => Φ ((c : Thread nD τ), own61 k) := by
  have e : dmaCells = Finset.univ.image fun x : Dev nD × Fin 61 => (((x.1 : Thread nD τ), own61 x.2) : GSem nD τ sig) := by
    ext g
    constructor
    · intro h
      obtain ⟨⟨c, q⟩, hq, rfl⟩ := Finset.mem_image.mp h
      have hq' : 8 ≤ q.val := (Finset.mem_filter.mp hq).2
      refine Finset.mem_image.mpr ⟨(c, ⟨q.val - 8, by have := q.isLt; omega⟩), Finset.mem_univ _, ?_⟩
      exact Prod.ext rfl (congrArg SemLoc.dma (Fin.ext (by show 8 + (q.val - 8) = q.val; omega)))
    · intro h
      obtain ⟨⟨c, k⟩, -, rfl⟩ := Finset.mem_image.mp h
      exact Finset.mem_image.mpr ⟨(c, ⟨8 + k.val, by have := k.isLt; omega⟩), Finset.mem_filter.mpr ⟨Finset.mem_univ _, by show 8 ≤ 8 + k.val; omega⟩, rfl⟩
  rw [e, bigSep_image_of_injOn, bigSep_univ_prod]
  rintro ⟨c, k⟩ - ⟨c', k'⟩ - h
  have h1 : c = c' := congrArg (fun g : GSem nD τ sig => g.1.1) h
  have h2 : own61 k = own61 k' := congrArg Prod.snd h
  rw [h1, own4.inj h2]

theorem cells_disj : Disjoint barCells dmaCells := by
  refine Finset.disjoint_left.mpr fun g h h' => ?_
  obtain ⟨c, -, rfl⟩ := Finset.mem_image.mp h
  obtain ⟨x, -, e⟩ := Finset.mem_image.mp h'
  exact absurd (congrArg Prod.snd e) (by intro h; cases h)

/-- The tokens dealt: both of each barrier cell's payments, the one of each transfer's cell. -/
def toks : Finset (GSem nD τ sig × ℕ × Bool) :=
  (Finset.univ.image fun x : Dev nD × Bool => (barC x.1, 0, x.2)) ∪ dmaCells.image fun g => (g, 0, false)

theorem toks_dealt :
    (bigSep toks fun x => (dutyTok ET x.1 x.2.1 x.2.2 : sProp 𝕄))
      = iprop((bigSep Finset.univ fun c => iprop(dutyTok ET (barC c) 0 true ∗ dutyTok ET (barC c) 0 false))
        ∗ bigSep Finset.univ fun c : Dev nD => bigSep Finset.univ fun k => dutyTok ET ((c : Thread nD τ), own61 k) 0 false) := by
  have hd : Disjoint (Finset.univ.image fun x : Dev nD × Bool => ((barC x.1, 0, x.2) : GSem nD τ sig × ℕ × Bool)) (dmaCells.image fun g => (g, 0, false)) := by
    refine Finset.disjoint_left.mpr fun t h h' => ?_
    obtain ⟨x, -, rfl⟩ := Finset.mem_image.mp h
    obtain ⟨g, hg, e⟩ := Finset.mem_image.mp h'
    have e1 : g = barC x.1 := congrArg Prod.fst e
    exact Finset.disjoint_left.mp cells_disj (Finset.mem_image_of_mem barC (Finset.mem_univ x.1)) (e1 ▸ hg)
  have hi : Set.InjOn (fun x : Dev nD × Bool => ((barC x.1, 0, x.2) : GSem nD τ sig × ℕ × Bool)) (Finset.univ : Finset (Dev nD × Bool)) := by
    rintro ⟨c, b⟩ - ⟨c', b'⟩ - h
    exact Prod.ext (congrArg (fun t : GSem nD τ sig × ℕ × Bool => t.1.1.1) h) (congrArg (fun t : GSem nD τ sig × ℕ × Bool => t.2.2) h)
  unfold toks
  rw [bigSep_union hd, bigSep_image_of_injOn hi, bigSep_image_of_injOn (fun a _ b _ h => congrArg Prod.fst h), bigSep_univ_prod, dmas]
  have e1 (c : Dev nD) : (bigSep Finset.univ fun b : Bool => (dutyTok ET (barC c) 0 b : sProp 𝕄))
      = iprop(dutyTok ET (barC c) 0 true ∗ dutyTok ET (barC c) 0 false) := by
    rw [show (Finset.univ : Finset Bool) = {true, false} from by decide, bigSep_insert (by decide), bigSep_singleton]
    rfl
  simp only [e1]
  rfl

/-! ## The credit -/

/-- A device's credit at the start: two units of its barrier cell, and what each arrival is paid. -/
theorem credit_dealt (c : Dev nD) :
    (Pipeline.launchCred Ob c : sProp 𝕄)
      ⊢ iprop(cred (tallyAt (barC c) () 2) ∗ bigSep Finset.univ fun x : Fin 15 × Fin 2 => cred (tallyAt (recvC c x.2 x.1) () (amt x.1))) := by
  have e : (Ob : Dev nD → CellTallies nD τ sig Unit)
      = fun d => ((∑ x : Fin 15 × Fin 2, tallyAt (recvC (pr x.2 d) x.2 x.1) () (amt x.1)) + tallyAt (barC (nxt d)) () 1) + tallyAt (barC (prv d)) () 1 := by
    funext d
    unfold Ob Ow
    congr 2
  have h1 : (Pipeline.launchCred (fun d => tallyAt (barC (nxt d)) () 1) c : sProp 𝕄) ⊢ cred (tallyAt (barC c) () 1) :=
    Pipeline.launchCred_tallyAt (SemLoc.reg barS.sem) (pr 0) (sr 0) (pr_sr 0) (sr_pr 0) () 1 c
  have h2 : (Pipeline.launchCred (fun d => tallyAt (barC (prv d)) () 1) c : sProp 𝕄) ⊢ cred (tallyAt (barC c) () 1) :=
    Pipeline.launchCred_tallyAt (SemLoc.reg barS.sem) (pr 1) (sr 1) (pr_sr 1) (sr_pr 1) () 1 c
  have h3 (x : Fin 15 × Fin 2) : (Pipeline.launchCred (fun d => tallyAt (recvC (pr x.2 d) x.2 x.1) () (amt x.1)) c : sProp 𝕄)
      ⊢ cred (tallyAt (recvC c x.2 x.1) () (amt x.1)) :=
    Pipeline.launchCred_tallyAt (SemLoc.dma (recvS x.2 x.1)) (pr x.2) (sr x.2) (pr_sr x.2) (sr_pr x.2) () (amt x.1) c
  rw [e, Pipeline.launchCred_add, Pipeline.launchCred_add, Pipeline.launchCred_sum, ← tallyAt_add (barC c) () 1 1]
  iintro ⟨⟨Hx, Hn⟩, Hp⟩
  isplitl [Hn Hp]
  · iapply (cred_add _ _).2
    isplitl [Hn]
    · iapply h1; iexact Hn
    · iapply h2; iexact Hp
  · iapply (show (bigSep Finset.univ fun x : Fin 15 × Fin 2 => (Pipeline.launchCred (fun d => tallyAt (recvC (pr x.2 d) x.2 x.1) () (amt x.1)) c : sProp 𝕄))
        ⊢ bigSep Finset.univ fun x : Fin 15 × Fin 2 => cred (tallyAt (recvC c x.2 x.1) () (amt x.1)) from bigSep_mono fun x _ => h3 x)
    iexact Hx

/-! ## The talk, dealt -/

/-- Each device's one semaphore outside the call's own is its barrier cell. -/
theorem sems_bar (c : Dev nD) : (unscopedSems0 c : sProp 𝕄) = semVal (barC c) 0 := by
  unfold unscopedSems0
  rw [show (Finset.univ.filter fun sm : SemLoc sig => ¬sm.isScoped .tc = true) = {SemLoc.reg barS.sem} from by decide, bigSep_singleton]

variable (Acc : Fin 2 → Fin 4 → Dev nD → S256x2048.Idx → Elt F .f32) (R0 : S2048x2048.Idx → Elt F .f32)

/-- What the talk's launch gives, dealt to the devices. -/
theorem dealt (K : GSem nD τ sig → ℕ) :
    iprop(Inv Acc R0 K ∗ (bigSep barCells fun g => reached ET g 0) ∗ (bigSep barCells fun g => atPos ET g 0 ∅ 0)
        ∗ (bigSep dmaCells fun g => openTok ET g) ∗ (bigSep toks fun x => dutyTok ET x.1 x.2.1 x.2.2)
        ∗ bigSep Finset.univ fun c => Pipeline.launchCred Ob c)
      ⊢ (bigSep Finset.univ fun c => Talk Acc R0 K c : sProp 𝕄) := by
  have hre (r : Fin 2) (Φ : Dev nD → sProp 𝕄) : bigSep Finset.univ Φ ⊢ bigSep Finset.univ fun c => Φ (pr r c) := Entails.of_eq (bigSep_univ_equiv (ringE r) Φ)
  have hcm (Φ : Dev nD → Fin 15 × Fin 2 → sProp 𝕄) : (bigSep Finset.univ fun c => bigSep Finset.univ fun x => Φ c x) = bigSep Finset.univ fun x => bigSep Finset.univ fun c => Φ c x := by
    rw [← bigSep_univ_prod fun z : Dev nD × (Fin 15 × Fin 2) => Φ z.1 z.2, ← bigSep_univ_prod fun z : (Fin 15 × Fin 2) × Dev nD => Φ z.2 z.1]
    exact bigSep_univ_equiv (Equiv.prodComm _ _) _
  have hrv : (bigSep Finset.univ fun c : Dev nD => bigSep Finset.univ fun x : Fin 15 × Fin 2 => (dutyTok ET (recvC c x.2 x.1) 0 false : sProp 𝕄))
      ⊢ bigSep Finset.univ fun c : Dev nD => bigSep Finset.univ fun x : Fin 15 × Fin 2 => dutyTok ET (recvC (pr x.2 c) x.2 x.1) 0 false := by
    rw [hcm, hcm fun (c : Dev nD) (x : Fin 15 × Fin 2) => (dutyTok ET (recvC (pr x.2 c) x.2 x.1) 0 false : sProp 𝕄)]
    exact bigSep_mono fun x _ => hre x.2 fun c => dutyTok ET (recvC c x.2 x.1) 0 false
  have hs : (bigSep Finset.univ fun c : Dev nD => bigSep Finset.univ fun k => (dutyTok ET ((c : Thread nD τ), own61 k) 0 false : sProp 𝕄))
      = iprop((bigSep Finset.univ fun c => dutyTok ET (wbC c) 0 false)
        ∗ (bigSep Finset.univ fun c : Dev nD => bigSep Finset.univ fun x : Fin 15 × Fin 2 => dutyTok ET (sendC c x.2 x.1) 0 false)
        ∗ bigSep Finset.univ fun c : Dev nD => bigSep Finset.univ fun x : Fin 15 × Fin 2 => dutyTok ET (recvC c x.2 x.1) 0 false) := by
    rw [← bigSep_sep', ← bigSep_sep']
    exact bigSep_congr fun c _ => own61_sorted fun s => dutyTok ET ((c : Thread nD τ), s) 0 false
  have hcr : (bigSep Finset.univ fun c => (Pipeline.launchCred Ob c : sProp 𝕄))
      ⊢ iprop((bigSep Finset.univ fun c => cred (tallyAt (barC c) () 2))
        ∗ bigSep Finset.univ fun c : Dev nD => bigSep Finset.univ fun x : Fin 15 × Fin 2 => cred (tallyAt (recvC c x.2 x.1) () (amt x.1))) := by
    rw [← bigSep_sep']
    exact bigSep_mono fun c _ => credit_dealt c
  unfold Talk
  simp only [bigSep_sep']
  rw [toks_dealt, bars, bars, dmas, hs, bigSep_sep']
  iintro ⟨#Hi, #Hr, Ha, Ho, ⟨⟨Ht, Hf⟩, Hw, Hsd, Hrv⟩, Hc⟩
  ihave Hc' := hcr $$ Hc
  icases Hc' with ⟨Hcb, Hcx⟩
  isplitr
  · iapply (bigSep_intro_persistent fun (c : Dev nD) _ => (.rfl : Inv Acc R0 K ⊢ Inv Acc R0 K)); iexact Hi
  isplitr
  · isplitr
    · iapply (hre 1 fun c => reached ET (barC c) 0); iexact Hr
    · iapply (hre 0 fun c => reached ET (barC c) 0); iexact Hr
  isplitl [Ht Hf Ha Hcb]
  · isplitl [Ht]
    · iapply (hre 1 fun c => dutyTok ET (barC c) 0 true); iexact Ht
    isplitl [Hf]
    · iapply (hre 0 fun c => dutyTok ET (barC c) 0 false); iexact Hf
    isplitl [Ha] <;> iassumption
  isplitl [Ho]; · iexact Ho
  isplitl [Hw]; · iexact Hw
  isplitl [Hsd]; · iexact Hsd
  isplitl [Hrv]
  · iapply hrv; iexact Hrv
  iexact Hcx

/-- The talk is launched. -/
theorem talk_launch :
    iprop((bigSep Finset.univ fun c => unscopedSems0 c) ∗ BI.own (ET (launchOf barCells dmaCells toks)) ∗ bigSep Finset.univ fun c => Pipeline.launchCred Ob c)
      ⊢ (|={Set.univ}=> bigSep Finset.univ fun c => iprop(∃ K, Talk Acc R0 K c) : sProp 𝕄) := by
  have hv : (bigSep Finset.univ fun c => (unscopedSems0 c : sProp 𝕄)) = bigSep barCells fun g => semVal g 0 := by
    rw [bars]; exact bigSep_congr fun c _ => sems_bar c
  have hK (K : GSem nD τ sig → ℕ) (c : Dev nD) : Talk Acc R0 K c ⊢ (iprop(∃ K, Talk Acc R0 K c) : sProp 𝕄) := by
    iintro H; iexists K; iexact H
  rw [hv]
  iintro ⟨Hv, Hu, Hc⟩
  imod (fund_launch ET (Rd Acc R0) cells_disj (fun _ _ h => h) toks (Es := Set.univ)) $$ [Hv Hu] with ⟨%K, -, Hi, Hr, Ha, Ho, Ht⟩
  · isplitl [Hv] <;> iassumption
  imodintro
  iapply (show (bigSep Finset.univ fun c => Talk Acc R0 K c) ⊢ (bigSep Finset.univ fun c => iprop(∃ K, Talk Acc R0 K c) : sProp 𝕄) from
    bigSep_mono fun c _ => hK K c)
  iapply (dealt Acc R0 K)
  isplitl [Hi]; · unfold Inv; iexact Hi
  isplitl [Hr]; · iexact Hr
  isplitl [Ha]; · iexact Ha
  isplitl [Ho]; · iexact Ho
  isplitl [Ht]; · iexact Ht
  iexact Hc

end Cert.FusedProof

end
-- ==== Proof.Tables.lean ====
/-
  The tables the host computes for the call.
-/
module

public import proofs.«01_k».proof.Proof.Enter
public import Idealize.ShloMosaic.Lib.StableHlo.Run

@[expose] public section

set_option backward.proofsInPublic true

noncomputable section

namespace Cert.FusedProof

open Cert.KernelIdeal Cert.KernelIdeal.Gen

open Idealize.ShloMosaic
open Idealize.ShloMosaic.TcCoe
open Idealize.ShloMosaic.StableHlo

variable {F : FTy → Type} [FloatOps F]

variable (m : (ℓ : Loc nD τ sig) → Buf (Elt F) ℓ)

/-- Python's remainder by four, as the host computes it on one entry. -/
def rem1 (x : BitVec 32) : BitVec 32 :=
  let d := Scalar.select (IntOp.cmpi .eq 4#32 0#32) 1#32 4#32
  let r := IntOp.remsi .host x d
  Scalar.select (IntOp.andi (IntOp.cmpi .ne (IntOp.cmpi .slt r 0#32) (IntOp.cmpi .slt d 0#32)) (IntOp.cmpi .ne r 0#32)) (IntOp.addi r d) r

/-- The device's number, as the host computes it. -/
def devWord (c : Dev nD) : BitVec 32 := IntOp.remui .host (IntOp.divui .host (Dev.word c) 1#32) 4#32

theorem top_val : ∀ (c : Dev nD) (j : Fin 4), rem1 (IntOp.subi (devWord c) (BitVec.ofNat 32 j.val)) = wd (blk 0 c j) := by
  decide

theorem bottom_val : ∀ (c : Dev nD) (j : Fin 4), IntOp.addi 4#32 (rem1 (IntOp.addi (devWord c) (BitVec.ofNat 32 j.val))) = wd (blk 1 c j) := by
  decide

theorem V2_v8 (c : Dev nD) :
    (V2 m c main_v8 : S4.Idx → Elt F .i32) = fun h : S4.Idx => wd (blk 0 c (h 0)) := by
  unfold V2
  after_results
  funext h
  exact (show _ = rem1 (IntOp.subi (devWord c) (BitVec.ofNat 32 (h 0).val)) from rfl).trans (top_val c (h 0))

theorem V5_v13 (c : Dev nD) :
    (V5 m c main_v13 : S4.Idx → Elt F .i32) = fun h : S4.Idx => wd (blk 1 c (h 0)) := by
  unfold V5
  after_results
  funext h
  exact (show _ = IntOp.addi 4#32 (rem1 (IntOp.addi (devWord c) (BitVec.ofNat 32 (h 0).val))) from rfl).trans (bottom_val c (h 0))

theorem keepArg (c : Dev nD) (r : Ref sig .tc) (h0 : r ∉ hostOps0_W) (h1 : r ∉ hostOps0_1_W) (h2 : r ∉ hostOps0_2_W) (h3 : r ∉ hostOps0_3_W) (h4 : r ∉ hostOps0_4_W) :
    V5 m c r = m ((c : Thread nD τ).loc r) :=
  (V5_of m c r h4).trans <| (V4_of m c r h3).trans <| (V3_of m c r h2).trans <| (V2_of m c r h1).trans (V1_of m c r h0)

/-- What the host leaves before the call. -/
theorem ready : Ready (F := F) (fun c => m ((c : Thread nD τ).loc main_arg0)) (fun c => m ((c : Thread nD τ).loc main_arg1))
    (fun c => m ((c : Thread nD τ).loc main_arg2)) (V5 m) where
  arg0 c := keepArg m c main_arg0 (by decide) (by decide) (by decide) (by decide) (by decide)
  arg1 c := keepArg m c main_arg1 (by decide) (by decide) (by decide) (by decide) (by decide)
  arg2 c := keepArg m c main_arg2 (by decide) (by decide) (by decide) (by decide) (by decide)
  top c := ((V5_of m c main_v8 (by decide)).trans <| (V4_of m c main_v8 (by decide)).trans <| V3_of m c main_v8 (by decide)).trans (V2_v8 m c)
  bottom c := V5_v13 m c

end Cert.FusedProof

end
-- ==== Proof.Run.lean ====
/-
  The whole program runs: from any memory, every execution ends with the arguments as they were, every device's result
  the same array of sums, and every semaphore at zero.
-/
module

public import proofs.«01_k».proof.Proof.Deal
public import proofs.«01_k».proof.Proof.Tables
public import proofs.«01_k».proof.Proof.Gen.KernelIdeal.Regions
public import Idealize.ShloMosaic.Lib.Quiescent
public import Idealize.ShloMosaic.Lib.Pipeline.Quiescent

@[expose] public section

set_option backward.proofsInPublic true

noncomputable section

namespace Cert.FusedProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Pipeline (Seg HostSeg)

variable {F : FTy → Type} [FloatOps F]

local notation "𝕄" => MT nD τ sig Unit (Elt F) ℕ UU ℕ

/-! ## The array of sums -/

/-- The ring and the device that finish row block `k`. -/
def home (k : Fin 8) : Fin 2 × Dev nD :=
  if k.val < 4 then (0, ⟨(k.val + 3) % 4, Nat.mod_lt _ (by decide)⟩) else (1, ⟨(k.val + 1) % 4, Nat.mod_lt _ (by decide)⟩)

theorem home_blk (r : Fin 2) (c : Dev nD) : home (blk r c 3) = (r, c) := by revert r c; decide

/-- The row block an entry of the result lies in, and its place there. -/
def rowOf (i : S2048x2048.Idx) : Fin 8 := ⟨(i 0).val / 256, by have h : (i 0).val < 2048 := (i 0).isLt; omega⟩
def inRow (i : S2048x2048.Idx) : S256x2048.Idx := fun
  | ⟨0, _⟩ => (⟨(i 0).val % 256, Nat.mod_lt _ (by decide)⟩ : Fin 256)
  | ⟨1, _⟩ => i 1

section Sums

variable (x : Dev nD → S2048x2048.Idx → Elt F .f32) (w1 : Dev nD → S2048x4096.Idx → Elt F .f32) (w2 : Dev nD → S4096x2048.Idx → Elt F .f32)

/-- The result: each row block as the device that finishes it sums it. -/
def sums (i : S2048x2048.Idx) : Elt F .f32 := Acc x w1 w2 (home (rowOf i)).1 3 (home (rowOf i)).2 (inRow i)

theorem rowOf_emb (k : Fin 8) (j : S256x2048.Idx) : rowOf ((rowR k).emb j) = k := by
  have h : 256 * k.val ≤ ((rowR k).emb j 0).val ∧ ((rowR k).emb j 0).val < 256 * k.val + 256 := (mem_row k _).mp ((rowR k).idx_mem j)
  refine Fin.ext ?_
  show ((rowR k).emb j 0).val / 256 = k.val
  omega

theorem inRow_emb (k : Fin 8) (j : S256x2048.Idx) : inRow ((rowR k).emb j) = j := by
  funext a
  have h0 : (j 0).val < 256 := (j 0).isLt
  match a with
  | ⟨0, _⟩ =>
    refine Fin.ext ?_
    show (256 * k.val + 1 * (j 0).val) % 256 = (j 0).val
    omega
  | ⟨1, _⟩ =>
    refine Fin.ext ?_
    show 0 + 1 * (j 1).val = (j 1).val
    omega

theorem sums_row (r : Fin 2) (c : Dev nD) (j : S256x2048.Idx) : Acc x w1 w2 r 3 c j = sums x w1 w2 ((rowR (blk r c 3)).emb j) := by
  unfold sums
  rw [rowOf_emb, inRow_emb, home_blk]

end Sums

/-! ## The launch -/

variable (m : (ℓ : Loc nD τ sig) → Buf (Elt F) ℓ)

/-- The arguments as each device finds them, and the result. -/
abbrev argX (c : Dev nD) : S2048x2048.Idx → Elt F .f32 := m ((c : Thread nD τ).loc main_arg0)
abbrev argW1 (c : Dev nD) : S2048x4096.Idx → Elt F .f32 := m ((c : Thread nD τ).loc main_arg1)
abbrev argW2 (c : Dev nD) : S4096x2048.Idx → Elt F .f32 := m ((c : Thread nD τ).loc main_arg2)
abbrev out : S2048x2048.Idx → Elt F .f32 := sums (argX m) (argW1 m) (argW2 m)

/-- What a device carries through the host's steps to the call. -/
abbrev rides (_ : Fin 2) (c : Dev nD) : sProp 𝕄 := keep (argX m) (argW1 m) (argW2 m) (out m) c

/-- The tables the loop is laid out at for the launch: any will do, the call brings its own. -/
abbrev adm0 (F : FTy → Type) [FloatOps F] : (p : Fin 1) → (pcfgs (F := F) p).Adm := fun
  | 0 => adm (F := F) 0

/-- The main program has no region of the library's kind, so nothing is asked of these. -/
def noDat (p : Fin 1) (c : Dev nD) : Pipeline.Dat τ (Elt F) Unit ℕ UU ℕ (Pipeline.pin (pcfgs (F := F)) (adm0 F) p) c where
  A _ := fun _ => Classical.arbitrary _
  after _ _ := fun _ => Classical.arbitrary _
  Φ _ := iprop(emp)
  q _ := fullShare
  owed _ := 0

/-- The main program of a device, step by step. -/
def steps (c : Dev nD) : List (Seg (Ix := Unit) (Name := ℕ) (U := UU) (Lvl := ℕ) (pcfgs (F := F)) (adm0 F) noDat () defs₀ 𝒱₀ L lv) :=
  [.host (seg0 m 𝒱₀ L lv (rides m) c), .host (seg1 m 𝒱₀ L lv (rides m)), .host (seg2 m 𝒱₀ L lv (rides m)), .host (seg3 m 𝒱₀ L lv (rides m)),
    .host (seg4 m 𝒱₀ L lv (rides m)), .host (segC (argX m) (argW1 m) (argW2 m) (out m) (sums_row _ _ _) (V5 m) (ready m))]

/-- What a device's buffers hold at the end. -/
abbrev last (c : Dev nD) : Valuation τ sig (Elt F) := Function.update (V5 m c) main_v14 (out m)

/-- The ghost state of the launch: the loop's cells once for the library and once for the call, and the talk's. -/
def ghost (F : FTy → Type) [FloatOps F] : UU :=
  (initOf (Pipeline.cells (Pipeline.pin (pcfgs (F := F)) (adm0 F)) (cellOf_inj (adm0 F))) (Pipeline.launchToks (Pipeline.pin (pcfgs (F := F)) (adm0 F)) (cellOf_inj (adm0 F))),
    (initOf (Pipeline.PerCore.cells (cfgB F) cfgB_inj) (Pipeline.PerCore.launchToks (cfgB F) cfgB_inj), launchOf barCells dmaCells toks))

/-- A device's share of it. -/
def shareOf (c : Dev nD) : sProp 𝕄 :=
  if c = 0 then iprop(BI.own (EL (initOf (Pipeline.PerCore.cells (cfgB F) cfgB_inj) (Pipeline.PerCore.launchToks (cfgB F) cfgB_inj)))
    ∗ BI.own (ET (launchOf barCells dmaCells toks))) else iprop(emp)

theorem shares : (bigSep Finset.univ fun c => shareOf (F := F) c)
    = iprop(BI.own (EL (initOf (Pipeline.PerCore.cells (cfgB F) cfgB_inj) (Pipeline.PerCore.launchToks (cfgB F) cfgB_inj)))
      ∗ BI.own (ET (launchOf barCells dmaCells toks))) := by
  rw [bigSep_univ_at _ (0 : Dev nD)]
  have e : (bigSep (Finset.univ.erase (0 : Dev nD)) fun c => shareOf (F := F) c) = iprop(emp) := by
    rw [bigSep_congr (Φ := fun c => shareOf (F := F) c) (Ψ := fun _ => (iprop(emp) : sProp 𝕄)) fun c hc => by unfold shareOf; exact if_neg (Finset.ne_of_mem_erase hc)]
    exact bigSep_emp_const _
  rw [e]
  unfold shareOf
  rw [if_pos rfl]
  refine BI.Entails.antisymm (show _ ⊢ (_ : sProp 𝕄) from ?_) (show _ ⊢ (_ : sProp 𝕄) from ?_)
  · iintro ⟨H, -⟩; iexact H
  · iintro H
    isplitl [H]; · iexact H
    iempintro

/-- The ghost state, split. -/
theorem ghost_split : (ownU (ghost F) : sProp 𝕄)
    ⊢ iprop(BI.own (EP (F := F) (initOf (Pipeline.cells (Pipeline.pin (pcfgs (F := F)) (adm0 F)) (cellOf_inj (adm0 F)))
        (Pipeline.launchToks (Pipeline.pin (pcfgs (F := F)) (adm0 F)) (cellOf_inj (adm0 F))))) ∗ bigSep Finset.univ fun c => shareOf (F := F) c) := by
  rw [shares]
  iintro Hu
  ihave H := (ownU_pair _ _) $$ Hu
  icases H with ⟨HP, HX⟩
  isplitl [HP]; · iexact HP
  iapply (own_pair_emb embR _ _); iexact HX

/-- From the start of the machine to the first step of each device. -/
theorem start (g : Dev nD → PrngReg) :
    iprop((bigSep Finset.univ fun c : Dev nD => iprop(unscopedBufs c (fun b => m ((c.tc : Thread nD τ).loc b)) ∗ unscopedSems0 c
          ∗ owes (c.tc : Thread nD τ) (Ob c) ∅ ∗ Pipeline.launchCred Ob c ∗ prngReg c (g c) ∗ shareOf c)) ∗ levAts L lv)
      ⊢ (|={Set.univ}=> bigSep Finset.univ fun c : Dev nD => iprop(StableHlo.held (c : Thread nD τ) (Pipeline.ucRefs τ sig) (V0 m c) ∗ rides m 0 c) : sProp 𝕄) := by
  have hb : (bigSep Finset.univ fun c : Dev nD => (unscopedBufs c (fun b => m ((c.tc : Thread nD τ).loc b)) : sProp 𝕄))
      = bigSep Finset.univ fun c : Dev nD => StableHlo.held (c : Thread nD τ) (Pipeline.ucRefs τ sig) (V0 m c) :=
    bigSep_congr fun c _ => Pipeline.unscopedBufs_held (Ix := Unit) (Name := ℕ) (U := UU) (Lvl := ℕ) c (V0 m c)
  have ho : (bigSep Finset.univ fun c : Dev nD => (owes (c.tc : Thread nD τ) (Ob c) ∅ : sProp 𝕄))
      ⊢ bigSep Finset.univ fun c : Dev nD => iprop(∃ W, owes (c.tc : Thread nD τ) (Ob c) W) :=
    bigSep_mono fun c _ => (by iintro H; iexists ∅; iexact H : owes (c.tc : Thread nD τ) (Ob c) ∅ ⊢ (iprop(∃ W, owes (c.tc : Thread nD τ) (Ob c) W) : sProp 𝕄))
  have h1 (Φ : Fin 1 → sProp 𝕄) : bigSep Finset.univ Φ = Φ 0 := by
    rw [show (Finset.univ : Finset (Fin 1)) = {0} from rfl, bigSep_singleton]
  unfold rides keep
  simp only [bigSep_sep']
  rw [shares, hb]
  iintro ⟨⟨Hb, Hs, Ho, Hc, -, HL, HT⟩, -⟩
  imod (talk_launch (Acc (argX m) (argW1 m) (argW2 m)) (out m)) $$ [Hs HT Hc] with Ht
  · isplitl [Hs]; · iexact Hs
    isplitl [HT] <;> iassumption
  imod (Pipeline.PerCore.fund_ghost (cfgB F) EL cfgB_inj) $$ HL with ⟨Hg, Hk⟩
  imodintro
  isplitl [Hb]; · iexact Hb
  isplitl [Ht]; · iexact Ht
  isplitl [Ho]
  · iapply ho; iexact Ho
  simp only [h1]
  isplitl [Hg] <;> iassumption

/-- The whole program, from any memory. -/
theorem run_main (g : Dev nD → PrngReg) :
    θ_run (defs (F := F)) (onTc (τ := τ) (main (F := F))) ⟨m, fun _ => 0, g⟩ (fun r => (∀ c : Dev nD,
      r.2.mem ((c.tc : Thread nD τ).loc main_v14) = out m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) (adm0 F) noDat () (cellOf_inj (adm0 F)) EP defs₀ 𝒱₀ L lv m g main (steps m)
    (fun c Q => by
      rewrite [main_chain c, Seg.run_eq_chain,
        show (steps m c).map Seg.prog = [StableHlo.seq (hostOps0 c), StableHlo.seq hostOps0_1, StableHlo.seq hostOps0_2, StableHlo.seq hostOps0_3,
          StableHlo.seq hostOps0_4, Prog.lift (.customCall (Pipeline.entry 0) ())] from rfl]
      dsimp (config := { failIfUnchanged := false }) only
      exact .rfl)
    (fun c => by simp only [steps, Seg.pipes_host, Seg.pipes_nil]; exact List.nodup_nil)
    (O₀ := Ob) (hL := L_of_ne) (G := shareOf) (u₀ := ghost F)
    (hu₀ := by
      iintro Hu
      imodintro
      iapply ghost_split; iexact Hu)
    (T₀ := fun c => iprop(StableHlo.held (c : Thread nD τ) (Pipeline.ucRefs τ sig) (V0 m c) ∗ rides m 0 c))
    (Tₙ := fun c => iprop(StableHlo.held (c : Thread nD τ) (Pipeline.ucRefs τ sig) (last m c) ∗ semVal (barC c) 0))
    (hch := fun c => ⟨.rfl, .rfl, .rfl, .rfl, .rfl, .rfl, sep_assoc.2⟩)
    (hinit := start m g)
    (QY := fun c s => (s.mem ((c.tc : Thread nD τ).loc main_v14) = out m
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2))
      ∧ ∀ sm : SemLoc sig, sm.isScoped .tc = false → s.sem ((c.tc : Thread nD τ), sm) = 0)
    (hfin := fun c s' => ?_)
    (hQ := fun s h hs => ⟨fun c => (h c).1, sem_eq_zero hs fun c => (h c).2⟩)
  have hne (b : Ref sig .tc) (h : b ≠ main_v14) : last m c b = V5 m c b :=
    Function.update_of_ne (StableHlo.devRef_ne_of_ne h : (Proc.devRef .tc b : DevRef τ sig) ≠ Proc.devRef .tc main_v14) _ _
  unfold StableHlo.held
  iintro ⟨⟨Hh, Hs⟩, HSI⟩
  ihave Hr := (pointsTo_read_all (Pipeline.ucRefs τ sig) (fun b => ((c : Thread nD τ).1, b)) (last m c) s') $$ [Hh HSI]
  · isplitl [Hh] <;> iassumption
  icases Hr with ⟨%h, HSI⟩
  ihave Hs' := (Entails.of_eq (sems_bar (F := F) c).symm) $$ Hs
  ihave %hz := (tcUnscoped_read c s') $$ [Hs' HSI]
  · isplitl [Hs'] <;> iassumption
  imodintro
  isplitr
  · ipureintro
    have hm (b : Ref sig .tc) (hb : ¬(Proc.devRef .tc b : DevRef τ sig).isScoped = true) := h (Proc.devRef .tc b) (Finset.mem_filter.mpr ⟨StableHlo.devRef_mem_tcRefs b, hb⟩)
    exact ⟨⟨(hm main_v14 (by decide)).trans (Function.update_self _ _ _),
      (hm main_arg0 (by decide)).trans ((hne _ (by decide)).trans ((ready m).arg0 c)),
      (hm main_arg1 (by decide)).trans ((hne _ (by decide)).trans ((ready m).arg1 c)),
      (hm main_arg2 (by decide)).trans ((hne _ (by decide)).trans ((ready m).arg2 c))⟩, hz⟩
  · iexact HSI

end Cert.FusedProof

end
-- ==== Proof.Frames.lean ====
/-
  The kernel at exact floats and the reference run, leave their arguments alone, and end with every semaphore at zero.
-/
module

public import proofs.«01_k».proof.Defs
public import proofs.«01_k».proof.Proof.Run
public import proofs.«01_k».proof.Proof.Gen.ReferenceIdeal.Run

@[expose] public section

noncomputable section

namespace Cert.FusedProof

open Idealize.ShloMosaic Idealize.SL.Sem

/-- The kernel at exact floats. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.FusedProof

end
-- ==== Proof.SameParts1.lean ====
/-
  The kernel is printed twice, for machine floats and for exact ones, and both texts are the same: the first ten parts of its
  body.
-/
module

public import proofs.«01_k».proof.Defs
public import proofs.«01_k».proof.Proof.Gen.Kernel
public import proofs.«01_k».proof.Proof.Gen.KernelIdeal

@[expose] public section

noncomputable section

set_option maxHeartbeats 2000000

namespace Cert.FusedProof

open Idealize.ShloMosaic

/-- Part 1 of the body is the same in both. -/
theorem part1_eq : Cert.Kernel.k0_part1 (F := Bits) = Cert.KernelIdeal.k0_part1 (F := Bits) := (rfl)

/-- Part 2 of the body is the same in both. -/
theorem part2_eq : Cert.Kernel.k0_part2 (F := Bits) = Cert.KernelIdeal.k0_part2 (F := Bits) := (rfl)

/-- Part 3 of the body is the same in both. -/
theorem part3_eq : Cert.Kernel.k0_part3 (F := Bits) = Cert.KernelIdeal.k0_part3 (F := Bits) := (rfl)

/-- Part 4 of the body is the same in both. -/
theorem part4_eq : Cert.Kernel.k0_part4 (F := Bits) = Cert.KernelIdeal.k0_part4 (F := Bits) := (rfl)

/-- Part 5 of the body is the same in both. -/
theorem part5_eq : Cert.Kernel.k0_part5 (F := Bits) = Cert.KernelIdeal.k0_part5 (F := Bits) := (rfl)

/-- Part 6 of the body is the same in both. -/
theorem part6_eq : Cert.Kernel.k0_part6 (F := Bits) = Cert.KernelIdeal.k0_part6 (F := Bits) := (rfl)

/-- Part 7 of the body is the same in both. -/
theorem part7_eq : Cert.Kernel.k0_part7 (F := Bits) = Cert.KernelIdeal.k0_part7 (F := Bits) := (rfl)

/-- Part 8 of the body is the same in both. -/
theorem part8_eq : Cert.Kernel.k0_part8 (F := Bits) = Cert.KernelIdeal.k0_part8 (F := Bits) := (rfl)

/-- Part 9 of the body is the same in both. -/
theorem part9_eq : Cert.Kernel.k0_part9 (F := Bits) = Cert.KernelIdeal.k0_part9 (F := Bits) := (rfl)

/-- Part 10 of the body is the same in both. -/
theorem part10_eq : Cert.Kernel.k0_part10 (F := Bits) = Cert.KernelIdeal.k0_part10 (F := Bits) := (rfl)

end Cert.FusedProof

end
-- ==== Proof.SameParts2.lean ====
/-
  The kernel is printed twice, for machine floats and for exact ones, and both texts are the same: the second ten parts of its
  body.
-/
module

public import proofs.«01_k».proof.Defs
public import proofs.«01_k».proof.Proof.Gen.Kernel
public import proofs.«01_k».proof.Proof.Gen.KernelIdeal

@[expose] public section

noncomputable section

set_option maxHeartbeats 2000000

namespace Cert.FusedProof

open Idealize.ShloMosaic

/-- Part 11 of the body is the same in both. -/
theorem part11_eq : Cert.Kernel.k0_part11 (F := Bits) = Cert.KernelIdeal.k0_part11 (F := Bits) := (rfl)

/-- Part 12 of the body is the same in both. -/
theorem part12_eq : Cert.Kernel.k0_part12 (F := Bits) = Cert.KernelIdeal.k0_part12 (F := Bits) := (rfl)

/-- Part 13 of the body is the same in both. -/
theorem part13_eq : Cert.Kernel.k0_part13 (F := Bits) = Cert.KernelIdeal.k0_part13 (F := Bits) := (rfl)

/-- Part 14 of the body is the same in both. -/
theorem part14_eq : Cert.Kernel.k0_part14 (F := Bits) = Cert.KernelIdeal.k0_part14 (F := Bits) := (rfl)

/-- Part 15 of the body is the same in both. -/
theorem part15_eq : Cert.Kernel.k0_part15 (F := Bits) = Cert.KernelIdeal.k0_part15 (F := Bits) := (rfl)

/-- Part 16 of the body is the same in both. -/
theorem part16_eq : Cert.Kernel.k0_part16 (F := Bits) = Cert.KernelIdeal.k0_part16 (F := Bits) := (rfl)

/-- Part 17 of the body is the same in both. -/
theorem part17_eq : Cert.Kernel.k0_part17 (F := Bits) = Cert.KernelIdeal.k0_part17 (F := Bits) := (rfl)

/-- Part 18 of the body is the same in both. -/
theorem part18_eq : Cert.Kernel.k0_part18 (F := Bits) = Cert.KernelIdeal.k0_part18 (F := Bits) := (rfl)

/-- Part 19 of the body is the same in both. -/
theorem part19_eq : Cert.Kernel.k0_part19 (F := Bits) = Cert.KernelIdeal.k0_part19 (F := Bits) := (rfl)

/-- Part 20 of the body is the same in both. -/
theorem part20_eq : Cert.Kernel.k0_part20 (F := Bits) = Cert.KernelIdeal.k0_part20 (F := Bits) := (rfl)

end Cert.FusedProof

end
-- ==== Proof.SameParts3.lean ====
/-
  The kernel is printed twice, for machine floats and for exact ones, and both texts are the same: the third ten parts of its
  body.
-/
module

public import proofs.«01_k».proof.Defs
public import proofs.«01_k».proof.Proof.Gen.Kernel
public import proofs.«01_k».proof.Proof.Gen.KernelIdeal

@[expose] public section

noncomputable section

set_option maxHeartbeats 2000000

namespace Cert.FusedProof

open Idealize.ShloMosaic

/-- Part 21 of the body is the same in both. -/
theorem part21_eq : Cert.Kernel.k0_part21 (F := Bits) = Cert.KernelIdeal.k0_part21 (F := Bits) := (rfl)

/-- Part 22 of the body is the same in both. -/
theorem part22_eq : Cert.Kernel.k0_part22 (F := Bits) = Cert.KernelIdeal.k0_part22 (F := Bits) := (rfl)

/-- Part 23 of the body is the same in both. -/
theorem part23_eq : Cert.Kernel.k0_part23 (F := Bits) = Cert.KernelIdeal.k0_part23 (F := Bits) := (rfl)

/-- Part 24 of the body is the same in both. -/
theorem part24_eq : Cert.Kernel.k0_part24 (F := Bits) = Cert.KernelIdeal.k0_part24 (F := Bits) := (rfl)

/-- Part 25 of the body is the same in both. -/
theorem part25_eq : Cert.Kernel.k0_part25 (F := Bits) = Cert.KernelIdeal.k0_part25 (F := Bits) := (rfl)

/-- Part 26 of the body is the same in both. -/
theorem part26_eq : Cert.Kernel.k0_part26 (F := Bits) = Cert.KernelIdeal.k0_part26 (F := Bits) := (rfl)

/-- Part 27 of the body is the same in both. -/
theorem part27_eq : Cert.Kernel.k0_part27 (F := Bits) = Cert.KernelIdeal.k0_part27 (F := Bits) := (rfl)

/-- Part 28 of the body is the same in both. -/
theorem part28_eq : Cert.Kernel.k0_part28 (F := Bits) = Cert.KernelIdeal.k0_part28 (F := Bits) := (rfl)

/-- Part 29 of the body is the same in both. -/
theorem part29_eq : Cert.Kernel.k0_part29 (F := Bits) = Cert.KernelIdeal.k0_part29 (F := Bits) := (rfl)

/-- Part 30 of the body is the same in both. -/
theorem part30_eq : Cert.Kernel.k0_part30 (F := Bits) = Cert.KernelIdeal.k0_part30 (F := Bits) := (rfl)

end Cert.FusedProof

end
-- ==== Proof.SameMain.lean ====
/-
  The main program is printed twice, for machine floats and for exact ones, and both texts are the same.
-/
module

public import proofs.«01_k».proof.Defs
public import proofs.«01_k».proof.Proof.Gen.Kernel
public import proofs.«01_k».proof.Proof.Gen.KernelIdeal

@[expose] public section

noncomputable section

namespace Cert.FusedProof

open Idealize.ShloMosaic

set_option maxHeartbeats 0 in
/-- The main program is the same in both. -/
theorem main_eq : Cert.Kernel.main (F := Bits) = Cert.KernelIdeal.main (F := Bits) := (rfl)

end Cert.FusedProof

end
-- ==== Proof.FrameK.lean ====
/-
  The kernel at machine floats runs, leaves its arguments alone, and ends with every semaphore at zero: its text is that of
  the kernel that `run_main` is about.
-/
module

public import proofs.«01_k».proof.Defs
public import proofs.«01_k».proof.Proof.Run
public import proofs.«01_k».proof.Proof.SameParts1
public import proofs.«01_k».proof.Proof.SameParts2
public import proofs.«01_k».proof.Proof.SameParts3
public import proofs.«01_k».proof.Proof.SameMain

@[expose] public section

noncomputable section

namespace Cert.FusedProof

open Idealize.ShloMosaic Idealize.SL.Sem

set_option maxHeartbeats 0 in
/-- The body is the same in both. -/
theorem body_eq : Cert.Kernel.cc0__fused_body (F := Bits) = Cert.KernelIdeal.cc0__fused_body (F := Bits) := by
  unfold Cert.Kernel.cc0__fused_body Cert.KernelIdeal.cc0__fused_body
  rw [part1_eq, part2_eq, part3_eq, part4_eq, part5_eq, part29_eq, part30_eq]
  rfl

set_option maxHeartbeats 0 in
/-- What the body's label names is the same in both. -/
theorem defs₀_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    dsimp only
    rw [body_eq]
    rfl

set_option maxHeartbeats 0 in
/-- So is what all the labels name. -/
theorem defs_eq : Cert.Kernel.defs (F := Bits) = Cert.KernelIdeal.defs (F := Bits) := by
  unfold Cert.Kernel.defs Cert.KernelIdeal.defs
  exact congrArg (Pipeline.defs Cert.Kernel.pcfgs) defs₀_eq

/-- The kernel at machine floats. -/
theorem frame_kernel : Cert.quiescent_Kernel := fun m ρ _ => by
  rw [defs_eq, main_eq]
  exact (θ_run Cert.KernelIdeal.defs _ _).mono (fun _ h => ⟨fun c => (h.1 c).2, h.2⟩) (run_main (F := Bits) m ρ)

end Cert.FusedProof

end
-- ==== Proof.Value.lean ====
/-
  At exact floats the array of sums is the reference's result: each entry is a sum over the whole hidden axis, cut by
  the kernel into four devices of eight blocks of 512, and added up block by block and then along a ring.
-/
module

public import proofs.«01_k».proof.Defs
public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.Pipeline.Value

@[expose] public section

noncomputable section

namespace Cert.FusedProof

open Cert.KernelIdeal Cert.KernelIdeal.Gen

open Idealize.ShloMosaic Idealize.SL.Sem
open Idealize.ShloMosaic.ValueIdx
open scoped BigOperators

/-! ## One entry of a block product -/

/-- A hidden unit's share of an entry: the unit's activation on the entry's row times its weight to the entry's column. -/
def unit {R H : ℕ} (X : Fin 2048 → Ideal .f32) (A1 : (⟨2, ![2048, H]⟩ : Shape).Idx → Ideal .f32) (A2 : (⟨2, ![H, R]⟩ : Shape).Idx → Ideal .f32)
    (n : Fin R) (k : Fin H) : Ideal .f32 :=
  max (∑ d : Fin 2048, X d * A1 (ix2 d k)) 0 * A2 (ix2 k n)

/-- The upper half of two row blocks one over the other is the first. -/
theorem cat_upper (v15 v17 : S256x2048.Idx → Ideal .f32) (a : Fin 256) (d : Fin 2048) :
    concatenate S512x2048 0 [⟨S256x2048, v15⟩, ⟨S256x2048, v17⟩] concatenates_S256x2048_S256x2048_S512x2048_d0 (ix2 (⟨a.val, by omega⟩ : Fin 512) d)
      = v15 (ix2 a d) := by
  refine concatenate_pair_apply_left (t := S512x2048) 0 v15 v17 _ _ rfl (ix2 a d) fun b => ?_
  match b with
  | ⟨0, _⟩ => rfl
  | ⟨1, _⟩ => rfl

/-- The lower half is the second. -/
theorem cat_lower (v15 v17 : S256x2048.Idx → Ideal .f32) (a : Fin 256) (d : Fin 2048) :
    concatenate S512x2048 0 [⟨S256x2048, v15⟩, ⟨S256x2048, v17⟩] concatenates_S256x2048_S256x2048_S512x2048_d0 (ix2 (⟨256 + a.val, by omega⟩ : Fin 512) d)
      = v17 (ix2 a d) := by
  refine concatenate_pair_apply_right (t := S512x2048) 0 v15 v17 _ _ rfl rfl (ix2 a d) (fun b hb => ?_) ?_
  · match b with
    | ⟨0, _⟩ => exact absurd rfl hb
    | ⟨1, _⟩ => rfl
  · show a.val + 256 = 256 + a.val
    omega

/-- An entry of the product of both row blocks with a hidden block's weights. -/
theorem pay17_apply (v15 v17 : S256x2048.Idx → Ideal .f32) (v20 : S2048x512.Idx → Ideal .f32) (v25 : S512x2048.Idx → Ideal .f32)
    (a : Fin 512) (n : Fin 2048) :
    k0_pay17 v15 v17 v20 v25 (ix2 a n)
      = ∑ k : Fin 512, unit (fun d => concatenate S512x2048 0 [⟨S256x2048, v15⟩, ⟨S256x2048, v17⟩] concatenates_S256x2048_S256x2048_S512x2048_d0 (ix2 a d))
          v20 v25 n k := by
  unfold k0_pay17
  simp only [shapeCast_self, matmul]
  refine (Ideal.matmul_plain_apply (M := 512) (K := 512) (N := 2048) none _ v25 _ a n).trans ?_
  have z : constant (F := Ideal) S512x2048 .f32 0x00000000#32 (ix2 a n) = 0 := Ideal.ofBits_zero_f32
  rw [z, zero_add]
  refine Finset.sum_congr rfl fun k _ => ?_
  unfold unit
  refine congrArg (· * v25 (ix2 k n)) ?_
  rw [maximumf_apply]
  have z' : broadcast S512x512 (Scalar.ofBits (F := Ideal) .f32 0x00000000#32) (ix2 a k) = 0 := Ideal.ofBits_zero_f32
  rw [z']
  refine congrArg (max · 0) ?_
  refine (Ideal.matmul_plain_apply (M := 512) (K := 2048) (N := 512) none _ v20 _ a k).trans ?_
  have z2 : constant (F := Ideal) S512x512 .f32 0x00000000#32 (ix2 a k) = 0 := Ideal.ofBits_zero_f32
  rw [z2, zero_add, shapeCast_self v15, shapeCast_self v17]

/-- An entry of the first ring's half. -/
theorem pay18_apply (v15 v17 : S256x2048.Idx → Ideal .f32) (v20 : S2048x512.Idx → Ideal .f32) (v25 : S512x2048.Idx → Ideal .f32)
    (a : Fin 256) (n : Fin 2048) :
    k0_pay18 v15 v17 v20 v25 (ix2 a n) = ∑ k : Fin 512, unit (fun d => v15 (ix2 a d)) v20 v25 n k := by
  unfold k0_pay18
  refine (extractStridedSlice_apply (t := S256x2048) _ _ _ _ (ix2 (⟨a.val, by omega⟩ : Fin 512) n) fun b => ?_).trans ?_
  · match b with
    | ⟨0, _⟩ => show a.val = 0 + a.val; omega
    | ⟨1, _⟩ => show n.val = 0 + n.val; omega
  · rw [pay17_apply]
    simp only [cat_upper]

/-- An entry of the second ring's half. -/
theorem pay19_apply (v15 v17 : S256x2048.Idx → Ideal .f32) (v20 : S2048x512.Idx → Ideal .f32) (v25 : S512x2048.Idx → Ideal .f32)
    (a : Fin 256) (n : Fin 2048) :
    k0_pay19 v15 v17 v20 v25 (ix2 a n) = ∑ k : Fin 512, unit (fun d => v17 (ix2 a d)) v20 v25 n k := by
  unfold k0_pay19
  refine (extractStridedSlice_apply (t := S256x2048) _ _ _ _ (ix2 (⟨256 + a.val, by omega⟩ : Fin 512) n) fun b => ?_).trans ?_
  · match b with
    | ⟨0, _⟩ => rfl
    | ⟨1, _⟩ => show n.val = 0 + n.val; omega
  · rw [pay17_apply]
    simp only [cat_lower]

/-! ## The sums, device by device -/

/-- The four devices met along a ring are all four, whichever ring and wherever it begins. -/
theorem ring_sum {M : Type} [AddCommMonoid M] (p : Dev nD → M) (r : Fin 2) (c : Dev nD) :
    p c + (p (sr r c) + (p (sr r (sr r c)) + p (sr r (sr r (sr r c))))) = p 0 + p 1 + p 2 + p 3 := by
  have e : ∀ (r : Fin 2) (c : Dev nD), [c, sr r c, sr r (sr r c), sr r (sr r (sr r c))].Perm [0, 1, 2, 3] := by decide
  have h := ((e r c).map p).sum_eq
  simp only [List.map_cons, List.map_nil, List.sum_cons, List.sum_nil, add_zero] at h
  rw [h, ← add_assoc, ← add_assoc]

section Sums

variable (X : S2048x2048.Idx → Ideal .f32) (A1 : (⟨2, ![2048, 16384]⟩ : Shape).Idx → Ideal .f32) (A2 : (⟨2, ![16384, 2048]⟩ : Shape).Idx → Ideal .f32)
variable (x : Dev nD → S2048x2048.Idx → Ideal .f32) (w1 : Dev nD → S2048x4096.Idx → Ideal .f32) (w2 : Dev nD → S4096x2048.Idx → Ideal .f32)

/-- Row `a` of row block `b`, and hidden unit `k` of block `j` of device `c`. -/
def rowAt (b : Fin 8) (a : Fin 256) : Fin 2048 := ⟨256 * b.val + a.val, by omega⟩
def hidAt (c : Dev nD) (j : Fin 8) (k : Fin 512) : Fin 16384 := ⟨k.val + 512 * (j.val + 8 * c.val), by
  have h : c.val < 4 := c.isLt
  omega⟩

/-- What a device adds to an entry. -/
def devPart (row : Fin 2048) (n : Fin 2048) (c : Dev nD) : Ideal .f32 :=
  ∑ j : Fin 8, ∑ k : Fin 512, unit (fun d => X (ix2 row d)) A1 A2 n (hidAt c j k)

/-- The four devices' parts together are the sum over the whole hidden axis. -/
theorem parts_sum (row : Fin 2048) (n : Fin 2048) :
    ∑ c : Dev nD, devPart X A1 A2 row n c = ∑ K : Fin 16384, unit (fun d => X (ix2 row d)) A1 A2 n K := by
  unfold devPart
  rw [← Equiv.sum_comp ((finProdFinEquiv (m := 32) (n := 512))) (fun K : Fin 16384 => unit (fun d => X (ix2 row d)) A1 A2 n K), Fintype.sum_prod_type]
  rw [← Equiv.sum_comp ((finProdFinEquiv (m := 4) (n := 8))) (fun q : Fin 32 => ∑ k : Fin 512, unit (fun d => X (ix2 row d)) A1 A2 n (finProdFinEquiv (q, k))),
    Fintype.sum_prod_type]
  rfl

variable (hx : ∀ c, x c = X)
  (h1 : ∀ c : Dev nD, w1 c = Layout.block ⟨2, ![2048, 4096]⟩ ⟨2, ![2048, 16384]⟩ 1 4 c A1)
  (h2 : ∀ c : Dev nD, w2 c = Layout.block ⟨2, ![4096, 2048]⟩ ⟨2, ![16384, 2048]⟩ 0 4 c A2)

include hx in
theorem xB_apply (c : Dev nD) (b : Fin 8) (a : Fin 256) (d : Fin 2048) : xB (F := Ideal) x c b (ix2 a d) = X (ix2 (rowAt b a) d) := by
  unfold xB
  rw [hx]
  refine congrArg X (funext fun e => Fin.ext ?_)
  match e with
  | ⟨0, _⟩ => show 256 * b.val + 1 * a.val = 256 * b.val + a.val; omega
  | ⟨1, _⟩ => show 0 + 1 * d.val = d.val; omega

include h1 in
theorem w1B_apply (c : Dev nD) (j : Fin 8) (d : Fin 2048) (k : Fin 512) : w1B (F := Ideal) w1 c j (ix2 d k) = A1 (ix2 d (hidAt c j k)) := by
  unfold w1B
  rw [h1]
  unfold Layout.block
  refine congrArg A1 (funext fun e => Fin.ext ?_)
  rw [Layout.Tiles.idx_val]
  match e with
  | ⟨0, _⟩ => show 0 + 1 * d.val = d.val; omega
  | ⟨1, _⟩ => show c.val * 4096 + (512 * j.val + 1 * k.val) = k.val + 512 * (j.val + 8 * c.val); omega

include h2 in
theorem w2B_apply (c : Dev nD) (j : Fin 8) (k : Fin 512) (n : Fin 2048) : w2B (F := Ideal) w2 c j (ix2 k n) = A2 (ix2 (hidAt c j k) n) := by
  unfold w2B
  rw [h2]
  unfold Layout.block
  refine congrArg A2 (funext fun e => Fin.ext ?_)
  rw [Layout.Tiles.idx_val]
  match e with
  | ⟨0, _⟩ => show c.val * 4096 + (512 * j.val + 1 * k.val) = k.val + 512 * (j.val + 8 * c.val); omega
  | ⟨1, _⟩ => show 0 + 1 * n.val = n.val; omega

include hx h1 h2

/-- An entry of a partial product. -/
theorem pp_apply (r : Fin 2) (c : Dev nD) (s : Fin 4) (j : Fin 8) (a : Fin 256) (n : Fin 2048) :
    pp (F := Ideal) x w1 w2 r c s j (ix2 a n)
      = ∑ k : Fin 512, unit (fun d => X (ix2 (rowAt (blk r c s) a) d)) A1 A2 n (hidAt c j k) := by
  unfold pp
  match r with
  | ⟨0, _⟩ =>
    rw [if_pos (by rfl), pay18_apply]
    refine Finset.sum_congr rfl fun k _ => ?_
    unfold unit
    rw [w2B_apply A2 w2 h2]
    simp only [xB_apply X x hx, w1B_apply A1 w1 h1]
    rfl
  | ⟨1, _⟩ =>
    rw [if_neg (fun h => absurd (congrArg Fin.val h) Nat.one_ne_zero), pay19_apply]
    refine Finset.sum_congr rfl fun k _ => ?_
    unfold unit
    rw [w2B_apply A2 w2 h2]
    simp only [xB_apply X x hx, w1B_apply A1 w1 h1]
    rfl

/-- The partial products of all eight hidden blocks are the device's part. -/
theorem PS_apply (r : Fin 2) (c : Dev nD) (s : Fin 4) (a : Fin 256) (n : Fin 2048) :
    PS (F := Ideal) x w1 w2 r c s 7 (ix2 a n) = devPart X A1 A2 (rowAt (blk r c s) a) n c := by
  have step : ∀ q : ℕ, PS (F := Ideal) x w1 w2 r c s (q + 1) (ix2 a n) = PS (F := Ideal) x w1 w2 r c s q (ix2 a n) + pp (F := Ideal) x w1 w2 r c s (Fin.ofNat 8 (q + 1)) (ix2 a n) := by
    intro q
    show k0_pay1 _ _ _ = _
    unfold k0_pay1
    simp only [shapeCast_self]
    rfl
  have first : PS (F := Ideal) x w1 w2 r c s 0 (ix2 a n) = pp (F := Ideal) x w1 w2 r c s 0 (ix2 a n) := rfl
  unfold devPart
  rw [Fin.sum_univ_eight, step 6, step 5, step 4, step 3, step 2, step 1, step 0, first]
  simp only [pp_apply X A1 A2 x w1 w2 hx h1 h2]
  rfl

/-- After the last step a device has all four devices' parts for the rows it finishes. -/
theorem Acc_apply (r : Fin 2) (c : Dev nD) (a : Fin 256) (n : Fin 2048) :
    Acc (F := Ideal) x w1 w2 r 3 c (ix2 a n) = ∑ K : Fin 16384, unit (fun d => X (ix2 (rowAt (blk r c 3) a) d)) A1 A2 n K := by
  have hA : Acc (F := Ideal) x w1 w2 r 3 c (ix2 a n)
      = PS (F := Ideal) x w1 w2 r c 3 7 (ix2 a n) + (PS (F := Ideal) x w1 w2 r (sr r c) 2 7 (ix2 a n)
        + (PS (F := Ideal) x w1 w2 r (sr r (sr r c)) 1 7 (ix2 a n) + PS (F := Ideal) x w1 w2 r (sr r (sr r (sr r c))) 0 7 (ix2 a n))) := rfl
  rw [hA]
  simp only [PS_apply X A1 A2 x w1 w2 hx h1 h2]
  have b2 : blk r (sr r c) 2 = blk r c 3 := (by decide : ∀ (r : Fin 2) (c : Dev nD), blk r (sr r c) 2 = blk r c 3) r c
  have b1 : blk r (sr r (sr r c)) 1 = blk r c 3 := (by decide : ∀ (r : Fin 2) (c : Dev nD), blk r (sr r (sr r c)) 1 = blk r c 3) r c
  have b0 : blk r (sr r (sr r (sr r c))) 0 = blk r c 3 := (by decide : ∀ (r : Fin 2) (c : Dev nD), blk r (sr r (sr r (sr r c))) 0 = blk r c 3) r c
  rw [b2, b1, b0, ← parts_sum]
  generalize devPart X A1 A2 (rowAt (blk r c 3) a) n = p
  exact (ring_sum p r c).trans (Fin.sum_univ_four p).symm

/-- An entry of the result. -/
theorem sums_apply (row n : Fin 2048) :
    sums (F := Ideal) x w1 w2 (ix2 row n) = ∑ K : Fin 16384, unit (fun d => X (ix2 row d)) A1 A2 n K := by
  have hb : ∀ k : Fin 8, blk (home k).1 (home k).2 3 = k := by decide
  have hi : inRow (ix2 row n) = ix2 (⟨row.val % 256, Nat.mod_lt _ (by decide)⟩ : Fin 256) n := by
    funext e
    match e with
    | ⟨0, _⟩ => rfl
    | ⟨1, _⟩ => rfl
  unfold sums
  rw [hi, Acc_apply X A1 A2 x w1 w2 hx h1 h2, hb]
  have hr : rowAt (rowOf (ix2 row n)) ⟨row.val % 256, Nat.mod_lt _ (by decide)⟩ = row := by
    refine Fin.ext ?_
    show 256 * (row.val / 256) + row.val % 256 = row.val
    omega
  rw [hr]

end Sums

/-! ## The reference -/

/-- An entry of the reference's result. -/
theorem reference_apply (X : S2048x2048.Idx → Ideal .f32) (A1 : (⟨2, ![2048, 16384]⟩ : Shape).Idx → Ideal .f32)
    (A2 : (⟨2, ![16384, 2048]⟩ : Shape).Idx → Ideal .f32) (z : (⟨2, ![2048, 16384]⟩ : Shape).Idx → Ideal .f32) (hz : ∀ i, z i = 0) (row n : Fin 2048) :
    Host.dotGeneral (F := Ideal) (φ₁ := .f32) (φ₂ := .f32) Cert.ReferenceIdeal.dot_S2048x16384_S16384x2048_S2048x2048_1_0_0_1_n_n none
        (maximumf (Host.dotGeneral (F := Ideal) (φ₁ := .f32) (φ₂ := .f32) Cert.ReferenceIdeal.dot_S2048x2048_S2048x16384_S2048x16384_1_0_0_1_n_n none X A1) z) A2 (ix2 row n)
      = ∑ K : Fin 16384, unit (fun d => X (ix2 row d)) A1 A2 n K := by
  refine (StackMember.dotGeneral_plain_apply (m := 2048) (k := 16384) (n := 2048) none _ A2 row n).trans ?_
  refine Finset.sum_congr rfl fun K _ => ?_
  unfold unit
  refine congrArg (· * A2 (ix2 K n)) ?_
  rw [maximumf_apply, hz]
  refine congrArg (max · 0) ?_
  exact StackMember.dotGeneral_plain_apply (m := 2048) (k := 2048) (n := 16384) none X A1 row K

/-- From arguments that are the reference's, the weights cut over the devices, every device's result is the
    reference's. -/
theorem algebraic : Cert.algebraic_KernelIdeal_ReferenceIdeal := fun m g m' g' _ h => by
  refine ⟨_, (θ_run Cert.KernelIdeal.defs _ _).mono (fun r hr c => ⟨(hr.1 c).1.trans ?_, (hr.1 c).2⟩) (run_main (F := Ideal) m g),
    (θ_run Cert.ReferenceIdeal.defs _ _).mono (fun r hr => hr 0) (Cert.ReferenceIdeal.Value.run (F := Ideal) m' g')⟩
  funext i
  rw [eq_ix2 (n0 := 2048) (n1 := 2048) i]
  refine (sums_apply _ _ _ (argX m) (argW1 m) (argW2 m) (fun c => (h c).1) (fun c => (h c).2.1) (fun c => (h c).2.2) (i 0) (i 1)).trans ?_
  exact (reference_apply _ _ _ _ (fun _ => Ideal.ofBits_zero_f32) (i 0) (i 1)).symm

end Cert.FusedProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.FrameK
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.FusedProof.frame_kernel, Cert.FusedProof.frame_kernelIdeal,
    Cert.FusedProof.frame_reference, trivial, Cert.FusedProof.algebraic⟩

end Cert.Proof

end
